-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Gating (m : (ℓ : Loc Cert.Gating.nD Cert.Gating.τ Cert.Gating.sig) → Buf (Elt Bits) ℓ) : Prop :=
  True

def Pre_GatingIdeal (m : (ℓ : Loc Cert.GatingIdeal.nD Cert.GatingIdeal.τ Cert.GatingIdeal.sig) → Buf (Elt Ideal) ℓ) : Prop :=
  True

def Pre_GatingIdeal_gating_finite [hPre_gating_finite : Cert.Pre_gating_finite.Facts] (m : (ℓ : Loc Cert.GatingIdeal.nD Cert.GatingIdeal.τ Cert.GatingIdeal.sig) → Buf (Elt Ideal) ℓ) : Prop :=
  ∀ c : Dev Cert.GatingIdeal.nD,
    (Cert.Pre_gating_finite.fn (F := Ideal) (m ((c.tc : Thread Cert.GatingIdeal.nD Cert.GatingIdeal.τ).loc Cert.GatingIdeal.main_arg0)) (m ((c.tc : Thread Cert.GatingIdeal.nD Cert.GatingIdeal.τ).loc Cert.GatingIdeal.main_arg1)) (m ((c.tc : Thread Cert.GatingIdeal.nD Cert.GatingIdeal.τ).loc Cert.GatingIdeal.main_arg2)) (m ((c.tc : Thread Cert.GatingIdeal.nD Cert.GatingIdeal.τ).loc Cert.GatingIdeal.main_arg3)) (m ((c.tc : Thread Cert.GatingIdeal.nD Cert.GatingIdeal.τ).loc Cert.GatingIdeal.main_arg4)) (m ((c.tc : Thread Cert.GatingIdeal.nD Cert.GatingIdeal.τ).loc Cert.GatingIdeal.main_arg5)) (m ((c.tc : Thread Cert.GatingIdeal.nD Cert.GatingIdeal.τ).loc Cert.GatingIdeal.main_arg6)) (m ((c.tc : Thread Cert.GatingIdeal.nD Cert.GatingIdeal.τ).loc Cert.GatingIdeal.main_arg7))) = (fun _ => 1#1)

def Pre_RefGatingIdeal (m : (ℓ : Loc Cert.RefGatingIdeal.nD Cert.RefGatingIdeal.τ Cert.RefGatingIdeal.sig) → Buf (Elt Ideal) ℓ) : Prop :=
  True

def Pre_RefGatingIdeal_gating_finite [hPre_gating_finite : Cert.Pre_gating_finite.Facts] (m : (ℓ : Loc Cert.RefGatingIdeal.nD Cert.RefGatingIdeal.τ Cert.RefGatingIdeal.sig) → Buf (Elt Ideal) ℓ) : Prop :=
  ∀ c : Dev Cert.RefGatingIdeal.nD,
    (Cert.Pre_gating_finite.fn (F := Ideal) (m ((c.tc : Thread Cert.RefGatingIdeal.nD Cert.RefGatingIdeal.τ).loc Cert.RefGatingIdeal.main_arg0)) (m ((c.tc : Thread Cert.RefGatingIdeal.nD Cert.RefGatingIdeal.τ).loc Cert.RefGatingIdeal.main_arg1)) (m ((c.tc : Thread Cert.RefGatingIdeal.nD Cert.RefGatingIdeal.τ).loc Cert.RefGatingIdeal.main_arg2)) (m ((c.tc : Thread Cert.RefGatingIdeal.nD Cert.RefGatingIdeal.τ).loc Cert.RefGatingIdeal.main_arg3)) (m ((c.tc : Thread Cert.RefGatingIdeal.nD Cert.RefGatingIdeal.τ).loc Cert.RefGatingIdeal.main_arg4)) (m ((c.tc : Thread Cert.RefGatingIdeal.nD Cert.RefGatingIdeal.τ).loc Cert.RefGatingIdeal.main_arg5)) (m ((c.tc : Thread Cert.RefGatingIdeal.nD Cert.RefGatingIdeal.τ).loc Cert.RefGatingIdeal.main_arg6)) (m ((c.tc : Thread Cert.RefGatingIdeal.nD Cert.RefGatingIdeal.τ).loc Cert.RefGatingIdeal.main_arg7))) = (fun _ => 1#1)

def Pre_Experts [hPre_indices_distinct : Cert.Pre_indices_distinct.Facts] (m : (ℓ : Loc Cert.Experts.nD Cert.Experts.τ Cert.Experts.sig) → Buf (Elt Bits) ℓ) : Prop :=
  ∀ c : Dev Cert.Experts.nD,
    (Cert.Pre_indices_distinct.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_indices_distinct : Cert.Pre_indices_distinct.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_indices_distinct.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_RefExpertsIdeal [hPre_indices_distinct : Cert.Pre_indices_distinct.Facts] (m : (ℓ : Loc Cert.RefExpertsIdeal.nD Cert.RefExpertsIdeal.τ Cert.RefExpertsIdeal.sig) → Buf (Elt Ideal) ℓ) : Prop :=
  ∀ c : Dev Cert.RefExpertsIdeal.nD,
    (Cert.Pre_indices_distinct.fn (F := Ideal) (m ((c.tc : Thread Cert.RefExpertsIdeal.nD Cert.RefExpertsIdeal.τ).loc Cert.RefExpertsIdeal.main_arg0)) (m ((c.tc : Thread Cert.RefExpertsIdeal.nD Cert.RefExpertsIdeal.τ).loc Cert.RefExpertsIdeal.main_arg1)) (m ((c.tc : Thread Cert.RefExpertsIdeal.nD Cert.RefExpertsIdeal.τ).loc Cert.RefExpertsIdeal.main_arg2)) (m ((c.tc : Thread Cert.RefExpertsIdeal.nD Cert.RefExpertsIdeal.τ).loc Cert.RefExpertsIdeal.main_arg3)) (m ((c.tc : Thread Cert.RefExpertsIdeal.nD Cert.RefExpertsIdeal.τ).loc Cert.RefExpertsIdeal.main_arg4))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Gating [hGating : Cert.Gating.Facts] : Prop :=
  ∀ (m : (ℓ : Loc Cert.Gating.nD Cert.Gating.τ Cert.Gating.sig) → Buf (Elt Bits) ℓ) (g : Dev Cert.Gating.nD → PrngReg), Pre_Gating m →
    θ_run (Cert.Gating.defs (F := Bits)) (onTc (τ := Cert.Gating.τ) (Cert.Gating.main (F := Bits))) ⟨m, fun _ => 0, g⟩ (fun r => (∀ c : Dev Cert.Gating.nD,
      r.2.mem ((c.tc : Thread Cert.Gating.nD Cert.Gating.τ).loc Cert.Gating.main_arg0) = m ((c.tc : Thread Cert.Gating.nD Cert.Gating.τ).loc Cert.Gating.main_arg0)
      ∧ r.2.mem ((c.tc : Thread Cert.Gating.nD Cert.Gating.τ).loc Cert.Gating.main_arg1) = m ((c.tc : Thread Cert.Gating.nD Cert.Gating.τ).loc Cert.Gating.main_arg1)
      ∧ r.2.mem ((c.tc : Thread Cert.Gating.nD Cert.Gating.τ).loc Cert.Gating.main_arg2) = m ((c.tc : Thread Cert.Gating.nD Cert.Gating.τ).loc Cert.Gating.main_arg2)
      ∧ r.2.mem ((c.tc : Thread Cert.Gating.nD Cert.Gating.τ).loc Cert.Gating.main_arg3) = m ((c.tc : Thread Cert.Gating.nD Cert.Gating.τ).loc Cert.Gating.main_arg3)
      ∧ r.2.mem ((c.tc : Thread Cert.Gating.nD Cert.Gating.τ).loc Cert.Gating.main_arg4) = m ((c.tc : Thread Cert.Gating.nD Cert.Gating.τ).loc Cert.Gating.main_arg4)
      ∧ r.2.mem ((c.tc : Thread Cert.Gating.nD Cert.Gating.τ).loc Cert.Gating.main_arg5) = m ((c.tc : Thread Cert.Gating.nD Cert.Gating.τ).loc Cert.Gating.main_arg5)
      ∧ r.2.mem ((c.tc : Thread Cert.Gating.nD Cert.Gating.τ).loc Cert.Gating.main_arg6) = m ((c.tc : Thread Cert.Gating.nD Cert.Gating.τ).loc Cert.Gating.main_arg6)
      ∧ r.2.mem ((c.tc : Thread Cert.Gating.nD Cert.Gating.τ).loc Cert.Gating.main_arg7) = m ((c.tc : Thread Cert.Gating.nD Cert.Gating.τ).loc Cert.Gating.main_arg7))
      ∧ r.2.sem = fun _ => 0)

def quiescent_GatingIdeal [hGatingIdeal : Cert.GatingIdeal.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4)
      ∧ r.2.mem ((c.tc : Thread Cert.GatingIdeal.nD Cert.GatingIdeal.τ).loc Cert.GatingIdeal.main_arg5) = m ((c.tc : Thread Cert.GatingIdeal.nD Cert.GatingIdeal.τ).loc Cert.GatingIdeal.main_arg5)
      ∧ r.2.mem ((c.tc : Thread Cert.GatingIdeal.nD Cert.GatingIdeal.τ).loc Cert.GatingIdeal.main_arg6) = m ((c.tc : Thread Cert.GatingIdeal.nD Cert.GatingIdeal.τ).loc Cert.GatingIdeal.main_arg6)
      ∧ r.2.mem ((c.tc : Thread Cert.GatingIdeal.nD Cert.GatingIdeal.τ).loc Cert.GatingIdeal.main_arg7) = m ((c.tc : Thread Cert.GatingIdeal.nD Cert.GatingIdeal.τ).loc Cert.GatingIdeal.main_arg7))
      ∧ r.2.sem = fun _ => 0)

def quiescent_GatingIdeal_pre_gating_finite [hGatingIdeal : Cert.GatingIdeal.Facts] [hPre_gating_finite : Cert.Pre_gating_finite.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal_gating_finite m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4)
      ∧ r.2.mem ((c.tc : Thread Cert.GatingIdeal.nD Cert.GatingIdeal.τ).loc Cert.GatingIdeal.main_arg5) = m ((c.tc : Thread Cert.GatingIdeal.nD Cert.GatingIdeal.τ).loc Cert.GatingIdeal.main_arg5)
      ∧ r.2.mem ((c.tc : Thread Cert.GatingIdeal.nD Cert.GatingIdeal.τ).loc Cert.GatingIdeal.main_arg6) = m ((c.tc : Thread Cert.GatingIdeal.nD Cert.GatingIdeal.τ).loc Cert.GatingIdeal.main_arg6)
      ∧ r.2.mem ((c.tc : Thread Cert.GatingIdeal.nD Cert.GatingIdeal.τ).loc Cert.GatingIdeal.main_arg7) = m ((c.tc : Thread Cert.GatingIdeal.nD Cert.GatingIdeal.τ).loc Cert.GatingIdeal.main_arg7))
      ∧ r.2.sem = fun _ => 0)

def quiescent_RefGatingIdeal [hRefGatingIdeal : Cert.RefGatingIdeal.Facts] : Prop :=
  ∀ (m : (ℓ : Loc Cert.RefGatingIdeal.nD Cert.RefGatingIdeal.τ Cert.RefGatingIdeal.sig) → Buf (Elt Ideal) ℓ) (g : Dev Cert.RefGatingIdeal.nD → PrngReg), Pre_RefGatingIdeal m →
    θ_run (Cert.RefGatingIdeal.defs (F := Ideal)) (onTc (τ := Cert.RefGatingIdeal.τ) (Cert.RefGatingIdeal.main (F := Ideal))) ⟨m, fun _ => 0, g⟩ (fun r => (∀ c : Dev Cert.RefGatingIdeal.nD,
      r.2.mem ((c.tc : Thread Cert.RefGatingIdeal.nD Cert.RefGatingIdeal.τ).loc Cert.RefGatingIdeal.main_arg0) = m ((c.tc : Thread Cert.RefGatingIdeal.nD Cert.RefGatingIdeal.τ).loc Cert.RefGatingIdeal.main_arg0)
      ∧ r.2.mem ((c.tc : Thread Cert.RefGatingIdeal.nD Cert.RefGatingIdeal.τ).loc Cert.RefGatingIdeal.main_arg1) = m ((c.tc : Thread Cert.RefGatingIdeal.nD Cert.RefGatingIdeal.τ).loc Cert.RefGatingIdeal.main_arg1)
      ∧ r.2.mem ((c.tc : Thread Cert.RefGatingIdeal.nD Cert.RefGatingIdeal.τ).loc Cert.RefGatingIdeal.main_arg2) = m ((c.tc : Thread Cert.RefGatingIdeal.nD Cert.RefGatingIdeal.τ).loc Cert.RefGatingIdeal.main_arg2)
      ∧ r.2.mem ((c.tc : Thread Cert.RefGatingIdeal.nD Cert.RefGatingIdeal.τ).loc Cert.RefGatingIdeal.main_arg3) = m ((c.tc : Thread Cert.RefGatingIdeal.nD Cert.RefGatingIdeal.τ).loc Cert.RefGatingIdeal.main_arg3)
      ∧ r.2.mem ((c.tc : Thread Cert.RefGatingIdeal.nD Cert.RefGatingIdeal.τ).loc Cert.RefGatingIdeal.main_arg4) = m ((c.tc : Thread Cert.RefGatingIdeal.nD Cert.RefGatingIdeal.τ).loc Cert.RefGatingIdeal.main_arg4)
      ∧ r.2.mem ((c.tc : Thread Cert.RefGatingIdeal.nD Cert.RefGatingIdeal.τ).loc Cert.RefGatingIdeal.main_arg5) = m ((c.tc : Thread Cert.RefGatingIdeal.nD Cert.RefGatingIdeal.τ).loc Cert.RefGatingIdeal.main_arg5)
      ∧ r.2.mem ((c.tc : Thread Cert.RefGatingIdeal.nD Cert.RefGatingIdeal.τ).loc Cert.RefGatingIdeal.main_arg6) = m ((c.tc : Thread Cert.RefGatingIdeal.nD Cert.RefGatingIdeal.τ).loc Cert.RefGatingIdeal.main_arg6)
      ∧ r.2.mem ((c.tc : Thread Cert.RefGatingIdeal.nD Cert.RefGatingIdeal.τ).loc Cert.RefGatingIdeal.main_arg7) = m ((c.tc : Thread Cert.RefGatingIdeal.nD Cert.RefGatingIdeal.τ).loc Cert.RefGatingIdeal.main_arg7))
      ∧ r.2.sem = fun _ => 0)

def quiescent_RefGatingIdeal_pre_gating_finite [hRefGatingIdeal : Cert.RefGatingIdeal.Facts] [hPre_gating_finite : Cert.Pre_gating_finite.Facts] : Prop :=
  ∀ (m : (ℓ : Loc Cert.RefGatingIdeal.nD Cert.RefGatingIdeal.τ Cert.RefGatingIdeal.sig) → Buf (Elt Ideal) ℓ) (g : Dev Cert.RefGatingIdeal.nD → PrngReg), Pre_RefGatingIdeal_gating_finite m →
    θ_run (Cert.RefGatingIdeal.defs (F := Ideal)) (onTc (τ := Cert.RefGatingIdeal.τ) (Cert.RefGatingIdeal.main (F := Ideal))) ⟨m, fun _ => 0, g⟩ (fun r => (∀ c : Dev Cert.RefGatingIdeal.nD,
      r.2.mem ((c.tc : Thread Cert.RefGatingIdeal.nD Cert.RefGatingIdeal.τ).loc Cert.RefGatingIdeal.main_arg0) = m ((c.tc : Thread Cert.RefGatingIdeal.nD Cert.RefGatingIdeal.τ).loc Cert.RefGatingIdeal.main_arg0)
      ∧ r.2.mem ((c.tc : Thread Cert.RefGatingIdeal.nD Cert.RefGatingIdeal.τ).loc Cert.RefGatingIdeal.main_arg1) = m ((c.tc : Thread Cert.RefGatingIdeal.nD Cert.RefGatingIdeal.τ).loc Cert.RefGatingIdeal.main_arg1)
      ∧ r.2.mem ((c.tc : Thread Cert.RefGatingIdeal.nD Cert.RefGatingIdeal.τ).loc Cert.RefGatingIdeal.main_arg2) = m ((c.tc : Thread Cert.RefGatingIdeal.nD Cert.RefGatingIdeal.τ).loc Cert.RefGatingIdeal.main_arg2)
      ∧ r.2.mem ((c.tc : Thread Cert.RefGatingIdeal.nD Cert.RefGatingIdeal.τ).loc Cert.RefGatingIdeal.main_arg3) = m ((c.tc : Thread Cert.RefGatingIdeal.nD Cert.RefGatingIdeal.τ).loc Cert.RefGatingIdeal.main_arg3)
      ∧ r.2.mem ((c.tc : Thread Cert.RefGatingIdeal.nD Cert.RefGatingIdeal.τ).loc Cert.RefGatingIdeal.main_arg4) = m ((c.tc : Thread Cert.RefGatingIdeal.nD Cert.RefGatingIdeal.τ).loc Cert.RefGatingIdeal.main_arg4)
      ∧ r.2.mem ((c.tc : Thread Cert.RefGatingIdeal.nD Cert.RefGatingIdeal.τ).loc Cert.RefGatingIdeal.main_arg5) = m ((c.tc : Thread Cert.RefGatingIdeal.nD Cert.RefGatingIdeal.τ).loc Cert.RefGatingIdeal.main_arg5)
      ∧ r.2.mem ((c.tc : Thread Cert.RefGatingIdeal.nD Cert.RefGatingIdeal.τ).loc Cert.RefGatingIdeal.main_arg6) = m ((c.tc : Thread Cert.RefGatingIdeal.nD Cert.RefGatingIdeal.τ).loc Cert.RefGatingIdeal.main_arg6)
      ∧ r.2.mem ((c.tc : Thread Cert.RefGatingIdeal.nD Cert.RefGatingIdeal.τ).loc Cert.RefGatingIdeal.main_arg7) = m ((c.tc : Thread Cert.RefGatingIdeal.nD Cert.RefGatingIdeal.τ).loc Cert.RefGatingIdeal.main_arg7))
      ∧ r.2.sem = fun _ => 0)

def quiescent_Experts [hExperts : Cert.Experts.Facts] [hPre_indices_distinct : Cert.Pre_indices_distinct.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_indices_distinct : Cert.Pre_indices_distinct.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_RefExpertsIdeal [hRefExpertsIdeal : Cert.RefExpertsIdeal.Facts] [hPre_indices_distinct : Cert.Pre_indices_distinct.Facts] : Prop :=
  ∀ (m : (ℓ : Loc Cert.RefExpertsIdeal.nD Cert.RefExpertsIdeal.τ Cert.RefExpertsIdeal.sig) → Buf (Elt Ideal) ℓ) (g : Dev Cert.RefExpertsIdeal.nD → PrngReg), Pre_RefExpertsIdeal m →
    θ_run (Cert.RefExpertsIdeal.defs (F := Ideal)) (onTc (τ := Cert.RefExpertsIdeal.τ) (Cert.RefExpertsIdeal.main (F := Ideal))) ⟨m, fun _ => 0, g⟩ (fun r => (∀ c : Dev Cert.RefExpertsIdeal.nD,
      r.2.mem ((c.tc : Thread Cert.RefExpertsIdeal.nD Cert.RefExpertsIdeal.τ).loc Cert.RefExpertsIdeal.main_arg0) = m ((c.tc : Thread Cert.RefExpertsIdeal.nD Cert.RefExpertsIdeal.τ).loc Cert.RefExpertsIdeal.main_arg0)
      ∧ r.2.mem ((c.tc : Thread Cert.RefExpertsIdeal.nD Cert.RefExpertsIdeal.τ).loc Cert.RefExpertsIdeal.main_arg1) = m ((c.tc : Thread Cert.RefExpertsIdeal.nD Cert.RefExpertsIdeal.τ).loc Cert.RefExpertsIdeal.main_arg1)
      ∧ r.2.mem ((c.tc : Thread Cert.RefExpertsIdeal.nD Cert.RefExpertsIdeal.τ).loc Cert.RefExpertsIdeal.main_arg2) = m ((c.tc : Thread Cert.RefExpertsIdeal.nD Cert.RefExpertsIdeal.τ).loc Cert.RefExpertsIdeal.main_arg2)
      ∧ r.2.mem ((c.tc : Thread Cert.RefExpertsIdeal.nD Cert.RefExpertsIdeal.τ).loc Cert.RefExpertsIdeal.main_arg3) = m ((c.tc : Thread Cert.RefExpertsIdeal.nD Cert.RefExpertsIdeal.τ).loc Cert.RefExpertsIdeal.main_arg3)
      ∧ r.2.mem ((c.tc : Thread Cert.RefExpertsIdeal.nD Cert.RefExpertsIdeal.τ).loc Cert.RefExpertsIdeal.main_arg4) = m ((c.tc : Thread Cert.RefExpertsIdeal.nD Cert.RefExpertsIdeal.τ).loc Cert.RefExpertsIdeal.main_arg4))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v192) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Gating_GatingIdeal : Prop :=
  True

def algebraic_GatingIdeal_RefGatingIdeal_pre_gating_finite [hGatingIdeal : Cert.GatingIdeal.Facts] [hRefGatingIdeal : Cert.RefGatingIdeal.Facts] [hPre_gating_finite : Cert.Pre_gating_finite.Facts] : Prop :=
  ∀ (m : (ℓ : Loc Cert.GatingIdeal.nD Cert.GatingIdeal.τ Cert.GatingIdeal.sig) → Buf (Elt Ideal) ℓ) (g : Dev Cert.GatingIdeal.nD → PrngReg)
    (m' : (ℓ : Loc Cert.RefGatingIdeal.nD Cert.RefGatingIdeal.τ Cert.RefGatingIdeal.sig) → Buf (Elt Ideal) ℓ) (g' : Dev Cert.RefGatingIdeal.nD → PrngReg), Pre_GatingIdeal_gating_finite m →
    (∀ c : Dev Cert.GatingIdeal.nD,
      m' ((c.tc : Thread Cert.RefGatingIdeal.nD Cert.RefGatingIdeal.τ).loc Cert.RefGatingIdeal.main_arg0) = m ((c.tc : Thread Cert.GatingIdeal.nD Cert.GatingIdeal.τ).loc Cert.GatingIdeal.main_arg0)
      ∧ m' ((c.tc : Thread Cert.RefGatingIdeal.nD Cert.RefGatingIdeal.τ).loc Cert.RefGatingIdeal.main_arg1) = m ((c.tc : Thread Cert.GatingIdeal.nD Cert.GatingIdeal.τ).loc Cert.GatingIdeal.main_arg1)
      ∧ m' ((c.tc : Thread Cert.RefGatingIdeal.nD Cert.RefGatingIdeal.τ).loc Cert.RefGatingIdeal.main_arg2) = m ((c.tc : Thread Cert.GatingIdeal.nD Cert.GatingIdeal.τ).loc Cert.GatingIdeal.main_arg2)
      ∧ m' ((c.tc : Thread Cert.RefGatingIdeal.nD Cert.RefGatingIdeal.τ).loc Cert.RefGatingIdeal.main_arg3) = m ((c.tc : Thread Cert.GatingIdeal.nD Cert.GatingIdeal.τ).loc Cert.GatingIdeal.main_arg3)
      ∧ m' ((c.tc : Thread Cert.RefGatingIdeal.nD Cert.RefGatingIdeal.τ).loc Cert.RefGatingIdeal.main_arg4) = m ((c.tc : Thread Cert.GatingIdeal.nD Cert.GatingIdeal.τ).loc Cert.GatingIdeal.main_arg4)
      ∧ m' ((c.tc : Thread Cert.RefGatingIdeal.nD Cert.RefGatingIdeal.τ).loc Cert.RefGatingIdeal.main_arg5) = m ((c.tc : Thread Cert.GatingIdeal.nD Cert.GatingIdeal.τ).loc Cert.GatingIdeal.main_arg5)
      ∧ m' ((c.tc : Thread Cert.RefGatingIdeal.nD Cert.RefGatingIdeal.τ).loc Cert.RefGatingIdeal.main_arg6) = m ((c.tc : Thread Cert.GatingIdeal.nD Cert.GatingIdeal.τ).loc Cert.GatingIdeal.main_arg6)
      ∧ m' ((c.tc : Thread Cert.RefGatingIdeal.nD Cert.RefGatingIdeal.τ).loc Cert.RefGatingIdeal.main_arg7) = m ((c.tc : Thread Cert.GatingIdeal.nD Cert.GatingIdeal.τ).loc Cert.GatingIdeal.main_arg7)) →
    ∃ (v0 : (c : Dev Cert.GatingIdeal.nD) → Buf (Elt Ideal) ((c.tc : Thread Cert.GatingIdeal.nD Cert.GatingIdeal.τ).loc Cert.GatingIdeal.main_v4_0)) (v1 : (c : Dev Cert.GatingIdeal.nD) → Buf (Elt Ideal) ((c.tc : Thread Cert.GatingIdeal.nD Cert.GatingIdeal.τ).loc Cert.GatingIdeal.main_v4_1)) (v2 : (c : Dev Cert.GatingIdeal.nD) → Buf (Elt Ideal) ((c.tc : Thread Cert.GatingIdeal.nD Cert.GatingIdeal.τ).loc Cert.GatingIdeal.main_v5)),
      θ_run (Cert.GatingIdeal.defs (F := Ideal)) (onTc (τ := Cert.GatingIdeal.τ) (Cert.GatingIdeal.main (F := Ideal))) ⟨m, fun _ => 0, g⟩ (fun r => ∀ c : Dev Cert.GatingIdeal.nD,
          r.2.mem ((c.tc : Thread Cert.GatingIdeal.nD Cert.GatingIdeal.τ).loc Cert.GatingIdeal.main_v4_0) = v0 c
          ∧ r.2.mem ((c.tc : Thread Cert.GatingIdeal.nD Cert.GatingIdeal.τ).loc Cert.GatingIdeal.main_v4_1) = v1 c
          ∧ r.2.mem ((c.tc : Thread Cert.GatingIdeal.nD Cert.GatingIdeal.τ).loc Cert.GatingIdeal.main_v5) = v2 c
          ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
          ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
          ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
          ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
          ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4)
          ∧ r.2.mem ((c.tc : Thread Cert.GatingIdeal.nD Cert.GatingIdeal.τ).loc Cert.GatingIdeal.main_arg5) = m ((c.tc : Thread Cert.GatingIdeal.nD Cert.GatingIdeal.τ).loc Cert.GatingIdeal.main_arg5)
          ∧ r.2.mem ((c.tc : Thread Cert.GatingIdeal.nD Cert.GatingIdeal.τ).loc Cert.GatingIdeal.main_arg6) = m ((c.tc : Thread Cert.GatingIdeal.nD Cert.GatingIdeal.τ).loc Cert.GatingIdeal.main_arg6)
          ∧ r.2.mem ((c.tc : Thread Cert.GatingIdeal.nD Cert.GatingIdeal.τ).loc Cert.GatingIdeal.main_arg7) = m ((c.tc : Thread Cert.GatingIdeal.nD Cert.GatingIdeal.τ).loc Cert.GatingIdeal.main_arg7))
      ∧ θ_run (Cert.RefGatingIdeal.defs (F := Ideal)) (onTc (τ := Cert.RefGatingIdeal.τ) (Cert.RefGatingIdeal.main (F := Ideal))) ⟨m', fun _ => 0, g'⟩ (fun r => ∀ c : Dev Cert.RefGatingIdeal.nD,
          r.2.mem ((c.tc : Thread Cert.RefGatingIdeal.nD Cert.RefGatingIdeal.τ).loc Cert.RefGatingIdeal.main_v20) = v0 c
          ∧ r.2.mem ((c.tc : Thread Cert.RefGatingIdeal.nD Cert.RefGatingIdeal.τ).loc Cert.RefGatingIdeal.main_v31) = v1 c
          ∧ r.2.mem ((c.tc : Thread Cert.RefGatingIdeal.nD Cert.RefGatingIdeal.τ).loc Cert.RefGatingIdeal.main_v69) = v2 c
          ∧ r.2.mem ((c.tc : Thread Cert.RefGatingIdeal.nD Cert.RefGatingIdeal.τ).loc Cert.RefGatingIdeal.main_arg0) = m' ((c.tc : Thread Cert.RefGatingIdeal.nD Cert.RefGatingIdeal.τ).loc Cert.RefGatingIdeal.main_arg0)
          ∧ r.2.mem ((c.tc : Thread Cert.RefGatingIdeal.nD Cert.RefGatingIdeal.τ).loc Cert.RefGatingIdeal.main_arg1) = m' ((c.tc : Thread Cert.RefGatingIdeal.nD Cert.RefGatingIdeal.τ).loc Cert.RefGatingIdeal.main_arg1)
          ∧ r.2.mem ((c.tc : Thread Cert.RefGatingIdeal.nD Cert.RefGatingIdeal.τ).loc Cert.RefGatingIdeal.main_arg2) = m' ((c.tc : Thread Cert.RefGatingIdeal.nD Cert.RefGatingIdeal.τ).loc Cert.RefGatingIdeal.main_arg2)
          ∧ r.2.mem ((c.tc : Thread Cert.RefGatingIdeal.nD Cert.RefGatingIdeal.τ).loc Cert.RefGatingIdeal.main_arg3) = m' ((c.tc : Thread Cert.RefGatingIdeal.nD Cert.RefGatingIdeal.τ).loc Cert.RefGatingIdeal.main_arg3)
          ∧ r.2.mem ((c.tc : Thread Cert.RefGatingIdeal.nD Cert.RefGatingIdeal.τ).loc Cert.RefGatingIdeal.main_arg4) = m' ((c.tc : Thread Cert.RefGatingIdeal.nD Cert.RefGatingIdeal.τ).loc Cert.RefGatingIdeal.main_arg4)
          ∧ r.2.mem ((c.tc : Thread Cert.RefGatingIdeal.nD Cert.RefGatingIdeal.τ).loc Cert.RefGatingIdeal.main_arg5) = m' ((c.tc : Thread Cert.RefGatingIdeal.nD Cert.RefGatingIdeal.τ).loc Cert.RefGatingIdeal.main_arg5)
          ∧ r.2.mem ((c.tc : Thread Cert.RefGatingIdeal.nD Cert.RefGatingIdeal.τ).loc Cert.RefGatingIdeal.main_arg6) = m' ((c.tc : Thread Cert.RefGatingIdeal.nD Cert.RefGatingIdeal.τ).loc Cert.RefGatingIdeal.main_arg6)
          ∧ r.2.mem ((c.tc : Thread Cert.RefGatingIdeal.nD Cert.RefGatingIdeal.τ).loc Cert.RefGatingIdeal.main_arg7) = m' ((c.tc : Thread Cert.RefGatingIdeal.nD Cert.RefGatingIdeal.τ).loc Cert.RefGatingIdeal.main_arg7))

def preserves_Experts_ExpertsIdeal : Prop :=
  True

def algebraic_ExpertsIdeal_RefExpertsIdeal [hExpertsIdeal : Cert.ExpertsIdeal.Facts] [hRefExpertsIdeal : Cert.RefExpertsIdeal.Facts] [hPre_indices_distinct : Cert.Pre_indices_distinct.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.RefExpertsIdeal.nD Cert.RefExpertsIdeal.τ Cert.RefExpertsIdeal.sig) → Buf (Elt Ideal) ℓ) (g' : Dev Cert.RefExpertsIdeal.nD → PrngReg), Pre_ExpertsIdeal m →
    (∀ c : Dev Cert.ExpertsIdeal.nD,
      m' ((c.tc : Thread Cert.RefExpertsIdeal.nD Cert.RefExpertsIdeal.τ).loc Cert.RefExpertsIdeal.main_arg0) = m ((c.tc : Thread Cert.ExpertsIdeal.nD Cert.ExpertsIdeal.τ).loc Cert.ExpertsIdeal.main_arg0)
      ∧ m' ((c.tc : Thread Cert.RefExpertsIdeal.nD Cert.RefExpertsIdeal.τ).loc Cert.RefExpertsIdeal.main_arg1) = m ((c.tc : Thread Cert.ExpertsIdeal.nD Cert.ExpertsIdeal.τ).loc Cert.ExpertsIdeal.main_arg1)
      ∧ m' ((c.tc : Thread Cert.RefExpertsIdeal.nD Cert.RefExpertsIdeal.τ).loc Cert.RefExpertsIdeal.main_arg2) = m ((c.tc : Thread Cert.ExpertsIdeal.nD Cert.ExpertsIdeal.τ).loc Cert.ExpertsIdeal.main_arg2)
      ∧ m' ((c.tc : Thread Cert.RefExpertsIdeal.nD Cert.RefExpertsIdeal.τ).loc Cert.RefExpertsIdeal.main_arg3) = m ((c.tc : Thread Cert.ExpertsIdeal.nD Cert.ExpertsIdeal.τ).loc Cert.ExpertsIdeal.main_arg3)
      ∧ m' ((c.tc : Thread Cert.RefExpertsIdeal.nD Cert.RefExpertsIdeal.τ).loc Cert.RefExpertsIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v14)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v14) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.RefExpertsIdeal.defs (F := Ideal)) (onTc (τ := Cert.RefExpertsIdeal.τ) (Cert.RefExpertsIdeal.main (F := Ideal))) ⟨m', fun _ => 0, g'⟩ (fun r => ∀ c : Dev Cert.RefExpertsIdeal.nD,
          r.2.mem ((c.tc : Thread Cert.RefExpertsIdeal.nD Cert.RefExpertsIdeal.τ).loc Cert.RefExpertsIdeal.main_v140) = v0 c
          ∧ r.2.mem ((c.tc : Thread Cert.RefExpertsIdeal.nD Cert.RefExpertsIdeal.τ).loc Cert.RefExpertsIdeal.main_arg0) = m' ((c.tc : Thread Cert.RefExpertsIdeal.nD Cert.RefExpertsIdeal.τ).loc Cert.RefExpertsIdeal.main_arg0)
          ∧ r.2.mem ((c.tc : Thread Cert.RefExpertsIdeal.nD Cert.RefExpertsIdeal.τ).loc Cert.RefExpertsIdeal.main_arg1) = m' ((c.tc : Thread Cert.RefExpertsIdeal.nD Cert.RefExpertsIdeal.τ).loc Cert.RefExpertsIdeal.main_arg1)
          ∧ r.2.mem ((c.tc : Thread Cert.RefExpertsIdeal.nD Cert.RefExpertsIdeal.τ).loc Cert.RefExpertsIdeal.main_arg2) = m' ((c.tc : Thread Cert.RefExpertsIdeal.nD Cert.RefExpertsIdeal.τ).loc Cert.RefExpertsIdeal.main_arg2)
          ∧ r.2.mem ((c.tc : Thread Cert.RefExpertsIdeal.nD Cert.RefExpertsIdeal.τ).loc Cert.RefExpertsIdeal.main_arg3) = m' ((c.tc : Thread Cert.RefExpertsIdeal.nD Cert.RefExpertsIdeal.τ).loc Cert.RefExpertsIdeal.main_arg3)
          ∧ r.2.mem ((c.tc : Thread Cert.RefExpertsIdeal.nD Cert.RefExpertsIdeal.τ).loc Cert.RefExpertsIdeal.main_arg4) = m' ((c.tc : Thread Cert.RefExpertsIdeal.nD Cert.RefExpertsIdeal.τ).loc Cert.RefExpertsIdeal.main_arg4))

def Claim : Prop :=
  ∃ (hKernelIdeal : Cert.KernelIdeal.Facts) (hReferenceIdeal : Cert.ReferenceIdeal.Facts) (hGating : Cert.Gating.Facts) (hGatingIdeal : Cert.GatingIdeal.Facts) (hRefGatingIdeal : Cert.RefGatingIdeal.Facts) (hExperts : Cert.Experts.Facts) (hExpertsIdeal : Cert.ExpertsIdeal.Facts) (hRefExpertsIdeal : Cert.RefExpertsIdeal.Facts) (hPre_finite : Cert.Pre_finite.Facts) (hPre_gating_finite : Cert.Pre_gating_finite.Facts) (hPre_indices_distinct : Cert.Pre_indices_distinct.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gating (hGating := hGating)
    ∧ quiescent_GatingIdeal (hGatingIdeal := hGatingIdeal)
    ∧ quiescent_GatingIdeal_pre_gating_finite (hGatingIdeal := hGatingIdeal) (hPre_gating_finite := hPre_gating_finite)
    ∧ quiescent_RefGatingIdeal (hRefGatingIdeal := hRefGatingIdeal)
    ∧ quiescent_RefGatingIdeal_pre_gating_finite (hRefGatingIdeal := hRefGatingIdeal) (hPre_gating_finite := hPre_gating_finite)
    ∧ quiescent_Experts (hExperts := hExperts) (hPre_indices_distinct := hPre_indices_distinct)
    ∧ quiescent_ExpertsIdeal (hExpertsIdeal := hExpertsIdeal) (hPre_indices_distinct := hPre_indices_distinct)
    ∧ quiescent_RefExpertsIdeal (hRefExpertsIdeal := hRefExpertsIdeal) (hPre_indices_distinct := hPre_indices_distinct)
    ∧ algebraic_KernelIdeal_ReferenceIdeal_pre_finite (hKernelIdeal := hKernelIdeal) (hReferenceIdeal := hReferenceIdeal) (hPre_finite := hPre_finite)
    ∧ preserves_Gating_GatingIdeal
    ∧ algebraic_GatingIdeal_RefGatingIdeal_pre_gating_finite (hGatingIdeal := hGatingIdeal) (hRefGatingIdeal := hRefGatingIdeal) (hPre_gating_finite := hPre_gating_finite)
    ∧ preserves_Experts_ExpertsIdeal
    ∧ algebraic_ExpertsIdeal_RefExpertsIdeal (hExpertsIdeal := hExpertsIdeal) (hRefExpertsIdeal := hRefExpertsIdeal) (hPre_indices_distinct := hPre_indices_distinct)
-- ==== Pre_finite.lean ====
abbrev S32x64x32x32 : Shape := ⟨4, ![32, 64, 32, 32]⟩
abbrev S32x32 : Shape := ⟨2, ![32, 32]⟩
abbrev S32x128 : Shape := ⟨2, ![32, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S8x128x64x3x3 : Shape := ⟨5, ![8, 128, 64, 3, 3]⟩
abbrev S8x64x128x3x3 : Shape := ⟨5, ![8, 64, 128, 3, 3]⟩
abbrev S_ : Shape := ⟨0, ![]⟩

class Facts : Prop where
  bcast_S_S32x64x32x32 : S_.BroadcastsInDim S32x64x32x32 (![] : Fin 0 → Fin S32x64x32x32.rank)
  reducesTo_S32x64x32x32_S_d0_1_2_3 : S32x64x32x32.ReducesTo [0, 1, 2, 3] S_
  h_S_ : 0 < S_.numel
  bcast_S_S32x32 : S_.BroadcastsInDim S32x32 (![] : Fin 0 → Fin S32x32.rank)
  reducesTo_S32x32_S_d0_1 : S32x32.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg7 : FVec F S8 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x8 .f32) (main_arg7 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x8 .f32 := Host.absf main_arg6
  let main_cst_10 : FVec F S_ .f32 := constant S_ .f32 0x7F800000#32
  let main_v30 : FVec F S128x8 .f32 := broadcastInDim S128x8 ![] bcast_S_S128x8 main_cst_10
  let main_v31 : IVec S128x8 1 := cmpf .olt main_v29 main_v30
  let main_c_11 : IVec S_ 1 := constantI S_ 1 1#1
  let main_v32 : IVec S_ 1 := (fun x v => Host.reduce IntOp.andi x v reducesTo_S128x8_S_d0_1 h_S_) main_v31 main_c_11
  let main_v33 : IVec S_ 1 := andi main_v28 main_v32
  fn_part2 (F := F) main_arg7 main_v33

def fn {F : FTy → Type} [FloatOps F] (main_arg0 : FVec F S32x64x32x32 .f32) (main_arg1 : FVec F S32x32 .f32) (main_arg2 : FVec F S32x128 .f32) (main_arg3 : FVec F S128 .f32) (main_arg4 : FVec F S128x128 .f32) (main_arg5 : FVec F S128 .f32) (main_arg6 : FVec F S128x8 .f32) (main_arg7 : FVec F S8 .f32) (main_arg8 : FVec F S8x128x64x3x3 .f32) (main_arg9 : FVec F S8x64x128x3x3 .f32) : IVec S_ 1 :=
  let main_v0 : FVec F S32x64x32x32 .f32 := Host.absf main_arg0
  let main_cst : FVec F S_ .f32 := constant S_ .f32 0x7F800000#32
  let main_v1 : FVec F S32x64x32x32 .f32 := broadcastInDim S32x64x32x32 ![] bcast_S_S32x64x32x32 main_cst
  let main_v2 : IVec S32x64x32x32 1 := cmpf .olt main_v0 main_v1
  let main_c : IVec S_ 1 := constantI S_ 1 1#1
  let main_v3 : IVec S_ 1 := (fun x v => Host.reduce IntOp.andi x v reducesTo_S32x64x32x32_S_d0_1_2_3 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32x128 .f32 := Host.absf main_arg2
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Pre_gating_finite.lean ====
abbrev S32x64x32x32 : Shape := ⟨4, ![32, 64, 32, 32]⟩
abbrev S32x32 : Shape := ⟨2, ![32, 32]⟩
abbrev S32x128 : Shape := ⟨2, ![32, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S_ : Shape := ⟨0, ![]⟩

class Facts : Prop where
  bcast_S_S32x64x32x32 : S_.BroadcastsInDim S32x64x32x32 (![] : Fin 0 → Fin S32x64x32x32.rank)
  reducesTo_S32x64x32x32_S_d0_1_2_3 : S32x64x32x32.ReducesTo [0, 1, 2, 3] S_
  h_S_ : 0 < S_.numel
  bcast_S_S32x32 : S_.BroadcastsInDim S32x32 (![] : Fin 0 → Fin S32x32.rank)
  reducesTo_S32x32_S_d0_1 : S32x32.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg7 : FVec F S8 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x8 .f32) (main_arg7 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x8 .f32 := Host.absf main_arg6
  let main_cst_10 : FVec F S_ .f32 := constant S_ .f32 0x7F800000#32
  let main_v30 : FVec F S128x8 .f32 := broadcastInDim S128x8 ![] bcast_S_S128x8 main_cst_10
  let main_v31 : IVec S128x8 1 := cmpf .olt main_v29 main_v30
  let main_c_11 : IVec S_ 1 := constantI S_ 1 1#1
  let main_v32 : IVec S_ 1 := (fun x v => Host.reduce IntOp.andi x v reducesTo_S128x8_S_d0_1 h_S_) main_v31 main_c_11
  let main_v33 : IVec S_ 1 := andi main_v28 main_v32
  fn_part2 (F := F) main_arg7 main_v33

def fn {F : FTy → Type} [FloatOps F] (main_arg0 : FVec F S32x64x32x32 .f32) (main_arg1 : FVec F S32x32 .f32) (main_arg2 : FVec F S32x128 .f32) (main_arg3 : FVec F S128 .f32) (main_arg4 : FVec F S128x128 .f32) (main_arg5 : FVec F S128 .f32) (main_arg6 : FVec F S128x8 .f32) (main_arg7 : FVec F S8 .f32) : IVec S_ 1 :=
  let main_v0 : FVec F S32x64x32x32 .f32 := Host.absf main_arg0
  let main_cst : FVec F S_ .f32 := constant S_ .f32 0x7F800000#32
  let main_v1 : FVec F S32x64x32x32 .f32 := broadcastInDim S32x64x32x32 ![] bcast_S_S32x64x32x32 main_cst
  let main_v2 : IVec S32x64x32x32 1 := cmpf .olt main_v0 main_v1
  let main_c : IVec S_ 1 := constantI S_ 1 1#1
  let main_v3 : IVec S_ 1 := (fun x v => Host.reduce IntOp.andi x v reducesTo_S32x64x32x32_S_d0_1_2_3 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32x128 .f32 := Host.absf main_arg2
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Pre_indices_distinct.lean ====
abbrev S32x2 : Shape := ⟨2, ![32, 2]⟩
abbrev S32x64x32x32 : Shape := ⟨4, ![32, 64, 32, 32]⟩
abbrev S8x128x64x3x3 : Shape := ⟨5, ![8, 128, 64, 3, 3]⟩
abbrev S8x64x128x3x3 : Shape := ⟨5, ![8, 64, 128, 3, 3]⟩
abbrev S_ : Shape := ⟨0, ![]⟩
abbrev S32x1 : Shape := ⟨2, ![32, 1]⟩
abbrev S32 : Shape := ⟨1, ![32]⟩

class Facts : Prop where
  bcast_S_S32x2 : S_.BroadcastsInDim S32x2 (![] : Fin 0 → Fin S32x2.rank)
  reducesTo_S32x2_S_d0_1 : S32x2.ReducesTo [0, 1] S_
  h_S_ : 0 < S_.numel
  slices_S32x2_S32x1_0_0 : S32x2.Slices ![0, 0] S32x1
  shapeCasts_S32x1_S32 : S32x1.ShapeCasts S32
  slices_S32x2_S32x1_0_1 : S32x2.Slices ![0, 1] S32x1
  reducesTo_S32_S_d0 : S32.ReducesTo [0] S_

variable [Facts]

def fn {F : FTy → Type} [FloatOps F] (main_arg0 : IVec S32x2 32) (main_arg1 : FVec F S32x2 .f32) (main_arg2 : FVec F S32x64x32x32 .f32) (main_arg3 : FVec F S8x128x64x3x3 .f32) (main_arg4 : FVec F S8x64x128x3x3 .f32) : IVec S_ 1 :=
  let main_c : IVec S_ 32 := constantI S_ 32 0#32
  let main_v0 : IVec S32x2 32 := broadcastInDim S32x2 ![] bcast_S_S32x2 main_c
  let main_v1 : IVec S32x2 1 := cmpi .sge main_arg0 main_v0
  let main_c_0 : IVec S_ 32 := constantI S_ 32 8#32
  let main_v2 : IVec S32x2 32 := broadcastInDim S32x2 ![] bcast_S_S32x2 main_c_0
  let main_v3 : IVec S32x2 1 := cmpi .slt main_arg0 main_v2
  let main_v4 : IVec S32x2 1 := andi main_v1 main_v3
  let main_c_1 : IVec S_ 1 := constantI S_ 1 1#1
  let main_v5 : IVec S_ 1 := (fun x v => Host.reduce IntOp.andi x v reducesTo_S32x2_S_d0_1 h_S_) main_v4 main_c_1
  let main_v6 : IVec S32x1 32 := (extractStridedSlice S32x1 ![0, 0] · slices_S32x2_S32x1_0_0) main_arg0
  let main_v7 : IVec S32 32 := shapeCast S32 main_v6 shapeCasts_S32x1_S32
  let main_v8 : IVec S32x1 32 := (extractStridedSlice S32x1 ![0, 1] · slices_S32x2_S32x1_0_1) main_arg0
  let main_v9 : IVec S32 32 := shapeCast S32 main_v8 shapeCasts_S32x1_S32
  let main_v10 : IVec S32 1 := cmpi .ne main_v7 main_v9
  let main_c_2 : IVec S_ 1 := constantI S_ 1 1#1
  let main_v11 : IVec S_ 1 := (fun x v => Host.reduce IntOp.andi x v reducesTo_S32_S_d0 h_S_) main_v10 main_c_2
  let main_v12 : IVec S_ 1 := andi main_v5 main_v11
  main_v12
-- ==== KernelIdeal.lean ====
abbrev S32x64x32x32 : Shape := ⟨4, ![32, 64, 32, 32]⟩
abbrev S32x32 : Shape := ⟨2, ![32, 32]⟩
abbrev S32x128 : Shape := ⟨2, ![32, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S8x128x64x3x3 : Shape := ⟨5, ![8, 128, 64, 3, 3]⟩
abbrev S8x64x128x3x3 : Shape := ⟨5, ![8, 64, 128, 3, 3]⟩
abbrev S1x1226 : Shape := ⟨2, ![1, 1226]⟩
abbrev S32x64x1024 : Shape := ⟨3, ![32, 64, 1024]⟩
abbrev S1x128 : Shape := ⟨2, ![1, 128]⟩
abbrev S1x8 : Shape := ⟨2, ![1, 8]⟩
abbrev S32x2 : Shape := ⟨2, ![32, 2]⟩
abbrev S1x1 : Shape := ⟨2, ![1, 1]⟩
abbrev S32x64 : Shape := ⟨2, ![32, 64]⟩
abbrev S32x8 : Shape := ⟨2, ![32, 8]⟩
abbrev S32 : Shape := ⟨1, ![32]⟩
abbrev S32x1 : Shape := ⟨2, ![32, 1]⟩
abbrev S1 : Shape := ⟨1, ![1]⟩
abbrev S_ : Shape := ⟨0, ![]⟩
abbrev S32x64x34x34 : Shape := ⟨4, ![32, 64, 34, 34]⟩
abbrev S32x64x1156 : Shape := ⟨3, ![32, 64, 1156]⟩
abbrev S32x64x1296 : Shape := ⟨3, ![32, 64, 1296]⟩
abbrev S8x128x3x3x64 : Shape := ⟨5, ![8, 128, 3, 3, 64]⟩
abbrev S8x128x576 : Shape := ⟨3, ![8, 128, 576]⟩
abbrev S8x64x3x3x128 : Shape := ⟨5, ![8, 64, 3, 3, 128]⟩
abbrev S8x64x1152 : Shape := ⟨3, ![8, 64, 1152]⟩
abbrev S64 : Shape := ⟨1, ![64]⟩
abbrev S1x64x1296 : Shape := ⟨3, ![1, 64, 1296]⟩
abbrev S1x64x1156 : Shape := ⟨3, ![1, 64, 1156]⟩
abbrev S576x1226 : Shape := ⟨2, ![576, 1226]⟩
abbrev S128x1226 : Shape := ⟨2, ![128, 1226]⟩
abbrev S1152x1156 : Shape := ⟨2, ![1152, 1156]⟩
abbrev S1x64x1226 : Shape := ⟨3, ![1, 64, 1226]⟩
abbrev S64x1226 : Shape := ⟨2, ![64, 1226]⟩
abbrev S1x128x576 : Shape := ⟨3, ![1, 128, 576]⟩
abbrev S128x576 : Shape := ⟨2, ![128, 576]⟩
abbrev S128x1156 : Shape := ⟨2, ![128, 1156]⟩
abbrev S1x64x1152 : Shape := ⟨3, ![1, 64, 1152]⟩
abbrev S64x1152 : Shape := ⟨2, ![64, 1152]⟩
abbrev S64x1156 : Shape := ⟨2, ![64, 1156]⟩

abbrev nBuf : Space → Nat
  | .hbm => 37
  | .vmem => 21
  | .smem => 2
  | _ => 0

abbrev bufTy : (tb : Table) → Fin (tcTables nBuf tb) → BufTy
  | .hbm, ⟨0, _⟩ => ⟨S32x64x32x32, .f32⟩
  | .hbm, ⟨1, _⟩ => ⟨S32x32, .f32⟩
  | .hbm, ⟨2, _⟩ => ⟨S32x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x8, .f32⟩
  | .hbm, ⟨7, _⟩ => ⟨S8, .f32⟩
  | .hbm, ⟨8, _⟩ => ⟨S8x128x64x3x3, .f32⟩
  | .hbm, ⟨9, _⟩ => ⟨S8x64x128x3x3, .f32⟩
  | .hbm, ⟨10, _⟩ => ⟨S1x1226, .f32⟩
  | .hbm, ⟨11, _⟩ => ⟨S32x64x1024, .f32⟩
  | .hbm, ⟨12, _⟩ => ⟨S1x128, .f32⟩
  | .hbm, ⟨13, _⟩ => ⟨S1x128, .f32⟩
  | .hbm, ⟨14, _⟩ => ⟨S1x8, .f32⟩
  | .hbm, ⟨15, _⟩ => ⟨S32x2, .i32⟩
  | .hbm, ⟨16, _⟩ => ⟨S32x2, .f32⟩
  | .hbm, ⟨17, _⟩ => ⟨S1x1, .f32⟩
  | .hbm, ⟨18, _⟩ => ⟨S_, .i32⟩
  | .hbm, ⟨19, _⟩ => ⟨S_, .f32⟩
  | .hbm, ⟨20, _⟩ => ⟨S32x64x34x34, .f32⟩
  | .hbm, ⟨21, _⟩ => ⟨S32x64x1156, .f32⟩
  | .hbm, ⟨22, _⟩ => ⟨S_, .i32⟩
  | .hbm, ⟨23, _⟩ => ⟨S_, .f32⟩
  | .hbm, ⟨24, _⟩ => ⟨S32x64x1296, .f32⟩
  | .hbm, ⟨25, _⟩ => ⟨S32x64x1296, .bf16⟩
  | .hbm, ⟨26, _⟩ => ⟨S8x128x3x3x64, .f32⟩
  | .hbm, ⟨27, _⟩ => ⟨S8x128x576, .f32⟩
  | .hbm, ⟨28, _⟩ => ⟨S8x128x576, .bf16⟩
  | .hbm, ⟨29, _⟩ => ⟨S8x64x3x3x128, .f32⟩
  | .hbm, ⟨30, _⟩ => ⟨S8x64x1152, .f32⟩
  | .hbm, ⟨31, _⟩ => ⟨S8x64x1152, .bf16⟩
  | .hbm, ⟨32, _⟩ => ⟨S64, .f32⟩
  | .hbm, ⟨33, _⟩ => ⟨S32x64x1156, .f32⟩
  | .hbm, ⟨34, _⟩ => ⟨S32x64x34x34, .f32⟩
  | .hbm, ⟨35, _⟩ => ⟨S32x64x32x32, .f32⟩
  | .hbm, ⟨36, _⟩ => ⟨S_, .f32⟩
  | .local _ .vmem, ⟨0, _⟩ => ⟨S32x64x1024, .f32⟩
  | .local _ .vmem, ⟨1, _⟩ => ⟨S32x32, .f32⟩
  | .local _ .vmem, ⟨2, _⟩ => ⟨S32x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x8, .f32⟩
  | .local _ .vmem, ⟨7, _⟩ => ⟨S1x8, .f32⟩
  | .local _ .vmem, ⟨8, _⟩ => ⟨S32x2, .i32⟩
  | .local _ .vmem, ⟨9, _⟩ => ⟨S32x2, .f32⟩
  | .local _ .vmem, ⟨10, _⟩ => ⟨S1x1, .f32⟩
  | .local _ .vmem, ⟨11, _⟩ => ⟨S1x64x1296, .bf16⟩
  | .local _ .vmem, ⟨12, _⟩ => ⟨S1x64x1296, .bf16⟩
  | .local _ .vmem, ⟨13, _⟩ => ⟨S8x128x576, .bf16⟩
  | .local _ .vmem, ⟨14, _⟩ => ⟨S8x64x1152, .bf16⟩
  | .local _ .vmem, ⟨15, _⟩ => ⟨S1x1226, .f32⟩
  | .local _ .vmem, ⟨16, _⟩ => ⟨S1x64x1156, .f32⟩
  | .local _ .vmem, ⟨17, _⟩ => ⟨S1x64x1156, .f32⟩
  | .local _ .vmem, ⟨18, _⟩ => ⟨S576x1226, .bf16⟩
  | .local _ .vmem, ⟨19, _⟩ => ⟨S128x1226, .bf16⟩
  | .local _ .vmem, ⟨20, _⟩ => ⟨S1152x1156, .bf16⟩
  | .local _ .smem, ⟨0, _⟩ => ⟨S64, .i32⟩
  | .local _ .smem, ⟨1, _⟩ => ⟨S64, .f32⟩
  | _, _ => ⟨S32x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_c : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_call1_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v15 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc1_stg0_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := .none

abbrev stage0_0 : Fin 1 → Memref sig .tc .vmem S32x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x2 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := ⟨2, ![32, 2], ![false, false]⟩

abbrev pre1 : Pipeline.Prefetch sig := ⟨1, ![main_v15.idx], fun | 0 => main_v15.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let c2_i32 : BitVec 32 := 2#32
  let arg0 : BitVec 32 := BitVec.ofNat 32 (i 0).val
  let v0 : BitVec 32 := Scalar.muli c2_i32 arg0
  let arg1 : BitVec 32 := BitVec.ofNat 32 (i 1).val
  let v1 : BitVec 32 := Scalar.addi v0 arg1
  let v2 : Index := Scalar.indexCast v1
  ![v2.toNat]
def k1_off2 (v3 : BitVec 32) : Fin 3 → Nat :=
  let v11 : Index := Scalar.indexCast v3
  let c0 : Index := 0#32
  let c0_2 : Index := 0#32
  ![v11.toNat, 0, 0]

def k1_off3 (v3 : BitVec 32) : Fin 3 → Nat :=
  let v67 : Index := Scalar.indexCast v3
  let c0_32 : Index := 0#32
  let c0_33 : Index := 0#32
  ![v67.toNat, 0, 0]

def k1_chk1 (v3 : BitVec 32) : Prop :=
  (∀ a, (k1_off2 v3) a + S1x128x576.size a ≤ S8x128x576.size a) ∧
  (∀ a, (k1_off3 v3) a + S1x64x1152.size a ≤ S8x64x1152.size a)
theorem k1_off2_inb : ∀ (v3 : BitVec 32) (k1_hw1 : k1_chk1 v3), ∀ a, (k1_off2 v3) a + S1x128x576.size a ≤ S8x128x576.size a := fun v3 k1_hw1 => k1_hw1.1
theorem k1_off3_inb : ∀ (v3 : BitVec 32) (k1_hw1 : k1_chk1 v3), ∀ a, (k1_off3 v3) a + S1x64x1152.size a ≤ S8x64x1152.size a := fun v3 k1_hw1 => k1_hw1.2

def k1_cond2 (i : grid1.Coords) : BitVec 1 :=
  let arg1 : BitVec 32 := BitVec.ofNat 32 (i 1).val
  let c0_i32_37 : BitVec 32 := 0#32
  let v74 : BitVec 1 := Scalar.cmpi .eq arg1 c0_i32_37
  let v75 : BitVec 32 := Scalar.extui v74
  let c0_i32_38 : BitVec 32 := 0#32
  let v76 : BitVec 1 := Scalar.cmpi .ne v75 c0_i32_38
  v76

def k1_cond3 (i : grid1.Coords) : BitVec 1 :=
  let arg1 : BitVec 32 := BitVec.ofNat 32 (i 1).val
  let c0_i32_39 : BitVec 32 := 0#32
  let v77 : BitVec 1 := Scalar.cmpi .ne arg1 c0_i32_39
  let v78 : BitVec 32 := Scalar.extui v77
  let c0_i32_40 : BitVec 32 := 0#32
  let v79 : BitVec 1 := Scalar.cmpi .ne v78 c0_i32_40
  v79

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x64x1296 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S8x128x576 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S8x64x1152 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1226 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x64x1156 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== ReferenceIdeal.lean ====
abbrev S32x64x32x32 : Shape := ⟨4, ![32, 64, 32, 32]⟩
abbrev S32x32 : Shape := ⟨2, ![32, 32]⟩
abbrev S32x128 : Shape := ⟨2, ![32, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S8x128x64x3x3 : Shape := ⟨5, ![8, 128, 64, 3, 3]⟩
abbrev S8x64x128x3x3 : Shape := ⟨5, ![8, 64, 128, 3, 3]⟩
abbrev S_ : Shape := ⟨0, ![]⟩
abbrev S32x64 : Shape := ⟨2, ![32, 64]⟩
abbrev S1x128 : Shape := ⟨2, ![1, 128]⟩
abbrev S32x8 : Shape := ⟨2, ![32, 8]⟩
abbrev S1x8 : Shape := ⟨2, ![1, 8]⟩
abbrev S32x3 : Shape := ⟨2, ![32, 3]⟩
abbrev S32x2 : Shape := ⟨2, ![32, 2]⟩
abbrev S32 : Shape := ⟨1, ![32]⟩
abbrev S32x1 : Shape := ⟨2, ![32, 1]⟩
abbrev S32x2x1 : Shape := ⟨3, ![32, 2, 1]⟩
abbrev S32x2x2 : Shape := ⟨3, ![32, 2, 2]⟩
abbrev S32x64x34x34 : Shape := ⟨4, ![32, 64, 34, 34]⟩
abbrev S32x8x128x32x32 : Shape := ⟨5, ![32, 8, 128, 32, 32]⟩
abbrev S8x128x64x1x1 : Shape := ⟨5, ![8, 128, 64, 1, 1]⟩
abbrev S8x128x64 : Shape := ⟨3, ![8, 128, 64]⟩
abbrev S32x32x32x8x128 : Shape := ⟨5, ![32, 32, 32, 8, 128]⟩
abbrev S32x8x128x34x34 : Shape := ⟨5, ![32, 8, 128, 34, 34]⟩
abbrev S32x8x64x32x32 : Shape := ⟨5, ![32, 8, 64, 32, 32]⟩
abbrev S8x64x128x1x1 : Shape := ⟨5, ![8, 64, 128, 1, 1]⟩
abbrev S8x64x128 : Shape := ⟨3, ![8, 64, 128]⟩
abbrev S8x32x32x32x64 : Shape := ⟨5, ![8, 32, 32, 32, 64]⟩
abbrev S32x8x1x1x1 : Shape := ⟨5, ![32, 8, 1, 1, 1]⟩
abbrev S1 : Shape := ⟨1, ![1]⟩

abbrev nBuf : Space → Nat
  | .hbm => 282
  | .vmem => 0
  | .smem => 0
  | _ => 0

abbrev hbmTy0_0 (i : Nat) : BufTy := match i % 128 with
  | 0 => ⟨S32x64x32x32, .f32⟩
  | 1 => ⟨S32x32, .f32⟩
  | 2 => ⟨S32x128, .f32⟩
  | 3 => ⟨S128, .f32⟩
  | 4 => ⟨S128x128, .f32⟩
  | 5 => ⟨S128, .f32⟩
  | 6 => ⟨S128x8, .f32⟩
  | 7 => ⟨S8, .f32⟩
  | 8 => ⟨S8x128x64x3x3, .f32⟩
  | 9 => ⟨S8x64x128x3x3, .f32⟩
  | 10 => ⟨S_, .f32⟩
  | 11 => ⟨S32x64, .f32⟩
  | 12 => ⟨S_, .f32⟩
  | 13 => ⟨S32x64, .f32⟩
  | 14 => ⟨S32x64, .f32⟩
  | 15 => ⟨S_, .f32⟩
  | 16 => ⟨S32x64, .f32⟩
  | 17 => ⟨S32x128, .f32⟩
  | 18 => ⟨S32x128, .f32⟩
  | 19 => ⟨S1x128, .f32⟩
  | 20 => ⟨S32x128, .f32⟩
  | 21 => ⟨S32x128, .f32⟩
  | 22 => ⟨S32x128, .f32⟩
  | 23 => ⟨S32x128, .f32⟩
  | 24 => ⟨S1x128, .f32⟩
  | 25 => ⟨S32x128, .f32⟩
  | 26 => ⟨S32x128, .f32⟩
  | 27 => ⟨S_, .f32⟩
  | 28 => ⟨S_, .f32⟩
  | 29 => ⟨S32x128, .f32⟩
  | 30 => ⟨S32x128, .i1⟩
  | 31 => ⟨S_, .f32⟩
  | 32 => ⟨S32x128, .f32⟩
  | 33 => ⟨S32x128, .f32⟩
  | 34 => ⟨S32x128, .f32⟩
  | 35 => ⟨S32x8, .f32⟩
  | 36 => ⟨S1x8, .f32⟩
  | 37 => ⟨S32x8, .f32⟩
  | 38 => ⟨S32x8, .f32⟩
  | 39 => ⟨S32x3, .f32⟩
  | 40 => ⟨S32x3, .i32⟩
  | 41 => ⟨S32x2, .f32⟩
  | 42 => ⟨S32x2, .i32⟩
  | 43 => ⟨S_, .f32⟩
  | 44 => ⟨S32, .f32⟩
  | 45 => ⟨S_, .f32⟩
  | 46 => ⟨S32, .f32⟩
  | 47 => ⟨S32, .f32⟩
  | 48 => ⟨S32x1, .f32⟩
  | 49 => ⟨S32x2, .f32⟩
  | 50 => ⟨S32x2, .f32⟩
  | 51 => ⟨S32x2, .f32⟩
  | 52 => ⟨S_, .f32⟩
  | 53 => ⟨S32, .f32⟩
  | 54 => ⟨S32x1, .f32⟩
  | 55 => ⟨S32x2, .f32⟩
  | 56 => ⟨S32x2, .f32⟩
  | 57 => ⟨S_, .f32⟩
  | 58 => ⟨S32x8, .f32⟩
  | 59 => ⟨S32, .i32⟩
  | 60 => ⟨S32x1, .i32⟩
  | 61 => ⟨S_, .i32⟩
  | 62 => ⟨S32x1, .i32⟩
  | 63 => ⟨S32x1, .i1⟩
  | 64 => ⟨S_, .i32⟩
  | 65 => ⟨S32x1, .i32⟩
  | 66 => ⟨S32x1, .i32⟩
  | 67 => ⟨S32x1, .i32⟩
  | 68 => ⟨S_, .i32⟩
  | 69 => ⟨S32x2, .i32⟩
  | 70 => ⟨S32x2, .i1⟩
  | 71 => ⟨S_, .i32⟩
  | 72 => ⟨S32x2, .i32⟩
  | 73 => ⟨S32x2, .i32⟩
  | 74 => ⟨S32x2, .i32⟩
  | 75 => ⟨S32x2, .i32⟩
  | 76 => ⟨S32x2x1, .i32⟩
  | 77 => ⟨S32x2x1, .i32⟩
  | 78 => ⟨S32x2x2, .i32⟩
  | 79 => ⟨S32x8, .f32⟩
  | 80 => ⟨S_, .i32⟩
  | 81 => ⟨S_, .f32⟩
  | 82 => ⟨S32x64x34x34, .f32⟩
  | 83 => ⟨S_, .f32⟩
  | 84 => ⟨S32x8x128x32x32, .f32⟩
  | 85 => ⟨S8x128x64x1x1, .f32⟩
  | 86 => ⟨S8x128x64, .f32⟩
  | 87 => ⟨S32x64x32x32, .f32⟩
  | 88 => ⟨S32x32x32x8x128, .f32⟩
  | 89 => ⟨S32x8x128x32x32, .f32⟩
  | 90 => ⟨S32x8x128x32x32, .f32⟩
  | 91 => ⟨S8x128x64x1x1, .f32⟩
  | 92 => ⟨S8x128x64, .f32⟩
  | 93 => ⟨S32x64x32x32, .f32⟩
  | 94 => ⟨S32x32x32x8x128, .f32⟩
  | 95 => ⟨S32x8x128x32x32, .f32⟩
  | 96 => ⟨S32x8x128x32x32, .f32⟩
  | 97 => ⟨S8x128x64x1x1, .f32⟩
  | 98 => ⟨S8x128x64, .f32⟩
  | 99 => ⟨S32x64x32x32, .f32⟩
  | 100 => ⟨S32x32x32x8x128, .f32⟩
  | 101 => ⟨S32x8x128x32x32, .f32⟩
  | 102 => ⟨S32x8x128x32x32, .f32⟩
  | 103 => ⟨S8x128x64x1x1, .f32⟩
  | 104 => ⟨S8x128x64, .f32⟩
  | 105 => ⟨S32x64x32x32, .f32⟩
  | 106 => ⟨S32x32x32x8x128, .f32⟩
  | 107 => ⟨S32x8x128x32x32, .f32⟩
  | 108 => ⟨S32x8x128x32x32, .f32⟩
  | 109 => ⟨S8x128x64x1x1, .f32⟩
  | 110 => ⟨S8x128x64, .f32⟩
  | 111 => ⟨S32x64x32x32, .f32⟩
  | 112 => ⟨S32x32x32x8x128, .f32⟩
  | 113 => ⟨S32x8x128x32x32, .f32⟩
  | 114 => ⟨S32x8x128x32x32, .f32⟩
  | 115 => ⟨S8x128x64x1x1, .f32⟩
  | 116 => ⟨S8x128x64, .f32⟩
  | 117 => ⟨S32x64x32x32, .f32⟩
  | 118 => ⟨S32x32x32x8x128, .f32⟩
  | 119 => ⟨S32x8x128x32x32, .f32⟩
  | 120 => ⟨S32x8x128x32x32, .f32⟩
  | 121 => ⟨S8x128x64x1x1, .f32⟩
  | 122 => ⟨S8x128x64, .f32⟩
  | 123 => ⟨S32x64x32x32, .f32⟩
  | 124 => ⟨S32x32x32x8x128, .f32⟩
  | 125 => ⟨S32x8x128x32x32, .f32⟩
  | 126 => ⟨S32x8x128x32x32, .f32⟩
  | 127 => ⟨S8x128x64x1x1, .f32⟩
  | _ => ⟨S32x64x32x32, .f32⟩

abbrev hbmTy0_1 (i : Nat) : BufTy := match i % 128 with
  | 0 => ⟨S8x128x64, .f32⟩
  | 1 => ⟨S32x64x32x32, .f32⟩
  | 2 => ⟨S32x32x32x8x128, .f32⟩
  | 3 => ⟨S32x8x128x32x32, .f32⟩
  | 4 => ⟨S32x8x128x32x32, .f32⟩
  | 5 => ⟨S8x128x64x1x1, .f32⟩
  | 6 => ⟨S8x128x64, .f32⟩
  | 7 => ⟨S32x64x32x32, .f32⟩
  | 8 => ⟨S32x32x32x8x128, .f32⟩
  | 9 => ⟨S32x8x128x32x32, .f32⟩
  | 10 => ⟨S32x8x128x32x32, .f32⟩
  | 11 => ⟨S_, .f32⟩
  | 12 => ⟨S32x8x128x32x32, .f32⟩
  | 13 => ⟨S32x8x128x32x32, .f32⟩
  | 14 => ⟨S32x8x128x32x32, .f32⟩
  | 15 => ⟨S_, .f32⟩
  | 16 => ⟨S32x8x128x32x32, .f32⟩
  | 17 => ⟨S32x8x128x32x32, .f32⟩
  | 18 => ⟨S32x8x128x32x32, .f32⟩
  | 19 => ⟨S32x8x128x32x32, .f32⟩
  | 20 => ⟨S_, .i32⟩
  | 21 => ⟨S_, .f32⟩
  | 22 => ⟨S32x8x128x34x34, .f32⟩
  | 23 => ⟨S_, .f32⟩
  | 24 => ⟨S32x8x64x32x32, .f32⟩
  | 25 => ⟨S8x64x128x1x1, .f32⟩
  | 26 => ⟨S8x64x128, .f32⟩
  | 27 => ⟨S32x8x128x32x32, .f32⟩
  | 28 => ⟨S8x32x32x32x64, .f32⟩
  | 29 => ⟨S32x8x64x32x32, .f32⟩
  | 30 => ⟨S32x8x64x32x32, .f32⟩
  | 31 => ⟨S8x64x128x1x1, .f32⟩
  | 32 => ⟨S8x64x128, .f32⟩
  | 33 => ⟨S32x8x128x32x32, .f32⟩
  | 34 => ⟨S8x32x32x32x64, .f32⟩
  | 35 => ⟨S32x8x64x32x32, .f32⟩
  | 36 => ⟨S32x8x64x32x32, .f32⟩
  | 37 => ⟨S8x64x128x1x1, .f32⟩
  | 38 => ⟨S8x64x128, .f32⟩
  | 39 => ⟨S32x8x128x32x32, .f32⟩
  | 40 => ⟨S8x32x32x32x64, .f32⟩
  | 41 => ⟨S32x8x64x32x32, .f32⟩
  | 42 => ⟨S32x8x64x32x32, .f32⟩
  | 43 => ⟨S8x64x128x1x1, .f32⟩
  | 44 => ⟨S8x64x128, .f32⟩
  | 45 => ⟨S32x8x128x32x32, .f32⟩
  | 46 => ⟨S8x32x32x32x64, .f32⟩
  | 47 => ⟨S32x8x64x32x32, .f32⟩
  | 48 => ⟨S32x8x64x32x32, .f32⟩
  | 49 => ⟨S8x64x128x1x1, .f32⟩
  | 50 => ⟨S8x64x128, .f32⟩
  | 51 => ⟨S32x8x128x32x32, .f32⟩
  | 52 => ⟨S8x32x32x32x64, .f32⟩
  | 53 => ⟨S32x8x64x32x32, .f32⟩
  | 54 => ⟨S32x8x64x32x32, .f32⟩
  | 55 => ⟨S8x64x128x1x1, .f32⟩
  | 56 => ⟨S8x64x128, .f32⟩
  | 57 => ⟨S32x8x128x32x32, .f32⟩
  | 58 => ⟨S8x32x32x32x64, .f32⟩
  | 59 => ⟨S32x8x64x32x32, .f32⟩
  | 60 => ⟨S32x8x64x32x32, .f32⟩
  | 61 => ⟨S8x64x128x1x1, .f32⟩
  | 62 => ⟨S8x64x128, .f32⟩
  | 63 => ⟨S32x8x128x32x32, .f32⟩
  | 64 => ⟨S8x32x32x32x64, .f32⟩
  | 65 => ⟨S32x8x64x32x32, .f32⟩
  | 66 => ⟨S32x8x64x32x32, .f32⟩
  | 67 => ⟨S8x64x128x1x1, .f32⟩
  | 68 => ⟨S8x64x128, .f32⟩
  | 69 => ⟨S32x8x128x32x32, .f32⟩
  | 70 => ⟨S8x32x32x32x64, .f32⟩
  | 71 => ⟨S32x8x64x32x32, .f32⟩
  | 72 => ⟨S32x8x64x32x32, .f32⟩
  | 73 => ⟨S8x64x128x1x1, .f32⟩
  | 74 => ⟨S8x64x128, .f32⟩
  | 75 => ⟨S32x8x128x32x32, .f32⟩
  | 76 => ⟨S8x32x32x32x64, .f32⟩
  | 77 => ⟨S32x8x64x32x32, .f32⟩
  | 78 => ⟨S32x8x64x32x32, .f32⟩
  | 79 => ⟨S32x8x1x1x1, .f32⟩
  | 80 => ⟨S32x8x64x32x32, .f32⟩
  | 81 => ⟨S32x8x64x32x32, .f32⟩
  | 82 => ⟨S_, .f32⟩
  | 83 => ⟨S32x64x32x32, .f32⟩
  | 84 => ⟨S_, .f32⟩
  | 85 => ⟨S32x8, .f32⟩
  | 86 => ⟨S32x8, .i1⟩
  | 87 => ⟨S32x8, .i32⟩
  | 88 => ⟨S_, .i32⟩
  | 89 => ⟨S8, .i32⟩
  | 90 => ⟨S_, .f32⟩
  | 91 => ⟨S8, .f32⟩
  | 92 => ⟨S_, .i32⟩
  | 93 => ⟨S_, .f32⟩
  | 94 => ⟨S_, .f32⟩
  | 95 => ⟨S1, .f32⟩
  | 96 => ⟨S_, .f32⟩
  | 97 => ⟨S1, .f32⟩
  | 98 => ⟨S1, .f32⟩
  | 99 => ⟨S8, .f32⟩
  | 100 => ⟨S8, .f32⟩
  | 101 => ⟨S8, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S8, .f32⟩
  | 122 => ⟨S_, .i32⟩
  | 123 => ⟨S_, .f32⟩
  | 124 => ⟨S_, .f32⟩
  | 125 => ⟨S1, .f32⟩
  | 126 => ⟨S_, .f32⟩
  | 127 => ⟨S1, .f32⟩
  | _ => ⟨S32x64x32x32, .f32⟩

abbrev hbmTy0_2 (i : Nat) : BufTy := match i % 128 with
  | 0 => ⟨S1, .f32⟩
  | 1 => ⟨S8, .f32⟩
  | 2 => ⟨S8, .f32⟩
  | 3 => ⟨S8, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .i1⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | _ => ⟨S32x64x32x32, .f32⟩

abbrev hbmTy (i : Nat) : BufTy := match i / 128 with
  | 0 => hbmTy0_0 i
  | 1 => hbmTy0_1 i
  | 2 => hbmTy0_2 i
  | _ => ⟨S32x64x32x32, .f32⟩

abbrev bufTy : (tb : Table) → Fin (tcTables nBuf tb) → BufTy
  | .hbm, ⟨i, _⟩ => hbmTy i
  | _, _ => ⟨S32x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_values : Ref sig .tc := ⟨.hbm, 39, rfl⟩
abbrev main_indices : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c : Ref sig .tc := ⟨.hbm, 61, rfl⟩
abbrev main_v35 : Ref sig .tc := ⟨.hbm, 62, rfl⟩
abbrev main_v36 : Ref sig .tc := ⟨.hbm, 63, rfl⟩
abbrev main_c_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_8 : Ref sig .tc := ⟨.hbm, 68, rfl⟩
abbrev main_v40 : Ref sig .tc := ⟨.hbm, 69, rfl⟩
abbrev main_v41 : Ref sig .tc := ⟨.hbm, 70, rfl⟩
abbrev main_c_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_10 : Ref sig .tc := ⟨.hbm, 80, rfl⟩
abbrev main_call1_v0 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_12 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_13 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_c_14 : Ref sig .tc := ⟨.hbm, 148, rfl⟩
abbrev main_call2_v0 : Ref sig .tc := ⟨.hbm, 149, rfl⟩
abbrev main_v113 : Ref sig .tc := ⟨.hbm, 150, rfl⟩
abbrev main_cst_15 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_cst_16 : Ref sig .tc := ⟨.hbm, 210, rfl⟩
abbrev main_v172 : Ref sig .tc := ⟨.hbm, 211, rfl⟩
abbrev main_cst_17 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_c_18 : Ref sig .tc := ⟨.hbm, 216, rfl⟩
abbrev main_v176 : Ref sig .tc := ⟨.hbm, 217, rfl⟩
abbrev main_cst_19 : Ref sig .tc := ⟨.hbm, 218, rfl⟩
abbrev main_v177 : Ref sig .tc := ⟨.hbm, 219, rfl⟩
abbrev main_c_20 : Ref sig .tc := ⟨.hbm, 220, rfl⟩
abbrev main_call3_cst : Ref sig .tc := ⟨.hbm, 221, rfl⟩
abbrev main_call3_v0 : Ref sig .tc := ⟨.hbm, 222, rfl⟩
abbrev main_call3_v1 : Ref sig .tc := ⟨.hbm, 223, rfl⟩
abbrev main_call3_cst_0 : Ref sig .tc := ⟨.hbm, 224, rfl⟩
abbrev main_call3_v2 : Ref sig .tc := ⟨.hbm, 225, rfl⟩
abbrev main_call3_v3 : Ref sig .tc := ⟨.hbm, 226, rfl⟩
abbrev main_call3_v4 : Ref sig .tc := ⟨.hbm, 227, rfl⟩
abbrev main_call3_v5 : Ref sig .tc := ⟨.hbm, 228, rfl⟩
abbrev main_call3_v6 : Ref sig .tc := ⟨.hbm, 229, rfl⟩
abbrev main_call3_v7 : Ref sig .tc := ⟨.hbm, 230, rfl⟩
abbrev main_call3_cst_1 : Ref sig .tc := ⟨.hbm, 231, rfl⟩
abbrev main_call3_v8 : Ref sig .tc := ⟨.hbm, 232, rfl⟩
abbrev main_call3_cst_2 : Ref sig .tc := ⟨.hbm, 233, rfl⟩
abbrev main_call3_v9 : Ref sig .tc := ⟨.hbm, 234, rfl⟩
abbrev main_call3_v10 : Ref sig .tc := ⟨.hbm, 235, rfl⟩
abbrev main_call3_cst_3 : Ref sig .tc := ⟨.hbm, 236, rfl⟩
abbrev main_call3_v11 : Ref sig .tc := ⟨.hbm, 237, rfl⟩
abbrev main_call3_cst_4 : Ref sig .tc := ⟨.hbm, 238, rfl⟩
abbrev main_call3_call0_v0 : Ref sig .tc := ⟨.hbm, 239, rfl⟩
abbrev main_v178 : Ref sig .tc := ⟨.hbm, 240, rfl⟩
abbrev main_cst_21 : Ref sig .tc := ⟨.hbm, 241, rfl⟩
abbrev main_v179 : Ref sig .tc := ⟨.hbm, 242, rfl⟩
abbrev main_cst_22 : Ref sig .tc := ⟨.hbm, 243, rfl⟩
abbrev main_v180 : Ref sig .tc := ⟨.hbm, 244, rfl⟩
abbrev main_v181 : Ref sig .tc := ⟨.hbm, 245, rfl⟩
abbrev main_cst_23 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_c_24 : Ref sig .tc := ⟨.hbm, 250, rfl⟩
abbrev main_call4_cst : Ref sig .tc := ⟨.hbm, 251, rfl⟩
abbrev main_call4_v0 : Ref sig .tc := ⟨.hbm, 252, rfl⟩
abbrev main_call4_v1 : Ref sig .tc := ⟨.hbm, 253, rfl⟩
abbrev main_call4_cst_0 : Ref sig .tc := ⟨.hbm, 254, rfl⟩
abbrev main_call4_v2 : Ref sig .tc := ⟨.hbm, 255, rfl⟩
abbrev main_call4_v3 : Ref sig .tc := ⟨.hbm, 256, rfl⟩
abbrev main_call4_v4 : Ref sig .tc := ⟨.hbm, 257, rfl⟩
abbrev main_call4_v5 : Ref sig .tc := ⟨.hbm, 258, rfl⟩
abbrev main_call4_v6 : Ref sig .tc := ⟨.hbm, 259, rfl⟩
abbrev main_call4_v7 : Ref sig .tc := ⟨.hbm, 260, rfl⟩
abbrev main_call4_cst_1 : Ref sig .tc := ⟨.hbm, 261, rfl⟩
abbrev main_call4_v8 : Ref sig .tc := ⟨.hbm, 262, rfl⟩
abbrev main_call4_cst_2 : Ref sig .tc := ⟨.hbm, 263, rfl⟩
abbrev main_call4_v9 : Ref sig .tc := ⟨.hbm, 264, rfl⟩
abbrev main_call4_v10 : Ref sig .tc := ⟨.hbm, 265, rfl⟩
abbrev main_call4_cst_3 : Ref sig .tc := ⟨.hbm, 266, rfl⟩
abbrev main_call4_v11 : Ref sig .tc := ⟨.hbm, 267, rfl⟩
abbrev main_call4_cst_4 : Ref sig .tc := ⟨.hbm, 268, rfl⟩
abbrev main_call4_call0_v0 : Ref sig .tc := ⟨.hbm, 269, rfl⟩
abbrev main_v185 : Ref sig .tc := ⟨.hbm, 270, rfl⟩
abbrev main_cst_25 : Ref sig .tc := ⟨.hbm, 271, rfl⟩
abbrev main_v186 : Ref sig .tc := ⟨.hbm, 272, rfl⟩
abbrev main_cst_26 : Ref sig .tc := ⟨.hbm, 273, rfl⟩
abbrev main_v187 : Ref sig .tc := ⟨.hbm, 274, rfl⟩
abbrev main_v188 : Ref sig .tc := ⟨.hbm, 275, rfl⟩
abbrev main_cst_27 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_cst_28 : Ref sig .tc := ⟨.hbm, 280, rfl⟩
abbrev main_v192 : Ref sig .tc := ⟨.hbm, 281, rfl⟩

abbrev nD : Nat := 1
abbrev τ : Topo := Topo.v7x

variable {F : FTy → Type} [FloatOps F]
-- ==== Gating.lean ====
abbrev S32x64x32x32 : Shape := ⟨4, ![32, 64, 32, 32]⟩
abbrev S32x32 : Shape := ⟨2, ![32, 32]⟩
abbrev S32x128 : Shape := ⟨2, ![32, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S32x64x1024 : Shape := ⟨3, ![32, 64, 1024]⟩
abbrev S1x128 : Shape := ⟨2, ![1, 128]⟩
abbrev S1x8 : Shape := ⟨2, ![1, 8]⟩
abbrev S32x2 : Shape := ⟨2, ![32, 2]⟩
abbrev S1x1 : Shape := ⟨2, ![1, 1]⟩
abbrev S32x64 : Shape := ⟨2, ![32, 64]⟩
abbrev S32x8 : Shape := ⟨2, ![32, 8]⟩
abbrev S32 : Shape := ⟨1, ![32]⟩
abbrev S32x1 : Shape := ⟨2, ![32, 1]⟩
abbrev S1 : Shape := ⟨1, ![1]⟩
abbrev S_ : Shape := ⟨0, ![]⟩

abbrev nBuf : Space → Nat
  | .hbm => 16
  | .vmem => 11
  | .smem => 0
  | _ => 0

abbrev bufTy : (tb : Table) → Fin (tcTables nBuf tb) → BufTy
  | .hbm, ⟨0, _⟩ => ⟨S32x64x32x32, .f32⟩
  | .hbm, ⟨1, _⟩ => ⟨S32x32, .f32⟩
  | .hbm, ⟨2, _⟩ => ⟨S32x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x8, .f32⟩
  | .hbm, ⟨7, _⟩ => ⟨S8, .f32⟩
  | .hbm, ⟨8, _⟩ => ⟨S32x64x1024, .f32⟩
  | .hbm, ⟨9, _⟩ => ⟨S1x128, .f32⟩
  | .hbm, ⟨10, _⟩ => ⟨S1x128, .f32⟩
  | .hbm, ⟨11, _⟩ => ⟨S1x8, .f32⟩
  | .hbm, ⟨12, _⟩ => ⟨S32x2, .i32⟩
  | .hbm, ⟨13, _⟩ => ⟨S32x2, .f32⟩
  | .hbm, ⟨14, _⟩ => ⟨S1x1, .f32⟩
  | .hbm, ⟨15, _⟩ => ⟨S_, .f32⟩
  | .local _ .vmem, ⟨0, _⟩ => ⟨S32x64x1024, .f32⟩
  | .local _ .vmem, ⟨1, _⟩ => ⟨S32x32, .f32⟩
  | .local _ .vmem, ⟨2, _⟩ => ⟨S32x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x8, .f32⟩
  | .local _ .vmem, ⟨7, _⟩ => ⟨S1x8, .f32⟩
  | .local _ .vmem, ⟨8, _⟩ => ⟨S32x2, .i32⟩
  | .local _ .vmem, ⟨9, _⟩ => ⟨S32x2, .f32⟩
  | .local _ .vmem, ⟨10, _⟩ => ⟨S1x1, .f32⟩
  | _, _ => ⟨S32x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S32x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x2 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== RefGatingIdeal.lean ====
abbrev S32x64x32x32 : Shape := ⟨4, ![32, 64, 32, 32]⟩
abbrev S32x32 : Shape := ⟨2, ![32, 32]⟩
abbrev S32x128 : Shape := ⟨2, ![32, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S_ : Shape := ⟨0, ![]⟩
abbrev S32x64 : Shape := ⟨2, ![32, 64]⟩
abbrev S1x128 : Shape := ⟨2, ![1, 128]⟩
abbrev S32x8 : Shape := ⟨2, ![32, 8]⟩
abbrev S1x8 : Shape := ⟨2, ![1, 8]⟩
abbrev S32x3 : Shape := ⟨2, ![32, 3]⟩
abbrev S32x2 : Shape := ⟨2, ![32, 2]⟩
abbrev S32 : Shape := ⟨1, ![32]⟩
abbrev S32x1 : Shape := ⟨2, ![32, 1]⟩
abbrev S32x2x1 : Shape := ⟨3, ![32, 2, 1]⟩
abbrev S32x2x2 : Shape := ⟨3, ![32, 2, 2]⟩
abbrev S1 : Shape := ⟨1, ![1]⟩

abbrev nBuf : Space → Nat
  | .hbm => 148
  | .vmem => 0
  | .smem => 0
  | _ => 0

abbrev hbmTy0_0 (i : Nat) : BufTy := match i % 128 with
  | 0 => ⟨S32x64x32x32, .f32⟩
  | 1 => ⟨S32x32, .f32⟩
  | 2 => ⟨S32x128, .f32⟩
  | 3 => ⟨S128, .f32⟩
  | 4 => ⟨S128x128, .f32⟩
  | 5 => ⟨S128, .f32⟩
  | 6 => ⟨S128x8, .f32⟩
  | 7 => ⟨S8, .f32⟩
  | 8 => ⟨S_, .f32⟩
  | 9 => ⟨S32x64, .f32⟩
  | 10 => ⟨S_, .f32⟩
  | 11 => ⟨S32x64, .f32⟩
  | 12 => ⟨S32x64, .f32⟩
  | 13 => ⟨S_, .f32⟩
  | 14 => ⟨S32x64, .f32⟩
  | 15 => ⟨S32x128, .f32⟩
  | 16 => ⟨S32x128, .f32⟩
  | 17 => ⟨S1x128, .f32⟩
  | 18 => ⟨S32x128, .f32⟩
  | 19 => ⟨S32x128, .f32⟩
  | 20 => ⟨S32x128, .f32⟩
  | 21 => ⟨S32x128, .f32⟩
  | 22 => ⟨S1x128, .f32⟩
  | 23 => ⟨S32x128, .f32⟩
  | 24 => ⟨S32x128, .f32⟩
  | 25 => ⟨S_, .f32⟩
  | 26 => ⟨S_, .f32⟩
  | 27 => ⟨S32x128, .f32⟩
  | 28 => ⟨S32x128, .i1⟩
  | 29 => ⟨S_, .f32⟩
  | 30 => ⟨S32x128, .f32⟩
  | 31 => ⟨S32x128, .f32⟩
  | 32 => ⟨S32x128, .f32⟩
  | 33 => ⟨S32x8, .f32⟩
  | 34 => ⟨S1x8, .f32⟩
  | 35 => ⟨S32x8, .f32⟩
  | 36 => ⟨S32x8, .f32⟩
  | 37 => ⟨S32x3, .f32⟩
  | 38 => ⟨S32x3, .i32⟩
  | 39 => ⟨S32x2, .f32⟩
  | 40 => ⟨S32x2, .i32⟩
  | 41 => ⟨S_, .f32⟩
  | 42 => ⟨S32, .f32⟩
  | 43 => ⟨S_, .f32⟩
  | 44 => ⟨S32, .f32⟩
  | 45 => ⟨S32, .f32⟩
  | 46 => ⟨S32x1, .f32⟩
  | 47 => ⟨S32x2, .f32⟩
  | 48 => ⟨S32x2, .f32⟩
  | 49 => ⟨S32x2, .f32⟩
  | 50 => ⟨S_, .f32⟩
  | 51 => ⟨S32, .f32⟩
  | 52 => ⟨S32x1, .f32⟩
  | 53 => ⟨S32x2, .f32⟩
  | 54 => ⟨S32x2, .f32⟩
  | 55 => ⟨S_, .f32⟩
  | 56 => ⟨S32x8, .f32⟩
  | 57 => ⟨S32, .i32⟩
  | 58 => ⟨S32x1, .i32⟩
  | 59 => ⟨S_, .i32⟩
  | 60 => ⟨S32x1, .i32⟩
  | 61 => ⟨S32x1, .i1⟩
  | 62 => ⟨S_, .i32⟩
  | 63 => ⟨S32x1, .i32⟩
  | 64 => ⟨S32x1, .i32⟩
  | 65 => ⟨S32x1, .i32⟩
  | 66 => ⟨S_, .i32⟩
  | 67 => ⟨S32x2, .i32⟩
  | 68 => ⟨S32x2, .i1⟩
  | 69 => ⟨S_, .i32⟩
  | 70 => ⟨S32x2, .i32⟩
  | 71 => ⟨S32x2, .i32⟩
  | 72 => ⟨S32x2, .i32⟩
  | 73 => ⟨S32x2, .i32⟩
  | 74 => ⟨S32x2x1, .i32⟩
  | 75 => ⟨S32x2x1, .i32⟩
  | 76 => ⟨S32x2x2, .i32⟩
  | 77 => ⟨S32x8, .f32⟩
  | 78 => ⟨S_, .f32⟩
  | 79 => ⟨S32x8, .f32⟩
  | 80 => ⟨S32x8, .i1⟩
  | 81 => ⟨S32x8, .i32⟩
  | 82 => ⟨S_, .i32⟩
  | 83 => ⟨S8, .i32⟩
  | 84 => ⟨S_, .f32⟩
  | 85 => ⟨S8, .f32⟩
  | 86 => ⟨S_, .i32⟩
  | 87 => ⟨S_, .f32⟩
  | 88 => ⟨S_, .f32⟩
  | 89 => ⟨S1, .f32⟩
  | 90 => ⟨S_, .f32⟩
  | 91 => ⟨S1, .f32⟩
  | 92 => ⟨S1, .f32⟩
  | 93 => ⟨S8, .f32⟩
  | 94 => ⟨S8, .f32⟩
  | 95 => ⟨S8, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .i1⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S8, .f32⟩
  | 116 => ⟨S_, .i32⟩
  | 117 => ⟨S_, .f32⟩
  | 118 => ⟨S_, .f32⟩
  | 119 => ⟨S1, .f32⟩
  | 120 => ⟨S_, .f32⟩
  | 121 => ⟨S1, .f32⟩
  | 122 => ⟨S1, .f32⟩
  | 123 => ⟨S8, .f32⟩
  | 124 => ⟨S8, .f32⟩
  | 125 => ⟨S8, .f32⟩
  | 126 => ⟨S_, .f32⟩
  | 127 => ⟨S_, .f32⟩
  | _ => ⟨S32x64x32x32, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .i1⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | _ => ⟨S32x64x32x32, .f32⟩

abbrev hbmTy (i : Nat) : BufTy := match i / 128 with
  | 0 => hbmTy0_0 i
  | 1 => hbmTy0_1 i
  | _ => ⟨S32x64x32x32, .f32⟩

abbrev bufTy : (tb : Table) → Fin (tcTables nBuf tb) → BufTy
  | .hbm, ⟨i, _⟩ => hbmTy i
  | _, _ => ⟨S32x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_values : Ref sig .tc := ⟨.hbm, 37, rfl⟩
abbrev main_indices : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c : Ref sig .tc := ⟨.hbm, 59, rfl⟩
abbrev main_v35 : Ref sig .tc := ⟨.hbm, 60, rfl⟩
abbrev main_v36 : Ref sig .tc := ⟨.hbm, 61, rfl⟩
abbrev main_c_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_8 : Ref sig .tc := ⟨.hbm, 66, rfl⟩
abbrev main_v40 : Ref sig .tc := ⟨.hbm, 67, rfl⟩
abbrev main_v41 : Ref sig .tc := ⟨.hbm, 68, rfl⟩
abbrev main_c_9 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_11 : Ref sig .tc := ⟨.hbm, 82, rfl⟩
abbrev main_v53 : Ref sig .tc := ⟨.hbm, 83, rfl⟩
abbrev main_cst_12 : Ref sig .tc := ⟨.hbm, 84, rfl⟩
abbrev main_v54 : Ref sig .tc := ⟨.hbm, 85, rfl⟩
abbrev main_c_13 : Ref sig .tc := ⟨.hbm, 86, rfl⟩
abbrev main_call1_cst : Ref sig .tc := ⟨.hbm, 87, rfl⟩
abbrev main_call1_v0 : Ref sig .tc := ⟨.hbm, 88, rfl⟩
abbrev main_call1_v1 : Ref sig .tc := ⟨.hbm, 89, rfl⟩
abbrev main_call1_cst_0 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_v6 : Ref sig .tc := ⟨.hbm, 95, rfl⟩
abbrev main_call1_v7 : Ref sig .tc := ⟨.hbm, 96, rfl⟩
abbrev main_call1_cst_1 : Ref sig .tc := ⟨.hbm, 97, rfl⟩
abbrev main_call1_v8 : Ref sig .tc := ⟨.hbm, 98, rfl⟩
abbrev main_call1_cst_2 : Ref sig .tc := ⟨.hbm, 99, rfl⟩
abbrev main_call1_v9 : Ref sig .tc := ⟨.hbm, 100, rfl⟩
abbrev main_call1_v10 : Ref sig .tc := ⟨.hbm, 101, rfl⟩
abbrev main_call1_cst_3 : Ref sig .tc := ⟨.hbm, 102, rfl⟩
abbrev main_call1_v11 : Ref sig .tc := ⟨.hbm, 103, rfl⟩
abbrev main_call1_cst_4 : Ref sig .tc := ⟨.hbm, 104, rfl⟩
abbrev main_call1_call0_v0 : Ref sig .tc := ⟨.hbm, 105, rfl⟩
abbrev main_v55 : Ref sig .tc := ⟨.hbm, 106, rfl⟩
abbrev main_cst_14 : Ref sig .tc := ⟨.hbm, 107, rfl⟩
abbrev main_v56 : Ref sig .tc := ⟨.hbm, 108, rfl⟩
abbrev main_cst_15 : Ref sig .tc := ⟨.hbm, 109, rfl⟩
abbrev main_v57 : Ref sig .tc := ⟨.hbm, 110, rfl⟩
abbrev main_v58 : Ref sig .tc := ⟨.hbm, 111, rfl⟩
abbrev main_cst_16 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_c_17 : Ref sig .tc := ⟨.hbm, 116, rfl⟩
abbrev main_call2_cst : Ref sig .tc := ⟨.hbm, 117, rfl⟩
abbrev main_call2_v0 : Ref sig .tc := ⟨.hbm, 118, rfl⟩
abbrev main_call2_v1 : Ref sig .tc := ⟨.hbm, 119, rfl⟩
abbrev main_call2_cst_0 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_v5 : Ref sig .tc := ⟨.hbm, 124, rfl⟩
abbrev main_call2_v6 : Ref sig .tc := ⟨.hbm, 125, rfl⟩
abbrev main_call2_v7 : Ref sig .tc := ⟨.hbm, 126, rfl⟩
abbrev main_call2_cst_1 : Ref sig .tc := ⟨.hbm, 127, rfl⟩
abbrev main_call2_v8 : Ref sig .tc := ⟨.hbm, 128, rfl⟩
abbrev main_call2_cst_2 : Ref sig .tc := ⟨.hbm, 129, rfl⟩
abbrev main_call2_v9 : Ref sig .tc := ⟨.hbm, 130, rfl⟩
abbrev main_call2_v10 : Ref sig .tc := ⟨.hbm, 131, rfl⟩
abbrev main_call2_cst_3 : Ref sig .tc := ⟨.hbm, 132, rfl⟩
abbrev main_call2_v11 : Ref sig .tc := ⟨.hbm, 133, rfl⟩
abbrev main_call2_cst_4 : Ref sig .tc := ⟨.hbm, 134, rfl⟩
abbrev main_call2_call0_v0 : Ref sig .tc := ⟨.hbm, 135, rfl⟩
abbrev main_v62 : Ref sig .tc := ⟨.hbm, 136, rfl⟩
abbrev main_cst_18 : Ref sig .tc := ⟨.hbm, 137, rfl⟩
abbrev main_v63 : Ref sig .tc := ⟨.hbm, 138, rfl⟩
abbrev main_cst_19 : Ref sig .tc := ⟨.hbm, 139, rfl⟩
abbrev main_v64 : Ref sig .tc := ⟨.hbm, 140, rfl⟩
abbrev main_v65 : Ref sig .tc := ⟨.hbm, 141, rfl⟩
abbrev main_cst_20 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_cst_21 : Ref sig .tc := ⟨.hbm, 146, rfl⟩
abbrev main_v69 : Ref sig .tc := ⟨.hbm, 147, rfl⟩

abbrev nD : Nat := 1
abbrev τ : Topo := Topo.v7x

variable {F : FTy → Type} [FloatOps F]
-- ==== Experts.lean ====
abbrev S32x2 : Shape := ⟨2, ![32, 2]⟩
abbrev S32x64x32x32 : Shape := ⟨4, ![32, 64, 32, 32]⟩
abbrev S8x128x64x3x3 : Shape := ⟨5, ![8, 128, 64, 3, 3]⟩
abbrev S8x64x128x3x3 : Shape := ⟨5, ![8, 64, 128, 3, 3]⟩
abbrev S1x1226 : Shape := ⟨2, ![1, 1226]⟩
abbrev S_ : Shape := ⟨0, ![]⟩
abbrev S32x64x34x34 : Shape := ⟨4, ![32, 64, 34, 34]⟩
abbrev S32x64x1156 : Shape := ⟨3, ![32, 64, 1156]⟩
abbrev S32x64x1296 : Shape := ⟨3, ![32, 64, 1296]⟩
abbrev S8x128x3x3x64 : Shape := ⟨5, ![8, 128, 3, 3, 64]⟩
abbrev S8x128x576 : Shape := ⟨3, ![8, 128, 576]⟩
abbrev S8x64x3x3x128 : Shape := ⟨5, ![8, 64, 3, 3, 128]⟩
abbrev S8x64x1152 : Shape := ⟨3, ![8, 64, 1152]⟩
abbrev S64 : Shape := ⟨1, ![64]⟩
abbrev S1x64x1296 : Shape := ⟨3, ![1, 64, 1296]⟩
abbrev S1x64x1156 : Shape := ⟨3, ![1, 64, 1156]⟩
abbrev S576x1226 : Shape := ⟨2, ![576, 1226]⟩
abbrev S128x1226 : Shape := ⟨2, ![128, 1226]⟩
abbrev S1152x1156 : Shape := ⟨2, ![1152, 1156]⟩
abbrev S1 : Shape := ⟨1, ![1]⟩
abbrev S1x64x1226 : Shape := ⟨3, ![1, 64, 1226]⟩
abbrev S64x1226 : Shape := ⟨2, ![64, 1226]⟩
abbrev S1x128x576 : Shape := ⟨3, ![1, 128, 576]⟩
abbrev S128x576 : Shape := ⟨2, ![128, 576]⟩
abbrev S128x1156 : Shape := ⟨2, ![128, 1156]⟩
abbrev S1x64x1152 : Shape := ⟨3, ![1, 64, 1152]⟩
abbrev S64x1152 : Shape := ⟨2, ![64, 1152]⟩
abbrev S64x1156 : Shape := ⟨2, ![64, 1156]⟩

abbrev nBuf : Space → Nat
  | .hbm => 24
  | .vmem => 10
  | .smem => 2
  | _ => 0

abbrev bufTy : (tb : Table) → Fin (tcTables nBuf tb) → BufTy
  | .hbm, ⟨0, _⟩ => ⟨S32x2, .i32⟩
  | .hbm, ⟨1, _⟩ => ⟨S32x2, .f32⟩
  | .hbm, ⟨2, _⟩ => ⟨S32x64x32x32, .f32⟩
  | .hbm, ⟨3, _⟩ => ⟨S8x128x64x3x3, .f32⟩
  | .hbm, ⟨4, _⟩ => ⟨S8x64x128x3x3, .f32⟩
  | .hbm, ⟨5, _⟩ => ⟨S1x1226, .f32⟩
  | .hbm, ⟨6, _⟩ => ⟨S_, .i32⟩
  | .hbm, ⟨7, _⟩ => ⟨S_, .f32⟩
  | .hbm, ⟨8, _⟩ => ⟨S32x64x34x34, .f32⟩
  | .hbm, ⟨9, _⟩ => ⟨S32x64x1156, .f32⟩
  | .hbm, ⟨10, _⟩ => ⟨S_, .i32⟩
  | .hbm, ⟨11, _⟩ => ⟨S_, .f32⟩
  | .hbm, ⟨12, _⟩ => ⟨S32x64x1296, .f32⟩
  | .hbm, ⟨13, _⟩ => ⟨S32x64x1296, .bf16⟩
  | .hbm, ⟨14, _⟩ => ⟨S8x128x3x3x64, .f32⟩
  | .hbm, ⟨15, _⟩ => ⟨S8x128x576, .f32⟩
  | .hbm, ⟨16, _⟩ => ⟨S8x128x576, .bf16⟩
  | .hbm, ⟨17, _⟩ => ⟨S8x64x3x3x128, .f32⟩
  | .hbm, ⟨18, _⟩ => ⟨S8x64x1152, .f32⟩
  | .hbm, ⟨19, _⟩ => ⟨S8x64x1152, .bf16⟩
  | .hbm, ⟨20, _⟩ => ⟨S64, .f32⟩
  | .hbm, ⟨21, _⟩ => ⟨S32x64x1156, .f32⟩
  | .hbm, ⟨22, _⟩ => ⟨S32x64x34x34, .f32⟩
  | .hbm, ⟨23, _⟩ => ⟨S32x64x32x32, .f32⟩
  | .local _ .vmem, ⟨0, _⟩ => ⟨S1x64x1296, .bf16⟩
  | .local _ .vmem, ⟨1, _⟩ => ⟨S1x64x1296, .bf16⟩
  | .local _ .vmem, ⟨2, _⟩ => ⟨S8x128x576, .bf16⟩
  | .local _ .vmem, ⟨3, _⟩ => ⟨S8x64x1152, .bf16⟩
  | .local _ .vmem, ⟨4, _⟩ => ⟨S1x1226, .f32⟩
  | .local _ .vmem, ⟨5, _⟩ => ⟨S1x64x1156, .f32⟩
  | .local _ .vmem, ⟨6, _⟩ => ⟨S1x64x1156, .f32⟩
  | .local _ .vmem, ⟨7, _⟩ => ⟨S576x1226, .bf16⟩
  | .local _ .vmem, ⟨8, _⟩ => ⟨S128x1226, .bf16⟩
  | .local _ .vmem, ⟨9, _⟩ => ⟨S1152x1156, .bf16⟩
  | .local _ .smem, ⟨0, _⟩ => ⟨S64, .i32⟩
  | .local _ .smem, ⟨1, _⟩ => ⟨S64, .f32⟩
  | _, _ => ⟨S32x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v10 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![32, 2], ![false, false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c2_i32 : BitVec 32 := 2#32
  let arg0 : BitVec 32 := BitVec.ofNat 32 (i 0).val
  let v0 : BitVec 32 := Scalar.muli c2_i32 arg0
  let arg1 : BitVec 32 := BitVec.ofNat 32 (i 1).val
  let v1 : BitVec 32 := Scalar.addi v0 arg1
  let v2 : Index := Scalar.indexCast v1
  ![v2.toNat]
def k0_off2 (v3 : BitVec 32) : Fin 3 → Nat :=
  let v11 : Index := Scalar.indexCast v3
  let c0 : Index := 0#32
  let c0_2 : Index := 0#32
  ![v11.toNat, 0, 0]

def k0_off3 (v3 : BitVec 32) : Fin 3 → Nat :=
  let v67 : Index := Scalar.indexCast v3
  let c0_32 : Index := 0#32
  let c0_33 : Index := 0#32
  ![v67.toNat, 0, 0]

def k0_chk1 (v3 : BitVec 32) : Prop :=
  (∀ a, (k0_off2 v3) a + S1x128x576.size a ≤ S8x128x576.size a) ∧
  (∀ a, (k0_off3 v3) a + S1x64x1152.size a ≤ S8x64x1152.size a)
theorem k0_off2_inb : ∀ (v3 : BitVec 32) (k0_hw1 : k0_chk1 v3), ∀ a, (k0_off2 v3) a + S1x128x576.size a ≤ S8x128x576.size a := fun v3 k0_hw1 => k0_hw1.1
theorem k0_off3_inb : ∀ (v3 : BitVec 32) (k0_hw1 : k0_chk1 v3), ∀ a, (k0_off3 v3) a + S1x64x1152.size a ≤ S8x64x1152.size a := fun v3 k0_hw1 => k0_hw1.2

def k0_cond2 (i : grid0.Coords) : BitVec 1 :=
  let arg1 : BitVec 32 := BitVec.ofNat 32 (i 1).val
  let c0_i32_37 : BitVec 32 := 0#32
  let v74 : BitVec 1 := Scalar.cmpi .eq arg1 c0_i32_37
  let v75 : BitVec 32 := Scalar.extui v74
  let c0_i32_38 : BitVec 32 := 0#32
  let v76 : BitVec 1 := Scalar.cmpi .ne v75 c0_i32_38
  v76

def k0_cond3 (i : grid0.Coords) : BitVec 1 :=
  let arg1 : BitVec 32 := BitVec.ofNat 32 (i 1).val
  let c0_i32_39 : BitVec 32 := 0#32
  let v77 : BitVec 1 := Scalar.cmpi .ne arg1 c0_i32_39
  let v78 : BitVec 32 := Scalar.extui v77
  let c0_i32_40 : BitVec 32 := 0#32
  let v79 : BitVec 1 := Scalar.cmpi .ne v78 c0_i32_40
  v79

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x64x1296 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x128x576 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x64x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1226 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x1156 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RefExpertsIdeal.lean ====
abbrev S32x2 : Shape := ⟨2, ![32, 2]⟩
abbrev S32x64x32x32 : Shape := ⟨4, ![32, 64, 32, 32]⟩
abbrev S8x128x64x3x3 : Shape := ⟨5, ![8, 128, 64, 3, 3]⟩
abbrev S8x64x128x3x3 : Shape := ⟨5, ![8, 64, 128, 3, 3]⟩
abbrev S_ : Shape := ⟨0, ![]⟩
abbrev S32x8 : Shape := ⟨2, ![32, 8]⟩
abbrev S32 : Shape := ⟨1, ![32]⟩
abbrev S32x1 : Shape := ⟨2, ![32, 1]⟩
abbrev S32x2x1 : Shape := ⟨3, ![32, 2, 1]⟩
abbrev S32x2x2 : Shape := ⟨3, ![32, 2, 2]⟩
abbrev S32x64x34x34 : Shape := ⟨4, ![32, 64, 34, 34]⟩
abbrev S32x8x128x32x32 : Shape := ⟨5, ![32, 8, 128, 32, 32]⟩
abbrev S8x128x64x1x1 : Shape := ⟨5, ![8, 128, 64, 1, 1]⟩
abbrev S8x128x64 : Shape := ⟨3, ![8, 128, 64]⟩
abbrev S32x32x32x8x128 : Shape := ⟨5, ![32, 32, 32, 8, 128]⟩
abbrev S32x8x128x34x34 : Shape := ⟨5, ![32, 8, 128, 34, 34]⟩
abbrev S32x8x64x32x32 : Shape := ⟨5, ![32, 8, 64, 32, 32]⟩
abbrev S8x64x128x1x1 : Shape := ⟨5, ![8, 64, 128, 1, 1]⟩
abbrev S8x64x128 : Shape := ⟨3, ![8, 64, 128]⟩
abbrev S8x32x32x32x64 : Shape := ⟨5, ![8, 32, 32, 32, 64]⟩
abbrev S32x8x1x1x1 : Shape := ⟨5, ![32, 8, 1, 1, 1]⟩

abbrev nBuf : Space → Nat
  | .hbm => 160
  | .vmem => 0
  | .smem => 0
  | _ => 0

abbrev hbmTy0_0 (i : Nat) : BufTy := match i % 128 with
  | 0 => ⟨S32x2, .i32⟩
  | 1 => ⟨S32x2, .f32⟩
  | 2 => ⟨S32x64x32x32, .f32⟩
  | 3 => ⟨S8x128x64x3x3, .f32⟩
  | 4 => ⟨S8x64x128x3x3, .f32⟩
  | 5 => ⟨S_, .f32⟩
  | 6 => ⟨S32x8, .f32⟩
  | 7 => ⟨S32, .i32⟩
  | 8 => ⟨S32x1, .i32⟩
  | 9 => ⟨S_, .i32⟩
  | 10 => ⟨S32x1, .i32⟩
  | 11 => ⟨S32x1, .i1⟩
  | 12 => ⟨S_, .i32⟩
  | 13 => ⟨S32x1, .i32⟩
  | 14 => ⟨S32x1, .i32⟩
  | 15 => ⟨S32x1, .i32⟩
  | 16 => ⟨S_, .i32⟩
  | 17 => ⟨S32x2, .i32⟩
  | 18 => ⟨S32x2, .i1⟩
  | 19 => ⟨S_, .i32⟩
  | 20 => ⟨S32x2, .i32⟩
  | 21 => ⟨S32x2, .i32⟩
  | 22 => ⟨S32x2, .i32⟩
  | 23 => ⟨S32x2, .i32⟩
  | 24 => ⟨S32x2x1, .i32⟩
  | 25 => ⟨S32x2x1, .i32⟩
  | 26 => ⟨S32x2x2, .i32⟩
  | 27 => ⟨S32x8, .f32⟩
  | 28 => ⟨S_, .i32⟩
  | 29 => ⟨S_, .f32⟩
  | 30 => ⟨S32x64x34x34, .f32⟩
  | 31 => ⟨S_, .f32⟩
  | 32 => ⟨S32x8x128x32x32, .f32⟩
  | 33 => ⟨S8x128x64x1x1, .f32⟩
  | 34 => ⟨S8x128x64, .f32⟩
  | 35 => ⟨S32x64x32x32, .f32⟩
  | 36 => ⟨S32x32x32x8x128, .f32⟩
  | 37 => ⟨S32x8x128x32x32, .f32⟩
  | 38 => ⟨S32x8x128x32x32, .f32⟩
  | 39 => ⟨S8x128x64x1x1, .f32⟩
  | 40 => ⟨S8x128x64, .f32⟩
  | 41 => ⟨S32x64x32x32, .f32⟩
  | 42 => ⟨S32x32x32x8x128, .f32⟩
  | 43 => ⟨S32x8x128x32x32, .f32⟩
  | 44 => ⟨S32x8x128x32x32, .f32⟩
  | 45 => ⟨S8x128x64x1x1, .f32⟩
  | 46 => ⟨S8x128x64, .f32⟩
  | 47 => ⟨S32x64x32x32, .f32⟩
  | 48 => ⟨S32x32x32x8x128, .f32⟩
  | 49 => ⟨S32x8x128x32x32, .f32⟩
  | 50 => ⟨S32x8x128x32x32, .f32⟩
  | 51 => ⟨S8x128x64x1x1, .f32⟩
  | 52 => ⟨S8x128x64, .f32⟩
  | 53 => ⟨S32x64x32x32, .f32⟩
  | 54 => ⟨S32x32x32x8x128, .f32⟩
  | 55 => ⟨S32x8x128x32x32, .f32⟩
  | 56 => ⟨S32x8x128x32x32, .f32⟩
  | 57 => ⟨S8x128x64x1x1, .f32⟩
  | 58 => ⟨S8x128x64, .f32⟩
  | 59 => ⟨S32x64x32x32, .f32⟩
  | 60 => ⟨S32x32x32x8x128, .f32⟩
  | 61 => ⟨S32x8x128x32x32, .f32⟩
  | 62 => ⟨S32x8x128x32x32, .f32⟩
  | 63 => ⟨S8x128x64x1x1, .f32⟩
  | 64 => ⟨S8x128x64, .f32⟩
  | 65 => ⟨S32x64x32x32, .f32⟩
  | 66 => ⟨S32x32x32x8x128, .f32⟩
  | 67 => ⟨S32x8x128x32x32, .f32⟩
  | 68 => ⟨S32x8x128x32x32, .f32⟩
  | 69 => ⟨S8x128x64x1x1, .f32⟩
  | 70 => ⟨S8x128x64, .f32⟩
  | 71 => ⟨S32x64x32x32, .f32⟩
  | 72 => ⟨S32x32x32x8x128, .f32⟩
  | 73 => ⟨S32x8x128x32x32, .f32⟩
  | 74 => ⟨S32x8x128x32x32, .f32⟩
  | 75 => ⟨S8x128x64x1x1, .f32⟩
  | 76 => ⟨S8x128x64, .f32⟩
  | 77 => ⟨S32x64x32x32, .f32⟩
  | 78 => ⟨S32x32x32x8x128, .f32⟩
  | 79 => ⟨S32x8x128x32x32, .f32⟩
  | 80 => ⟨S32x8x128x32x32, .f32⟩
  | 81 => ⟨S8x128x64x1x1, .f32⟩
  | 82 => ⟨S8x128x64, .f32⟩
  | 83 => ⟨S32x64x32x32, .f32⟩
  | 84 => ⟨S32x32x32x8x128, .f32⟩
  | 85 => ⟨S32x8x128x32x32, .f32⟩
  | 86 => ⟨S32x8x128x32x32, .f32⟩
  | 87 => ⟨S_, .f32⟩
  | 88 => ⟨S32x8x128x32x32, .f32⟩
  | 89 => ⟨S32x8x128x32x32, .f32⟩
  | 90 => ⟨S32x8x128x32x32, .f32⟩
  | 91 => ⟨S_, .f32⟩
  | 92 => ⟨S32x8x128x32x32, .f32⟩
  | 93 => ⟨S32x8x128x32x32, .f32⟩
  | 94 => ⟨S32x8x128x32x32, .f32⟩
  | 95 => ⟨S32x8x128x32x32, .f32⟩
  | 96 => ⟨S_, .i32⟩
  | 97 => ⟨S_, .f32⟩
  | 98 => ⟨S32x8x128x34x34, .f32⟩
  | 99 => ⟨S_, .f32⟩
  | 100 => ⟨S32x8x64x32x32, .f32⟩
  | 101 => ⟨S8x64x128x1x1, .f32⟩
  | 102 => ⟨S8x64x128, .f32⟩
  | 103 => ⟨S32x8x128x32x32, .f32⟩
  | 104 => ⟨S8x32x32x32x64, .f32⟩
  | 105 => ⟨S32x8x64x32x32, .f32⟩
  | 106 => ⟨S32x8x64x32x32, .f32⟩
  | 107 => ⟨S8x64x128x1x1, .f32⟩
  | 108 => ⟨S8x64x128, .f32⟩
  | 109 => ⟨S32x8x128x32x32, .f32⟩
  | 110 => ⟨S8x32x32x32x64, .f32⟩
  | 111 => ⟨S32x8x64x32x32, .f32⟩
  | 112 => ⟨S32x8x64x32x32, .f32⟩
  | 113 => ⟨S8x64x128x1x1, .f32⟩
  | 114 => ⟨S8x64x128, .f32⟩
  | 115 => ⟨S32x8x128x32x32, .f32⟩
  | 116 => ⟨S8x32x32x32x64, .f32⟩
  | 117 => ⟨S32x8x64x32x32, .f32⟩
  | 118 => ⟨S32x8x64x32x32, .f32⟩
  | 119 => ⟨S8x64x128x1x1, .f32⟩
  | 120 => ⟨S8x64x128, .f32⟩
  | 121 => ⟨S32x8x128x32x32, .f32⟩
  | 122 => ⟨S8x32x32x32x64, .f32⟩
  | 123 => ⟨S32x8x64x32x32, .f32⟩
  | 124 => ⟨S32x8x64x32x32, .f32⟩
  | 125 => ⟨S8x64x128x1x1, .f32⟩
  | 126 => ⟨S8x64x128, .f32⟩
  | 127 => ⟨S32x8x128x32x32, .f32⟩
  | _ => ⟨S32x2, .i32⟩

abbrev hbmTy0_1 (i : Nat) : BufTy := match i % 128 with
  | 0 => ⟨S8x32x32x32x64, .f32⟩
  | 1 => ⟨S32x8x64x32x32, .f32⟩
  | 2 => ⟨S32x8x64x32x32, .f32⟩
  | 3 => ⟨S8x64x128x1x1, .f32⟩
  | 4 => ⟨S8x64x128, .f32⟩
  | 5 => ⟨S32x8x128x32x32, .f32⟩
  | 6 => ⟨S8x32x32x32x64, .f32⟩
  | 7 => ⟨S32x8x64x32x32, .f32⟩
  | 8 => ⟨S32x8x64x32x32, .f32⟩
  | 9 => ⟨S8x64x128x1x1, .f32⟩
  | 10 => ⟨S8x64x128, .f32⟩
  | 11 => ⟨S32x8x128x32x32, .f32⟩
  | 12 => ⟨S8x32x32x32x64, .f32⟩
  | 13 => ⟨S32x8x64x32x32, .f32⟩
  | 14 => ⟨S32x8x64x32x32, .f32⟩
  | 15 => ⟨S8x64x128x1x1, .f32⟩
  | 16 => ⟨S8x64x128, .f32⟩
  | 17 => ⟨S32x8x128x32x32, .f32⟩
  | 18 => ⟨S8x32x32x32x64, .f32⟩
  | 19 => ⟨S32x8x64x32x32, .f32⟩
  | 20 => ⟨S32x8x64x32x32, .f32⟩
  | 21 => ⟨S8x64x128x1x1, .f32⟩
  | 22 => ⟨S8x64x128, .f32⟩
  | 23 => ⟨S32x8x128x32x32, .f32⟩
  | 24 => ⟨S8x32x32x32x64, .f32⟩
  | 25 => ⟨S32x8x64x32x32, .f32⟩
  | 26 => ⟨S32x8x64x32x32, .f32⟩
  | 27 => ⟨S32x8x1x1x1, .f32⟩
  | 28 => ⟨S32x8x64x32x32, .f32⟩
  | 29 => ⟨S32x8x64x32x32, .f32⟩
  | 30 => ⟨S_, .f32⟩
  | 31 => ⟨S32x64x32x32, .f32⟩
  | _ => ⟨S32x2, .i32⟩

abbrev hbmTy (i : Nat) : BufTy := match i / 128 with
  | 0 => hbmTy0_0 i
  | 1 => hbmTy0_1 i
  | _ => ⟨S32x2, .i32⟩

abbrev bufTy : (tb : Table) → Fin (tcTables nBuf tb) → BufTy
  | .hbm, ⟨i, _⟩ => hbmTy i
  | _, _ => ⟨S32x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_call0_v0 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_cst_5 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_6 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_c_7 : Ref sig .tc := ⟨.hbm, 96, rfl⟩
abbrev main_call1_v0 : Ref sig .tc := ⟨.hbm, 97, rfl⟩
abbrev main_v81 : Ref sig .tc := ⟨.hbm, 98, rfl⟩
abbrev main_cst_8 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_cst_9 : Ref sig .tc := ⟨.hbm, 158, rfl⟩
abbrev main_v140 : Ref sig .tc := ⟨.hbm, 159, rfl⟩

abbrev nD : Nat := 1
abbrev τ : Topo := Topo.v7x

variable {F : FTy → Type} [FloatOps F]
-- ==== Proof.ExpSetup.lean ====
/- The expert call's set-up over the extended reals (and any other floats): its schedule, @main around the region, the
   staging memrefs, where the windows are idle, the side condition the body assumes of the index it reads. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%11)) is fetched at the first point only, at any contents of the tables (its index map reads none). -/
theorem fetch0_0 (a : (pcfg0 (F := F)).Adm) : ∀ t : Fin (cfg0 a).N, ((cfg0 a).win 0).fetch t = true ↔ t.val % 64 = 0 :=
  (fun t => Pipeline.Window.fetchOf_const cc0_transform_0 (fun _ _ => rfl) (n := 64) (by decide) t : ∀ t : Fin grid0.N, Pipeline.Window.fetchOf grid0 false cc0_transform_0 t = true ↔ t.val % 64 = 0)
/-- Window 1 (operand 2 (%3)) is fetched at the points ≡ 0 (mod 2), at any contents of the tables (its index map reads none). -/
theorem fetch0_1 (a : (pcfg0 (F := F)).Adm) : ∀ t : Fin (cfg0 a).N, ((cfg0 a).win 1).fetch t = true ↔ t.val % 2 = 0 :=
  (fun t => Pipeline.Window.fetchOf_reads cc0_transform_1 reads0_1 hreads0_1 0 (by decide) (by decide) (Pipeline.Window.sep_of_coord cc0_transform_1 0 0 (fun _ => rfl) (by decide)) (P := 2) (by decide) t : ∀ t : Fin grid0.N, Pipeline.Window.fetchOf grid0 false cc0_transform_1 t = true ↔ t.val % 2 = 0)
/-- Window 2 (operand 3 (%6)) is fetched at the first point only, at any contents of the tables (its index map reads none). -/
theorem fetch0_2 (a : (pcfg0 (F := F)).Adm) : ∀ t : Fin (cfg0 a).N, ((cfg0 a).win 2).fetch t = true ↔ t.val % 64 = 0 :=
  (fun t => Pipeline.Window.fetchOf_const cc0_transform_2 (fun _ _ => rfl) (n := 64) (by decide) t : ∀ t : Fin grid0.N, Pipeline.Window.fetchOf grid0 false cc0_transform_2 t = true ↔ t.val % 64 = 0)
/-- Window 3 (operand 4 (%9)) is fetched at the first point only, at any contents of the tables (its index map reads none). -/
theorem fetch0_3 (a : (pcfg0 (F := F)).Adm) : ∀ t : Fin (cfg0 a).N, ((cfg0 a).win 3).fetch t = true ↔ t.val % 64 = 0 :=
  (fun t => Pipeline.Window.fetchOf_const cc0_transform_3 (fun _ _ => rfl) (n := 64) (by decide) t : ∀ t : Fin grid0.N, Pipeline.Window.fetchOf grid0 false cc0_transform_3 t = true ↔ t.val % 64 = 0)
/-- Window 4 (operand 5 (%cst)) is fetched at the first point only, at any contents of the tables (its index map reads none). -/
theorem fetch0_4 (a : (pcfg0 (F := F)).Adm) : ∀ t : Fin (cfg0 a).N, ((cfg0 a).win 4).fetch t = true ↔ t.val % 64 = 0 :=
  (fun t => Pipeline.Window.fetchOf_const cc0_transform_4 (fun _ _ => rfl) (n := 64) (by decide) t : ∀ t : Fin grid0.N, Pipeline.Window.fetchOf grid0 false cc0_transform_4 t = true ↔ t.val % 64 = 0)
/-- Window 5 (result 0 (%12)) is written back at the points ≡ 1 (mod 2), at any contents of the tables (its index map reads none). -/
theorem flush0_5 (a : (pcfg0 (F := F)).Adm) : ∀ t : Fin (cfg0 a).N, ((cfg0 a).win 5).flush t = true ↔ t.val % 2 = 1 :=
  (fun t => Pipeline.Window.flushOf_reads cc0_transform_5 reads0_5 hreads0_5 0 (by decide) (by decide) (Pipeline.Window.sep_of_coord cc0_transform_5 0 0 (fun _ => rfl) (by decide)) (P := 2) (m := 1) (by decide) rfl t : ∀ t : Fin grid0.N, Pipeline.Window.flushOf grid0 true cc0_transform_5 t = true ↔ t.val % 2 = 1)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__expert_kernel (grid0.coords t) (Memref.whole main_v10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _)

variable (m : (ℓ : Loc nD τ sig) → Buf (Elt F) ℓ) (ρ : Dev nD → PrngReg)

/-! ## @main around the region -/

/-- Core `c`'s TensorCore buffer contents when the region is entered, as a valuation: after the host operations before
    the region (`hostOps0`, `hostOps0_1`, `hostOps0_2`, `hostOps0_3`, `hostOps0_4`). -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S64 .i32 := Memref.whole main_v10
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 2) — by arithmetic of the point. -/
theorem hcond0_0 : ∀ t : Fin grid0.N, cond0_0 (grid0.coords t) ↔ t.val % 2 = 0 :=
  (fun t => by
    have ht : t.val < 64 := Nat.lt_of_lt_of_eq t.isLt N_0
    have e0 : (grid0.coords t 0).val = t.val / 2 % 32 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 2 = 0)

/-- The condition of the body's `scf.if` 1 (`k0_h2`), from the grid coordinates (the skeleton's scalar
    chain substituted). -/
abbrev cond0_1 (i : grid0.Coords) : Prop := k0_cond2 i = 1#1
/-- It holds at the points ≡ 0 (mod 2) — by arithmetic of the point. -/
theorem hcond0_1 : ∀ t : Fin grid0.N, cond0_1 (grid0.coords t) ↔ t.val % 2 = 0 :=
  (fun t => by
    have ht : t.val < 64 := Nat.lt_of_lt_of_eq t.isLt N_0
    have e0 : (grid0.coords t 0).val = t.val / 2 % 32 := Pipeline.Grid.coords_val t 0 (by decide) rfl
    have e1 : (grid0.coords t 1).val = t.val / 1 % 2 := Pipeline.Grid.coords_val t 1 (by decide) rfl
    simp only [cond0_1, k0_cond2, e0, e1]
    word_cmp
   : ∀ t : Fin grid0.N, cond0_1 (grid0.coords t) ↔ t.val % 2 = 0)

/-- The condition of the body's `scf.if` 2 (`k0_h3`), from the grid coordinates (the skeleton's scalar
    chain substituted). -/
abbrev cond0_2 (i : grid0.Coords) : Prop := k0_cond3 i = 1#1
/-- It holds at the points ≡ 1 (mod 2) — by arithmetic of the point. -/
theorem hcond0_2 : ∀ t : Fin grid0.N, cond0_2 (grid0.coords t) ↔ t.val % 2 = 1 :=
  (fun t => by
    have ht : t.val < 64 := Nat.lt_of_lt_of_eq t.isLt N_0
    have e0 : (grid0.coords t 0).val = t.val / 2 % 32 := Pipeline.Grid.coords_val t 0 (by decide) rfl
    have e1 : (grid0.coords t 1).val = t.val / 1 % 2 := Pipeline.Grid.coords_val t 1 (by decide) rfl
    simp only [cond0_2, k0_cond3, e0, e1]
    word_cmp
   : ∀ t : Fin grid0.N, cond0_2 (grid0.coords t) ↔ t.val % 2 = 1)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .smem S64 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x64x1296 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S8x128x576 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S8x64x1152 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1226 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x64x1156 .f32 := spec0_5.stage ((cfgM m hO).slots t 5)
abbrev hs0_5 (hO : Ok m) (t : Fin (cfgM m hO).N) : (ms0_5 m hO t).IsWhole := hstage0_5 (((cfgM m hO).slots t 5).cast nbuf0_5)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S64) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S64) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S64) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S576x1226 .bf16 := Memref.whole cc0_scratch0
abbrev scM0_1 : Memref sig .tc .vmem S128x1226 .bf16 := Memref.whole cc0_scratch1
abbrev scM0_2 : Memref sig .tc .vmem S1152x1156 .bf16 := Memref.whole cc0_scratch2
/-- The scratch `arg9` the kernel carries between points, as a view: what it holds is stated through it. -/
abbrev VS0_0 : View sig .tc .vmem S576x1226 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.ExpertsIdeal.Run

end
-- ==== Proof.ExpBody.lean ====
/- The expert kernel's body at one grid point, executed with the values it leaves: the scratch of shifted input rows,
   and the output block, as functions of the blocks the point is given. -/
module

public import proofs.«01_k».proof.Proof.ExpSetup
public import Idealize.ShloMosaic.Lib.Pipeline.ReadBack
public import Idealize.ShloMosaic.Lib.PointwiseCore
public import Idealize.ShloMosaic.Lib.Pointwise.Reshape
public import Idealize.ShloMosaic.Lib.Ring

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

/-! ## The values -/

/-- The shift of tap `t` of a 3 by 3 stencil over rows of length 34: `34 * (t / 3) + t % 3`. -/
def tapOff (t : ℕ) : ℕ := 34 * (t / 3) + t % 3

theorem tapOff_le {t : ℕ} (h : t < 9) : tapOff t ≤ 70 := by unfold tapOff; omega

/-- The nine shifted copies of the 64 input rows, one under the other. -/
def x9of (x : Vec F S1x64x1296 .bf16) : Vec F S576x1226 .bf16 := fun j =>
  x (ix3 0 ⟨(j 0).val % 64, Nat.mod_lt _ (by decide)⟩
    ⟨(j 1).val + tapOff ((j 0).val / 64), by
      have h0 : (j 0).val < 576 := (j 0).isLt
      have h1 : (j 1).val < 1226 := (j 1).isLt
      have := tapOff_le (t := (j 0).val / 64) (by omega); omega⟩)

/-- The nine shifted copies of the 128 hidden rows, one under the other. -/
def h9of (h : Vec F S128x1226 .bf16) : Vec F S1152x1156 .bf16 := fun j =>
  h (ix2 ⟨(j 0).val % 128, Nat.mod_lt _ (by decide)⟩
    ⟨(j 1).val + tapOff ((j 0).val / 128), by
      have h0 : (j 0).val < 1152 := (j 0).isLt
      have h1 : (j 1).val < 1156 := (j 1).isLt
      have := tapOff_le (t := (j 0).val / 128) (by omega); omega⟩)

/-- Expert `e`'s block of the first weights. -/
def w1at (w : Vec F S8x128x576 .bf16) (e : BitVec 32) : Vec F S1x128x576 .bf16 := fun j =>
  w (ix3 ⟨e.toNat % 8, Nat.mod_lt _ (by decide)⟩ (j 1) (j 2))

/-- Expert `e`'s block of the second weights. -/
def w2at (w : Vec F S8x64x1152 .bf16) (e : BitVec 32) : Vec F S1x64x1152 .bf16 := fun j =>
  w (ix3 ⟨e.toNat % 8, Nat.mod_lt _ (by decide)⟩ (j 1) (j 2))

/-- The word of the prefetched table that the body reads at point `i`. -/
abbrev wordAt (c : Dev nD) (i : grid0.Coords) (xt : TbBuf0 (F := F) c tbM0_0) : BitVec 32 :=
  tbM0_0.view.readAt (Elt F) (Rect.unit (s := S64) (k0_off1 i) S1.size (k0_off1_inb i)).toLoadRect xt (Shape.Idx.first (numel1_S1.symm ▸ Nat.one_pos))

/-- The gate that the body reads at point `i`. -/
def gateAt (i : grid0.Coords) (x : Vec F S64 .f32) : F .f32 :=
  x ((Rect.unit (s := S64) (k0_off1 i) S1.size (k0_off1_inb i)).toLoadRect.idx (Shape.Idx.first (numel1_S1.symm ▸ Nat.one_pos)))

/-- The hidden rows of expert `e` from the shifted input rows `x9`. -/
def hidAt (e : BitVec 32) (x9 : Vec F S576x1226 .bf16) (w1 : Vec F S8x128x576 .bf16) (mk : Vec F S1x1226 .f32) : Vec F S128x1226 .bf16 :=
  k0_pay16 (w1at w1 e) x9 mk

/-! ## Loads and stores read back -/

theorem cast3_apply (v : Vec F S1x64x1226 .bf16) (hc : S1x64x1226.ShapeCasts S64x1226) (y : S64x1226.Idx) :
    shapeCast S64x1226 v hc y = v (ix3 0 (y 0) (y 1)) := by
  pointwise

theorem x9_piece {A : Memref sig .tc .vmem S1x64x1296 .bf16} (hA : A.IsWhole) (x : Vec F S1x64x1296 .bf16) (o b : ℕ)
    (inb : ∀ a, (![0, 0, o] : Fin 3 → ℕ) a + S1x64x1226.size a ≤ S1x64x1296.size a)
    (inb' : ∀ a, (![b, 0] : Fin 2 → ℕ) a + S64x1226.size a ≤ S576x1226.size a)
    (hb : b % 64 = 0) (ho : o = tapOff (b / 64)) (hc : S1x64x1226.ShapeCasts S64x1226) (hc' : S64x1226.ShapeCasts S64x1226) (y : S64x1226.Idx) :
    shapeCast S64x1226 (shapeCast S64x1226 (A.view.readAt (Elt F) (Rect.unit (s := S1x64x1296) ![0, 0, o] S1x64x1226.size inb).toLoadRect (hA.unread x)) hc) hc' y
      = x9of x ((Rect.unit (s := S576x1226) ![b, 0] S64x1226.size inb').emb y) := by
  have h0 : (y 0).val < 64 := (y 0).isLt
  have h1 : (y 1).val < 1226 := (y 1).isLt
  refine (congrFun (shapeCast_id (s := S64x1226) _ hc') y).trans ?_
  rw [cast3_apply, View.readAt_apply, hA.read_unread]
  unfold x9of
  refine congrArg x (funext fun a => Fin.ext ?_)
  match a with
  | 0 => rfl
  | 1 =>
    show 0 + 1 * (y 0).val = (b + 1 * (y 0).val) % 64
    omega
  | 2 =>
    show o + 1 * (y 1).val = (0 + 1 * (y 1).val) + tapOff ((b + 1 * (y 0).val) / 64)
    rw [ho, show (b + 1 * (y 0).val) / 64 = b / 64 by omega]; omega

theorem idx_zero {s : Shape} {off : Fin s.rank → ℕ} (h : ∀ a, off a = 0) (inb : ∀ a, off a + s.size a ≤ s.size a) (y : s.Idx) :
    (Rect.unit (s := s) off s.size inb).toLoadRect.idx y = y :=
  funext fun a => Fin.ext (by show off a + 1 * (y a).val = (y a).val; rw [h]; omega)

theorem whole_load {κ : Kind} {sp : Space} {s : Shape} {e : EltTy} {A : Memref sig κ sp s e} (hA : A.IsWhole) (x : Vec F s e)
    {off : Fin s.rank → ℕ} (h : ∀ a, off a = 0) (inb : ∀ a, off a + s.size a ≤ s.size a) :
    A.view.readAt (Elt F) (Rect.unit (s := s) off s.size inb).toLoadRect (hA.unread x) = x :=
  funext fun y => by rw [View.readAt_apply, hA.read_unread]; exact congrArg x (idx_zero h inb y)

theorem whole_readCov {κ : Kind} {sp : Space} {s : Shape} {e : EltTy} (v : View sig κ sp s e) (L : List (View.Piece (Elt F) s e))
    (G : Vec F s e) {off : Fin s.rank → ℕ} (h : ∀ a, off a = 0) (inb : ∀ a, off a + s.size a ≤ s.size a)
    (hL : View.PiecesOf G L) (cov : ∀ y, ∃ p ∈ L, y ∈ p.1.set) :
    v.readCov L (Rect.unit (s := s) off s.size inb).toLoadRect = G :=
  funext fun y => by
    rw [View.readCov_eq_canon']
    exact (congrArg (View.canon L) (idx_zero h inb y)).trans (View.canon_apply_of_pieces G L hL.mem y (cov y))

theorem h9_piece {κ : Kind} {sp : Space} (v : View sig κ sp S128x1226 .bf16) {H' H : Vec F S128x1226 .bf16} (hH : H' = H) (o b : ℕ)
    (inb0 : ∀ a, (![0, 0] : Fin 2 → ℕ) a + S128x1226.size a ≤ S128x1226.size a)
    (inb : ∀ a, (![0, o] : Fin 2 → ℕ) a + S128x1156.size a ≤ S128x1226.size a)
    (inb' : ∀ a, (![b, 0] : Fin 2 → ℕ) a + S128x1156.size a ≤ S1152x1156.size a)
    (hb : b % 128 = 0) (ho : o = tapOff (b / 128)) (hc : S128x1156.ShapeCasts S128x1156) (y : S128x1156.Idx) :
    shapeCast S128x1156 (v.readCov (Val := Elt F) [⟨Rect.unit (s := S128x1226) ![0, 0] S128x1226.size inb0, H'⟩]
        (Rect.unit (s := S128x1226) ![0, o] S128x1156.size inb).toLoadRect) hc y
      = h9of H ((Rect.unit (s := S1152x1156) ![b, 0] S128x1156.size inb').emb y) := by
  have h0 : (y 0).val < 128 := (y 0).isLt
  have h1 : (y 1).val < 1156 := (y 1).isLt
  subst hH
  refine (congrFun (shapeCast_id (s := S128x1156) _ hc) y).trans ?_
  rw [View.readCov_eq_canon', View.canon_cons_unit_lit _ _ _ (by decide)]
  unfold h9of
  refine congrArg H' (funext fun a => Fin.ext ?_)
  match a with
  | 0 =>
    show 0 + 1 * (y 0).val = (b + 1 * (y 0).val) % 128
    omega
  | 1 =>
    show o + 1 * (y 1).val = (0 + 1 * (y 1).val) + tapOff ((b + 1 * (y 0).val) / 128)
    rw [ho, show (b + 1 * (y 0).val) / 128 = b / 128 by omega]; omega

theorem w1_load {A : Memref sig .tc .vmem S8x128x576 .bf16} (hA : A.IsWhole) (w : Vec F S8x128x576 .bf16) (e : BitVec 32) (he : k0_chk1 e)
    (inb : ∀ a, k0_off2 e a + S1x128x576.size a ≤ S8x128x576.size a) :
    A.view.readAt (Elt F) (Rect.unit (s := S8x128x576) (k0_off2 e) S1x128x576.size inb).toLoadRect (hA.unread w) = w1at w e := by
  funext y
  have h0 : (y 0).val < 1 := (y 0).isLt
  have h := inb 0
  change e.toNat + 1 ≤ 8 at h
  rw [View.readAt_apply, hA.read_unread]
  unfold w1at
  refine congrArg w (funext fun a => Fin.ext ?_)
  match a with
  | 0 => show e.toNat + 1 * (y 0).val = e.toNat % 8; omega
  | 1 => show 0 + 1 * (y 1).val = (y 1).val; omega
  | 2 => show 0 + 1 * (y 2).val = (y 2).val; omega

theorem w2_load {A : Memref sig .tc .vmem S8x64x1152 .bf16} (hA : A.IsWhole) (w : Vec F S8x64x1152 .bf16) (e : BitVec 32) (he : k0_chk1 e)
    (inb : ∀ a, k0_off3 e a + S1x64x1152.size a ≤ S8x64x1152.size a) :
    A.view.readAt (Elt F) (Rect.unit (s := S8x64x1152) (k0_off3 e) S1x64x1152.size inb).toLoadRect (hA.unread w) = w2at w e := by
  funext y
  have h0 : (y 0).val < 1 := (y 0).isLt
  have h := inb 0
  change e.toNat + 1 ≤ 8 at h
  rw [View.readAt_apply, hA.read_unread]
  unfold w2at
  refine congrArg w (funext fun a => Fin.ext ?_)
  match a with
  | 0 => show e.toNat + 1 * (y 0).val = e.toNat % 8; omega
  | 1 => show 0 + 1 * (y 1).val = (y 1).val; omega
  | 2 => show 0 + 1 * (y 2).val = (y 2).val; omega

theorem gate_load {A : Memref sig .tc .smem S64 .f32} (hA : A.IsWhole) (x : Vec F S64 .f32) (i : grid0.Coords) :
    A.view.readAt (Elt F) (Rect.unit (s := S64) (k0_off1 i) S1.size (k0_off1_inb i)).toLoadRect (hA.unread x) (Shape.Idx.first (numel1_S1.symm ▸ Nat.one_pos))
      = gateAt i x := by
  rw [View.readAt_apply, hA.read_unread]; rfl

set_option maxHeartbeats 400000 in
/-- The body at an image's first slot: what it leaves in the output block and in the scratch of shifted rows. -/
theorem runA (c : Dev nD) (i : grid0.Coords) (arg3 : Memref sig .tc .smem S64 .f32) (harg3 : arg3.IsWhole) (arg4 : Memref sig .tc .vmem S1x64x1296 .bf16) (harg4 : arg4.IsWhole) (arg5 : Memref sig .tc .vmem S8x128x576 .bf16) (harg5 : arg5.IsWhole) (arg6 : Memref sig .tc .vmem S8x64x1152 .bf16) (harg6 : arg6.IsWhole) (arg7 : Memref sig .tc .vmem S1x1226 .f32) (harg7 : arg7.IsWhole) (arg8 : Memref sig .tc .vmem S1x64x1156 .f32) (harg8 : arg8.IsWhole) (arg9 : Memref sig .tc .vmem S576x1226 .bf16) (harg9 : arg9.IsWhole) (arg10 : Memref sig .tc .vmem S128x1226 .bf16) (harg10 : arg10.IsWhole) (arg11 : Memref sig .tc .vmem S1152x1156 .bf16) (harg11 : arg11.IsWhole) (hc0 : cond0_0 i) (hc1 : cond0_1 i) (hc2 : ¬cond0_2 i)
    (x0 : Vec F S64 .f32) (x1 : Vec F S1x64x1296 .bf16) (x2 : Vec F S8x128x576 .bf16) (x3 : Vec F S8x64x1152 .bf16) (x4 : Vec F S1x1226 .f32) (xt0 : TbBuf0 (F := F) c tbM0_0) (k0_hw1 : k0_chk1 (wordAt c i xt0))
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay4 (gateAt i x0) (w2at x3 (wordAt c i xt0)) (h9of (hidAt (wordAt c i xt0) (x9of x1) x2 x4))) ∗ owns (c : Thread nD τ) arg9 fullShare (x9of x1) ∗ (∃ d, owns (c : Thread nD τ) arg10 fullShare d) ∗ (∃ d, owns (c : Thread nD τ) arg11 fullShare d) ∗ tbPt0 c tbM0_0 xt0) -∗ K ⟨⟩))
          ⊢ wp frame (wpE (defs₀ (F := F)) Variants.none c none) E (cc0__expert_kernel i tbM0_0 htbM0_0 arg3 harg3 arg4 harg4 arg5 harg5 arg6 harg6 arg7 harg7 arg8 harg8 arg9 harg9 arg10 harg10 arg11 harg11) K := by
  simp only [cc0__expert_kernel_eq_skeleton]; unfold cc0__expert_kernel_skel
  simp only [k0_part2_eq_skeleton, k0_part1_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, HT0, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc0 | sl_exact hc1 | sl_exact hc2 | sl_exact k0_hw1)
  sl_step
  have pX : View.PiecesOf (x9of x1) (runA.sl.HS0_9 c arg4 harg4 x1) :=
    ⟨x9_piece harg4 x1 70 512 inb_S1x64x1296_S1x64x1226_0_0_70 inb_S576x1226_S64x1226_512_0 rfl rfl shapeCasts_S1x64x1226_S64x1226 shapeCasts_S64x1226_S64x1226,
      x9_piece harg4 x1 69 448 inb_S1x64x1296_S1x64x1226_0_0_69 inb_S576x1226_S64x1226_448_0 rfl rfl shapeCasts_S1x64x1226_S64x1226 shapeCasts_S64x1226_S64x1226,
      x9_piece harg4 x1 68 384 inb_S1x64x1296_S1x64x1226_0_0_68 inb_S576x1226_S64x1226_384_0 rfl rfl shapeCasts_S1x64x1226_S64x1226 shapeCasts_S64x1226_S64x1226,
      x9_piece harg4 x1 36 320 inb_S1x64x1296_S1x64x1226_0_0_36 inb_S576x1226_S64x1226_320_0 rfl rfl shapeCasts_S1x64x1226_S64x1226 shapeCasts_S64x1226_S64x1226,
      x9_piece harg4 x1 35 256 inb_S1x64x1296_S1x64x1226_0_0_35 inb_S576x1226_S64x1226_256_0 rfl rfl shapeCasts_S1x64x1226_S64x1226 shapeCasts_S64x1226_S64x1226,
      x9_piece harg4 x1 34 192 inb_S1x64x1296_S1x64x1226_0_0_34 inb_S576x1226_S64x1226_192_0 rfl rfl shapeCasts_S1x64x1226_S64x1226 shapeCasts_S64x1226_S64x1226,
      x9_piece harg4 x1 2 128 inb_S1x64x1296_S1x64x1226_0_0_2 inb_S576x1226_S64x1226_128_0 rfl rfl shapeCasts_S1x64x1226_S64x1226 shapeCasts_S64x1226_S64x1226,
      x9_piece harg4 x1 1 64 inb_S1x64x1296_S1x64x1226_0_0_1 inb_S576x1226_S64x1226_64_0 rfl rfl shapeCasts_S1x64x1226_S64x1226 shapeCasts_S64x1226_S64x1226,
      x9_piece harg4 x1 0 0 inb_S1x64x1296_S1x64x1226_0_0_0 inb_S576x1226_S64x1226_0_0 rfl rfl shapeCasts_S1x64x1226_S64x1226 shapeCasts_S64x1226_S64x1226, trivial⟩
  have cX : ∀ y, ∃ p ∈ runA.sl.HS0_9 c arg4 harg4 x1, y ∈ p.1.set := View.cover_of_tiledL _ S64x1226.size (by sl_kernel_rfl)
  have hH : k0_pay16 (arg5.view.readAt (Elt F) (Rect.unit (s := S8x128x576) (k0_off2 (wordAt c i xt0)) S1x128x576.size (k0_off2_inb _ k0_hw1)).toLoadRect (harg5.unread x2)) (arg9.view.readCov (runA.sl.HS0_9 c arg4 harg4 x1) (Rect.unit (s := S576x1226) ![0, 0] S576x1226.size inb_S576x1226_S576x1226_0_0).toLoadRect)
        (arg7.view.readAt (Elt F) (Rect.unit (s := S1x1226) ![0, 0] S1x1226.size inb_S1x1226_S1x1226_0_0).toLoadRect (harg7.unread x4)) = (hidAt (wordAt c i xt0) (x9of x1) x2 x4) := by
    rw [w1_load harg5 x2 _ k0_hw1, whole_load harg7 x4 (by decide), whole_readCov _ _ _ (by decide) _ pX cX]; rfl
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    rw [View.read_writes_eq_canon _ _ _ (View.cover_of_tiledL _ S1x64x1156.size (by sl_kernel_rfl)), View.canon_cons_unit_lit _ _ _ (by decide)]
    refine congr (congr (congrArg k0_pay4 (gate_load harg3 x0 i)) (w2_load harg6 x3 _ k0_hw1 _)) ?_
    exact whole_readCov _ _ _ (by decide) _
      ⟨h9_piece arg10.view hH 70 1024 inb_S128x1226_S128x1226_0_0 inb_S128x1226_S128x1156_0_70 inb_S1152x1156_S128x1156_1024_0 rfl rfl shapeCasts_S128x1156_S128x1156,
      h9_piece arg10.view hH 69 896 inb_S128x1226_S128x1226_0_0 inb_S128x1226_S128x1156_0_69 inb_S1152x1156_S128x1156_896_0 rfl rfl shapeCasts_S128x1156_S128x1156,
      h9_piece arg10.view hH 68 768 inb_S128x1226_S128x1226_0_0 inb_S128x1226_S128x1156_0_68 inb_S1152x1156_S128x1156_768_0 rfl rfl shapeCasts_S128x1156_S128x1156,
      h9_piece arg10.view hH 36 640 inb_S128x1226_S128x1226_0_0 inb_S128x1226_S128x1156_0_36 inb_S1152x1156_S128x1156_640_0 rfl rfl shapeCasts_S128x1156_S128x1156,
      h9_piece arg10.view hH 35 512 inb_S128x1226_S128x1226_0_0 inb_S128x1226_S128x1156_0_35 inb_S1152x1156_S128x1156_512_0 rfl rfl shapeCasts_S128x1156_S128x1156,
      h9_piece arg10.view hH 34 384 inb_S128x1226_S128x1226_0_0 inb_S128x1226_S128x1156_0_34 inb_S1152x1156_S128x1156_384_0 rfl rfl shapeCasts_S128x1156_S128x1156,
      h9_piece arg10.view hH 2 256 inb_S128x1226_S128x1226_0_0 inb_S128x1226_S128x1156_0_2 inb_S1152x1156_S128x1156_256_0 rfl rfl shapeCasts_S128x1156_S128x1156,
      h9_piece arg10.view hH 1 128 inb_S128x1226_S128x1226_0_0 inb_S128x1226_S128x1156_0_1 inb_S1152x1156_S128x1156_128_0 rfl rfl shapeCasts_S128x1156_S128x1156,
      h9_piece arg10.view hH 0 0 inb_S128x1226_S128x1226_0_0 inb_S128x1226_S128x1156_0_0 inb_S1152x1156_S128x1156_0_0 rfl rfl shapeCasts_S128x1156_S128x1156, trivial⟩ (View.cover_of_tiledL _ S128x1156.size (by sl_kernel_rfl))
  isplitl [HS0]
  · iexists _; isplitr; swap; · iexact HS0
    ipureintro
    exact funext fun y => View.read_writes_apply_of_pieces _ _ (x9of x1) _ pX.mem y (cX y)
  isplitl [HS1]
  · iexists _, _; isplitr; swap; · iexact HS1
    ipureintro; rfl
  isplitl [HS2]
  · iexists _, _; isplitr; swap; · iexact HS2
    ipureintro; rfl
  iexact HT0

set_option maxHeartbeats 400000 in
/-- The body at an image's second slot: what it leaves in the output block, added to what the block held. -/
theorem runB (c : Dev nD) (i : grid0.Coords) (arg3 : Memref sig .tc .smem S64 .f32) (harg3 : arg3.IsWhole) (arg4 : Memref sig .tc .vmem S1x64x1296 .bf16) (harg4 : arg4.IsWhole) (arg5 : Memref sig .tc .vmem S8x128x576 .bf16) (harg5 : arg5.IsWhole) (arg6 : Memref sig .tc .vmem S8x64x1152 .bf16) (harg6 : arg6.IsWhole) (arg7 : Memref sig .tc .vmem S1x1226 .f32) (harg7 : arg7.IsWhole) (arg8 : Memref sig .tc .vmem S1x64x1156 .f32) (harg8 : arg8.IsWhole) (arg9 : Memref sig .tc .vmem S576x1226 .bf16) (harg9 : arg9.IsWhole) (arg10 : Memref sig .tc .vmem S128x1226 .bf16) (harg10 : arg10.IsWhole) (arg11 : Memref sig .tc .vmem S1152x1156 .bf16) (harg11 : arg11.IsWhole) (hc0 : ¬cond0_0 i) (hc1 : ¬cond0_1 i) (hc2 : cond0_2 i)
    (x0 : Vec F S64 .f32) (x1 : Vec F S1x64x1296 .bf16) (x2 : Vec F S8x128x576 .bf16) (x3 : Vec F S8x64x1152 .bf16) (x4 : Vec F S1x1226 .f32) (x5 : Vec F S1x64x1156 .f32) (xs0 : Vec F S576x1226 .bf16) (xt0 : TbBuf0 (F := F) c tbM0_0) (k0_hw1 : k0_chk1 (wordAt c i xt0))
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xs0 ∗ (∃ d, owns (c : Thread nD τ) arg10 fullShare d) ∗ (∃ d, owns (c : Thread nD τ) arg11 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay5 (gateAt i x0) (w2at x3 (wordAt c i xt0)) (h9of (hidAt (wordAt c i xt0) xs0 x2 x4)) x5) ∗ owns (c : Thread nD τ) arg9 fullShare xs0 ∗ (∃ d, owns (c : Thread nD τ) arg10 fullShare d) ∗ (∃ d, owns (c : Thread nD τ) arg11 fullShare d) ∗ tbPt0 c tbM0_0 xt0) -∗ K ⟨⟩))
          ⊢ wp frame (wpE (defs₀ (F := F)) Variants.none c none) E (cc0__expert_kernel i tbM0_0 htbM0_0 arg3 harg3 arg4 harg4 arg5 harg5 arg6 harg6 arg7 harg7 arg8 harg8 arg9 harg9 arg10 harg10 arg11 harg11) K := by
  simp only [cc0__expert_kernel_eq_skeleton]; unfold cc0__expert_kernel_skel
  simp only [k0_part2_eq_skeleton, k0_part1_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, ⟨%ds2, %fs2, -, HS2⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
  sl_exec (disch := first | sl_exact hc0 | sl_exact hc1 | sl_exact hc2 | sl_exact k0_hw1)
  sl_step
  have hH : k0_pay16 (arg5.view.readAt (Elt F) (Rect.unit (s := S8x128x576) (k0_off2 (wordAt c i xt0)) S1x128x576.size (k0_off2_inb _ k0_hw1)).toLoadRect (harg5.unread x2)) (arg9.view.readAt (Elt F) (Rect.unit (s := S576x1226) ![0, 0] S576x1226.size inb_S576x1226_S576x1226_0_0).toLoadRect (harg9.unread xs0))
        (arg7.view.readAt (Elt F) (Rect.unit (s := S1x1226) ![0, 0] S1x1226.size inb_S1x1226_S1x1226_0_0).toLoadRect (harg7.unread x4)) = (hidAt (wordAt c i xt0) xs0 x2 x4) := by
    rw [w1_load harg5 x2 _ k0_hw1, whole_load harg7 x4 (by decide), whole_load harg9 _ (by decide) _]; rfl
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    rw [View.read_writes_eq_canon _ _ _ (View.cover_of_tiledL _ S1x64x1156.size (by sl_kernel_rfl)), View.canon_cons_unit_lit _ _ _ (by decide)]
    refine congr (congr (congr (congrArg k0_pay5 (gate_load harg3 x0 i)) (w2_load harg6 x3 _ k0_hw1 _)) ?_) (whole_load harg8 x5 (by decide) _)
    exact whole_readCov _ _ _ (by decide) _
      ⟨h9_piece arg10.view hH 70 1024 inb_S128x1226_S128x1226_0_0 inb_S128x1226_S128x1156_0_70 inb_S1152x1156_S128x1156_1024_0 rfl rfl shapeCasts_S128x1156_S128x1156,
      h9_piece arg10.view hH 69 896 inb_S128x1226_S128x1226_0_0 inb_S128x1226_S128x1156_0_69 inb_S1152x1156_S128x1156_896_0 rfl rfl shapeCasts_S128x1156_S128x1156,
      h9_piece arg10.view hH 68 768 inb_S128x1226_S128x1226_0_0 inb_S128x1226_S128x1156_0_68 inb_S1152x1156_S128x1156_768_0 rfl rfl shapeCasts_S128x1156_S128x1156,
      h9_piece arg10.view hH 36 640 inb_S128x1226_S128x1226_0_0 inb_S128x1226_S128x1156_0_36 inb_S1152x1156_S128x1156_640_0 rfl rfl shapeCasts_S128x1156_S128x1156,
      h9_piece arg10.view hH 35 512 inb_S128x1226_S128x1226_0_0 inb_S128x1226_S128x1156_0_35 inb_S1152x1156_S128x1156_512_0 rfl rfl shapeCasts_S128x1156_S128x1156,
      h9_piece arg10.view hH 34 384 inb_S128x1226_S128x1226_0_0 inb_S128x1226_S128x1156_0_34 inb_S1152x1156_S128x1156_384_0 rfl rfl shapeCasts_S128x1156_S128x1156,
      h9_piece arg10.view hH 2 256 inb_S128x1226_S128x1226_0_0 inb_S128x1226_S128x1156_0_2 inb_S1152x1156_S128x1156_256_0 rfl rfl shapeCasts_S128x1156_S128x1156,
      h9_piece arg10.view hH 1 128 inb_S128x1226_S128x1226_0_0 inb_S128x1226_S128x1156_0_1 inb_S1152x1156_S128x1156_128_0 rfl rfl shapeCasts_S128x1156_S128x1156,
      h9_piece arg10.view hH 0 0 inb_S128x1226_S128x1226_0_0 inb_S128x1226_S128x1156_0_0 inb_S1152x1156_S128x1156_0_0 rfl rfl shapeCasts_S128x1156_S128x1156, trivial⟩ (View.cover_of_tiledL _ S128x1156.size (by sl_kernel_rfl))
  isplitl [HS0]
  · iexists _; isplitr; swap; · iexact HS0
    ipureintro
    exact harg9.read_unread _
  isplitl [HS1]
  · iexists _, _; isplitr; swap; · iexact HS1
    ipureintro; rfl
  isplitl [HS2]
  · iexists _, _; isplitr; swap; · iexact HS2
    ipureintro; rfl
  iexact HT0

end Cert.ExpertsIdeal.Run

end
-- ==== Proof.ExpRun.lean ====
/- The expert call as a whole: what every grid point leaves in the output block and in the scratch, the obligation of
   the body at every point, and the launch with the output array named. -/
module

public import proofs.«01_k».proof.Proof.ExpBody

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output's window is never idle. -/
theorem live5 : ∀ i : grid0.Coords, idle0 5 i = false := by decide +kernel
theorem liveAt0_5 (hO : Ok m) (t : Fin (cfgM m hO).N) : (cfgM m hO).idle 5 (grid0.coords t) = false := live5 _

/-- The word of the table of experts at point `t`. -/
abbrev wrd (hO : Ok m) (c : Dev nD) (t : Fin (cfgM m hO).N) : BitVec 32 := wordAt c (grid0.coords t) (tbl m 0)

/-- The hidden rows at point `t`. -/
def hidv (hO : Ok m) (c : Dev nD) (t : Fin (cfgM m hO).N) : Vec F S128x1226 .bf16 :=
  hidAt (wrd m hO c t) (x9of (iblk m hO c 1 t)) (iblk m hO c 2 t) (iblk m hO c 4 t)

/-- What an image's first slot leaves in the output block. -/
def outA (hO : Ok m) (c : Dev nD) (t : Fin (cfgM m hO).N) : Vec F S1x64x1156 .f32 :=
  k0_pay4 (gateAt (grid0.coords t) (iblk m hO c 0 t)) (w2at (iblk m hO c 3 t) (wrd m hO c t)) (h9of (hidv m hO c t))

/-- What an image's second slot leaves, from what the first left. -/
def outB (hO : Ok m) (c : Dev nD) (t : Fin (cfgM m hO).N) (y : Vec F S1x64x1156 .f32) : Vec F S1x64x1156 .f32 :=
  k0_pay5 (gateAt (grid0.coords t) (iblk m hO c 0 t)) (w2at (iblk m hO c 3 t) (wrd m hO c t)) (h9of (hidv m hO c t)) y

/-- What point `t` leaves in the output block. -/
def out5 (hO : Ok m) (c : Dev nD) (t : Fin (cfgM m hO).N) : Vec F S1x64x1156 .f32 :=
  if t.val % 2 = 0 then outA m hO c t else outB m hO c t (outA m hO c ⟨t.val - 1, by omega⟩)

/-- The grid's coordinates of point `t`: the image and the slot. -/
theorem coord0 (t : Fin grid0.N) : (grid0.coords t 0).val = t.val / 2 := by
  have ht : t.val < 64 := Nat.lt_of_lt_of_eq t.isLt N_0
  have e0 : (grid0.coords t 0).val = t.val / 2 % 32 := Pipeline.Grid.coords_val t 0 (by decide) rfl
  rw [e0]; omega

theorem coord1 (t : Fin grid0.N) : (grid0.coords t 1).val = t.val % 2 := by
  have e1 : (grid0.coords t 1).val = t.val / 1 % 2 := Pipeline.Grid.coords_val t 1 (by decide) rfl
  rw [e1]; omega

/-- Window 1's block at point `t` is image `t / 2`. -/
theorem iblk1_apply (hO : Ok m) (c : Dev nD) (t : Fin (cfgM m hO).N) (y : S1x64x1296.Idx) :
    (iblk m hO c 1 t : Vec F S1x64x1296 .bf16) y
      = (V m c (Pipeline.arrRef spec0 1) : Vec F S32x64x1296 .bf16) (ix3 ⟨t.val / 2, by have ht : t.val < 64 := Nat.lt_of_lt_of_eq t.isLt N_0; omega⟩ (y 1) (y 2)) := by
  have ht : t.val < 64 := Nat.lt_of_lt_of_eq t.isLt N_0
  have h0 : (y 0).val < 1 := (y 0).isLt
  refine congrArg (V m c (Pipeline.arrRef spec0 1) : Vec F S32x64x1296 .bf16)
    (show ((((cfgM m hO).win 1).blk t).view.emb y : S32x64x1296.Idx) = _ from funext fun (a : Fin 3) => Fin.ext ?_)
  match a with
  | 0 =>
    have e : cc0_transform_1 (grid0.coords t) 0 = t.val / 2 := by
      show (BitVec.ofNat 32 (grid0.coords t 0).val).toNat = _
      rw [coord0, BitVec.toNat_ofNat]; omega
    show cc0_transform_1 (grid0.coords t) 0 * 1 + 1 * (y 0).val = t.val / 2
    rw [e]; omega
  | 1 => show 0 * 64 + 1 * (y 1).val = (y 1).val; omega
  | 2 => show 0 * 1296 + 1 * (y 2).val = (y 2).val; omega

/-- Window 0's block is the whole array of gates, at every point; -/
theorem iblk0_eq (hO : Ok m) (c : Dev nD) (t : Fin (cfgM m hO).N) : (iblk m hO c 0 t : Vec F S64 .f32) = V m c (Pipeline.arrRef spec0 0) := by
  refine funext fun (y : S64.Idx) => congrArg (V m c (Pipeline.arrRef spec0 0) : Vec F S64 .f32)
    (show ((((cfgM m hO).win 0).blk t).view.emb y : S64.Idx) = _ from funext fun (a : Fin 1) => Fin.ext ?_)
  match a with
  | 0 => show 0 * 64 + 1 * (y 0).val = (y 0).val; omega

/-- window 2's the whole array of first weights, -/
theorem iblk2_eq (hO : Ok m) (c : Dev nD) (t : Fin (cfgM m hO).N) : (iblk m hO c 2 t : Vec F S8x128x576 .bf16) = V m c (Pipeline.arrRef spec0 2) := by
  refine funext fun (y : S8x128x576.Idx) => congrArg (V m c (Pipeline.arrRef spec0 2) : Vec F S8x128x576 .bf16)
    (show ((((cfgM m hO).win 2).blk t).view.emb y : S8x128x576.Idx) = _ from funext fun (a : Fin 3) => Fin.ext ?_)
  match a with
  | 0 => show 0 * 8 + 1 * (y 0).val = (y 0).val; omega
  | 1 => show 0 * 128 + 1 * (y 1).val = (y 1).val; omega
  | 2 => show 0 * 576 + 1 * (y 2).val = (y 2).val; omega

/-- window 3's the whole array of second weights, -/
theorem iblk3_eq (hO : Ok m) (c : Dev nD) (t : Fin (cfgM m hO).N) : (iblk m hO c 3 t : Vec F S8x64x1152 .bf16) = V m c (Pipeline.arrRef spec0 3) := by
  refine funext fun (y : S8x64x1152.Idx) => congrArg (V m c (Pipeline.arrRef spec0 3) : Vec F S8x64x1152 .bf16)
    (show ((((cfgM m hO).win 3).blk t).view.emb y : S8x64x1152.Idx) = _ from funext fun (a : Fin 3) => Fin.ext ?_)
  match a with
  | 0 => show 0 * 8 + 1 * (y 0).val = (y 0).val; omega
  | 1 => show 0 * 64 + 1 * (y 1).val = (y 1).val; omega
  | 2 => show 0 * 1152 + 1 * (y 2).val = (y 2).val; omega

/-- window 4's the whole mask. -/
theorem iblk4_eq (hO : Ok m) (c : Dev nD) (t : Fin (cfgM m hO).N) : (iblk m hO c 4 t : Vec F S1x1226 .f32) = V m c (Pipeline.arrRef spec0 4) := by
  refine funext fun (y : S1x1226.Idx) => congrArg (V m c (Pipeline.arrRef spec0 4) : Vec F S1x1226 .f32)
    (show ((((cfgM m hO).win 4).blk t).view.emb y : S1x1226.Idx) = _ from funext fun (a : Fin 2) => Fin.ext ?_)
  match a with
  | 0 => show 0 * 1 + 1 * (y 0).val = (y 0).val; omega
  | 1 => show 0 * 1226 + 1 * (y 1).val = (y 1).val; omega

/-- Window 1 moves with the image alone: the second slot's block is the first's. -/
theorem iblk1_prev (hO : Ok m) (c : Dev nD) (t : Fin (cfgM m hO).N) (h : t.val % 2 = 1) :
    (iblk m hO c 1 ⟨t.val - 1, by omega⟩ : Vec F S1x64x1296 .bf16) = iblk m hO c 1 t := by
  refine funext fun (y : S1x64x1296.Idx) => ?_
  refine (iblk1_apply m hO c _ y).trans (Eq.trans ?_ (iblk1_apply m hO c t y).symm)
  refine congrArg (V m c (Pipeline.arrRef spec0 1) : Vec F S32x64x1296 .bf16) ?_
  exact congrArg (fun b : Fin 32 => (ix3 b (y 1) (y 2) : S32x64x1296.Idx)) (Fin.ext (by show (t.val - 1) / 2 = t.val / 2; omega))

/-- The invariant before position `n`: after a point, the scratch of shifted rows holds that point's image. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (x9of (iblk m hO c 1 ⟨n, hn⟩)) ∗ (∃ d, owns (c : Thread nD τ) scM0_1 fullShare d) ∗ (∃ d, owns (c : Thread nD τ) scM0_2 fullShare d)) ∗ (∃ r, prngReg c r)) ∗ Pipeline.ΦT pre0 (tbl m) c)
theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((x9of (iblk m hO c 1 ⟨n, hn⟩))) ∗ (∃ d, owns (c : Thread nD τ) scM0_1 fullShare d) ∗ (∃ d, owns (c : Thread nD τ) scM0_2 fullShare d)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((x9of (iblk m hO c 1 ⟨n - 1, by omega⟩))) ∗ (∃ d, owns (c : Thread nD τ) scM0_1 fullShare d) ∗ (∃ d, owns (c : Thread nD τ) scM0_2 fullShare d)) ∗ (∃ r, prngReg c r)) ∗ Pipeline.ΦT pre0 (tbl m) c) := by
  cases n with
  | zero => exact absurd rfl hz
  | succ n => rfl

/-- The proof data of the one pipeline on core `c`: the arrays as the region finds them (`V`); after the body at
    point `t` each input's buffer at its block and the output's at `out5`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => out5 m hO c t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- The invariant at a point's start (the proof data at `t.castSucc`), restated at `t.val`. -/
theorem PhiS_castSucc (hO : Ok m) (hH : Hyps m hO) (c : Dev nD) (t : Fin (cfgM m hO).N) :
    (dats m hO hH 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl

theorem after0_5 (hO : Ok m) (hH : Hyps m hO) (c : Dev nD) (t : Fin (cfgM m hO).N) : (dats m hO hH 0 c).after 5 t = out5 m hO c t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ (dats m hO hH 0 c).leavesExact 0 t
    ∗ (dats m hO hH 0 c).leavesExact 1 t
    ∗ (dats m hO hH 0 c).leavesExact 2 t
    ∗ (dats m hO hH 0 c).leavesExact 3 t
    ∗ (dats m hO hH 0 c).leavesExact 4 t
    ∗ (dats m hO hH 0 c).leavesExact 5 t)

theorem leaves_W (hO : Ok m) (c : Dev nD) (dat : Dat τ (Elt F) Unit ℕ (UR sig nD τ) ℕ (cfgM m hO) c) (w : Fin (cfgM m hO).W) (t : Fin (cfgM m hO).N)
    (h : (cfgM m hO).idle w (grid0.coords t) = false) :
    dat.leavesExact w t = owns (c : Thread nD τ) (((cfgM m hO).win w).stage ((cfgM m hO).slots t w)) fullShare (dat.after w t) := by
  unfold Dat.leavesExact; rw [h]

/-- At an image's second slot the output block holds what the first slot left. -/
theorem before0_5 (hO : Ok m) (hH : Hyps m hO) (c : Dev nD) (t : Fin (cfgM m hO).N) (h : t.val % 2 = 1) (d) :
    (dats m hO hH 0 c).before 5 t d = outA m hO c ⟨t.val - 1, by omega⟩ := by
  rw [Dat.before_out_kept (dats m hO hH 0 c) 5 rfl t (by omega) (Bool.eq_false_iff.mpr fun hf => by
      have := (flush0_5 (adm m hO) _).mp hf
      change (t.val - 1) % 2 = 1 at this; omega) live5 (fun _ _ => rfl) d, after0_5]
  unfold out5
  rw [if_pos (by show (t.val - 1) % 2 = 0; omega)]

set_option maxHeartbeats 1600000 in
/-- The body at any point. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4]
  rw [show (dats m hO hH 0 c).owesAt () t.succ = (dats m hO hH 0 c).owesAt () t.castSucc from rfl]
  rw [show (dats m hO hH 0 c).Φ t.succ = PhiS m hO c (t.val + 1) t.isLt from rfl, PhiS_succ, PhiT0_eq]
  rw [leaves_W m hO c _ 0 t (liveAt0_0 m hO t), leaves_W m hO c _ 1 t (liveAt0_1 m hO t), leaves_W m hO c _ 2 t (liveAt0_2 m hO t),
    leaves_W m hO c _ 3 t (liveAt0_3 m hO t), leaves_W m hO c _ 4 t (liveAt0_4 m hO t), leaves_W m hO c _ 5 t (liveAt0_5 m hO t),
    after0_0, after0_1, after0_2, after0_3, after0_4, after0_5]
  have hN : t.val < 64 := lt_of_lt_of_eq t.isLt (show (cfgM m hO).N = 64 from N_0)
  by_cases h0 : t.val % 2 = 0
  · have e5 : out5 m hO c t = outA m hO c t := if_pos h0
    rw [e5]
    unfold outA hidv
    by_cases hz : t.val = 0
    · rw [PhiS_castSucc m hO hH c t, PhiS_zero m hO c _ _ hz, PhiT0_eq, PhiA0_eq]
      iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ _ _ _ _ ((hcond0_0 t).mpr h0) ((hcond0_1 t).mpr h0) (fun h => by have := (hcond0_2 t).mp h; omega) (iblk m hO c 0 t) (iblk m hO c 1 t) (iblk m hO c 2 t) (iblk m hO c 3 t) (iblk m hO c 4 t) (tbl m 0) (Hyps.c0 hH c t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HT0]; · iexact HT0
      iintro ⟨H0, H1, H2, H3, H4, H5, HS0, HS1, HS2, HT0⟩
      isplitl [HS0 HS1 HS2 Hg HT0]
      · isplitl [HS0 HS1 HS2 Hg]
        · isplitl [HS0 HS1 HS2]
          · isplitl [HS0]
            · iexact HS0
            isplitl [HS1]
            · iexact HS1
            iexact HS2
          iexact Hg
        iexact HT0
      isplitl [Ho]; · iexact Ho
      isplitl [H0]; · iexact H0
      isplitl [H1]; · iexact H1
      isplitl [H2]; · iexact H2
      isplitl [H3]; · iexact H3
      isplitl [H4]; · iexact H4
      iexact H5

    · rw [PhiS_castSucc m hO hH c t, PhiS_pos m hO c _ _ hz, PhiT0_eq]
      iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ _ _ _ _ ((hcond0_0 t).mpr h0) ((hcond0_1 t).mpr h0) (fun h => by have := (hcond0_2 t).mp h; omega) (iblk m hO c 0 t) (iblk m hO c 1 t) (iblk m hO c 2 t) (iblk m hO c 3 t) (iblk m hO c 4 t) (tbl m 0) (Hyps.c0 hH c t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexact HS1
      isplitl [HS2]; · iexact HS2
      isplitl [HT0]; · iexact HT0
      iintro ⟨H0, H1, H2, H3, H4, H5, HS0, HS1, HS2, HT0⟩
      isplitl [HS0 HS1 HS2 Hg HT0]
      · isplitl [HS0 HS1 HS2 Hg]
        · isplitl [HS0 HS1 HS2]
          · isplitl [HS0]
            · iexact HS0
            isplitl [HS1]
            · iexact HS1
            iexact HS2
          iexact Hg
        iexact HT0
      isplitl [Ho]; · iexact Ho
      isplitl [H0]; · iexact H0
      isplitl [H1]; · iexact H1
      isplitl [H2]; · iexact H2
      isplitl [H3]; · iexact H3
      isplitl [H4]; · iexact H4
      iexact H5

  · have h1 : t.val % 2 = 1 := by omega
    have e5 : out5 m hO c t = outB m hO c t (outA m hO c ⟨t.val - 1, by omega⟩) := if_neg h0
    rw [e5]
    simp only [before0_5 m hO hH c t h1]
    unfold outB hidv
    · rw [PhiS_castSucc m hO hH c t, PhiS_pos m hO c _ _ (by omega), PhiT0_eq, iblk1_prev m hO c t h1]
      iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ _ _ _ _ (fun h => h0 ((hcond0_0 t).mp h)) (fun h => h0 ((hcond0_1 t).mp h)) ((hcond0_2 t).mpr h1) (iblk m hO c 0 t) (iblk m hO c 1 t) (iblk m hO c 2 t) (iblk m hO c 3 t) (iblk m hO c 4 t) (outA m hO c ⟨t.val - 1, by omega⟩) (x9of (iblk m hO c 1 t)) (tbl m 0) (Hyps.c0 hH c t) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HT0]; · iexact HT0
      iintro ⟨H0, H1, H2, H3, H4, H5, HS0, HS1, HS2, HT0⟩
      isplitl [HS0 HS1 HS2 Hg HT0]
      · isplitl [HS0 HS1 HS2 Hg]
        · isplitl [HS0 HS1 HS2]
          · isplitl [HS0]
            · iexact HS0
            isplitl [HS1]
            · iexact HS1
            iexact HS2
          iexact Hg
        iexact HT0
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-- What the launch hands the region (`ΦA`, the tables beside it) is the invariant before the first point. -/
theorem hin (hO : Ok m) (hH : Hyps m hO) (c : Dev nD) : iprop(Pipeline.ΦA spec0 c ∗ Pipeline.ΦT pre0 (tbl m) c) ⊢ (dats m hO hH 0 c).Φ 0 := by
  rw [show (dats m hO hH 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (hH : Hyps m hO) (c : Dev nD) (t : Fin ((cfgM m hO).N + 1)) (ht : t.val ≠ 0) : (dats m hO hH 0 c).Φ t ⊢ Pipeline.ΦA spec0 c := by
  rw [show (dats m hO hH 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexact HS1
    iexact HS2
  iexact Hg

/-- The same after the last point. -/
theorem hout (hO : Ok m) (hH : Hyps m hO) (c : Dev nD) : (dats m hO hH 0 c).Φ (Fin.last (cfgM m hO).N) ⊢ Pipeline.ΦA spec0 c :=
  Phi_out m hO hH c _ (by rw [Fin.val_last]; have : (cfgM m hO).N = 64 := N_0; omega)

/-! ## The launch -/

set_option backward.isDefEq.respectTransparency.types false in
set_option maxHeartbeats 800000 in
/-- From any memory of the side conditions: the program ends with the pipeline's arrays at the contents the proof data
    name and every other unscoped buffer at what the host lines after the call leave, and every counter at zero. -/
theorem run_main (hO : Ok m) (hH : Hyps m hO) : θ_run defs (onTc (τ := τ) (main (F := F))) (s₀ m ρ)
    (fun r => Pipeline.FramePost (Pipeline.pin pcfgs fun _ => adm m hO) (dats m hO hH) 0 (Pipeline.afterTail pcfgs (fun _ => adm m hO) (dats m hO hH) 0 (V0 m) [hostOps1]) r ∧ r.2.sem = fun _ => 0) :=
  Pipeline.θ_run_frameP_around_track (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO hH) (hpf := V_pre m) (hin := hin m hO hH) (hout := hout m hO hH)

end Cert.ExpertsIdeal.Run

end
-- ==== Proof.ExpOut.lean ====
/- The expert call read whole: the output array in closed form, the host operations before and after the region, and
   the run with the result named. -/
module

public import proofs.«01_k».proof.Proof.ExpRun
public import Idealize.ShloMosaic.Lib.StableHlo.Run
public import Idealize.ShloMosaic.Lib.Pipeline.ValueKit.Geometry

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of image `b`'s second slot. -/
abbrev ptB (hO : Ok m) (b : Fin 32) : Fin (cfgM m hO).N := ⟨2 * b.val + 1, Nat.lt_of_lt_of_eq (by omega) N_0.symm⟩

/-- The output array: image `b`'s plane is what its second slot leaves. -/
def G5 (hO : Ok m) (c : Dev nD) : Vec F S32x64x1156 .f32 :=
  fun i => out5 m hO c (ptB m hO (i 0)) (ix3 0 (i 1) (i 2))

/-- The output's block at point `t` is plane `t / 2` of the array. -/
theorem emb5 (hO : Ok m) (t : Fin (cfgM m hO).N) (y : S1x64x1156.Idx) :
    ((((cfgM m hO).win 5).blk t).view.emb y : S32x64x1156.Idx)
      = ix3 ⟨t.val / 2, by have ht : t.val < 64 := Nat.lt_of_lt_of_eq t.isLt N_0; omega⟩ (y 1) (y 2) := by
  have ht : t.val < 64 := Nat.lt_of_lt_of_eq t.isLt N_0
  have h0 : (y 0).val < 1 := (y 0).isLt
  refine funext fun (a : Fin 3) => Fin.ext ?_
  match a with
  | 0 =>
    have e : cc0_transform_5 (grid0.coords t) 0 = t.val / 2 := by
      show (BitVec.ofNat 32 (grid0.coords t 0).val).toNat = _
      rw [coord0, BitVec.toNat_ofNat]; omega
    show cc0_transform_5 (grid0.coords t) 0 * 1 + 1 * (y 0).val = t.val / 2
    rw [e]; omega
  | 1 => show 0 * 64 + 1 * (y 1).val = (y 1).val; omega
  | 2 => show 0 * 1156 + 1 * (y 2).val = (y 2).val; omega

/-- The image of an index under a view lies under it. -/
theorem mem_of_emb {κ : Kind} {sp : Space} {S : Shape} {e : EltTy} (v : View sig κ sp S e) (y : S.Idx) (i : v.ty.Idx) (h : v.emb y = i) : i ∈ v.set :=
  h ▸ v.emb_mem_set y

/-- The output array at the end. -/
theorem arr5 (hO : Ok m) (hH : Hyps m hO) (c : Dev nD) : (dats m hO hH 0 c).arrAt 5 (cfgM m hO).N = G5 m hO c := by
  refine (dats m hO hH 0 c).arrAt_eq_of_emb 5 (G5 m hO c) (fun t hf (y : S1x64x1156.Idx) => ?_) (fun (i : S32x64x1156.Idx) => ?_)
  · have ht : t.val < 64 := Nat.lt_of_lt_of_eq t.isLt N_0
    have h1 : t.val % 2 = 1 := (flush0_5 (adm m hO) t).mp hf
    have e : t = ptB m hO ⟨t.val / 2, by omega⟩ := Fin.ext (by show t.val = 2 * (t.val / 2) + 1; omega)
    have h0 : (y 0).val < 1 := (y 0).isLt
    have key : out5 m hO c t y = G5 m hO c (ix3 ⟨t.val / 2, by omega⟩ (y 1) (y 2)) := by
      show _ = out5 m hO c (ptB m hO ⟨t.val / 2, by omega⟩) (ix3 0 (y 1) (y 2))
      rw [← e]
      refine congrArg (out5 m hO c t) (funext fun (a : Fin 3) => ?_)
      match a with
      | 0 => exact Fin.ext (by show (y 0).val = 0; omega)
      | 1 => rfl
      | 2 => rfl
    exact (congrFun (after0_5 m hO hH c t) y).trans (key.trans (congrArg (G5 m hO c) (emb5 m hO t y).symm))
  · refine ⟨ptB m hO (i 0), (flush0_5 (adm m hO) _).mpr (by show (2 * (i 0).val + 1) % 2 = 1; omega), ?_⟩
    have e := emb5 m hO (ptB m hO (i 0)) (ix3 0 (i 1) (i 2))
    have e2 : (ix3 ⟨(ptB m hO (i 0)).val / 2, by show (2 * (i 0).val + 1) / 2 < 32; have : (i 0).val < 32 := (i 0).isLt; omega⟩ (i 1) (i 2) : S32x64x1156.Idx) = i := by
      refine funext fun (a : Fin 3) => Fin.ext ?_
      match a with
      | 0 => show (2 * (i 0).val + 1) / 2 = (i 0).val; omega
      | 1 => rfl
      | 2 => rfl
    have e3 := e.trans e2
    exact mem_of_emb _ _ _ e3

/-- The result after the host operations behind the region. -/
theorem W_main_v14 (hO : Ok m) (hH : Hyps m hO) (c : Dev nD) :
    Pipeline.afterTail pcfgs (fun _ => adm m hO) (dats m hO hH) 0 (V0 m) [hostOps1] c main_v14
      = extractStridedSlice S32x64x32x32 ![0, 0, 1, 1] (shapeCast S32x64x34x34 (G5 m hO c) shapeCasts_S32x64x1156_S32x64x34x34) slices_S32x64x34x34_S32x64x32x32_0_0_1_1 := by
  unfold Pipeline.afterTail
  simp only [hostOps1, List.flatten_cons, List.flatten_nil, List.append_nil]
  after_results_simp
  have e : (Pipeline.withArrays (Pipeline.pin pcfgs (fun x => adm m hO) 0).spec c (V0 m c)
            (fun w => (dats m hO hH 0 c).arrAt w (Pipeline.pin pcfgs (fun x => adm m hO) 0).N)
            (Proc.tc.devRef main_v12) : Vec F S32x64x1156 .f32) = G5 m hO c :=
    (Pipeline.withArrays_arr spec0 (by decide) c (V0 m c) (fun w => (dats m hO hH 0 c).arrAt w (Pipeline.pin pcfgs (fun x => adm m hO) 0).N) 5).trans (arr5 m hO hH c)
  rw [← e]
  rfl

/-! What the host operations before the region leave in the arrays the windows stage. -/

theorem V_main_cst (c : Dev nD) : (V m c main_cst : Vec F S1x1226 .f32) = fun i => FloatOps.ofBits .f32 (lit0 (S1x1226.rowMajor i)) := by
  unfold V V0
  simp only [hostOps0, hostOps0_1, hostOps0_2, hostOps0_3, hostOps0_4, List.flatten_cons, List.flatten_nil, List.append_nil, List.cons_append, List.nil_append]
  after_results_simp
  rfl

theorem V_main_v11 (c : Dev nD) : (V m c main_v11 : Vec F S64 .f32) = shapeCast S64 (m ((c : Thread nD τ).loc main_arg1) : Vec F S32x2 .f32) shapeCasts_S32x2_S64 := by
  unfold V V0
  simp only [hostOps0, hostOps0_1, hostOps0_2, hostOps0_3, hostOps0_4, List.flatten_cons, List.flatten_nil, List.append_nil, List.cons_append, List.nil_append]
  after_results_simp
  rfl

theorem V_main_v10 (c : Dev nD) : (V m c main_v10 : Vec F S64 .i32) = shapeCast S64 (m ((c : Thread nD τ).loc main_arg0) : Vec F S32x2 .i32) shapeCasts_S32x2_S64 := by
  unfold V V0
  simp only [hostOps0, hostOps0_1, hostOps0_2, hostOps0_3, hostOps0_4, List.flatten_cons, List.flatten_nil, List.append_nil, List.cons_append, List.nil_append]
  after_results_simp
  rfl

theorem V_main_v6 (c : Dev nD) : (V m c main_v6 : Vec F S8x128x576 .bf16)
    = truncf .bf16 (shapeCast S8x128x576 (transpose S8x128x3x3x64 [0, 1, 3, 4, 2] (m ((c : Thread nD τ).loc main_arg3) : Vec F S8x128x64x3x3 .f32) transposes_S8x128x64x3x3_S8x128x3x3x64_0_1_3_4_2) shapeCasts_S8x128x3x3x64_S8x128x576) bitsLt_bf16_f32 := by
  unfold V V0
  simp only [hostOps0, hostOps0_1, hostOps0_2, hostOps0_3, hostOps0_4, List.flatten_cons, List.flatten_nil, List.append_nil, List.cons_append, List.nil_append]
  after_results_simp
  rfl

theorem V_main_v9 (c : Dev nD) : (V m c main_v9 : Vec F S8x64x1152 .bf16)
    = truncf .bf16 (shapeCast S8x64x1152 (transpose S8x64x3x3x128 [0, 1, 3, 4, 2] (m ((c : Thread nD τ).loc main_arg4) : Vec F S8x64x128x3x3 .f32) transposes_S8x64x128x3x3_S8x64x3x3x128_0_1_3_4_2) shapeCasts_S8x64x3x3x128_S8x64x1152) bitsLt_bf16_f32 := by
  unfold V V0
  simp only [hostOps0, hostOps0_1, hostOps0_2, hostOps0_3, hostOps0_4, List.flatten_cons, List.flatten_nil, List.append_nil, List.cons_append, List.nil_append]
  after_results_simp
  rfl

theorem V_main_v3 (c : Dev nD) : (V m c main_v3 : Vec F S32x64x1296 .bf16)
    = truncf .bf16 (pad S32x64x1296 ![0, 0, 70] ![0, 0, 70] ![0, 0, 0]
        (shapeCast S32x64x1156 (pad S32x64x34x34 ![0, 0, 1, 1] ![0, 0, 1, 1] ![0, 0, 0, 0] (m ((c : Thread nD τ).loc main_arg2) : Vec F S32x64x32x32 .f32)
          (sitofp .f32 (constantI S_ 32 0#32)) pads_S32x64x32x32_S32x64x34x34_000_000_110_110 h_S_) shapeCasts_S32x64x34x34_S32x64x1156)
        (sitofp .f32 (constantI S_ 32 0#32)) pads_S32x64x1156_S32x64x1296_000_000_70700 h_S_) bitsLt_bf16_f32 := by
  unfold V V0
  simp only [hostOps0, hostOps0_1, hostOps0_2, hostOps0_3, hostOps0_4, List.flatten_cons, List.flatten_nil, List.append_nil, List.cons_append, List.nil_append]
  after_results_simp
  rfl

end Cert.ExpertsIdeal.Run

end
-- ==== Proof.ExpPre.lean ====
/- What the precondition `indices_distinct` says of the table of experts, word by word. -/
module

public import proofs.«01_k».proof.Proof.Gen.Pre_indices_distinct
public import Idealize.ShloMosaic.Lib.ReduceAll
public import Idealize.ShloMosaic.Lib.WordCmp
public import Idealize.ShloMosaic.Lib.Pointwise

@[expose] public section

namespace Cert.ExpertsPre

open Idealize.ShloMosaic
open Cert.Pre_indices_distinct

variable {F : FTy → Type} [FloatOps F]

instance : Subsingleton S_.Idx := ⟨fun a b => funext fun i => i.elim0⟩

/-- Every index lies in [0, 8), and an image's two are distinct. -/
theorem of_pre (a0 : IVec S32x2 32) (a1 : FVec F S32x2 .f32) (a2 : FVec F S32x64x32x32 .f32) (a3 : FVec F S8x128x64x3x3 .f32)
    (a4 : FVec F S8x64x128x3x3 .f32) (h : Pre_indices_distinct.fn a0 a1 a2 a3 a4 = fun _ => 1#1) :
    (∀ y, (a0 y).toNat < 8) ∧ ∀ b : Fin 32, a0 (ix2 b 0) ≠ a0 (ix2 b 1) := by
  have h0 := congrFun h (fun i => i.elim0)
  unfold Pre_indices_distinct.fn at h0
  obtain ⟨h1, h2⟩ := IntOp.andi_eq_one.1 (show IntOp.andi _ _ = 1#1 from h0)
  constructor
  · intro y
    have e := Host.reduce_andi_all _ _ _ _ _ h1 y
    have e' : IntOp.andi (IntOp.cmpi .sge (a0 y) 0#32) (IntOp.cmpi .slt (a0 y) (BitVec.ofNat 32 8)) = 1#1 := e
    rw [WordCmp.andi_sge_zero_slt_ofNat (by decide)] at e'
    by_contra hc
    rw [decide_eq_false hc] at e'
    exact absurd e' (by decide)
  · intro b
    have e := Host.reduce_andi_all _ _ _ _ _ h2 (ix1 b)
    have e' : IntOp.cmpi .ne (a0 (ix2 b 0)) (a0 (ix2 b 1)) = 1#1 := by
      rw [← e]
      pointwise
    intro hc
    rw [hc] at e'
    simp [IntOp.cmpi] at e'

end Cert.ExpertsPre
-- ==== Proof.ExpFrame.lean ====
/- The expert call over the extended reals: under the precondition the expert it reads exists, and its arguments end as
   they were. -/
module

public import proofs.«01_k».proof.Defs
public import proofs.«01_k».proof.Proof.ExpOut
public import proofs.«01_k».proof.Proof.ExpPre
public import proofs.«01_k».proof.Proof.Gen.ExpertsIdeal
public import Idealize.ShloMosaic.Lib.Claim

@[expose] public section

set_option maxRecDepth 16384

namespace Cert.ExpertsIdeal.Run

open Idealize.ShloMosaic Idealize.ShloMosaic.TcCoe
open Idealize.SL.Sem
open Cert.ExpertsIdeal.Gen

variable (m : (ℓ : Loc nD τ sig) → Buf (Elt Ideal) ℓ) (ρ : Dev nD → PrngReg)

theorem ok : Ok m := trivial

/-- The table's word that the body reads at a point, an entry of the argument. -/
theorem word_mem (c : Dev nD) (i : grid0.Coords) :
    ∃ y : S32x2.Idx, wordAt c i (tbl m 0) = (m (((0 : Dev nD) : Thread nD τ).loc main_arg0) : Vec Ideal S32x2 .i32) y := by
  have e : (tbl m 0 : Vec Ideal S64 .i32) = _ := V_main_v10 m 0
  refine ⟨Shape.reshapeEquiv shapeCasts_S32x2_S64 ((Rect.unit (s := S64) (k0_off1 i) S1.size (k0_off1_inb i)).toLoadRect.idx (Shape.Idx.first (numel1_S1.symm ▸ Nat.one_pos))), ?_⟩
  exact congrFun e _

theorem hyps_of_pre (h : Cert.Pre_ExpertsIdeal m) : Hyps m (ok m) := by
  refine Hyps.of fun c t => ?_
  obtain ⟨y, e⟩ := word_mem m c (grid0.coords t)
  have hb := (Cert.ExpertsPre.of_pre _ _ _ _ _ (h 0)).1 y
  show k0_chk1 (wordAt c (grid0.coords t) (tbl m 0))
  rw [e]
  generalize (m (((0 : Dev nD) : Thread nD τ).loc main_arg0) : Vec Ideal S32x2 .i32) y = w at hb
  refine ⟨fun (a : Fin 3) => ?_, fun (a : Fin 3) => ?_⟩
  · match a with
    | 0 => show w.toNat + 1 ≤ 8; omega
    | 1 => exact Nat.le_refl _
    | 2 => exact Nat.le_refl _
  · match a with
    | 0 => show w.toNat + 1 ≤ 8; omega
    | 1 => exact Nat.le_refl _
    | 2 => exact Nat.le_refl _

/-- The call runs to the end: the result named, the arguments unchanged, every counter zero. -/
theorem run_value (hH : Hyps m (ok m)) : θ_run defs (onTc (τ := τ) (main (F := Ideal))) ⟨m, fun _ => 0, ρ⟩ (fun r => (∀ c : Dev nD,
      r.2.mem ((c.tc : Thread nD τ).loc main_v14)
        = extractStridedSlice S32x64x32x32 ![0, 0, 1, 1] (shapeCast S32x64x34x34 (G5 m (ok m) c) shapeCasts_S32x64x1156_S32x64x34x34) slices_S32x64x34x34_S32x64x32x32_0_0_1_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(h.1.rest_eq c main_v14 (by decide : main_v14 ∈ Pipeline.restRefs sig spec0)).trans (W_main_v14 m (ok m) hH c),
       (h.1.rest_eq c main_arg0 (by decide : main_arg0 ∈ Pipeline.restRefs sig spec0)).trans (W_main_arg0 m (ok m) (dats m (ok m) hH) c),
       (h.1.rest_eq c main_arg1 (by decide : main_arg1 ∈ Pipeline.restRefs sig spec0)).trans (W_main_arg1 m (ok m) (dats m (ok m) hH) c),
       (h.1.rest_eq c main_arg2 (by decide : main_arg2 ∈ Pipeline.restRefs sig spec0)).trans (W_main_arg2 m (ok m) (dats m (ok m) hH) c),
       (h.1.rest_eq c main_arg3 (by decide : main_arg3 ∈ Pipeline.restRefs sig spec0)).trans (W_main_arg3 m (ok m) (dats m (ok m) hH) c),
       (h.1.rest_eq c main_arg4 (by decide : main_arg4 ∈ Pipeline.restRefs sig spec0)).trans (W_main_arg4 m (ok m) (dats m (ok m) hH) c)⟩, h.2⟩)
    (run_main m ρ (ok m) hH)

end Cert.ExpertsIdeal.Run
-- ==== Proof.WordsPoints.lean ====
/- The schedule of the expert call's windows on its grid, for the frame at words. -/
module

public import proofs.«01_k».proof.Proof.Gen.Experts
public import Idealize.ShloMosaic.Lib.Pipeline.Kit

@[expose] public section

noncomputable section

namespace Cert.Experts.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%11)) is fetched at the first point only, at any contents of the tables (its index map reads none). -/
theorem fetch0_0 (a : (pcfg0 (F := F)).Adm) : ∀ t : Fin (cfg0 a).N, ((cfg0 a).win 0).fetch t = true ↔ t.val % 64 = 0 :=
  (fun t => Pipeline.Window.fetchOf_const cc0_transform_0 (fun _ _ => rfl) (n := 64) (by decide) t : ∀ t : Fin grid0.N, Pipeline.Window.fetchOf grid0 false cc0_transform_0 t = true ↔ t.val % 64 = 0)
/-- Window 1 (operand 2 (%3)) is fetched at the points ≡ 0 (mod 2), at any contents of the tables (its index map reads none). -/
theorem fetch0_1 (a : (pcfg0 (F := F)).Adm) : ∀ t : Fin (cfg0 a).N, ((cfg0 a).win 1).fetch t = true ↔ t.val % 2 = 0 :=
  (fun t => Pipeline.Window.fetchOf_reads cc0_transform_1 reads0_1 hreads0_1 0 (by decide) (by decide) (Pipeline.Window.sep_of_coord cc0_transform_1 0 0 (fun _ => rfl) (by decide)) (P := 2) (by decide) t : ∀ t : Fin grid0.N, Pipeline.Window.fetchOf grid0 false cc0_transform_1 t = true ↔ t.val % 2 = 0)
/-- Window 2 (operand 3 (%6)) is fetched at the first point only, at any contents of the tables (its index map reads none). -/
theorem fetch0_2 (a : (pcfg0 (F := F)).Adm) : ∀ t : Fin (cfg0 a).N, ((cfg0 a).win 2).fetch t = true ↔ t.val % 64 = 0 :=
  (fun t => Pipeline.Window.fetchOf_const cc0_transform_2 (fun _ _ => rfl) (n := 64) (by decide) t : ∀ t : Fin grid0.N, Pipeline.Window.fetchOf grid0 false cc0_transform_2 t = true ↔ t.val % 64 = 0)
/-- Window 3 (operand 4 (%9)) is fetched at the first point only, at any contents of the tables (its index map reads none). -/
theorem fetch0_3 (a : (pcfg0 (F := F)).Adm) : ∀ t : Fin (cfg0 a).N, ((cfg0 a).win 3).fetch t = true ↔ t.val % 64 = 0 :=
  (fun t => Pipeline.Window.fetchOf_const cc0_transform_3 (fun _ _ => rfl) (n := 64) (by decide) t : ∀ t : Fin grid0.N, Pipeline.Window.fetchOf grid0 false cc0_transform_3 t = true ↔ t.val % 64 = 0)
/-- Window 4 (operand 5 (%cst)) is fetched at the first point only, at any contents of the tables (its index map reads none). -/
theorem fetch0_4 (a : (pcfg0 (F := F)).Adm) : ∀ t : Fin (cfg0 a).N, ((cfg0 a).win 4).fetch t = true ↔ t.val % 64 = 0 :=
  (fun t => Pipeline.Window.fetchOf_const cc0_transform_4 (fun _ _ => rfl) (n := 64) (by decide) t : ∀ t : Fin grid0.N, Pipeline.Window.fetchOf grid0 false cc0_transform_4 t = true ↔ t.val % 64 = 0)
/-- Window 5 (result 0 (%12)) is written back at the points ≡ 1 (mod 2), at any contents of the tables (its index map reads none). -/
theorem flush0_5 (a : (pcfg0 (F := F)).Adm) : ∀ t : Fin (cfg0 a).N, ((cfg0 a).win 5).flush t = true ↔ t.val % 2 = 1 :=
  (fun t => Pipeline.Window.flushOf_reads cc0_transform_5 reads0_5 hreads0_5 0 (by decide) (by decide) (Pipeline.Window.sep_of_coord cc0_transform_5 0 0 (fun _ => rfl) (by decide)) (P := 2) (m := 1) (by decide) rfl t : ∀ t : Fin grid0.N, Pipeline.Window.flushOf grid0 true cc0_transform_5 t = true ↔ t.val % 2 = 1)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__expert_kernel (grid0.coords t) (Memref.whole main_v10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _)

end Cert.Experts.Gen

end
-- ==== Proof.WordsRuns.lean ====
/- The expert call at words: the host code around it, the table it prefetches, its windows' blocks and its conditions. -/
module

public import proofs.«01_k».proof.Proof.Gen.Experts.Launch
public import proofs.«01_k».proof.Proof.Gen.Experts.Skeleton
public import proofs.«01_k».proof.Proof.WordsPoints
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Experts.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`). -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v13, main_v14}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S64 .i32 := Memref.whole main_v10
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Experts`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePostR ((Pipeline.pin pcfgs fun _ => adm m hO) 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0 \ T0)).trans (V_main_arg0 m c),
      ((h c).2 main_arg1 (by decide : main_arg1 ∈ Pipeline.restRefs sig spec0 \ T0)).trans (V_main_arg1 m c),
      ((h c).2 main_arg2 (by decide : main_arg2 ∈ Pipeline.restRefs sig spec0 \ T0)).trans (V_main_arg2 m c),
      ((h c).2 main_arg3 (by decide : main_arg3 ∈ Pipeline.restRefs sig spec0 \ T0)).trans (V_main_arg3 m c),
      ((h c).2 main_arg4 (by decide : main_arg4 ∈ Pipeline.restRefs sig spec0 \ T0)).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 2) — by arithmetic of the point. -/
theorem hcond0_0 : ∀ t : Fin grid0.N, cond0_0 (grid0.coords t) ↔ t.val % 2 = 0 :=
  (fun t => by
    have ht : t.val < 64 := Nat.lt_of_lt_of_eq t.isLt N_0
    have e0 : (grid0.coords t 0).val = t.val / 2 % 32 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 2 = 0)

/-- The condition of the body's `scf.if` 1 (`k0_h2`), from the grid coordinates (the skeleton's scalar
    chain substituted). -/
abbrev cond0_1 (i : grid0.Coords) : Prop := k0_cond2 i = 1#1
/-- It holds at the points ≡ 0 (mod 2) — by arithmetic of the point. -/
theorem hcond0_1 : ∀ t : Fin grid0.N, cond0_1 (grid0.coords t) ↔ t.val % 2 = 0 :=
  (fun t => by
    have ht : t.val < 64 := Nat.lt_of_lt_of_eq t.isLt N_0
    have e0 : (grid0.coords t 0).val = t.val / 2 % 32 := Pipeline.Grid.coords_val t 0 (by decide) rfl
    have e1 : (grid0.coords t 1).val = t.val / 1 % 2 := Pipeline.Grid.coords_val t 1 (by decide) rfl
    simp only [cond0_1, k0_cond2, e0, e1]
    word_cmp
   : ∀ t : Fin grid0.N, cond0_1 (grid0.coords t) ↔ t.val % 2 = 0)

/-- The condition of the body's `scf.if` 2 (`k0_h3`), from the grid coordinates (the skeleton's scalar
    chain substituted). -/
abbrev cond0_2 (i : grid0.Coords) : Prop := k0_cond3 i = 1#1
/-- It holds at the points ≡ 1 (mod 2) — by arithmetic of the point. -/
theorem hcond0_2 : ∀ t : Fin grid0.N, cond0_2 (grid0.coords t) ↔ t.val % 2 = 1 :=
  (fun t => by
    have ht : t.val < 64 := Nat.lt_of_lt_of_eq t.isLt N_0
    have e0 : (grid0.coords t 0).val = t.val / 2 % 32 := Pipeline.Grid.coords_val t 0 (by decide) rfl
    have e1 : (grid0.coords t 1).val = t.val / 1 % 2 := Pipeline.Grid.coords_val t 1 (by decide) rfl
    simp only [cond0_2, k0_cond3, e0, e1]
    word_cmp
   : ∀ t : Fin grid0.N, cond0_2 (grid0.coords t) ↔ t.val % 2 = 1)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .smem S64 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x64x1296 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S8x128x576 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S8x64x1152 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1226 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x64x1156 .f32 := spec0_5.stage ((cfgM m hO).slots t 5)
abbrev hs0_5 (hO : Ok m) (t : Fin (cfgM m hO).N) : (ms0_5 m hO t).IsWhole := hstage0_5 (((cfgM m hO).slots t 5).cast nbuf0_5)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S64) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S64) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S64) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S576x1226 .bf16 := Memref.whole cc0_scratch0
abbrev scM0_1 : Memref sig .tc .vmem S128x1226 .bf16 := Memref.whole cc0_scratch1
abbrev scM0_2 : Memref sig .tc .vmem S1152x1156 .bf16 := Memref.whole cc0_scratch2
/-- The scratch `arg9` the kernel carries between points, as a view: what it holds is stated through it. -/
abbrev VS0_0 : View sig .tc .vmem S576x1226 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Experts.Gen

end
-- ==== Proof.WordsRunA.lean ====
/- The body at an image's first slot, at words. -/
module

public import proofs.«01_k».proof.Proof.WordsRuns

@[expose] public section

set_option maxRecDepth 16384

noncomputable section

namespace Cert.Experts.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE A (`scf.if` 0 taken, `scf.if` 1 taken, `scf.if` 2 not taken: points 0, 2, … 62: 32 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5) at anything, handed back at some contents nothing names. -/
noncomputable def kernelRun0_A (c : Dev nD) (i : grid0.Coords) (arg3 : Memref sig .tc .smem S64 .f32) (harg3 : arg3.IsWhole) (arg4 : Memref sig .tc .vmem S1x64x1296 .bf16) (harg4 : arg4.IsWhole) (arg5 : Memref sig .tc .vmem S8x128x576 .bf16) (harg5 : arg5.IsWhole) (arg6 : Memref sig .tc .vmem S8x64x1152 .bf16) (harg6 : arg6.IsWhole) (arg7 : Memref sig .tc .vmem S1x1226 .f32) (harg7 : arg7.IsWhole) (arg8 : Memref sig .tc .vmem S1x64x1156 .f32) (harg8 : arg8.IsWhole) (arg9 : Memref sig .tc .vmem S576x1226 .bf16) (harg9 : arg9.IsWhole) (arg10 : Memref sig .tc .vmem S128x1226 .bf16) (harg10 : arg10.IsWhole) (arg11 : Memref sig .tc .vmem S1152x1156 .bf16) (harg11 : arg11.IsWhole) (hc0 : cond0_0 i) (hc1 : cond0_1 i) (hc2 : ¬cond0_2 i)
    (x0 : Vec F S64 .f32) (x1 : Vec F S1x64x1296 .bf16) (x2 : Vec F S8x128x576 .bf16) (x3 : Vec F S8x64x1152 .bf16) (x4 : Vec F S1x1226 .f32) (xt0 : TbBuf0 (F := F) c tbM0_0) (k0_hw1 : k0_chk1 (tbM0_0.view.readAt (Elt F) (Rect.unit (s := S64) (k0_off1 i) S1.size (k0_off1_inb i)).toLoadRect xt0 (Shape.Idx.first (numel1_S1.symm ▸ Nat.one_pos)))) :
    { LS0 : List (View.Piece (Elt F) S576x1226 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ f, arg9.view.loc (c : Thread nD τ) ↦[arg9.view.set]{fullShare} arg9.view.writes (Elt F) f LS0) ∗ (∃ d, owns (c : Thread nD τ) arg10 fullShare d) ∗ (∃ d, owns (c : Thread nD τ) arg11 fullShare d) ∗ tbPt0 c tbM0_0 xt0) -∗ K ⟨⟩))
          ⊢ wp frame (wpE (defs₀ (F := F)) Variants.none c none) E (cc0__expert_kernel i tbM0_0 htbM0_0 arg3 harg3 arg4 harg4 arg5 harg5 arg6 harg6 arg7 harg7 arg8 harg8 arg9 harg9 arg10 harg10 arg11 harg11) K } := by
  refine ⟨?_, fun E K => ?run⟩
  case run =>
    simp only [cc0__expert_kernel_eq_skeleton]; unfold cc0__expert_kernel_skel
    simp only [k0_part2_eq_skeleton, k0_part1_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, HT0, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    iexact HT0

end Cert.Experts.Gen

end
-- ==== Proof.WordsRunB.lean ====
/- The body at an image's second slot, at words. -/
module

public import proofs.«01_k».proof.Proof.WordsRunA

@[expose] public section

set_option maxRecDepth 16384

noncomputable section

namespace Cert.Experts.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE B (`scf.if` 0 not taken, `scf.if` 1 not taken, `scf.if` 2 taken: points 1, 3, … 63: 32 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5) at anything, handed back at some contents nothing names. -/
noncomputable def kernelRun0_B (c : Dev nD) (i : grid0.Coords) (arg3 : Memref sig .tc .smem S64 .f32) (harg3 : arg3.IsWhole) (arg4 : Memref sig .tc .vmem S1x64x1296 .bf16) (harg4 : arg4.IsWhole) (arg5 : Memref sig .tc .vmem S8x128x576 .bf16) (harg5 : arg5.IsWhole) (arg6 : Memref sig .tc .vmem S8x64x1152 .bf16) (harg6 : arg6.IsWhole) (arg7 : Memref sig .tc .vmem S1x1226 .f32) (harg7 : arg7.IsWhole) (arg8 : Memref sig .tc .vmem S1x64x1156 .f32) (harg8 : arg8.IsWhole) (arg9 : Memref sig .tc .vmem S576x1226 .bf16) (harg9 : arg9.IsWhole) (arg10 : Memref sig .tc .vmem S128x1226 .bf16) (harg10 : arg10.IsWhole) (arg11 : Memref sig .tc .vmem S1152x1156 .bf16) (harg11 : arg11.IsWhole) (hc0 : ¬cond0_0 i) (hc1 : ¬cond0_1 i) (hc2 : cond0_2 i)
    (x0 : Vec F S64 .f32) (x1 : Vec F S1x64x1296 .bf16) (x2 : Vec F S8x128x576 .bf16) (x3 : Vec F S8x64x1152 .bf16) (x4 : Vec F S1x1226 .f32) (xt0 : TbBuf0 (F := F) c tbM0_0) (xs0 : Vec F S576x1226 .bf16) (k0_hw1 : k0_chk1 (tbM0_0.view.readAt (Elt F) (Rect.unit (s := S64) (k0_off1 i) S1.size (k0_off1_inb i)).toLoadRect xt0 (Shape.Idx.first (numel1_S1.symm ▸ Nat.one_pos)))) :
    { LS0 : List (View.Piece (Elt F) S576x1226 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ tbPt0 c tbM0_0 xt0) -∗ K ⟨⟩))
          ⊢ wp frame (wpE (defs₀ (F := F)) Variants.none c none) E (cc0__expert_kernel i tbM0_0 htbM0_0 arg3 harg3 arg4 harg4 arg5 harg5 arg6 harg6 arg7 harg7 arg8 harg8 arg9 harg9 arg10 harg10 arg11 harg11) K } := by
  refine ⟨[], fun E K => ?run⟩
  case run =>
    simp only [cc0__expert_kernel_eq_skeleton]; unfold cc0__expert_kernel_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%ds2, %fs2, -, HS2⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | sl_exact hc0 | sl_exact hc1 | sl_exact hc2 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]
    · iexists _; isplitr; · ipureintro; exact harg9.read_unread _
      iexact HS0
    isplitl [HS1]
    · iexists _, _; isplitr; swap; · iexact HS1
      ipureintro; rfl
    isplitl [HS2]
    · iexists _, _; isplitr; swap; · iexact HS2
      ipureintro; rfl
    iexact HT0

end Cert.Experts.Gen

end
-- ==== Proof.WordsFrame.lean ====
/- The frame of the expert call at any float values, nothing said of what it leaves in its result. -/
module

public import proofs.«01_k».proof.Proof.WordsRunB
public import Idealize.ShloMosaic.Lib.Claim

@[expose] public section

set_option maxRecDepth 16384

noncomputable section

namespace Cert.Experts.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg9`, which the kernel carries between points, cover it: 9 pieces of `S64x1226` tiling it (Lib/Ring.lean `Piece.tiledL`). -/
theorem scover0_A_0 (c : Dev nD) (i : grid0.Coords) (arg3 : Memref sig .tc .smem S64 .f32) (harg3 : arg3.IsWhole) (arg4 : Memref sig .tc .vmem S1x64x1296 .bf16) (harg4 : arg4.IsWhole) (arg5 : Memref sig .tc .vmem S8x128x576 .bf16) (harg5 : arg5.IsWhole) (arg6 : Memref sig .tc .vmem S8x64x1152 .bf16) (harg6 : arg6.IsWhole) (arg7 : Memref sig .tc .vmem S1x1226 .f32) (harg7 : arg7.IsWhole) (arg8 : Memref sig .tc .vmem S1x64x1156 .f32) (harg8 : arg8.IsWhole) (arg9 : Memref sig .tc .vmem S576x1226 .bf16) (harg9 : arg9.IsWhole) (arg10 : Memref sig .tc .vmem S128x1226 .bf16) (harg10 : arg10.IsWhole) (arg11 : Memref sig .tc .vmem S1152x1156 .bf16) (harg11 : arg11.IsWhole) (hc0 : cond0_0 i) (hc1 : cond0_1 i) (hc2 : ¬cond0_2 i)
    (x0 : Vec F S64 .f32) (x1 : Vec F S1x64x1296 .bf16) (x2 : Vec F S8x128x576 .bf16) (x3 : Vec F S8x64x1152 .bf16) (x4 : Vec F S1x1226 .f32) (xt0 : TbBuf0 (F := F) c tbM0_0) (k0_hw1 : k0_chk1 (tbM0_0.view.readAt (Elt F) (Rect.unit (s := S64) (k0_off1 i) S1.size (k0_off1_inb i)).toLoadRect xt0 (Shape.Idx.first (numel1_S1.symm ▸ Nat.one_pos)))) (y : S576x1226.Idx) :
    ∃ pc ∈ (kernelRun0_A c i arg3 harg3 arg4 harg4 arg5 harg5 arg6 harg6 arg7 harg7 arg8 harg8 arg9 harg9 arg10 harg10 arg11 harg11 hc0 hc1 hc2 x0 x1 x2 x3 x4 xt0 k0_hw1).1, y ∈ pc.1.set :=
  View.cover_of_tiledL (kernelRun0_A c i arg3 harg3 arg4 harg4 arg5 harg5 arg6 harg6 arg7 harg7 arg8 harg8 arg9 harg9 arg10 harg10 arg11 harg11 hc0 hc1 hc2 x0 x1 x2 x3 x4 xt0 k0_hw1).1 S64x1226.size (by sl_kernel_rfl) y

/-- What case A leaves in scratch `arg9`: its pieces read back over junk. -/
def sout0_A_0 (c : Dev nD) (i : grid0.Coords) (arg3 : Memref sig .tc .smem S64 .f32) (harg3 : arg3.IsWhole) (arg4 : Memref sig .tc .vmem S1x64x1296 .bf16) (harg4 : arg4.IsWhole) (arg5 : Memref sig .tc .vmem S8x128x576 .bf16) (harg5 : arg5.IsWhole) (arg6 : Memref sig .tc .vmem S8x64x1152 .bf16) (harg6 : arg6.IsWhole) (arg7 : Memref sig .tc .vmem S1x1226 .f32) (harg7 : arg7.IsWhole) (arg8 : Memref sig .tc .vmem S1x64x1156 .f32) (harg8 : arg8.IsWhole) (arg9 : Memref sig .tc .vmem S576x1226 .bf16) (harg9 : arg9.IsWhole) (arg10 : Memref sig .tc .vmem S128x1226 .bf16) (harg10 : arg10.IsWhole) (arg11 : Memref sig .tc .vmem S1152x1156 .bf16) (harg11 : arg11.IsWhole) (hc0 : cond0_0 i) (hc1 : cond0_1 i) (hc2 : ¬cond0_2 i)
    (x0 : Vec F S64 .f32) (x1 : Vec F S1x64x1296 .bf16) (x2 : Vec F S8x128x576 .bf16) (x3 : Vec F S8x64x1152 .bf16) (x4 : Vec F S1x1226 .f32) (xt0 : TbBuf0 (F := F) c tbM0_0) (k0_hw1 : k0_chk1 (tbM0_0.view.readAt (Elt F) (Rect.unit (s := S64) (k0_off1 i) S1.size (k0_off1_inb i)).toLoadRect xt0 (Shape.Idx.first (numel1_S1.symm ▸ Nat.one_pos)))) : Vec F S576x1226 .bf16 :=
  VS0_0.read (Elt F) (VS0_0.writes (Elt F) VS0_0.junk (kernelRun0_A c i arg3 harg3 arg4 harg4 arg5 harg5 arg6 harg6 arg7 harg7 arg8 harg8 arg9 harg9 arg10 harg10 arg11 harg11 hc0 hc1 hc2 x0 x1 x2 x3 x4 xt0 k0_hw1).1)

/-- Case B stores nothing into scratch `arg9`: it holds what the point before left. -/
def sout0_B_0 (c : Dev nD) (i : grid0.Coords) (arg3 : Memref sig .tc .smem S64 .f32) (harg3 : arg3.IsWhole) (arg4 : Memref sig .tc .vmem S1x64x1296 .bf16) (harg4 : arg4.IsWhole) (arg5 : Memref sig .tc .vmem S8x128x576 .bf16) (harg5 : arg5.IsWhole) (arg6 : Memref sig .tc .vmem S8x64x1152 .bf16) (harg6 : arg6.IsWhole) (arg7 : Memref sig .tc .vmem S1x1226 .f32) (harg7 : arg7.IsWhole) (arg8 : Memref sig .tc .vmem S1x64x1156 .f32) (harg8 : arg8.IsWhole) (arg9 : Memref sig .tc .vmem S576x1226 .bf16) (harg9 : arg9.IsWhole) (arg10 : Memref sig .tc .vmem S128x1226 .bf16) (harg10 : arg10.IsWhole) (arg11 : Memref sig .tc .vmem S1152x1156 .bf16) (harg11 : arg11.IsWhole) (hc0 : ¬cond0_0 i) (hc1 : ¬cond0_1 i) (hc2 : cond0_2 i)
    (x0 : Vec F S64 .f32) (x1 : Vec F S1x64x1296 .bf16) (x2 : Vec F S8x128x576 .bf16) (x3 : Vec F S8x64x1152 .bf16) (x4 : Vec F S1x1226 .f32) (xt0 : TbBuf0 (F := F) c tbM0_0) (xs0 : Vec F S576x1226 .bf16) (k0_hw1 : k0_chk1 (tbM0_0.view.readAt (Elt F) (Rect.unit (s := S64) (k0_off1 i) S1.size (k0_off1_inb i)).toLoadRect xt0 (Shape.Idx.first (numel1_S1.symm ▸ Nat.one_pos)))) : Vec F S576x1226 .bf16 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (hO : Ok m) (hH : Hyps m hO) (c : Dev nD) : (n : ℕ) → n < (cfgM m hO).N → Vec F S576x1226 .bf16
  | 0, hn => sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (tbl m 0) (Hyps.c0 hH c ⟨0, hn⟩)
  | n + 1, hn =>
    if h0 : (n + 1) % 2 = 0 then
      if h1 : (n + 1) % 2 = 0 then
        if h2 : (n + 1) % 2 = 1 then
          False.elim (by have hN : n + 1 < 64 := lt_of_lt_of_eq hn (show (cfgM m hO).N = 64 from N_0); omega)
        else
          sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (Hyps.c0 hH c ⟨n + 1, hn⟩)
      else
        False.elim (by have hN : n + 1 < 64 := lt_of_lt_of_eq hn (show (cfgM m hO).N = 64 from N_0); omega)
    else
      if h1 : (n + 1) % 2 = 0 then
        False.elim (by have hN : n + 1 < 64 := lt_of_lt_of_eq hn (show (cfgM m hO).N = 64 from N_0); omega)
      else
        if h2 : (n + 1) % 2 = 1 then
          sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (outsAt0 hO hH c n (Nat.lt_of_succ_lt hn)) (Hyps.c0 hH c ⟨n + 1, hn⟩)
        else
          False.elim (by have hN : n + 1 < 64 := lt_of_lt_of_eq hn (show (cfgM m hO).N = 64 from N_0); omega)

/-- `outsAt0` at a point of case A: that case's contents. -/
theorem outsAt0_A (hO : Ok m) (hH : Hyps m hO) (c : Dev nD) (t : Fin (cfgM m hO).N) (h0 : t.val % 2 = 0) (h1 : t.val % 2 = 0) (h2 : ¬t.val % 2 = 1) :
    outsAt0 m hO hH c t.val t.isLt = sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m hO c 0 t) (iblk m hO c 1 t) (iblk m hO c 2 t) (iblk m hO c 3 t) (iblk m hO c 4 t) (tbl m 0) (Hyps.c0 hH c t) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (hO : Ok m) (hH : Hyps m hO) (c : Dev nD) (t : Fin (cfgM m hO).N) (h0 : ¬t.val % 2 = 0) (h1 : ¬t.val % 2 = 0) (h2 : t.val % 2 = 1) :
    outsAt0 m hO hH c t.val t.isLt = sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m hO c 0 t) (iblk m hO c 1 t) (iblk m hO c 2 t) (iblk m hO c 3 t) (iblk m hO c 4 t) (tbl m 0) (outsAt0 m hO hH c (t.val - 1) (Nat.lt_of_le_of_lt (Nat.sub_le _ _) t.isLt)) (Hyps.c0 hH c t) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (hH : Hyps m hO) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO hH c n hn)) ∗ (∃ d, owns (c : Thread nD τ) scM0_1 fullShare d) ∗ (∃ d, owns (c : Thread nD τ) scM0_2 fullShare d)) ∗ (∃ r, prngReg c r)) ∗ Pipeline.ΦT pre0 (tbl m) c)

theorem PhiS_zero (hO : Ok m) (hH : Hyps m hO) (c : Dev nD) (n : ℕ) (h : n ≤ (cfgM m hO).N) (hz : n = 0) : PhiS m hO hH c n h = iprop(Pipeline.ΦA spec0 c ∗ Pipeline.ΦT pre0 (tbl m) c) := by
  subst hz; rfl

/-- After point `n` (before point `n + 1`): the carried scratch at that point's contents. -/
theorem PhiS_succ (hO : Ok m) (hH : Hyps m hO) (c : Dev nD) (n : ℕ) (hn : n < (cfgM m hO).N) :
    PhiS m hO hH c (n + 1) hn = iprop(iprop(iprop(owns (c : Thread nD τ) scM0_0 fullShare ((outsAt0 m hO hH c n hn)) ∗ (∃ d, owns (c : Thread nD τ) scM0_1 fullShare d) ∗ (∃ d, owns (c : Thread nD τ) scM0_2 fullShare d)) ∗ (∃ r, prngReg c r)) ∗ Pipeline.ΦT pre0 (tbl m) c) := rfl

/-- Before a point that is not the first: the carried scratch at what the point before left. -/
theorem PhiS_pos (hO : Ok m) (hH : Hyps m hO) (c : Dev nD) (n : ℕ) (h : n ≤ (cfgM m hO).N) (hz : n ≠ 0) :
    PhiS m hO hH c n h = iprop(iprop(iprop(owns (c : Thread nD τ) scM0_0 fullShare ((outsAt0 m hO hH c (n - 1) (by omega))) ∗ (∃ d, owns (c : Thread nD τ) scM0_1 fullShare d) ∗ (∃ d, owns (c : Thread nD τ) scM0_2 fullShare d)) ∗ (∃ r, prngReg c r)) ∗ Pipeline.ΦT pre0 (tbl m) c) := by
  cases n with
  | zero => exact absurd rfl hz
  | succ n => rfl

/-! ## The pipeline's proof data -/

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => Pipeline.Dat.unnamed (cfg := (cfgM m hO)) ⟨5, h⟩ t
  Φ t := PhiS m hO hH c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- The invariant at a point's start (the proof data at `t.castSucc`), restated at `t.val`. -/
theorem PhiS_castSucc (hO : Ok m) (hH : Hyps m hO) (c : Dev nD) (t : Fin (cfgM m hO).N) :
    (dats m hO hH 0 c).Φ t.castSucc = PhiS m hO hH c t.val (Nat.le_of_lt t.isLt) := by
  dsimp only [dats]; exact Pipeline.Dat.Φ_castSucc (PhiS m hO hH c) t

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ (dats m hO hH 0 c).leavesExact 0 t
    ∗ (dats m hO hH 0 c).leavesExact 1 t
    ∗ (dats m hO hH 0 c).leavesExact 2 t
    ∗ (dats m hO hH 0 c).leavesExact 3 t
    ∗ (dats m hO hH 0 c).leavesExact 4 t
    ∗ (∃ d, owns (c : Thread nD τ) (ms0_5 m hO t) fullShare d))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4]
  rw [show (dats m hO hH 0 c).owesAt () t.succ = (dats m hO hH 0 c).owesAt () t.castSucc from rfl]
  rw [show (dats m hO hH 0 c).Φ t.succ = PhiS m hO hH c (t.val + 1) t.isLt from rfl, PhiS_succ, PhiT0_eq]
  have hN : t.val < 64 := lt_of_lt_of_eq t.isLt (show (cfgM m hO).N = 64 from N_0)
  by_cases h0 : t.val % 2 = 0
  · by_cases h1 : t.val % 2 = 0
    · by_cases h2 : t.val % 2 = 1
      · exfalso; omega
      · rw [show (dats m hO hH 0 c).leavesExact 0 t = owns (c : Thread nD τ) (ms0_0 m hO t) fullShare ((dats m hO hH 0 c).after 0 t) from by
      unfold Dat.leavesExact; rw [liveAt0_0 m hO t]; try rfl, after0_0]
        rw [show (dats m hO hH 0 c).leavesExact 1 t = owns (c : Thread nD τ) (ms0_1 m hO t) fullShare ((dats m hO hH 0 c).after 1 t) from by
      unfold Dat.leavesExact; rw [liveAt0_1 m hO t]; try rfl, after0_1]
        rw [show (dats m hO hH 0 c).leavesExact 2 t = owns (c : Thread nD τ) (ms0_2 m hO t) fullShare ((dats m hO hH 0 c).after 2 t) from by
      unfold Dat.leavesExact; rw [liveAt0_2 m hO t]; try rfl, after0_2]
        rw [show (dats m hO hH 0 c).leavesExact 3 t = owns (c : Thread nD τ) (ms0_3 m hO t) fullShare ((dats m hO hH 0 c).after 3 t) from by
      unfold Dat.leavesExact; rw [liveAt0_3 m hO t]; try rfl, after0_3]
        rw [show (dats m hO hH 0 c).leavesExact 4 t = owns (c : Thread nD τ) (ms0_4 m hO t) fullShare ((dats m hO hH 0 c).after 4 t) from by
      unfold Dat.leavesExact; rw [liveAt0_4 m hO t]; try rfl, after0_4]
        by_cases hz : t.val = 0
        · rw [PhiS_castSucc m hO hH c t, PhiS_zero m hO hH c _ _ hz, PhiT0_eq, PhiA0_eq]
          rw [outsAt0_A m hO hH c t h0 h1 h2]
          unfold sout0_A_0
          iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩⟩
          iapply ((kernelRun0_A c (grid0.coords t) _ _ _ _ _ _ _ _ _ _ _ _ _ _ _ _ _ _ ((hcond0_0 t).mpr h0) ((hcond0_1 t).mpr h1) (fun h => h2 ((hcond0_2 t).mp h)) (iblk m hO c 0 t) (iblk m hO c 1 t) (iblk m hO c 2 t) (iblk m hO c 3 t) (iblk m hO c 4 t) (tbl m 0) (Hyps.c0 hH c t)).2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          isplitl [HT0]; · iexact HT0
          iintro ⟨H0, H1, H2, H3, H4, H5, ⟨%es0, HS0⟩, HS1, HS2, HT0⟩
          isplitl [HS0 HS1 HS2 Hg HT0]
          · isplitl [HS0 HS1 HS2 Hg]
            · isplitl [HS0 HS1 HS2]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _)
                isplitl [HS1]
                · iexact HS1
                iexact HS2
              iexact Hg
            iexact HT0
          isplitl [Ho]; · iexact Ho
          isplitl [H0]; · iexact H0
          isplitl [H1]; · iexact H1
          isplitl [H2]; · iexact H2
          isplitl [H3]; · iexact H3
          isplitl [H4]; · iexact H4
          iexact H5
        · rw [PhiS_castSucc m hO hH c t, PhiS_pos m hO hH c _ _ hz, PhiT0_eq]
          rw [outsAt0_A m hO hH c t h0 h1 h2]
          unfold sout0_A_0
          iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩⟩
          iapply ((kernelRun0_A c (grid0.coords t) _ _ _ _ _ _ _ _ _ _ _ _ _ _ _ _ _ _ ((hcond0_0 t).mpr h0) ((hcond0_1 t).mpr h1) (fun h => h2 ((hcond0_2 t).mp h)) (iblk m hO c 0 t) (iblk m hO c 1 t) (iblk m hO c 2 t) (iblk m hO c 3 t) (iblk m hO c 4 t) (tbl m 0) (Hyps.c0 hH c t)).2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexists _; iexact HS0
          isplitl [HS1]; · iexact HS1
          isplitl [HS2]; · iexact HS2
          isplitl [HT0]; · iexact HT0
          iintro ⟨H0, H1, H2, H3, H4, H5, ⟨%es0, HS0⟩, HS1, HS2, HT0⟩
          isplitl [HS0 HS1 HS2 Hg HT0]
          · isplitl [HS0 HS1 HS2 Hg]
            · isplitl [HS0 HS1 HS2]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _)
                isplitl [HS1]
                · iexact HS1
                iexact HS2
              iexact Hg
            iexact HT0
          isplitl [Ho]; · iexact Ho
          isplitl [H0]; · iexact H0
          isplitl [H1]; · iexact H1
          isplitl [H2]; · iexact H2
          isplitl [H3]; · iexact H3
          isplitl [H4]; · iexact H4
          iexact H5
    · exfalso; omega
  · by_cases h1 : t.val % 2 = 0
    · exfalso; omega
    · by_cases h2 : t.val % 2 = 1
      · rw [show (dats m hO hH 0 c).leavesExact 0 t = owns (c : Thread nD τ) (ms0_0 m hO t) fullShare ((dats m hO hH 0 c).after 0 t) from by
      unfold Dat.leavesExact; rw [liveAt0_0 m hO t]; try rfl, after0_0]
        rw [show (dats m hO hH 0 c).leavesExact 1 t = owns (c : Thread nD τ) (ms0_1 m hO t) fullShare ((dats m hO hH 0 c).after 1 t) from by
      unfold Dat.leavesExact; rw [liveAt0_1 m hO t]; try rfl, after0_1]
        rw [show (dats m hO hH 0 c).leavesExact 2 t = owns (c : Thread nD τ) (ms0_2 m hO t) fullShare ((dats m hO hH 0 c).after 2 t) from by
      unfold Dat.leavesExact; rw [liveAt0_2 m hO t]; try rfl, after0_2]
        rw [show (dats m hO hH 0 c).leavesExact 3 t = owns (c : Thread nD τ) (ms0_3 m hO t) fullShare ((dats m hO hH 0 c).after 3 t) from by
      unfold Dat.leavesExact; rw [liveAt0_3 m hO t]; try rfl, after0_3]
        rw [show (dats m hO hH 0 c).leavesExact 4 t = owns (c : Thread nD τ) (ms0_4 m hO t) fullShare ((dats m hO hH 0 c).after 4 t) from by
      unfold Dat.leavesExact; rw [liveAt0_4 m hO t]; try rfl, after0_4]
        by_cases hz : t.val = 0
        · exfalso; have hN : t.val < 64 := lt_of_lt_of_eq t.isLt (show (cfgM m hO).N = 64 from N_0); omega
        · rw [PhiS_castSucc m hO hH c t, PhiS_pos m hO hH c _ _ hz, PhiT0_eq]
          rw [outsAt0_B m hO hH c t h0 h1 h2]
          unfold sout0_B_0
          iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩⟩
          iapply ((kernelRun0_B c (grid0.coords t) _ _ _ _ _ _ _ _ _ _ _ _ _ _ _ _ _ _ (fun h => h0 ((hcond0_0 t).mp h)) (fun h => h1 ((hcond0_1 t).mp h)) ((hcond0_2 t).mpr h2) (iblk m hO c 0 t) (iblk m hO c 1 t) (iblk m hO c 2 t) (iblk m hO c 3 t) (iblk m hO c 4 t) (tbl m 0) _ (Hyps.c0 hH c t)).2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          isplitl [HT0]; · iexact HT0
          iintro ⟨H0, H1, H2, H3, H4, H5, HS0, HS1, HS2, HT0⟩
          isplitl [HS0 HS1 HS2 Hg HT0]
          · isplitl [HS0 HS1 HS2 Hg]
            · isplitl [HS0 HS1 HS2]
              · isplitl [HS0]
                · iexact HS0
                isplitl [HS1]
                · iexact HS1
                iexact HS2
              iexact Hg
            iexact HT0
          isplitl [Ho]; · iexact Ho
          isplitl [H0]; · iexact H0
          isplitl [H1]; · iexact H1
          isplitl [H2]; · iexact H2
          isplitl [H3]; · iexact H3
          isplitl [H4]; · iexact H4
          iexact H5
      · exfalso; omega

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-- What the launch hands the region (`ΦA`, the tables beside it) is the invariant before the first point. -/
theorem hin (hO : Ok m) (hH : Hyps m hO) (c : Dev nD) : iprop(Pipeline.ΦA spec0 c ∗ Pipeline.ΦT pre0 (tbl m) c) ⊢ (dats m hO hH 0 c).Φ 0 := by
  rw [show (dats m hO hH 0 c).Φ 0 = PhiS m hO hH c 0 (Nat.zero_le _) from rfl, PhiS_zero m hO hH c 0 _ rfl]
  try exact Idealize.SL.BI.Entails.refl _

/-- After any point but the first the invariant gives `ΦA` back: the carried scratch's named contents are forgotten (and the tables' halves dropped). -/
theorem Phi_out (hO : Ok m) (hH : Hyps m hO) (c : Dev nD) (t : Fin ((cfgM m hO).N + 1)) (ht : t.val ≠ 0) : (dats m hO hH 0 c).Φ t ⊢ Pipeline.ΦA spec0 c := by
  rw [show (dats m hO hH 0 c).Φ t = PhiS m hO hH c t.val (Nat.le_of_lt_succ t.isLt) from rfl, PhiS_pos m hO hH c _ _ ht, PhiA0_eq]
  iintro ⟨⟨⟨HS0, HS1, HS2⟩, Hg⟩, -⟩
  isplitl [HS0 HS1 HS2]
  · isplitl [HS0]
    · iexists _; iexact HS0
    isplitl [HS1]
    · iexact HS1
    iexact HS2
  iexact Hg

/-- The same after the last point. -/
theorem hout (hO : Ok m) (hH : Hyps m hO) (c : Dev nD) : (dats m hO hH 0 c).Φ (Fin.last (cfgM m hO).N) ⊢ Pipeline.ΦA spec0 c :=
  Phi_out m hO hH c _ (by rw [Fin.val_last]; have : (cfgM m hO).N = 64 := N_0; omega)

/-! ## The run and the frame -/

set_option backward.isDefEq.respectTransparency.types false in
set_option maxHeartbeats 800000 in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePostR ((Pipeline.pin pcfgs fun _ => adm m hO) 0) (fun c => (dats m hO hH 0 c).toRForget forgets0) T0 (V m)) r ∧ r.2.sem = fun _ => 0) :=
  Pipeline.θ_run_frameP_around_T_track_forget (Q' := _) pcfgs (fun _ => adm m hO) (dats m hO hH) (0 : Fin 1) launch0 defs₀ Variants.none forgets0 T0 m ρ main
    (hbody := fun c => (body_obligation m hO hH c).loose) (hshare := fun c => (dats m hO hH 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m hO hH) (hpf := V_pre m) (hin := hin m hO hH) (hout := hout m hO hH)

/-- At the compiled mesh, for any values, from any memory with zero counters: every weakly fair execution of @main on the
    TensorCores terminates, and every final state has every INPUT array of the pipeline unchanged, nothing stated of the
    FORGOTTEN outputs (window 5) (Lib/Pipeline/Frame.lean `RDat.FramePostR` over the proof data with those windows
    forgotten, Dat.lean `Dat.toRForget`), and every other unscoped buffer outside `T0` at its region-entry contents. -/
theorem run_main (hO : Ok m) (hH : Hyps m hO) : θ_run defs (onTc (τ := τ) (main (F := F))) (s₀ m ρ) (Pipeline.RDat.FramePostR ((Pipeline.pin pcfgs fun _ => adm m hO) 0) (fun c => (dats m hO hH 0 c).toRForget forgets0) T0 (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (fun c => (dats m hO hH 0 c).toRForget forgets0) (A_eq m hO hH) (run_main m ρ hO hH)

/-- THE FRAME: `Cert.quiescent_Experts`'s statement (Defs.lean) at any `F` — Proof.lean cites it at `Bits`:
    `theorem Cert.Proof.claim : Cert.Claim := ⟨Cert.Experts.Gen.facts, fun m ρ _ => Cert.Experts.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.Experts.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO hH) ((θ_run defs _ _).mono (fun _ h => h.2) (run_main_quiescent m ρ hO hH))

end Cert.Experts.Gen

end
-- ==== Proof.ExpBits.lean ====
/- The expert call on words: under the precondition the expert the body reads exists. -/
module

public import proofs.«01_k».proof.Defs
public import proofs.«01_k».proof.Proof.WordsFrame
public import proofs.«01_k».proof.Proof.ExpPre
public import Idealize.ShloMosaic.Lib.StableHlo.Run

@[expose] public section

set_option maxRecDepth 16384

namespace Cert.ExpertsBits

open Idealize.ShloMosaic Idealize.ShloMosaic.TcCoe
open Cert.Experts Cert.Experts.Gen

variable (m : (ℓ : Loc nD τ sig) → Buf (Elt Bits) ℓ)

theorem ok : Ok m := trivial

/-- The prefetched table holds the argument's words in row-major order. -/
theorem table (c : Dev nD) : (V m c main_v10 : Vec Bits S64 .i32) = shapeCast S64 (m ((c : Thread nD τ).loc main_arg0) : Vec Bits S32x2 .i32) shapeCasts_S32x2_S64 := by
  unfold V V0
  simp only [hostOps0, hostOps0_1, hostOps0_2, hostOps0_3, hostOps0_4, List.flatten_cons, List.flatten_nil, List.append_nil, List.cons_append, List.nil_append]
  after_results_simp
  rfl

theorem hyps_of_pre (h : Cert.Pre_Experts m) : Hyps m (ok m) := by
  refine Hyps.of fun c t => ?_
  have e : (tbl m 0 : Vec Bits S64 .i32) = _ := table m 0
  have hb : ∀ i : S64.Idx, ((tbl m 0 : Vec Bits S64 .i32) i).toNat < 8 := fun i => by
    rw [e]
    exact (Cert.ExpertsPre.of_pre _ _ _ _ _ (h 0)).1 _
  have hw := hb ((Rect.unit (s := S64) (k0_off1 (grid0.coords t)) S1.size (k0_off1_inb (grid0.coords t))).toLoadRect.idx (Shape.Idx.first (numel1_S1.symm ▸ Nat.one_pos)))
  show k0_chk1 ((tbl m 0 : Vec Bits S64 .i32) ((Rect.unit (s := S64) (k0_off1 (grid0.coords t)) S1.size (k0_off1_inb (grid0.coords t))).toLoadRect.idx (Shape.Idx.first (numel1_S1.symm ▸ Nat.one_pos))))
  generalize (tbl m 0 : Vec Bits S64 .i32) ((Rect.unit (s := S64) (k0_off1 (grid0.coords t)) S1.size (k0_off1_inb (grid0.coords t))).toLoadRect.idx (Shape.Idx.first (numel1_S1.symm ▸ Nat.one_pos))) = w at hw
  refine ⟨fun (a : Fin 3) => ?_, fun (a : Fin 3) => ?_⟩
  · match a with
    | 0 => show w.toNat + 1 ≤ 8; omega
    | 1 => exact Nat.le_refl _
    | 2 => exact Nat.le_refl _
  · match a with
    | 0 => show w.toNat + 1 ≤ 8; omega
    | 1 => exact Nat.le_refl _
    | 2 => exact Nat.le_refl _

end Cert.ExpertsBits
-- ==== Proof.ExpMath.lean ====
/- The mathematics of one image and one expert: the 3 by 3 convolution of a plane padded by one row and column on each
   side, and the same convolution on the plane's rows laid end to end, one product over shifted copies. -/
module

public import Idealize.ShloMosaic.PureOps.Ideal.Laws
public import Idealize.ShloMosaic.Lib.IdealHost
public import Idealize.ShloMosaic.Lib.Pointwise.Sums

@[expose] public section

noncomputable section

namespace Cert.ExpertsMath

open Idealize.ShloMosaic

/-- Plane `c` with a border of zeros of width one, at row `i` and column `j` of 34 by 34. -/
def padded {C : ℕ} (X : Fin C → Fin 32 → Fin 32 → EReal) (c : Fin C) (i j : ℕ) : EReal :=
  if h : (1 ≤ i ∧ i - 1 < 32) ∧ 1 ≤ j ∧ j - 1 < 32 then X c ⟨i - 1, h.1.2⟩ ⟨j - 1, h.2.2⟩ else 0

/-- The convolution at row `i`, column `j`: tap `t` is row `t / 3`, column `t % 3` of the window. -/
def conv {C : ℕ} (X : Fin C → Fin 32 → Fin 32 → EReal) (w : Fin C → Fin 3 → Fin 3 → EReal) (i j : ℕ) : EReal :=
  ∑ t : Fin 9, ∑ c : Fin C, padded X c (t.val / 3 + i) (t.val % 3 + j) * w c ⟨t.val / 3, by omega⟩ ⟨t.val % 3, by omega⟩

/-- The exact gelu, as the reference writes it. -/
def gelu (x : EReal) : EReal := Ideal.ofBits .f32 0x3F000000#32 * x * Ideal.erfc (-x * Ideal.ofBits .f32 0x3F3504F3#32)

/-- The hidden planes of an expert. -/
def hidden (X : Fin 64 → Fin 32 → Fin 32 → EReal) (w : Fin 128 → Fin 64 → Fin 3 → Fin 3 → EReal) : Fin 128 → Fin 32 → Fin 32 → EReal :=
  fun o i j => gelu (conv X (w o) i j)

/-- The kernel's spelling of gelu: `1 + erf` for `erfc` of the negative. -/
theorem gelu_erf (x : EReal) : Ideal.ofBits .f32 0x3F000000#32 * x * (Ideal.ofBits .f32 0x3F800000#32 + Ideal.erf (x * Ideal.ofBits .f32 0x3F3504F3#32)) = gelu x := by
  unfold gelu
  rw [EReal.neg_mul, Ideal.erfc_neg, Ideal.ofBits_one_f32]

/-- The plane's rows laid end to end, 70 zeros before and after them. -/
def ext {C : ℕ} (X : Fin C → Fin 32 → Fin 32 → EReal) (c : Fin C) (q : ℕ) : EReal :=
  if 70 ≤ q ∧ q < 1226 then padded X c ((q - 70) / 34) ((q - 70) % 34) else 0

/-- The offset of tap `t`. -/
def off (t : ℕ) : ℕ := 34 * (t / 3) + t % 3

/-- A product over shifted copies of the laid out plane is the convolution, at every place inside the plane. -/
theorem shifted_eq_conv {C : ℕ} (X : Fin C → Fin 32 → Fin 32 → EReal) (w : Fin C → Fin 3 → Fin 3 → EReal) (f : Fin (9 * C) → EReal)
    (r s : ℕ) (hr : r < 32) (hs : s < 32)
    (hf : ∀ (t : Fin 9) (c : Fin C), f ⟨t.val * C + c.val, by have := t.isLt; have := c.isLt; nlinarith⟩
      = w c ⟨t.val / 3, by omega⟩ ⟨t.val % 3, by omega⟩ * ext X c (34 * (r + 1) + (s + 1) + 35 + off t)) :
    ∑ k, f k = conv X w r s := by
  rw [Fin.sum_univ_tiles 9 C rfl f]
  refine Finset.sum_congr rfl fun t _ => Finset.sum_congr rfl fun c _ => ?_
  have ht := t.isLt
  rw [hf, mul_comm]
  congr 1
  unfold ext off
  rw [if_pos (by omega)]
  congr 1 <;> omega

/-- What a second product over shifted copies of the hidden rows gives, at a place inside the plane. -/
theorem shifted_hidden (H : Fin 128 → Fin 32 → Fin 32 → EReal) (w : Fin 128 → Fin 3 → Fin 3 → EReal) (h : Fin 128 → ℕ → EReal) (f : Fin 1152 → EReal)
    (hh : ∀ c (i j : ℕ), i < 34 → j < 34 → h c (34 * i + j + 35) = padded H c i j)
    (r s : ℕ) (hr : r < 32) (hs : s < 32)
    (hf : ∀ (t : Fin 9) (c : Fin 128), f ⟨t.val * 128 + c.val, by omega⟩
      = w c ⟨t.val / 3, by omega⟩ ⟨t.val % 3, by omega⟩ * h c (34 * (r + 1) + (s + 1) + off t)) :
    ∑ k, f k = conv H w r s := by
  rw [Fin.sum_univ_tiles 9 128 rfl f]
  refine Finset.sum_congr rfl fun t _ => Finset.sum_congr rfl fun c _ => ?_
  have ht := t.isLt
  rw [hf, mul_comm]
  congr 1
  rw [← hh c _ _ (by omega) (by omega)]
  unfold off
  congr 1
  omega

end Cert.ExpertsMath
-- ==== Proof.ExpRead.lean ====
/- The expert call in plain formulas: the arrays the host prepares, a slot of an image, and the result at an index. -/
module

public import proofs.«01_k».proof.Proof.ExpOut
public import proofs.«01_k».proof.Proof.ExpMath
public import Idealize.ShloMosaic.Lib.Pointwise

@[expose] public section

set_option maxRecDepth 16384

namespace Cert.ExpertsIdeal.Run

open Idealize.ShloMosaic Idealize.ShloMosaic.TcCoe
open Cert.ExpertsIdeal.Gen
open Cert.ExpertsMath

variable (m : (ℓ : Loc nD τ sig) → Buf (Elt Ideal) ℓ)

theorem mask_eq : ∀ i : Fin 1226, lit0 i = if 35 ≤ i.val ∧ (1 ≤ (i.val - 35) / 34 ∧ (i.val - 35) / 34 - 1 < 32) ∧ 1 ≤ (i.val - 35) % 34 ∧ (i.val - 35) % 34 - 1 < 32 then 0x3F800000#32 else 0#32 := by
  decide +kernel

theorem hidAt_apply (e : BitVec 32) (x9 : Vec Ideal S576x1226 .bf16) (w1 : Vec Ideal S8x128x576 .bf16) (mk : Vec Ideal S1x1226 .f32) (o : Fin 128) (j : Fin 1226) :
    hidAt e x9 w1 mk (ix2 o j) = gelu (∑ k : Fin 576, w1 (ix3 ⟨e.toNat % 8, Nat.mod_lt _ (by decide)⟩ o k) * x9 (ix2 k j)) * mk (ix2 0 j) := by
  rw [← gelu_erf]
  pointwise [hidAt, k0_pay16, w1at]
  rfl

theorem pay4_apply (g : EReal) (e : BitVec 32) (w2 : Vec Ideal S8x64x1152 .bf16) (h9 : Vec Ideal S1152x1156 .bf16) (o : Fin 64) (p : Fin 1156) :
    (k0_pay4 (F := Ideal) g (w2at w2 e) h9 : Vec Ideal S1x64x1156 .f32) (ix3 0 o p) = (∑ k : Fin 1152, w2 (ix3 ⟨e.toNat % 8, Nat.mod_lt _ (by decide)⟩ o k) * h9 (ix2 k p)) * g := by
  pointwise [k0_pay4, k0_pay3, w2at]

theorem pay5_apply (g : EReal) (e : BitVec 32) (w2 : Vec Ideal S8x64x1152 .bf16) (h9 : Vec Ideal S1152x1156 .bf16) (y : Vec Ideal S1x64x1156 .f32) (o : Fin 64) (p : Fin 1156) :
    (k0_pay5 (F := Ideal) g (w2at w2 e) h9 y : Vec Ideal S1x64x1156 .f32) (ix3 0 o p) = y (ix3 0 o p) + (∑ k : Fin 1152, w2 (ix3 ⟨e.toNat % 8, Nat.mod_lt _ (by decide)⟩ o k) * h9 (ix2 k p)) * g := by
  pointwise [k0_pay5, k0_pay3, w2at]

theorem sitofp_zero : (FloatOps.sitofp FTy.f32 0#32 : Ideal .f32) = (0 : EReal) := by
  show (((0#32 : BitVec 32).toInt : ℝ) : EReal) = 0
  simp

theorem v11_apply (c : Dev nD) (n : Fin 64) : (V m c main_v11 : Vec Ideal S64 .f32) (ix1 n) = (m ((c : Thread nD τ).loc main_arg1) : Vec Ideal S32x2 .f32) (ix2 ⟨n.val / 2, by omega⟩ ⟨n.val % 2, by omega⟩) := by
  rw [V_main_v11]
  pointwise

theorem v6_apply (c : Dev nD) (e : Fin 8) (o : Fin 128) (k : Fin 576) : (V m c main_v6 : Vec Ideal S8x128x576 .bf16) (ix3 e o k)
    = (m ((c : Thread nD τ).loc main_arg3) : Vec Ideal S8x128x64x3x3 .f32) (ix5 e o ⟨k.val % 64, by omega⟩ ⟨k.val / 64 / 3, by omega⟩ ⟨k.val / 64 % 3, by omega⟩) := by
  rw [V_main_v6]
  generalize (m ((c : Thread nD τ).loc main_arg3) : Vec Ideal S8x128x64x3x3 .f32) = w
  pointwise
  refine congrArg w ?_
  congr 1
  exact Fin.ext (by show k.val / 192 = k.val / 64 / 3; omega)

theorem v9_apply (c : Dev nD) (e : Fin 8) (o : Fin 64) (k : Fin 1152) : (V m c main_v9 : Vec Ideal S8x64x1152 .bf16) (ix3 e o k)
    = (m ((c : Thread nD τ).loc main_arg4) : Vec Ideal S8x64x128x3x3 .f32) (ix5 e o ⟨k.val % 128, by omega⟩ ⟨k.val / 128 / 3, by omega⟩ ⟨k.val / 128 % 3, by omega⟩) := by
  rw [V_main_v9]
  generalize (m ((c : Thread nD τ).loc main_arg4) : Vec Ideal S8x64x128x3x3 .f32) = w
  pointwise
  refine congrArg w ?_
  congr 1
  exact Fin.ext (by show k.val / 384 = k.val / 128 / 3; omega)

theorem pad_apply (x : Vec Ideal S32x64x32x32 .f32) (b : Fin 32) (ch : Fin 64) (i j : Fin 34) :
    (pad S32x64x34x34 ![0, 0, 1, 1] ![0, 0, 1, 1] ![0, 0, 0, 0] x
          (sitofp .f32 (constantI S_ 32 0#32)) pads_S32x64x32x32_S32x64x34x34_000_000_110_110 h_S_ : FVec Ideal S32x64x34x34 .f32) (ix4 b ch i j)
    = padded (fun ch i j => x (ix4 b ch i j)) ch i j := by
  pointwise
  rw [sitofp_zero]
  rfl

theorem ext_apply (x : Vec Ideal S32x64x34x34 .f32) (b : Fin 32) (ch : Fin 64) (q : Fin 1296) :
    (truncf .bf16 (pad S32x64x1296 ![0, 0, 70] ![0, 0, 70] ![0, 0, 0] (shapeCast S32x64x1156 x shapeCasts_S32x64x34x34_S32x64x1156)
        (sitofp .f32 (constantI S_ 32 0#32)) pads_S32x64x1156_S32x64x1296_000_000_70700 h_S_) bitsLt_bf16_f32 : FVec Ideal S32x64x1296 .bf16) (ix3 b ch q)
    = if h : 70 ≤ q.val ∧ q.val < 1226 then x (ix4 b ch ⟨(q.val - 70) / 34, by omega⟩ ⟨(q.val - 70) % 34, by omega⟩) else (0 : EReal) := by
  pointwise
  rw [sitofp_zero]
  by_cases h : 70 ≤ q.val ∧ q.val < 1226
  · rw [dif_pos h, dif_pos (by omega)]
  · rw [dif_neg h, dif_neg (by omega)]

theorem v3_apply (c : Dev nD) (b : Fin 32) (ch : Fin 64) (q : Fin 1296) : (V m c main_v3 : Vec Ideal S32x64x1296 .bf16) (ix3 b ch q)
    = ext (fun ch i j => (m ((c : Thread nD τ).loc main_arg2) : Vec Ideal S32x64x32x32 .f32) (ix4 b ch i j)) ch q := by
  rw [V_main_v3]
  refine (ext_apply _ b ch q).trans ?_
  unfold ext
  by_cases h : 70 ≤ q.val ∧ q.val < 1226
  · rw [dif_pos h, if_pos h]
    exact pad_apply _ b ch _ _
  · rw [dif_neg h, if_neg h]

theorem out_apply (G : Vec Ideal S32x64x1156 .f32) (b : Fin 32) (o : Fin 64) (i j : Fin 32) :
    extractStridedSlice S32x64x32x32 ![0, 0, 1, 1] (shapeCast S32x64x34x34 G shapeCasts_S32x64x1156_S32x64x34x34) slices_S32x64x34x34_S32x64x32x32_0_0_1_1 (ix4 b o i j)
     = G (ix3 b o ⟨34 * (i.val + 1) + (j.val + 1), by omega⟩) := by
  pointwise
  refine congrArg G ?_
  congr 1
  exact Fin.ext (by show (1 + i.val) * 34 + (1 + j.val) = 34 * (i.val + 1) + (j.val + 1); omega)

/-- The mask at the place of plane position `(i, j)`. -/
theorem mask_apply (i j : ℕ) (hi : i < 34) (hj : j < 34) :
    (fun i => (FloatOps.ofBits .f32 (lit0 (S1x1226.rowMajor i)) : Ideal .f32) : Vec Ideal S1x1226 .f32) (ix2 0 ⟨34 * i + j + 35, by omega⟩)
      = if (1 ≤ i ∧ i - 1 < 32) ∧ 1 ≤ j ∧ j - 1 < 32 then (1 : EReal) else 0 := by
  have hr : S1x1226.rowMajor (ix2 0 ⟨34 * i + j + 35, by omega⟩) = (⟨34 * i + j + 35, by omega⟩ : Fin 1226) := by
    refine Fin.ext ?_
    rw [Shape.rowMajor_val_two]
    show 0 * 1226 + (34 * i + j + 35) = 34 * i + j + 35
    omega
  show Ideal.ofBits .f32 (lit0 (S1x1226.rowMajor _)) = _
  rw [hr, mask_eq]
  have e1 : (34 * i + j + 35 - 35) / 34 = i := by omega
  have e2 : (34 * i + j + 35 - 35) % 34 = j := by omega
  simp only [e1, e2]
  by_cases h : (1 ≤ i ∧ i - 1 < 32) ∧ 1 ≤ j ∧ j - 1 < 32
  · rw [if_pos h, if_pos ⟨by omega, h⟩, Ideal.ofBits_one_f32]
  · rw [if_neg h, if_neg (fun h' => h h'.2), Ideal.ofBits_zero]

/-! ## One slot of an image, from what the arrays hold -/

section Slot

variable (X : Fin 64 → Fin 32 → Fin 32 → EReal) (W1 : Fin 8 → Fin 128 → Fin 64 → Fin 3 → Fin 3 → EReal) (W2 : Fin 8 → Fin 64 → Fin 128 → Fin 3 → Fin 3 → EReal)
  (e : BitVec 32) (x : Vec Ideal S1x64x1296 .bf16) (w1 : Vec Ideal S8x128x576 .bf16) (w2 : Vec Ideal S8x64x1152 .bf16) (mk : Vec Ideal S1x1226 .f32)
  (hx : ∀ ch q, x (ix3 0 ch q) = ext X ch q)
  (hw1 : ∀ e o k, w1 (ix3 e o k) = W1 e o ⟨k.val % 64, by omega⟩ ⟨k.val / 64 / 3, by omega⟩ ⟨k.val / 64 % 3, by omega⟩)
  (hw2 : ∀ e o k, w2 (ix3 e o k) = W2 e o ⟨k.val % 128, by omega⟩ ⟨k.val / 128 / 3, by omega⟩ ⟨k.val / 128 % 3, by omega⟩)
  (hmk : ∀ (i j : ℕ) (hi : i < 34) (hj : j < 34), mk (ix2 0 ⟨34 * i + j + 35, by omega⟩) = if (1 ≤ i ∧ i - 1 < 32) ∧ 1 ≤ j ∧ j - 1 < 32 then (1 : EReal) else 0)

/-- The expert that a word names. -/
abbrev exOf (e : BitVec 32) : Fin 8 := ⟨e.toNat % 8, Nat.mod_lt _ (by decide)⟩

/-- Expert `e` on the image. -/
noncomputable def expert (e : Fin 8) (o : Fin 64) (i j : ℕ) : EReal := conv (Cert.ExpertsMath.hidden X (W1 e)) (W2 e o) i j

include hx hw1 hmk in
/-- The hidden rows at the place of plane position `(i, j)`: the padded hidden plane. -/
theorem hid_apply (o : Fin 128) (i j : ℕ) (hi : i < 34) (hj : j < 34) :
    hidAt e (x9of x) w1 mk (ix2 o ⟨34 * i + j + 35, by omega⟩) = padded (Cert.ExpertsMath.hidden X (W1 (exOf e))) o i j := by
  rw [hidAt_apply, hmk i j hi hj]
  unfold padded
  by_cases h : (1 ≤ i ∧ i - 1 < 32) ∧ 1 ≤ j ∧ j - 1 < 32
  · rw [if_pos h, dif_pos h, mul_one]
    unfold Cert.ExpertsMath.hidden
    congr 1
    refine shifted_eq_conv (C := 64) _ _ _ (i - 1) (j - 1) (by omega) (by omega) fun tp ch => ?_
    have htp := tp.isLt
    have hch := ch.isLt
    have e1 : (tp.val * 64 + ch.val) / 64 = tp.val := by omega
    have e2 : (tp.val * 64 + ch.val) % 64 = ch.val := by omega
    refine congrArg₂ (· * ·) ((hw1 _ o _).trans ?_) ((hx _ _).trans ?_)
    · congr 1
      · exact Fin.ext e2
      · exact Fin.ext (by show (tp.val * 64 + ch.val) / 64 / 3 = tp.val / 3; omega)
      · exact Fin.ext (by show (tp.val * 64 + ch.val) / 64 % 3 = tp.val % 3; omega)
    · congr 1
      · exact Fin.ext e2
      · show 34 * i + j + 35 + tapOff ((tp.val * 64 + ch.val) / 64) = 34 * (i - 1 + 1) + (j - 1 + 1) + 35 + off tp.val
        rw [e1]
        show 34 * i + j + 35 + off tp.val = _
        omega
  · rw [if_neg h, dif_neg h, mul_zero]

include hx hw1 hw2 hmk in
/-- The second product at a place inside the plane: the expert on the image. -/
theorem slot_eq (o : Fin 64) (i j : Fin 32) :
    (∑ k : Fin 1152, w2 (ix3 (exOf e) o k) * h9of (hidAt e (x9of x) w1 mk) (ix2 k ⟨34 * (i.val + 1) + (j.val + 1), by omega⟩))
      = expert X W1 W2 (exOf e) o i j := by
  unfold expert
  refine shifted_hidden _ _ (fun ch q => if h : q < 1226 then hidAt e (x9of x) w1 mk (ix2 ch ⟨q, h⟩) else (0 : EReal)) _ (fun ch i j hi hj => ?_) i j i.isLt j.isLt fun tp ch => ?_
  · rw [dif_pos (by omega)]
    exact hid_apply X W1 e x w1 mk hx hw1 hmk ch i j hi hj
  · have htp := tp.isLt
    have hch := ch.isLt
    have hi := i.isLt
    have hj := j.isLt
    have ho : off tp.val ≤ 70 := by unfold off; omega
    rw [dif_pos (by omega)]
    have e1 : (tp.val * 128 + ch.val) / 128 = tp.val := by omega
    have e2 : (tp.val * 128 + ch.val) % 128 = ch.val := by omega
    refine congrArg₂ (· * ·) ((hw2 _ o _).trans ?_) ?_
    · congr 1
      · exact Fin.ext e2
      · exact Fin.ext (by show (tp.val * 128 + ch.val) / 128 / 3 = tp.val / 3; omega)
      · exact Fin.ext (by show (tp.val * 128 + ch.val) / 128 % 3 = tp.val % 3; omega)
    · refine congrArg (hidAt e (x9of x) w1 mk) ?_
      congr 1
      · exact Fin.ext e2
      · exact Fin.ext (by show 34 * (i.val + 1) + (j.val + 1) + tapOff ((tp.val * 128 + ch.val) / 128) = _; rw [e1]; rfl)

end Slot

/-- A weight block's rows for one word, times the stacked hidden rows, at a place. -/
noncomputable def dotAt (w : Vec Ideal S8x64x1152 .bf16) (e : BitVec 32) (h : Vec Ideal S1152x1156 .bf16) (o : Fin 64) (p : Fin 1156) : EReal :=
  ∑ k : Fin 1152, w (ix3 (exOf e) o k) * h (ix2 k p)

/-! ## The result at an index -/

/-- Image `b`'s planes, -/
abbrev img (c : Dev nD) (b : Fin 32) : Fin 64 → Fin 32 → Fin 32 → EReal :=
  fun ch i j => (m ((c : Thread nD τ).loc main_arg2) : Vec Ideal S32x64x32x32 .f32) (ix4 b ch i j)
/-- the experts' first weights, -/
abbrev wt1 (c : Dev nD) : Fin 8 → Fin 128 → Fin 64 → Fin 3 → Fin 3 → EReal :=
  fun e o ch i j => (m ((c : Thread nD τ).loc main_arg3) : Vec Ideal S8x128x64x3x3 .f32) (ix5 e o ch i j)
/-- and their second. -/
abbrev wt2 (c : Dev nD) : Fin 8 → Fin 64 → Fin 128 → Fin 3 → Fin 3 → EReal :=
  fun e o ch i j => (m ((c : Thread nD τ).loc main_arg4) : Vec Ideal S8x64x128x3x3 .f32) (ix5 e o ch i j)

/-- Point `t` reads entry `t` of the tables. -/
theorem off1_eq (t : Fin grid0.N) : k0_off1 (grid0.coords t) 0 = t.val := by
  have ht : t.val < 64 := Nat.lt_of_lt_of_eq t.isLt N_0
  have e : k0_off1 (grid0.coords t) 0 = (2#32 * BitVec.ofNat 32 (grid0.coords t 0).val + BitVec.ofNat 32 (grid0.coords t 1).val).toNat := rfl
  rw [e, coord0, coord1]
  simp only [BitVec.toNat_add, BitVec.toNat_mul, BitVec.toNat_ofNat]
  omega

theorem idx1_eq (t : Fin grid0.N) : (Rect.unit (s := S64) (k0_off1 (grid0.coords t)) S1.size (k0_off1_inb (grid0.coords t))).toLoadRect.idx (Shape.Idx.first (numel1_S1.symm ▸ Nat.one_pos))
    = ix1 ⟨t.val, Nat.lt_of_lt_of_eq t.isLt N_0⟩ := by
  refine funext fun (a : Fin 1) => Fin.ext ?_
  match a with
  | 0 => show k0_off1 (grid0.coords t) 0 + 1 * 0 = t.val; rw [off1_eq, Nat.mul_zero, Nat.add_zero]

/-- The word and the gate of image `t / 2`'s slot `t % 2`. -/
theorem wrd_eq (hO : Ok m) (c : Dev nD) (t : Fin (cfgM m hO).N) :
    wrd m hO c t = (m ((c : Thread nD τ).loc main_arg0) : Vec Ideal S32x2 .i32)
      (ix2 ⟨t.val / 2, by have ht : t.val < 64 := Nat.lt_of_lt_of_eq t.isLt N_0; omega⟩ ⟨t.val % 2, by omega⟩) := by
  have hc : c = 0 := Subsingleton.elim _ _
  subst hc
  refine (congrArg (tbl m 0 : Vec Ideal S64 .i32) (idx1_eq t)).trans ((congrFun (V_main_v10 m 0) _).trans ?_)
  generalize (m (((0 : Dev nD) : Thread nD τ).loc main_arg0) : Vec Ideal S32x2 .i32) = a0
  pointwise

theorem gate_eq (hO : Ok m) (c : Dev nD) (t : Fin (cfgM m hO).N) :
    gateAt (grid0.coords t) (iblk m hO c 0 t) = (m ((c : Thread nD τ).loc main_arg1) : Vec Ideal S32x2 .f32)
      (ix2 ⟨t.val / 2, by have ht : t.val < 64 := Nat.lt_of_lt_of_eq t.isLt N_0; omega⟩ ⟨t.val % 2, by omega⟩) :=
  (congrFun (iblk0_eq m hO c t) _).trans ((congrArg (V m c main_v11 : Vec Ideal S64 .f32) (idx1_eq t)).trans (v11_apply m c _))

/-- What a point's second product is. -/
theorem point_eq (hO : Ok m) (c : Dev nD) (t : Fin (cfgM m hO).N) (o : Fin 64) (i j : Fin 32) :
    dotAt (iblk m hO c 3 t) (wrd m hO c t) (h9of (hidv m hO c t)) o ⟨34 * (i.val + 1) + (j.val + 1), by omega⟩
      = expert (img m c ⟨t.val / 2, by have ht : t.val < 64 := Nat.lt_of_lt_of_eq t.isLt N_0; omega⟩) (wt1 m c) (wt2 m c) (exOf (wrd m hO c t)) o i j := by
  refine slot_eq _ _ _ _ _ _ _ _ (fun ch q => ?_) (fun e o k => ?_) (fun e o k => ?_) (fun i j hi hj => ?_) o i j
  · exact (iblk1_apply m hO c t _).trans (v3_apply m c _ ch q)
  · exact (congrFun (iblk2_eq m hO c t) _).trans (v6_apply m c e o k)
  · exact (congrFun (iblk3_eq m hO c t) _).trans (v9_apply m c e o k)
  · exact (congrFun (iblk4_eq m hO c t) _).trans ((congrFun (V_main_cst m c) _).trans (mask_apply i j hi hj))

/-- An image's two experts, each times its gate, at a place inside the plane. -/
theorem G5_apply (hO : Ok m) (c : Dev nD) (b : Fin 32) (o : Fin 64) (i j : Fin 32) :
    G5 m hO c (ix3 b o ⟨34 * (i.val + 1) + (j.val + 1), by omega⟩)
      = expert (img m c b) (wt1 m c) (wt2 m c) (exOf ((m ((c : Thread nD τ).loc main_arg0) : Vec Ideal S32x2 .i32) (ix2 b 0))) o i j
          * (m ((c : Thread nD τ).loc main_arg1) : Vec Ideal S32x2 .f32) (ix2 b 0)
        + expert (img m c b) (wt1 m c) (wt2 m c) (exOf ((m ((c : Thread nD τ).loc main_arg0) : Vec Ideal S32x2 .i32) (ix2 b 1))) o i j
          * (m ((c : Thread nD τ).loc main_arg1) : Vec Ideal S32x2 .f32) (ix2 b 1) := by
  have hb := b.isLt
  have key : ∀ (t : Fin (cfgM m hO).N) (s : Fin 2), t.val = 2 * b.val + s.val →
      dotAt (iblk m hO c 3 t) (wrd m hO c t) (h9of (hidv m hO c t)) o ⟨34 * (i.val + 1) + (j.val + 1), by omega⟩ * gateAt (grid0.coords t) (iblk m hO c 0 t)
      = expert (img m c b) (wt1 m c) (wt2 m c) (exOf ((m ((c : Thread nD τ).loc main_arg0) : Vec Ideal S32x2 .i32) (ix2 b s))) o i j
          * (m ((c : Thread nD τ).loc main_arg1) : Vec Ideal S32x2 .f32) (ix2 b s) := by
    intro t s hts
    have hs := s.isLt
    have hb' : (⟨t.val / 2, by omega⟩ : Fin 32) = b := Fin.ext (by show t.val / 2 = b.val; omega)
    have hs' : (⟨t.val % 2, by omega⟩ : Fin 2) = s := Fin.ext (by show t.val % 2 = s.val; omega)
    rw [point_eq, gate_eq, wrd_eq]
    simp only [hb', hs']
  have h1 : (ptB m hO b).val % 2 ≠ 0 := by show (2 * b.val + 1) % 2 ≠ 0; omega
  show out5 m hO c (ptB m hO b) (ix3 0 o _) = _
  unfold out5
  rw [if_neg h1]
  refine (pay5_apply _ _ _ _ _ o _).trans (congrArg₂ (· + ·) ((pay4_apply _ _ _ _ o _).trans ?_) ?_)
  · exact key ⟨(ptB m hO b).val - 1, _⟩ 0 (by show 2 * b.val + 1 - 1 = 2 * b.val + 0; omega)
  · exact key (ptB m hO b) 1 rfl

/-- The result at an index. -/
theorem result_apply (hO : Ok m) (c : Dev nD) (b : Fin 32) (o : Fin 64) (i j : Fin 32) :
    extractStridedSlice S32x64x32x32 ![0, 0, 1, 1] (shapeCast S32x64x34x34 (G5 m hO c) shapeCasts_S32x64x1156_S32x64x34x34) slices_S32x64x34x34_S32x64x32x32_0_0_1_1 (ix4 b o i j)
      = expert (img m c b) (wt1 m c) (wt2 m c) (exOf ((m ((c : Thread nD τ).loc main_arg0) : Vec Ideal S32x2 .i32) (ix2 b 0))) o i j
          * (m ((c : Thread nD τ).loc main_arg1) : Vec Ideal S32x2 .f32) (ix2 b 0)
        + expert (img m c b) (wt1 m c) (wt2 m c) (exOf ((m ((c : Thread nD τ).loc main_arg0) : Vec Ideal S32x2 .i32) (ix2 b 1))) o i j
          * (m ((c : Thread nD τ).loc main_arg1) : Vec Ideal S32x2 .f32) (ix2 b 1) :=
  (out_apply (G5 m hO c) b o i j).trans (G5_apply m hO c b o i j)

end Cert.ExpertsIdeal.Run
-- ==== Proof.ExpRef.lean ====
/- The experts' reference in plain formulas: the two convolutions, the gelu between them, the array of dense gates, and
   the result at an index. -/
module

public import proofs.«01_k».proof.Proof.Gen.RefExpertsIdeal.Run
public import proofs.«01_k».proof.Proof.ExpMath
public import Idealize.ShloMosaic.Lib.Pointwise
public import Idealize.ShloMosaic.Lib.ScatterToDense.RefScatter

@[expose] public section

set_option maxRecDepth 16384

namespace Cert.RefExpertsIdeal.Read

open Idealize.ShloMosaic Idealize.ShloMosaic.TcCoe
open Cert.RefExpertsIdeal Cert.RefExpertsIdeal.Value Cert.RefExpertsIdeal.Gen
open Cert.ExpertsMath
open Idealize.ShloMosaic.StableHlo (launchContents)
open Idealize.ShloMosaic.ScatterToDense

variable (V0 : Valuation τ sig (Elt Ideal))

theorem sitofp_zero : (FloatOps.sitofp FTy.f32 0#32 : Ideal FTy.f32) = (0 : EReal) := by
  show ((((0#32 : BitVec 32).toInt : ℝ)) : EReal) = 0
  simp

/-- The nine taps, written out. -/
theorem conv_nine {C : ℕ} (X : Fin C → Fin 32 → Fin 32 → EReal) (w : Fin C → Fin 3 → Fin 3 → EReal) (i j : ℕ) :
    (∑ c, padded X c i j * w c 0 0) + (∑ c, padded X c i (1 + j) * w c 0 1) + (∑ c, padded X c i (2 + j) * w c 0 2)
      + (∑ c, padded X c (1 + i) j * w c 1 0) + (∑ c, padded X c (1 + i) (1 + j) * w c 1 1) + (∑ c, padded X c (1 + i) (2 + j) * w c 1 2)
      + (∑ c, padded X c (2 + i) j * w c 2 0) + (∑ c, padded X c (2 + i) (1 + j) * w c 2 1) + (∑ c, padded X c (2 + i) (2 + j) * w c 2 2)
      = conv X w i j := by
  unfold conv
  rw [Fin.sum_univ_castSucc, Fin.sum_univ_eight]
  have e0 : ∀ n : ℕ, n = 0 + n := fun n => (Nat.zero_add n).symm
  conv_lhs => rw [e0 i, e0 j]
  simp only [← Nat.add_assoc, Nat.add_zero]
  rfl

/-- A stack of images with a border of zeros. -/
theorem pad1_apply (x : Vec Ideal S32x64x32x32 .f32) (b : Fin 32) (ch : Fin 64) (i j : Fin 34) :
    (pad S32x64x34x34 ![0, 0, 1, 1] ![0, 0, 1, 1] ![0, 0, 0, 0] x
          (sitofp .f32 (constantI S_ 32 0#32)) pads_S32x64x32x32_S32x64x34x34_000_000_110_110 h_S_ : FVec Ideal S32x64x34x34 .f32) (ix4 b ch i j)
    = padded (fun ch i j => x (ix4 b ch i j)) ch i j := by
  pointwise
  rw [sitofp_zero]
  rfl

/-- The same, of the stack of hidden planes. -/
theorem pad2_apply (x : Vec Ideal S32x8x128x32x32 .f32) (b : Fin 32) (e : Fin 8) (ch : Fin 128) (i j : Fin 34) :
    (pad S32x8x128x34x34 ![0, 0, 0, 1, 1] ![0, 0, 0, 1, 1] ![0, 0, 0, 0, 0] x
          (sitofp .f32 (constantI S_ 32 0#32)) pads_S32x8x128x32x32_S32x8x128x34x34_000_000_000_110_110 h_S_ : FVec Ideal S32x8x128x34x34 .f32) (ix5 b e ch i j)
    = padded (fun ch i j => x (ix5 b e ch i j)) ch i j := by
  pointwise
  rw [sitofp_zero]
  rfl

/-- Image `b`'s planes, -/
abbrev img (b : Fin 32) : Fin 64 → Fin 32 → Fin 32 → EReal := fun ch i j => (V0 (Proc.devRef .tc main_arg2) : Vec Ideal S32x64x32x32 .f32) (ix4 b ch i j)
/-- the experts' first weights, -/
abbrev wt1 : Fin 8 → Fin 128 → Fin 64 → Fin 3 → Fin 3 → EReal := fun e o ch i j => (V0 (Proc.devRef .tc main_arg3) : Vec Ideal S8x128x64x3x3 .f32) (ix5 e o ch i j)
/-- and their second. -/
abbrev wt2 : Fin 8 → Fin 64 → Fin 128 → Fin 3 → Fin 3 → EReal := fun e o ch i j => (V0 (Proc.devRef .tc main_arg4) : Vec Ideal S8x64x128x3x3 .f32) (ix5 e o ch i j)

theorem v18_apply (b : Fin 32) (ch : Fin 64) (i j : Fin 34) :
    (res_main_v18 V0 : Vec Ideal S32x64x34x34 .f32) (ix4 b ch i j) = padded (img V0 b) ch i j :=
  pad1_apply _ b ch i j

theorem v73_apply (b : Fin 32) (e : Fin 8) (o : Fin 128) (i j : Fin 32) :
    (res_main_v73 V0 : Vec Ideal S32x8x128x32x32 .f32) (ix5 b e o i j) = conv (img V0 b) (wt1 V0 e o) i j := by
  rw [← conv_nine]
  pointwise [res_main_v73]
  refine congrArg₂ (· + ·) (congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_) ?_ <;>
    exact Finset.sum_congr rfl fun ch _ => congrArg (fun a : EReal => a * _) (v18_apply V0 b ch _ _)

theorem v81_apply (b : Fin 32) (e : Fin 8) (ch : Fin 128) (i j : Fin 34) :
    (res_main_v81 V0 : Vec Ideal S32x8x128x34x34 .f32) (ix5 b e ch i j) = padded (Cert.ExpertsMath.hidden (img V0 b) (wt1 V0 e)) ch i j := by
  unfold res_main_v81
  refine (pad2_apply _ b e ch i j).trans ?_
  congr 1
  funext o i j
  show _ = gelu (conv (img V0 b) (wt1 V0 e o) i j)
  rw [← v73_apply]
  generalize (res_main_v73 V0 : Vec Ideal S32x8x128x32x32 .f32) = h
  pointwise
  rfl

theorem v136_apply (b : Fin 32) (e : Fin 8) (o : Fin 64) (i j : Fin 32) :
    (res_main_v136 V0 : Vec Ideal S32x8x64x32x32 .f32) (ix5 b e o i j) = conv (Cert.ExpertsMath.hidden (img V0 b) (wt1 V0 e)) (wt2 V0 e o) i j := by
  rw [← conv_nine]
  pointwise [res_main_v136]
  refine congrArg₂ (· + ·) (congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_) ?_ <;>
    exact Finset.sum_congr rfl fun ch _ => congrArg (fun a : EReal => a * _) (v81_apply V0 b e ch _ _)

/-- The array of dense gates, from the words and the gates. -/
theorem gates_apply (x0 : Vec Ideal S32x8 .f32) (hx0 : ∀ i, x0 i = (0 : EReal)) (a0 : Vec Ideal S32x2 .i32) (a1 : Vec Ideal S32x2 .f32) (h8 : ∀ y, (a0 y).toNat < 8) (b : Fin 32) (e : Fin 8) :
    (Host.scatter scatter_S32x8_S32x2x2_S32x2_n_01_01_2 (fun _ b => b) x0 (concatenate S32x2x2 2 [⟨S32x2x1, (broadcastInDim S32x2x1 ![0, 1] bcast_S32x2_S32x2x1_0_1 (broadcastInDim S32x2 ![0, 1] bcast_S32x1_S32x2_0_1 (select (cmpi .slt (broadcastInDim S32x1 ![0] bcast_S32_S32x1_0 (iotaInDim S32 32 0)) (broadcastInDim S32x1 ![] bcast_S_S32x1 (constantI S_ 32 0#32))) (addi (broadcastInDim S32x1 ![0] bcast_S32_S32x1_0 (iotaInDim S32 32 0)) (broadcastInDim S32x1 ![] bcast_S_S32x1 (constantI S_ 32 32#32))) (broadcastInDim S32x1 ![0] bcast_S32_S32x1_0 (iotaInDim S32 32 0)))))⟩, ⟨S32x2x1, (broadcastInDim S32x2x1 ![0, 1] bcast_S32x2_S32x2x1_0_1 (select (cmpi .slt a0 (broadcastInDim S32x2 ![] bcast_S_S32x2 (constantI S_ 32 0#32))) (addi a0 (broadcastInDim S32x2 ![] bcast_S_S32x2 (constantI S_ 32 8#32))) a0))⟩] concatenates_S32x2x1_S32x2x1_S32x2x2_d2) a1 : Vec Ideal S32x8 .f32) (ix2 b e)
      = if e.val = (a0 (ix2 b 1)).toNat then a1 (ix2 b 1) else if e.val = (a0 (ix2 b 0)).toNat then a1 (ix2 b 0) else (0 : EReal) := by
  refine (scatter_eq_dense (by decide : 0 < 2) scatter_S32x8_S32x2x2_S32x2_n_01_01_2 rfl rfl rfl (by decide) (by decide) x0 _ a1 a0 a1 (0 : EReal) hx0 ?_ ?_ (fun _ _ => rfl) (ix2 b e)).trans rfl
  · intro i k
    pointwise
    refine Routing.wrap_of_lt _ _ ?_
    show i.val % 2 ^ 32 < 2 ^ 31
    omega
  · intro i k c hc
    pointwise
    have h := h8 (ix2 i k)
    rw [Routing.wrap_of_lt _ _ (by show (a0 (ix2 i k)).toNat < 2 ^ 31; omega)]
    exact Iff.rfl

/-- The sum over the experts of the dense gates' products keeps the two that are named. -/
theorem sum_two (w0 w1 : BitVec 32) (h0 : w0.toNat < 8) (h1 : w1.toNat < 8) (h : w0 ≠ w1) (g0 g1 : EReal) (E : Fin 8 → EReal) :
    (∑ e : Fin 8, (if e.val = w1.toNat then g1 else if e.val = w0.toNat then g0 else 0) * E e)
      = E ⟨w0.toNat % 8, Nat.mod_lt _ (by decide)⟩ * g0 + E ⟨w1.toNat % 8, Nat.mod_lt _ (by decide)⟩ * g1 := by
  have hne : w0.toNat ≠ w1.toNat := fun e => h (BitVec.eq_of_toNat_eq e)
  have e : ∀ e : Fin 8, (if e.val = w1.toNat then g1 else if e.val = w0.toNat then g0 else 0) * E e
      = (if e = ⟨w0.toNat % 8, Nat.mod_lt _ (by decide)⟩ then E e * g0 else 0) + (if e = ⟨w1.toNat % 8, Nat.mod_lt _ (by decide)⟩ then E e * g1 else 0) := by
    intro e
    have i0 : (e = ⟨w0.toNat % 8, Nat.mod_lt _ (by decide)⟩) ↔ e.val = w0.toNat := by rw [Fin.ext_iff]; show e.val = w0.toNat % 8 ↔ _; rw [Nat.mod_eq_of_lt h0]
    have i1 : (e = ⟨w1.toNat % 8, Nat.mod_lt _ (by decide)⟩) ↔ e.val = w1.toNat := by rw [Fin.ext_iff]; show e.val = w1.toNat % 8 ↔ _; rw [Nat.mod_eq_of_lt h1]
    simp only [i0, i1]
    by_cases c1 : e.val = w1.toNat
    · rw [if_pos c1, if_neg (by omega), if_pos c1, zero_add, mul_comm]
    · rw [if_neg c1, if_neg c1, add_zero]
      by_cases c0 : e.val = w0.toNat
      · rw [if_pos c0, if_pos c0, mul_comm]
      · rw [if_neg c0, if_neg c0, zero_mul]
  rw [Finset.sum_congr rfl fun x _ => e x, Finset.sum_add_distrib, Finset.sum_ite_eq' Finset.univ, Finset.sum_ite_eq' Finset.univ, if_pos (Finset.mem_univ _), if_pos (Finset.mem_univ _)]

/-- The reference's last lines: the stack of experts times the dense gates, summed. -/
theorem mix_apply (g : Vec Ideal S32x8 .f32) (y : Vec Ideal S32x8x64x32x32 .f32) (b : Fin 32) (o : Fin 64) (i j : Fin 32) :
    (Host.reduceAdd (mulf (broadcastInDim S32x8x64x32x32 ![0, 1, 2, 3, 4] bcast_S32x8x1x1x1_S32x8x64x32x32_0_1_2_3_4 (broadcastInDim S32x8x1x1x1 ![0, 1] bcast_S32x8_S32x8x1x1x1_0_1 g)) y) (constant S_ .f32 0x00000000#32) reducesTo_S32x8x64x32x32_S32x64x32x32_d1 h_S_ : FVec Ideal S32x64x32x32 .f32) (ix4 b o i j)
      = ∑ e : Fin 8, g (ix2 b e) * y (ix5 b e o i j) := by
  pointwise

/-- The result at an index, as the run names it. -/
theorem result_apply (m : (ℓ : Loc nD τ sig) → Buf (Elt Ideal) ℓ) (c : Dev nD) (a0 : Vec Ideal S32x2 .i32) (a1 : Vec Ideal S32x2 .f32)
    (e0 : a0 = m ((c.tc : Thread nD τ).loc main_arg0)) (e1 : a1 = m ((c.tc : Thread nD τ).loc main_arg1))
    (h8 : ∀ y, (a0 y).toNat < 8) (hne : ∀ b : Fin 32, a0 (ix2 b 0) ≠ a0 (ix2 b 1)) (r : Vec Ideal S32x64x32x32 .f32)
    (hr : r = Host.reduceAdd (mulf (broadcastInDim S32x8x64x32x32 ![0, 1, 2, 3, 4] bcast_S32x8x1x1x1_S32x8x64x32x32_0_1_2_3_4 (broadcastInDim S32x8x1x1x1 ![0, 1] bcast_S32x8_S32x8x1x1x1_0_1 (Host.scatter scatter_S32x8_S32x2x2_S32x2_n_01_01_2 (fun _ b => b) (broadcastInDim S32x8 ![] bcast_S_S32x8 (constant S_ .f32 0x00000000#32)) (concatenate S32x2x2 2 [⟨S32x2x1, (broadcastInDim S32x2x1 ![0, 1] bcast_S32x2_S32x2x1_0_1 (broadcastInDim S32x2 ![0, 1] bcast_S32x1_S32x2_0_1 (select (cmpi .slt (res_main_v2 (launchContents m c)) (broadcastInDim S32x1 ![] bcast_S_S32x1 (constantI S_ 32 0#32))) (addi (res_main_v2 (launchContents m c)) (broadcastInDim S32x1 ![] bcast_S_S32x1 (constantI S_ 32 32#32))) (res_main_v2 (launchContents m c)))))⟩, ⟨S32x2x1, (broadcastInDim S32x2x1 ![0, 1] bcast_S32x2_S32x2x1_0_1 (select (cmpi .slt a0 (broadcastInDim S32x2 ![] bcast_S_S32x2 (constantI S_ 32 0#32))) (addi a0 (broadcastInDim S32x2 ![] bcast_S_S32x2 (constantI S_ 32 8#32))) a0))⟩] concatenates_S32x2x1_S32x2x1_S32x2x2_d2) a1))) (res_main_v136 (launchContents m c))) (constant S_ .f32 0x00000000#32) reducesTo_S32x8x64x32x32_S32x64x32x32_d1 h_S_)
    (b : Fin 32) (o : Fin 64) (i j : Fin 32) :
    r (ix4 b o i j)
      = conv (Cert.ExpertsMath.hidden (img (launchContents m c) b) (wt1 (launchContents m c) ⟨(a0 (ix2 b 0)).toNat % 8, Nat.mod_lt _ (by decide)⟩)) (wt2 (launchContents m c) ⟨(a0 (ix2 b 0)).toNat % 8, Nat.mod_lt _ (by decide)⟩ o) i j * a1 (ix2 b 0)
        + conv (Cert.ExpertsMath.hidden (img (launchContents m c) b) (wt1 (launchContents m c) ⟨(a0 (ix2 b 1)).toNat % 8, Nat.mod_lt _ (by decide)⟩)) (wt2 (launchContents m c) ⟨(a0 (ix2 b 1)).toNat % 8, Nat.mod_lt _ (by decide)⟩ o) i j * a1 (ix2 b 1) := by
  subst hr
  refine (mix_apply _ _ b o i j).trans ((Finset.sum_congr rfl fun e _ => congrArg₂ (fun a b : EReal => a * b)
    (gates_apply _ (fun i => ?_) a0 a1 h8 b e) (v136_apply (launchContents m c) b e o i j)).trans (sum_two _ _ (h8 _) (h8 _) (hne b) _ _ _))
  exact Ideal.ofBits_zero .f32

end Cert.RefExpertsIdeal.Read
-- ==== Proof.ExpEq.lean ====
/- The experts' claims: the frames, and that the call and its reference compute the same array. -/
module

public import proofs.«01_k».proof.Defs
public import proofs.«01_k».proof.Proof.ExpFrame
public import proofs.«01_k».proof.Proof.ExpBits
public import proofs.«01_k».proof.Proof.ExpRead
public import proofs.«01_k».proof.Proof.ExpRef
public import Idealize.ShloMosaic.Lib.Claim
public import Idealize.ShloMosaic.Lib.Quiescent

@[expose] public section

set_option maxRecDepth 16384

namespace Cert.ExpertsEq

open Idealize.ShloMosaic Idealize.ShloMosaic.TcCoe
open Idealize.SL.Sem

theorem frame_bits : Cert.quiescent_Experts := fun m ρ h => Cert.Experts.Gen.frame m ρ (Cert.ExpertsBits.ok m) (Cert.ExpertsBits.hyps_of_pre m h)

theorem frame_ideal : Cert.quiescent_ExpertsIdeal := fun m ρ h =>
  (θ_run Cert.ExpertsIdeal.defs _ _).mono (fun _ h => ⟨fun c => (h.1 c).2, h.2⟩) (Cert.ExpertsIdeal.Run.run_value m ρ (Cert.ExpertsIdeal.Run.hyps_of_pre m h))

theorem frame_ref : Cert.quiescent_RefExpertsIdeal := fun m ρ _ =>
  (θ_run Cert.RefExpertsIdeal.defs _ _).mono (fun _ h => ⟨fun c => (h c).2, sem_eq_zero_of_no_sems rfl _⟩) (Cert.RefExpertsIdeal.Value.run m ρ)

/-- Both results at an index are the two experts' planes times their gates. -/
theorem result_eq (m : (ℓ : Loc Cert.ExpertsIdeal.nD Cert.ExpertsIdeal.τ Cert.ExpertsIdeal.sig) → Buf (Elt Ideal) ℓ)
    (m' : (ℓ : Loc Cert.RefExpertsIdeal.nD Cert.RefExpertsIdeal.τ Cert.RefExpertsIdeal.sig) → Buf (Elt Ideal) ℓ) (hpre : Cert.Pre_ExpertsIdeal m) (c : Dev Cert.ExpertsIdeal.nD)
    (h0 : m' ((c.tc : Thread Cert.RefExpertsIdeal.nD Cert.RefExpertsIdeal.τ).loc Cert.RefExpertsIdeal.main_arg0) = m ((c.tc : Thread Cert.ExpertsIdeal.nD Cert.ExpertsIdeal.τ).loc Cert.ExpertsIdeal.main_arg0))
    (h1 : m' ((c.tc : Thread Cert.RefExpertsIdeal.nD Cert.RefExpertsIdeal.τ).loc Cert.RefExpertsIdeal.main_arg1) = m ((c.tc : Thread Cert.ExpertsIdeal.nD Cert.ExpertsIdeal.τ).loc Cert.ExpertsIdeal.main_arg1))
    (h2 : m' ((c.tc : Thread Cert.RefExpertsIdeal.nD Cert.RefExpertsIdeal.τ).loc Cert.RefExpertsIdeal.main_arg2) = m ((c.tc : Thread Cert.ExpertsIdeal.nD Cert.ExpertsIdeal.τ).loc Cert.ExpertsIdeal.main_arg2))
    (h3 : m' ((c.tc : Thread Cert.RefExpertsIdeal.nD Cert.RefExpertsIdeal.τ).loc Cert.RefExpertsIdeal.main_arg3) = m ((c.tc : Thread Cert.ExpertsIdeal.nD Cert.ExpertsIdeal.τ).loc Cert.ExpertsIdeal.main_arg3))
    (h4 : m' ((c.tc : Thread Cert.RefExpertsIdeal.nD Cert.RefExpertsIdeal.τ).loc Cert.RefExpertsIdeal.main_arg4) = m ((c.tc : Thread Cert.ExpertsIdeal.nD Cert.ExpertsIdeal.τ).loc Cert.ExpertsIdeal.main_arg4))
    (k r : Vec Ideal Cert.ExpertsIdeal.S32x64x32x32 .f32)
    (hk : ∀ b o i j, k (ix4 b o i j) = Cert.ExpertsIdeal.Run.expert (Cert.ExpertsIdeal.Run.img m c b) (Cert.ExpertsIdeal.Run.wt1 m c) (Cert.ExpertsIdeal.Run.wt2 m c) (Cert.ExpertsIdeal.Run.exOf ((m ((c.tc : Thread Cert.ExpertsIdeal.nD Cert.ExpertsIdeal.τ).loc Cert.ExpertsIdeal.main_arg0) : Vec Ideal Cert.ExpertsIdeal.S32x2 .i32) (ix2 b 0))) o i.val j.val
          * (m ((c.tc : Thread Cert.ExpertsIdeal.nD Cert.ExpertsIdeal.τ).loc Cert.ExpertsIdeal.main_arg1) : Vec Ideal Cert.ExpertsIdeal.S32x2 .f32) (ix2 b 0)
        + Cert.ExpertsIdeal.Run.expert (Cert.ExpertsIdeal.Run.img m c b) (Cert.ExpertsIdeal.Run.wt1 m c) (Cert.ExpertsIdeal.Run.wt2 m c) (Cert.ExpertsIdeal.Run.exOf ((m ((c.tc : Thread Cert.ExpertsIdeal.nD Cert.ExpertsIdeal.τ).loc Cert.ExpertsIdeal.main_arg0) : Vec Ideal Cert.ExpertsIdeal.S32x2 .i32) (ix2 b 1))) o i.val j.val
          * (m ((c.tc : Thread Cert.ExpertsIdeal.nD Cert.ExpertsIdeal.τ).loc Cert.ExpertsIdeal.main_arg1) : Vec Ideal Cert.ExpertsIdeal.S32x2 .f32) (ix2 b 1))
    (hr : (∀ y, ((m' ((c.tc : Thread Cert.RefExpertsIdeal.nD Cert.RefExpertsIdeal.τ).loc Cert.RefExpertsIdeal.main_arg0) : Vec Ideal Cert.ExpertsIdeal.S32x2 .i32) y).toNat < 8) →
      (∀ b : Fin 32, (m' ((c.tc : Thread Cert.RefExpertsIdeal.nD Cert.RefExpertsIdeal.τ).loc Cert.RefExpertsIdeal.main_arg0) : Vec Ideal Cert.ExpertsIdeal.S32x2 .i32) (ix2 b 0) ≠ (m' ((c.tc : Thread Cert.RefExpertsIdeal.nD Cert.RefExpertsIdeal.τ).loc Cert.RefExpertsIdeal.main_arg0) : Vec Ideal Cert.ExpertsIdeal.S32x2 .i32) (ix2 b 1)) →
      ∀ b o i j, r (ix4 b o i j) = Cert.ExpertsIdeal.Run.expert (Cert.RefExpertsIdeal.Read.img (StableHlo.launchContents m' c) b) (Cert.RefExpertsIdeal.Read.wt1 (StableHlo.launchContents m' c)) (Cert.RefExpertsIdeal.Read.wt2 (StableHlo.launchContents m' c)) (Cert.ExpertsIdeal.Run.exOf ((m' ((c.tc : Thread Cert.RefExpertsIdeal.nD Cert.RefExpertsIdeal.τ).loc Cert.RefExpertsIdeal.main_arg0) : Vec Ideal Cert.ExpertsIdeal.S32x2 .i32) (ix2 b 0))) o i.val j.val
          * (m' ((c.tc : Thread Cert.RefExpertsIdeal.nD Cert.RefExpertsIdeal.τ).loc Cert.RefExpertsIdeal.main_arg1) : Vec Ideal Cert.ExpertsIdeal.S32x2 .f32) (ix2 b 0)
        + Cert.ExpertsIdeal.Run.expert (Cert.RefExpertsIdeal.Read.img (StableHlo.launchContents m' c) b) (Cert.RefExpertsIdeal.Read.wt1 (StableHlo.launchContents m' c)) (Cert.RefExpertsIdeal.Read.wt2 (StableHlo.launchContents m' c)) (Cert.ExpertsIdeal.Run.exOf ((m' ((c.tc : Thread Cert.RefExpertsIdeal.nD Cert.RefExpertsIdeal.τ).loc Cert.RefExpertsIdeal.main_arg0) : Vec Ideal Cert.ExpertsIdeal.S32x2 .i32) (ix2 b 1))) o i.val j.val
          * (m' ((c.tc : Thread Cert.RefExpertsIdeal.nD Cert.RefExpertsIdeal.τ).loc Cert.RefExpertsIdeal.main_arg1) : Vec Ideal Cert.ExpertsIdeal.S32x2 .f32) (ix2 b 1)) :
    r = k := by
  obtain ⟨p8, pne⟩ := Cert.ExpertsPre.of_pre _ _ _ _ _ (hpre c)
  refine funext fun y => ?_
  obtain ⟨b, o, i, j, rfl⟩ : ∃ (b : Fin 32) (o : Fin 64) (i j : Fin 32), y = ix4 b o i j := ⟨y 0, y 1, y 2, y 3, eq_ix4 y⟩
  have g2 : Cert.RefExpertsIdeal.Read.img (StableHlo.launchContents m' c) b = Cert.ExpertsIdeal.Run.img m c b := funext fun _ => funext fun _ => funext fun _ => congrFun h2 _
  have g3 : Cert.RefExpertsIdeal.Read.wt1 (StableHlo.launchContents m' c) = Cert.ExpertsIdeal.Run.wt1 m c := funext fun _ => funext fun _ => funext fun _ => funext fun _ => funext fun _ => congrFun h3 _
  have g4 : Cert.RefExpertsIdeal.Read.wt2 (StableHlo.launchContents m' c) = Cert.ExpertsIdeal.Run.wt2 m c := funext fun _ => funext fun _ => funext fun _ => funext fun _ => funext fun _ => congrFun h4 _
  rw [hk, hr (fun y => by rw [h0]; exact p8 y) (fun b => by rw [h0]; exact pne b), g2, g3, g4, h0, h1]

theorem value : Cert.algebraic_ExpertsIdeal_RefExpertsIdeal := by
  intro m g m' g' hpre hargs
  have hK := Cert.ExpertsIdeal.Run.run_value m g (Cert.ExpertsIdeal.Run.hyps_of_pre m hpre)
  have hR := Cert.RefExpertsIdeal.Value.run (F := Ideal) m' g'
  refine ⟨fun c => _, (θ_run Cert.ExpertsIdeal.defs _ _).mono (fun _ h c => h.1 c) hK, (θ_run Cert.RefExpertsIdeal.defs _ _).mono (fun r h c => ⟨(h c).1.trans ?_, (h c).2⟩) hR⟩
  obtain ⟨h0, h1, h2, h3, h4⟩ := hargs c
  exact result_eq m m' hpre c h0 h1 h2 h3 h4 _ _ (Cert.ExpertsIdeal.Run.result_apply m (Cert.ExpertsIdeal.Run.ok m) c)
    (fun h8 hne => Cert.RefExpertsIdeal.Read.result_apply m' c _ _ rfl rfl h8 hne _ rfl)

end Cert.ExpertsEq
-- ==== Proof.GateRun.lean ====
/- The gating call run to its end: its three results are the body's stored values of the arguments, every window being
   its whole array. -/
module

public import proofs.«01_k».proof.Proof.Gen.GatingIdeal.Frame
public import Idealize.ShloMosaic.Lib.StableHlo.Run
public import Idealize.ShloMosaic.Lib.Pipeline.ValueKit.Geometry

@[expose] public section

set_option maxRecDepth 16384

noncomputable section

namespace Cert.GatingIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GatingIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Each window's block is its whole array. -/

theorem emb0 (t : Fin cfg0.N) (y : S32x64x1024.Idx) : (((cfg0.win 0).blk t).view.emb y : S32x64x1024.Idx) = y := by
  refine funext fun (a : Fin 3) => Fin.ext ?_
  match a with
  | 0 => show 0 * 32 + 1 * (y 0).val = (y 0).val; omega
  | 1 => show 0 * 64 + 1 * (y 1).val = (y 1).val; omega
  | 2 => show 0 * 1024 + 1 * (y 2).val = (y 2).val; omega

theorem emb1 (t : Fin cfg0.N) (y : S32x32.Idx) : (((cfg0.win 1).blk t).view.emb y : S32x32.Idx) = y := by
  refine funext fun (a : Fin 2) => Fin.ext ?_
  match a with
  | 0 => show 0 * 32 + 1 * (y 0).val = (y 0).val; omega
  | 1 => show 0 * 32 + 1 * (y 1).val = (y 1).val; omega

theorem emb2 (t : Fin cfg0.N) (y : S32x128.Idx) : (((cfg0.win 2).blk t).view.emb y : S32x128.Idx) = y := by
  refine funext fun (a : Fin 2) => Fin.ext ?_
  match a with
  | 0 => show 0 * 32 + 1 * (y 0).val = (y 0).val; omega
  | 1 => show 0 * 128 + 1 * (y 1).val = (y 1).val; omega

theorem emb3 (t : Fin cfg0.N) (y : S1x128.Idx) : (((cfg0.win 3).blk t).view.emb y : S1x128.Idx) = y := by
  refine funext fun (a : Fin 2) => Fin.ext ?_
  match a with
  | 0 => show 0 * 1 + 1 * (y 0).val = (y 0).val; omega
  | 1 => show 0 * 128 + 1 * (y 1).val = (y 1).val; omega

theorem emb4 (t : Fin cfg0.N) (y : S128x128.Idx) : (((cfg0.win 4).blk t).view.emb y : S128x128.Idx) = y := by
  refine funext fun (a : Fin 2) => Fin.ext ?_
  match a with
  | 0 => show 0 * 128 + 1 * (y 0).val = (y 0).val; omega
  | 1 => show 0 * 128 + 1 * (y 1).val = (y 1).val; omega

theorem emb5 (t : Fin cfg0.N) (y : S1x128.Idx) : (((cfg0.win 5).blk t).view.emb y : S1x128.Idx) = y := by
  refine funext fun (a : Fin 2) => Fin.ext ?_
  match a with
  | 0 => show 0 * 1 + 1 * (y 0).val = (y 0).val; omega
  | 1 => show 0 * 128 + 1 * (y 1).val = (y 1).val; omega

theorem emb6 (t : Fin cfg0.N) (y : S128x8.Idx) : (((cfg0.win 6).blk t).view.emb y : S128x8.Idx) = y := by
  refine funext fun (a : Fin 2) => Fin.ext ?_
  match a with
  | 0 => show 0 * 128 + 1 * (y 0).val = (y 0).val; omega
  | 1 => show 0 * 8 + 1 * (y 1).val = (y 1).val; omega

theorem emb7 (t : Fin cfg0.N) (y : S1x8.Idx) : (((cfg0.win 7).blk t).view.emb y : S1x8.Idx) = y := by
  refine funext fun (a : Fin 2) => Fin.ext ?_
  match a with
  | 0 => show 0 * 1 + 1 * (y 0).val = (y 0).val; omega
  | 1 => show 0 * 8 + 1 * (y 1).val = (y 1).val; omega

theorem emb8 (t : Fin cfg0.N) (y : S32x2.Idx) : (((cfg0.win 8).blk t).view.emb y : S32x2.Idx) = y := by
  refine funext fun (a : Fin 2) => Fin.ext ?_
  match a with
  | 0 => show 0 * 32 + 1 * (y 0).val = (y 0).val; omega
  | 1 => show 0 * 2 + 1 * (y 1).val = (y 1).val; omega

theorem emb9 (t : Fin cfg0.N) (y : S32x2.Idx) : (((cfg0.win 9).blk t).view.emb y : S32x2.Idx) = y := by
  refine funext fun (a : Fin 2) => Fin.ext ?_
  match a with
  | 0 => show 0 * 32 + 1 * (y 0).val = (y 0).val; omega
  | 1 => show 0 * 2 + 1 * (y 1).val = (y 1).val; omega

theorem emb10 (t : Fin cfg0.N) (y : S1x1.Idx) : (((cfg0.win 10).blk t).view.emb y : S1x1.Idx) = y := by
  refine funext fun (a : Fin 2) => Fin.ext ?_
  match a with
  | 0 => show 0 * 1 + 1 * (y 0).val = (y 0).val; omega
  | 1 => show 0 * 1 + 1 * (y 1).val = (y 1).val; omega

/-! The arrays the windows stage, from the arguments. -/

abbrev a0 (c : Dev nD) : Vec F S32x64x1024 .f32 := shapeCast S32x64x1024 (m ((c : Thread nD τ).loc main_arg0) : Vec F S32x64x32x32 .f32) shapeCasts_S32x64x32x32_S32x64x1024
abbrev a1 (c : Dev nD) : Vec F S32x32 .f32 := m ((c : Thread nD τ).loc main_arg1)
abbrev a2 (c : Dev nD) : Vec F S32x128 .f32 := m ((c : Thread nD τ).loc main_arg2)
abbrev a3 (c : Dev nD) : Vec F S1x128 .f32 := shapeCast S1x128 (m ((c : Thread nD τ).loc main_arg3) : Vec F S128 .f32) shapeCasts_S128_S1x128
abbrev a4 (c : Dev nD) : Vec F S128x128 .f32 := m ((c : Thread nD τ).loc main_arg4)
abbrev a5 (c : Dev nD) : Vec F S1x128 .f32 := shapeCast S1x128 (m ((c : Thread nD τ).loc main_arg5) : Vec F S128 .f32) shapeCasts_S128_S1x128
abbrev a6 (c : Dev nD) : Vec F S128x8 .f32 := m ((c : Thread nD τ).loc main_arg6)
abbrev a7 (c : Dev nD) : Vec F S1x8 .f32 := shapeCast S1x8 (m ((c : Thread nD τ).loc main_arg7) : Vec F S8 .f32) shapeCasts_S8_S1x8

theorem V_v0 (c : Dev nD) : (V m c main_v0 : Vec F S32x64x1024 .f32) = a0 m c := by
  unfold V V0
  simp only [hostOps0, List.flatten_cons, List.flatten_nil, List.append_nil, List.cons_append, List.nil_append]
  after_results_simp
  rfl

theorem V_v1 (c : Dev nD) : (V m c main_v1 : Vec F S1x128 .f32) = a3 m c := by
  unfold V V0
  simp only [hostOps0, List.flatten_cons, List.flatten_nil, List.append_nil, List.cons_append, List.nil_append]
  after_results_simp
  rfl

theorem V_v2 (c : Dev nD) : (V m c main_v2 : Vec F S1x128 .f32) = a5 m c := by
  unfold V V0
  simp only [hostOps0, List.flatten_cons, List.flatten_nil, List.append_nil, List.cons_append, List.nil_append]
  after_results_simp
  rfl

theorem V_v3 (c : Dev nD) : (V m c main_v3 : Vec F S1x8 .f32) = a7 m c := by
  unfold V V0
  simp only [hostOps0, List.flatten_cons, List.flatten_nil, List.append_nil, List.cons_append, List.nil_append]
  after_results_simp
  rfl

theorem blk0 (c : Dev nD) (t : Fin cfg0.N) : (iblk m c 0 t : Vec F S32x64x1024 .f32) = a0 m c :=
  funext fun y => (congrArg (V m c main_v0 : Vec F S32x64x1024 .f32) (emb0 t y)).trans (congrFun (V_v0 m c) y)
theorem blk1 (c : Dev nD) (t : Fin cfg0.N) : (iblk m c 1 t : Vec F S32x32 .f32) = a1 m c :=
  funext fun y => (congrArg (V m c main_arg1 : Vec F S32x32 .f32) (emb1 t y)).trans (congrFun (V_main_arg1 m c) y)
theorem blk2 (c : Dev nD) (t : Fin cfg0.N) : (iblk m c 2 t : Vec F S32x128 .f32) = a2 m c :=
  funext fun y => (congrArg (V m c main_arg2 : Vec F S32x128 .f32) (emb2 t y)).trans (congrFun (V_main_arg2 m c) y)
theorem blk3 (c : Dev nD) (t : Fin cfg0.N) : (iblk m c 3 t : Vec F S1x128 .f32) = a3 m c :=
  funext fun y => (congrArg (V m c main_v1 : Vec F S1x128 .f32) (emb3 t y)).trans (congrFun (V_v1 m c) y)
theorem blk4 (c : Dev nD) (t : Fin cfg0.N) : (iblk m c 4 t : Vec F S128x128 .f32) = a4 m c :=
  funext fun y => (congrArg (V m c main_arg4 : Vec F S128x128 .f32) (emb4 t y)).trans (congrFun (V_main_arg4 m c) y)
theorem blk5 (c : Dev nD) (t : Fin cfg0.N) : (iblk m c 5 t : Vec F S1x128 .f32) = a5 m c :=
  funext fun y => (congrArg (V m c main_v2 : Vec F S1x128 .f32) (emb5 t y)).trans (congrFun (V_v2 m c) y)
theorem blk6 (c : Dev nD) (t : Fin cfg0.N) : (iblk m c 6 t : Vec F S128x8 .f32) = a6 m c :=
  funext fun y => (congrArg (V m c main_arg6 : Vec F S128x8 .f32) (emb6 t y)).trans (congrFun (V_main_arg6 m c) y)
theorem blk7 (c : Dev nD) (t : Fin cfg0.N) : (iblk m c 7 t : Vec F S1x8 .f32) = a7 m c :=
  funext fun y => (congrArg (V m c main_v3 : Vec F S1x8 .f32) (emb7 t y)).trans (congrFun (V_v3 m c) y)

/-- The logits the body computes. -/
abbrev logits (c : Dev nD) : FVec F S32x8 .f32 := k0_pay4 (a0 m c) (a1 m c) (a2 m c) (a3 m c) (a4 m c) (a5 m c) (a6 m c) (a7 m c)

/-- Each row's largest logit. -/
abbrev top (L : FVec F S32x8 .f32) : FVec F S32 .f32 := multiReduction .maximumf [1] S32 L 0xFF800000#32 reduces_S32x8_S32 (.inl rfl) rfl

/-- The lane numbers. -/
abbrev lanes : IVec S32x8 32 := iota .tc S32x8 32 [1] iota_S32x8_d1_w32

/-- The stored indices, gates and loss, of the logits. -/
def idxOf (L : FVec F S32x8 .f32) : Vec F S32x2 .i32 := k0_pay1 (k0_pay7 L lanes (top L)) (k0_pay10 L lanes (top L))
def gatesOf (L : FVec F S32x8 .f32) : Vec F S32x2 .f32 := k0_pay2 (k0_pay12 L lanes (top L)) (k0_pay13 L lanes (top L))
def lossOf (L : FVec F S32x8 .f32) : Vec F S1x1 .f32 := k0_pay3 (k0_pay16 L lanes (top L)) (k0_pay17 L lanes (top L)) (k0_pay18 L lanes (top L))

section Body
variable (x0 : Vec F S32x64x1024 .f32) (x1 : Vec F S32x32 .f32) (x2 : Vec F S32x128 .f32) (x3 : Vec F S1x128 .f32) (x4 : Vec F S128x128 .f32) (x5 : Vec F S1x128 .f32) (x6 : Vec F S128x8 .f32) (x7 : Vec F S1x8 .f32)

theorem pay20_eq : k0_pay20 x0 x1 x2 x3 x4 x5 x6 x7 = k0_pay4 x0 x1 x2 x3 x4 x5 x6 x7 := by
  unfold k0_pay20
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.ld_unit_lit _ x6 (by decide), View.ld_unit_lit _ x7 (by decide)]

theorem pay21_eq : k0_pay21 x0 x1 x2 x3 x4 x5 x6 x7 = top (k0_pay4 x0 x1 x2 x3 x4 x5 x6 x7) := by
  unfold k0_pay21
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.ld_unit_lit _ x6 (by decide), View.ld_unit_lit _ x7 (by decide)]
  rfl

theorem out8_eq : out0_8 x0 x1 x2 x3 x4 x5 x6 x7 = idxOf (k0_pay4 x0 x1 x2 x3 x4 x5 x6 x7) := by
  unfold out0_8
  rw [View.canon_cons_unit_lit _ _ _ (by decide), pay20_eq, pay21_eq]
  rfl

theorem out9_eq : out0_9 x0 x1 x2 x3 x4 x5 x6 x7 = gatesOf (k0_pay4 x0 x1 x2 x3 x4 x5 x6 x7) := by
  unfold out0_9
  rw [View.canon_cons_unit_lit _ _ _ (by decide), pay20_eq, pay21_eq]
  rfl

theorem out10_eq : out0_10 x0 x1 x2 x3 x4 x5 x6 x7 = lossOf (k0_pay4 x0 x1 x2 x3 x4 x5 x6 x7) := by
  unfold out0_10
  rw [View.canon_cons_unit_lit _ _ _ (by decide), pay20_eq, pay21_eq]
  rfl

end Body

/-- The image of an index under a view lies under it. -/
theorem mem_of_emb {κ : Kind} {sp : Space} {S : Shape} {e : EltTy} (v : View sig κ sp S e) (y : S.Idx) (i : v.ty.Idx) (h : v.emb y = i) : i ∈ v.set :=
  h ▸ v.emb_mem_set y

theorem N_one : cfg0.N = 1 := by rfl

abbrev pt : Fin cfg0.N := ⟨0, by rw [N_one]; omega⟩

theorem arr8 (c : Dev nD) : (dats m 0 c).arrAt 8 cfg0.N = idxOf (logits m c) := by
  refine (dats m 0 c).arrAt_eq_of_emb 8 (idxOf (logits m c)) (fun t _ (y : S32x2.Idx) => ?_) (fun (i : S32x2.Idx) => ⟨pt, (by decide), mem_of_emb _ i _ (emb8 pt i)⟩)
  refine (congrFun ((after0_8 m c t).trans ?_) y).trans (congrArg (idxOf (logits m c)) (emb8 t y).symm)
  rw [out8_eq, blk0, blk1, blk2, blk3, blk4, blk5, blk6, blk7]

theorem arr9 (c : Dev nD) : (dats m 0 c).arrAt 9 cfg0.N = gatesOf (logits m c) := by
  refine (dats m 0 c).arrAt_eq_of_emb 9 (gatesOf (logits m c)) (fun t _ (y : S32x2.Idx) => ?_) (fun (i : S32x2.Idx) => ⟨pt, (by decide), mem_of_emb _ i _ (emb9 pt i)⟩)
  refine (congrFun ((after0_9 m c t).trans ?_) y).trans (congrArg (gatesOf (logits m c)) (emb9 t y).symm)
  rw [out9_eq, blk0, blk1, blk2, blk3, blk4, blk5, blk6, blk7]

theorem arr10 (c : Dev nD) : (dats m 0 c).arrAt 10 cfg0.N = lossOf (logits m c) := by
  refine (dats m 0 c).arrAt_eq_of_emb 10 (lossOf (logits m c)) (fun t _ (y : S1x1.Idx) => ?_) (fun (i : S1x1.Idx) => ⟨pt, (by decide), mem_of_emb _ i _ (emb10 pt i)⟩)
  refine (congrFun ((after0_10 m c t).trans ?_) y).trans (congrArg (lossOf (logits m c)) (emb10 t y).symm)
  rw [out10_eq, blk0, blk1, blk2, blk3, blk4, blk5, blk6, blk7]

/-- The loss after the reshape behind the region. -/
theorem W_v5 (c : Dev nD) :
    Pipeline.afterTail₀ cfgs (dats m) 0 (V0 m) [hostOps1] c main_v5 = shapeCast S_ (lossOf (logits m c)) shapeCasts_S1x1_S_ := by
  unfold Pipeline.afterTail₀
  simp only [hostOps1, List.flatten_cons, List.flatten_nil, List.append_nil]
  after_results_simp
  have e : (Pipeline.withArrays spec0 c (V0 m c) (fun w => (dats m 0 c).arrAt w cfg0.N) (Proc.tc.devRef main_v4_2) : Vec F S1x1 .f32) = lossOf (logits m c) :=
    (Pipeline.withArrays_arr spec0 (by decide) c (V0 m c) (fun w => (dats m 0 c).arrAt w cfg0.N) 10).trans (arr10 m c)
  rw [← e]
  rfl

/-- The call runs to the end with its three results named. -/
theorem run_value : θ_run defs (onTc (τ := τ) (main (F := F))) ⟨m, fun _ => 0, ρ⟩ (fun r => ∀ c : Dev nD,
      r.2.mem ((c.tc : Thread nD τ).loc main_v4_0) = idxOf (logits m c)
      ∧ r.2.mem ((c.tc : Thread nD τ).loc main_v4_1) = gatesOf (logits m c)
      ∧ r.2.mem ((c.tc : Thread nD τ).loc main_v5) = shapeCast S_ (lossOf (logits m c)) shapeCasts_S1x1_S_) :=
  (θ_run defs _ _).mono (fun r h c =>
      ⟨((h c).1 8).trans (arr8 m c), ((h c).1 9).trans (arr9 m c),
       ((h c).2 main_v5 (by decide : main_v5 ∈ Pipeline.restRefs sig spec0)).trans (W_v5 m c)⟩)
    (run_main m ρ)

end Cert.GatingIdeal.Run
-- ==== Proof.GateMath.lean ====
module

public import Idealize.ShloMosaic.PureOps.Ideal
public import Idealize.ShloMosaic.PureOps.Ideal.Laws
public import Idealize.ShloMosaic.Lib.SortPrefix
public import Idealize.ShloMosaic.Lib.SortNet.Extract

/-!
# The first and the second greatest of a row

A row of eight values has a greatest one, and of the places where it stands a first. Three ways of finding it agree: the fold
of `max`, the least place among those where the row meets its maximum, and the head of a stable descending sort. The second
place is the first place of the row with the greatest entry masked out, and the second of the sort.
-/

@[expose] public section

noncomputable section

namespace Cert.GateMath

open Idealize.ShloMosaic

/-- `a` is the first place where the row `f` takes its greatest value. -/
structure IsTop (f : Fin 8 → EReal) (a : Fin 8) : Prop where
  le : ∀ p, f p ≤ f a
  first : ∀ p, f p = f a → a ≤ p

/-- Every row has a first greatest place. -/
theorem exists_top (f : Fin 8 → EReal) : ∃ a, IsTop f a := by
  obtain ⟨m, _, hm⟩ := Finset.exists_max_image Finset.univ f ⟨0, Finset.mem_univ _⟩
  obtain ⟨a, ha, hmin⟩ := Finset.exists_min_image (Finset.univ.filter fun p => f p = f m) id
    ⟨m, by simp⟩
  have ham : f a = f m := (Finset.mem_filter.1 ha).2
  exact ⟨a, fun p => ham ▸ hm p (Finset.mem_univ _), fun p hp =>
    hmin p (Finset.mem_filter.2 ⟨Finset.mem_univ _, hp.trans ham⟩)⟩

/-- The fold of `max` from `⊥` is the value at the first greatest place. -/
theorem IsTop.fold_max {f : Fin 8 → EReal} {a : Fin 8} (h : IsTop f a) : Finset.univ.fold max ⊥ f = f a :=
  le_antisymm ((Finset.fold_max_le _).2 ⟨bot_le, fun p _ => h.le p⟩)
    ((Finset.le_fold_max _).2 (Or.inr ⟨a, Finset.mem_univ _, le_rfl⟩))

/-- A fold of the signed minimum from the greatest word is the least word of the family. -/
theorem fold_minsi (g : Fin 8 → BitVec 32) (a : Fin 8) (h : ∀ p, (g a).toInt ≤ (g p).toInt) :
    Finset.univ.fold IntOp.minsi 2147483647#32 g = g a := by
  apply BitVec.eq_of_toInt_eq
  rw [← Finset.fold_hom (op := IntOp.minsi) (op' := min) (m := BitVec.toInt) fun x y => SortNet.toInt_minsi x y]
  refine le_antisymm ((Finset.fold_min_le _).2 (Or.inr ⟨a, Finset.mem_univ _, le_rfl⟩))
    ((Finset.le_fold_min _).2 ⟨?_, fun p _ => h p⟩)
  have := BitVec.toInt_lt (x := g a)
  have e : (2147483647#32).toInt = 2147483647 := by decide
  rw [e]; omega

theorem toInt_ofNat_lane (x : Fin 8) : (BitVec.ofNat 32 x.val).toInt = x.val := by
  fin_cases x <;> decide

/-- The least place among those where the row meets its maximum is the first greatest place. -/
theorem IsTop.first_lane {f : Fin 8 → EReal} {a : Fin 8} (h : IsTop f a) (P : Fin 8 → Prop) [DecidablePred P]
    (hP : ∀ x, P x ↔ f x = f a) :
    Finset.univ.fold IntOp.minsi 2147483647#32 (fun x : Fin 8 => if P x then BitVec.ofNat 32 x.val else 8#32) =
      BitVec.ofNat 32 a.val := by
  rw [fold_minsi _ a]
  · rw [if_pos ((hP a).2 rfl)]
  · intro p
    rw [if_pos ((hP a).2 rfl), toInt_ofNat_lane]
    split
    · rename_i hp
      rw [toInt_ofNat_lane]
      exact_mod_cast h.first p ((hP p).1 hp)
    · have : (8#32).toInt = 8 := by decide
      rw [this]; have := a.isLt; omega

/-- The row with the entry at `a` masked out. -/
def masked (f : Fin 8 → EReal) (a e : Fin 8) : EReal := if e = a then ⊥ else f e

/-- The second place: a first greatest place of the masked row, in a row none of whose entries is `⊥`. -/
structure IsSecond (f : Fin 8 → EReal) (a b : Fin 8) : Prop where
  ne : b ≠ a
  le : ∀ p, p ≠ a → f p ≤ f b
  first : ∀ p, p ≠ a → f p = f b → b ≤ p

theorem second_of_top {f : Fin 8 → EReal} {a b : Fin 8} (hf : ∀ p, ⊥ < f p) (h : IsTop (masked f a) b) :
    IsSecond f a b := by
  have hne : b ≠ a := by
    rintro rfl
    obtain ⟨p, hp⟩ : ∃ p : Fin 8, p ≠ b := exists_ne b
    have := h.le p
    rw [masked, if_neg hp, masked, if_pos rfl] at this
    exact absurd this (not_le.2 (hf p))
  refine ⟨hne, fun p hp => ?_, fun p hp he => ?_⟩
  · have := h.le p
    rwa [masked, if_neg hp, masked, if_neg hne] at this
  · apply h.first
    rw [masked, if_neg hp, masked, if_neg hne, he]

/-- A stable sort only asks its relation about a later element against an earlier one. -/
theorem stableSort_congr_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.1 hb)

/-- The descending order of a row, ties broken by the place. -/
def before (f : Fin 8 → EReal) (k k' : Fin 8) : Bool :=
  decide (f k' < f k) || (decide (f k = f k') && decide (k < k'))

/-- The stable descending sort is the sort by value and place. -/
theorem sortedFrom_desc (f : Fin 8 → EReal) :
    sortedFrom (fun k k' : Fin 8 => Ideal.cmp .ogt (f k) (f k') == 1#1) = sortedFrom (before f) := by
  have e : sortPositions 8 (fun k k' : Fin 8 => Ideal.cmp .ogt (f k) (f k') == 1#1) = sortPositions 8 (before f) := by
    refine stableSort_congr_pairwise _ _ _ ((List.pairwise_lt_finRange 8).imp fun {a b} hab => ?_)
    have hn : ¬ b < a := not_lt.2 hab.le
    by_cases hlt : f a < f b <;> simp [before, Ideal.cmp, hlt, hn]
  funext k
  unfold sortedFrom
  rw [List.get_of_eq e]
  rfl

theorem before_strict (f : Fin 8 → EReal) : StrictTotalBefore (before f) := by
  have := StrictTotalBefore.of_key_then_position (n := 8) (fun x y : EReal => decide (y < x)) f
    (fun x => by simp) (fun x y z hx hy => by simp at *; exact lt_trans hy hx)
    (fun x y => by simp; rcases lt_trichotomy x y with h | h | h <;> simp [h])
  exact this

/-- The sort's first place is the first greatest place. -/
theorem sorted_first {f : Fin 8 → EReal} {a b : Fin 8} (h : IsTop f a) (h2 : IsSecond f a b) (i : Fin 2) :
    sortedFrom (fun k k' : Fin 8 => Ideal.cmp .ogt (f k) (f k') == 1#1) (i.castLE (by decide)) = ![a, b] i := by
  rw [sortedFrom_desc]
  refine (before_strict f).sortedFrom_eq_of_prefix (by decide) ![a, b] ?_ ?_ ?_ i
  · intro x y hxy
    fin_cases x <;> fin_cases y <;> simp_all [h2.ne, h2.ne.symm]
  · intro x y hxy
    have hx : x = 0 := Fin.ext (by have := Fin.lt_def.1 hxy; have := y.isLt; simp; omega)
    have hy : y = 1 := Fin.ext (by have := Fin.lt_def.1 hxy; have := y.isLt; simp; omega)
    subst hx hy
    show before f b a = false
    have h1 : ¬ f a < f b := not_lt.2 (h.le b)
    by_cases he : f b = f a
    · have : ¬ b < a := not_lt.2 (h.first b he)
      simp [before, h1, this]
    · simp [before, h1, he]
  · intro x p hp
    have hpa : p ≠ a := fun e => hp 0 e.symm
    have hpb : p ≠ b := fun e => hp 1 e.symm
    fin_cases x
    · show before f p a = false
      have h1 : ¬ f a < f p := not_lt.2 (h.le p)
      by_cases he : f p = f a
      · have : ¬ p < a := not_lt.2 (h.first p he)
        simp [before, h1, this]
      · simp [before, h1, he]
    · show before f p b = false
      have h1 : ¬ f b < f p := not_lt.2 (h2.le p hpa)
      by_cases he : f p = f b
      · have : ¬ p < b := not_lt.2 (h2.first p hpa he)
        simp [before, h1, this]
      · simp [before, h1, he]

end Cert.GateMath
-- ==== Proof.GateTop.lean ====
module

public import proofs.«01_k».proof.Proof.GateRun
public import proofs.«01_k».proof.Proof.GateMath
public import proofs.«01_k».proof.Proof.Gen.RefGatingIdeal.Run
public import Idealize.ShloMosaic.Lib.Pointwise

/-!
# The two chosen experts of a row of logits

The kernel finds them by two passes of maximum and least matching lane, the reference by the head of a stable sort. Both give
the row's first greatest place and its second place, and the values there.
-/

@[expose] public section

set_option maxRecDepth 16384

noncomputable section

namespace Cert.GateTop

open Idealize.ShloMosaic
open Cert.GatingIdeal Cert.GatingIdeal.Gen Cert.GatingIdeal.Run
open Cert.GateMath

theorem neg_inf : Ideal.ofBits .f32 4286578688#32 = ⊥ := by simp [Ideal.ofBits, Ideal.ieee]

/-- Row `i` of the logits. -/
def row (L : FVec Ideal S32x8 .f32) (i : Fin 32) : Fin 8 → EReal := fun e => L (ix2 i e)

/-- `a` and `b` are the first and second places of row `i`. -/
structure Two (L : FVec Ideal S32x8 .f32) (i : Fin 32) (a b : Fin 8) : Prop where
  one : IsTop (row L i) a
  two : IsTop (masked (row L i) a) b
  snd : IsSecond (row L i) a b

theorem exists_two (L : FVec Ideal S32x8 .f32) (i : Fin 32) (h : ∀ e, ⊥ < row L i e) : ∃ a b, Two L i a b := by
  obtain ⟨a, ha⟩ := exists_top (row L i)
  obtain ⟨b, hb⟩ := exists_top (masked (row L i) a)
  exact ⟨a, b, ha, hb, second_of_top h hb⟩

theorem ofNat_inj (x y : Fin 8) : BitVec.ofNat 32 x.val = BitVec.ofNat 32 y.val ↔ x = y := by
  constructor
  · intro h
    have := congrArg BitVec.toInt h
    rw [toInt_ofNat_lane, toInt_ofNat_lane] at this
    exact Fin.ext (by exact_mod_cast this)
  · rintro rfl; rfl

section Lanes

variable {L : FVec Ideal S32x8 .f32} {i : Fin 32} {a b : Fin 8} (h : IsTop (row L i) a)
include h

theorem pay6_apply : k0_pay6 (top L) (ix2 i 0) = row L i a := by
  have e : k0_pay6 (top L) (ix2 i 0) = Finset.fold max (Ideal.ofBits .f32 4286578688#32) (fun x => L (ix2 i x)) Finset.univ := by
    pointwise [k0_pay6, top]
  exact e.trans ((congrArg (fun z => Finset.fold max z (fun x => L (ix2 i x)) Finset.univ) neg_inf).trans h.fold_max)

theorem pay7_apply : k0_pay7 L lanes (top L) (ix2 i 0) = BitVec.ofNat 32 a.val := by
  have e : k0_pay7 L lanes (top L) (ix2 i 0) = Finset.fold IntOp.minsi 2147483647#32 (fun x : Fin 8 => if L (ix2 i x) = k0_pay6 (top L) (ix2 i 0) then BitVec.ofNat 32 x.val else 8#32) Finset.univ := by
    pointwise [k0_pay7, k0_pay6, lanes]
  exact e.trans (h.first_lane _ fun x => by rw [pay6_apply h]; exact Iff.rfl)

theorem pay8_apply (e : Fin 8) : k0_pay8 L lanes (top L) (ix2 i e) = masked (row L i) a e := by
  have p : k0_pay8 L lanes (top L) (ix2 i e) = Scalar.select (IntOp.cmpi .eq (BitVec.ofNat 32 e.val) (k0_pay7 L lanes (top L) (ix2 i 0))) (Ideal.ofBits .f32 4286578688#32) (L (ix2 i e)) := by
    pointwise [k0_pay8, lanes]
  rw [p, pay7_apply h, neg_inf]
  by_cases hea : e = a
  · simp [masked, Scalar.select, IntOp.cmpi, hea]
  · have : ¬ BitVec.ofNat 32 e.val = BitVec.ofNat 32 a.val := fun q => hea ((ofNat_inj e a).1 q)
    have q : IntOp.cmpi .eq (BitVec.ofNat 32 e.val) (BitVec.ofNat 32 a.val) = 0#1 := by
      show BitVec.ofBool (BitVec.ofNat 32 e.val == BitVec.ofNat 32 a.val) = 0#1
      rw [beq_eq_false_iff_ne.2 this]; rfl
    rw [q]
    exact (if_neg hea).symm

/-- The second pass picks the first lane of the masked row's largest. -/
theorem second_lane (g : IsTop (masked (row L i) a) b) : k0_pay10 L lanes (top L) (ix2 i 0) = BitVec.ofNat 32 b.val := by
  have p : k0_pay9 L lanes (top L) (ix2 i 0) = Finset.fold max (Ideal.ofBits .f32 4286578688#32) (fun x => k0_pay8 L lanes (top L) (ix2 i x)) Finset.univ := by
    pointwise [k0_pay9]
  have e : k0_pay10 L lanes (top L) (ix2 i 0) = Finset.fold IntOp.minsi 2147483647#32 (fun x : Fin 8 => if k0_pay8 L lanes (top L) (ix2 i x) = k0_pay9 L lanes (top L) (ix2 i 0) then BitVec.ofNat 32 x.val else 8#32) Finset.univ := by
    pointwise [k0_pay10, lanes]
  refine e.trans (g.first_lane _ fun x => ?_)
  rw [p, neg_inf, show (fun x => k0_pay8 L lanes (top L) (ix2 i x)) = masked (row L i) a from funext fun x => pay8_apply h x, g.fold_max, pay8_apply h]

end Lanes

section Kernel

variable {L : FVec Ideal S32x8 .f32} {i : Fin 32} {a b : Fin 8} (h : Two L i a b)
include h

theorem pay9_apply : k0_pay9 L lanes (top L) (ix2 i 0) = row L i b := by
  have e : k0_pay9 L lanes (top L) (ix2 i 0) = Finset.fold max (Ideal.ofBits .f32 4286578688#32) (fun x => k0_pay8 L lanes (top L) (ix2 i x)) Finset.univ := by
    pointwise [k0_pay9]
  rw [e, neg_inf, show (fun x => k0_pay8 L lanes (top L) (ix2 i x)) = masked (row L i) a from funext fun x => pay8_apply h.one x]
  exact h.two.fold_max.trans (if_neg h.snd.ne)

theorem pay10_apply : k0_pay10 L lanes (top L) (ix2 i 0) = BitVec.ofNat 32 b.val := second_lane h.one h.two

omit h in
/-- A row of stored indices, from the two passes. -/
theorem idx_parts (L : FVec Ideal S32x8 .f32) (i : Fin 32) (k : Fin 2) : idxOf L (ix2 i k) = ![k0_pay7 L lanes (top L) (ix2 i 0), k0_pay10 L lanes (top L) (ix2 i 0)] k := by
  have e : ∀ P Q : IVec S32x1 32, k0_pay1 P Q (ix2 i k) = if h : k.val < 1 then P (ix2 i ⟨k.val, h⟩) else Q (ix2 i ⟨k.val - 1, by have := k.isLt; omega⟩) := by
    intro P Q
    pointwise [k0_pay1]
  refine (e _ _).trans ?_
  fin_cases k <;> rfl

omit h in
/-- The stored indices are below eight, whatever the logits are. -/
theorem idx_lt (L : FVec Ideal S32x8 .f32) (i : Fin 32) (k : Fin 2) : (idxOf L (ix2 i k)).toNat < 8 := by
  obtain ⟨a, ha⟩ := exists_top (row L i)
  obtain ⟨b, hb⟩ := exists_top (masked (row L i) a)
  rw [idx_parts, pay7_apply ha, second_lane ha hb]
  have hlt : ∀ x : Fin 8, (BitVec.ofNat 32 x.val).toNat < 8 := fun x => by
    rw [BitVec.toNat_ofNat]
    omega
  fin_cases k
  · exact hlt a
  · exact hlt b

theorem idx_apply (k : Fin 2) : idxOf L (ix2 i k) = ![BitVec.ofNat 32 a.val, BitVec.ofNat 32 b.val] k := by
  rw [idx_parts, pay7_apply h.one, pay10_apply h]

/-- The first gate, in the kernel's words. -/
theorem pay12_apply : k0_pay12 L lanes (top L) (ix2 i 0) = Ideal.div 1 (1 + Ideal.exp (row L i b - row L i a)) := by
  have e : k0_pay12 L lanes (top L) (ix2 i 0) = Ideal.div 1 (1 + Ideal.exp (k0_pay9 L lanes (top L) (ix2 i 0) - k0_pay6 (top L) (ix2 i 0))) := by
    pointwise [k0_pay12, k0_pay11]
  rw [e, pay9_apply h, pay6_apply h.one]

/-- The second gate, in the kernel's words. -/
theorem pay13_apply : k0_pay13 L lanes (top L) (ix2 i 0) = Ideal.div (Ideal.exp (row L i b - row L i a)) (1 + Ideal.exp (row L i b - row L i a)) := by
  have e : k0_pay13 L lanes (top L) (ix2 i 0) = Ideal.div (Ideal.exp (k0_pay9 L lanes (top L) (ix2 i 0) - k0_pay6 (top L) (ix2 i 0))) (1 + Ideal.exp (k0_pay9 L lanes (top L) (ix2 i 0) - k0_pay6 (top L) (ix2 i 0))) := by
    pointwise [k0_pay13, k0_pay11]
  rw [e, pay9_apply h, pay6_apply h.one]

theorem gates_apply (k : Fin 2) : gatesOf L (ix2 i k) = ![Ideal.div 1 (1 + Ideal.exp (row L i b - row L i a)), Ideal.div (Ideal.exp (row L i b - row L i a)) (1 + Ideal.exp (row L i b - row L i a))] k := by
  have e : ∀ P Q : FVec Ideal S32x1 .f32, k0_pay2 P Q (ix2 i k) = if h : k.val < 1 then P (ix2 i ⟨k.val, h⟩) else Q (ix2 i ⟨k.val - 1, by have := k.isLt; omega⟩) := by
    intro P Q
    pointwise [k0_pay2]
  refine (e _ _).trans ?_
  fin_cases k
  · exact pay12_apply h
  · exact pay13_apply h

end Kernel

section Reference

open Cert.RefGatingIdeal.Gen (sliceFits_S32x8_S32x3)

theorem along_ix2 (i : Fin 32) (k e : Fin 8) : Shape.Idx.along (s := S32x8) (ix2 i k) (1 : Fin 2) e = ix2 i e := by
  funext d
  fin_cases d <;> simp [Shape.Idx.along] <;> rfl

/-- A row's sort by value: the values. -/
theorem sort_values (L : FVec Ideal S32x8 .f32) (y : IVec S32x8 32) (i : Fin 32) (k : Fin 8) :
    (Host.sort2 S32x8 1 (fun l r => FloatOps.cmpfTotal (F := Ideal) (φ := .f32) .gt l.1 r.1) L y).1 (ix2 i k) =
      row L i (sortedFrom (fun k k' : Fin 8 => Ideal.cmp .ogt (row L i k) (row L i k') == 1#1) k) := by
  show L (Shape.Idx.along (s := S32x8) (ix2 i k) (1 : Fin 2) (sortedFrom (fun e e' : Fin 8 => Ideal.cmp .ogt (L (Shape.Idx.along (s := S32x8) (ix2 i k) (1 : Fin 2) e)) (L (Shape.Idx.along (s := S32x8) (ix2 i k) (1 : Fin 2) e')) == 1#1) k)) = _
  simp only [along_ix2]
  exact congrArg L (along_ix2 i k _)

/-- A row's sort by value: what goes along with the values. -/
theorem sort_places (L : FVec Ideal S32x8 .f32) (y : IVec S32x8 32) (i : Fin 32) (k : Fin 8) :
    (Host.sort2 S32x8 1 (fun l r => FloatOps.cmpfTotal (F := Ideal) (φ := .f32) .gt l.1 r.1) L y).2 (ix2 i k) =
      y (ix2 i (sortedFrom (fun k k' : Fin 8 => Ideal.cmp .ogt (row L i k) (row L i k') == 1#1) k)) := by
  show y (Shape.Idx.along (s := S32x8) (ix2 i k) (1 : Fin 2) (sortedFrom (fun e e' : Fin 8 => Ideal.cmp .ogt (L (Shape.Idx.along (s := S32x8) (ix2 i k) (1 : Fin 2) e)) (L (Shape.Idx.along (s := S32x8) (ix2 i k) (1 : Fin 2) e')) == 1#1) k)) = _
  simp only [along_ix2]
  exact congrArg y (along_ix2 i k _)

variable {L : FVec Ideal S32x8 .f32} {i : Fin 32} {a b : Fin 8} (h : Two L i a b)
include h

/-- The reference's two greatest values. -/
theorem topK_values (k : Fin 2) : (extractStridedSlice S32x2 ![0, 0] (Host.topK Cert.RefGatingIdeal.S32x3 1 (FloatOps.cmpfTotal (F := Ideal) (φ := .f32) .gt) L sliceFits_S32x8_S32x3).1 Cert.RefGatingIdeal.Gen.slices_S32x3_S32x2_0_0 : FVec Ideal S32x2 .f32) (ix2 i k) = row L i (![a, b] k) := by
  have e : (extractStridedSlice S32x2 ![0, 0] (Host.topK Cert.RefGatingIdeal.S32x3 1 (FloatOps.cmpfTotal (F := Ideal) (φ := .f32) .gt) L sliceFits_S32x8_S32x3).1 Cert.RefGatingIdeal.Gen.slices_S32x3_S32x2_0_0 : FVec Ideal S32x2 .f32) (ix2 i k)
      = (Host.sort2 S32x8 1 (fun l r => FloatOps.cmpfTotal (F := Ideal) (φ := .f32) .gt l.1 r.1) L fun i => BitVec.ofNat 32 (i 1).val).1 (ix2 i (k.castLE (by decide))) := by
    pointwise [Host.topK]
    rfl
  rw [e, sort_values, sorted_first h.one h.snd k]

/-- The reference's two chosen experts. -/
theorem topK_places (k : Fin 2) : (extractStridedSlice S32x2 ![0, 0] (Host.topK Cert.RefGatingIdeal.S32x3 1 (FloatOps.cmpfTotal (F := Ideal) (φ := .f32) .gt) L sliceFits_S32x8_S32x3).2 Cert.RefGatingIdeal.Gen.slices_S32x3_S32x2_0_0 : IVec S32x2 32) (ix2 i k) = BitVec.ofNat 32 (![a, b] k).val := by
  have e : (extractStridedSlice S32x2 ![0, 0] (Host.topK Cert.RefGatingIdeal.S32x3 1 (FloatOps.cmpfTotal (F := Ideal) (φ := .f32) .gt) L sliceFits_S32x8_S32x3).2 Cert.RefGatingIdeal.Gen.slices_S32x3_S32x2_0_0 : IVec S32x2 32) (ix2 i k)
      = (Host.sort2 S32x8 1 (fun l r => FloatOps.cmpfTotal (F := Ideal) (φ := .f32) .gt l.1 r.1) L fun i => BitVec.ofNat 32 (i 1).val).2 (ix2 i (k.castLE (by decide))) := by
    pointwise [Host.topK]
    rfl
  rw [e, sort_places, sorted_first h.one h.snd k]
  rfl

end Reference

end Cert.GateTop
-- ==== Proof.GateReal.lean ====
module

public import Idealize.ShloMosaic.PureOps.Ideal
public import Idealize.ShloMosaic.PureOps.Ideal.Laws
public import Idealize.ShloMosaic.Lib.IdealHost

/-!
# Real values among the extended ones

Sums, products, quotients by a nonzero constant and finite maxima of real numbers are real.
-/

@[expose] public section

noncomputable section

namespace Cert.GateReal

open Idealize.ShloMosaic

/-- The extended real `x` is a real number. -/
def IsReal (x : EReal) : Prop := ∃ r : ℝ, x = (r : EReal)

theorem isReal_iff {x : EReal} : IsReal x ↔ x ≠ ⊤ ∧ x ≠ ⊥ := by
  constructor
  · rintro ⟨r, rfl⟩; exact ⟨EReal.coe_ne_top r, EReal.coe_ne_bot r⟩
  · rintro ⟨h, h'⟩; exact ⟨x.toReal, (EReal.coe_toReal h h').symm⟩

theorem IsReal.bot_lt {x : EReal} (h : IsReal x) : ⊥ < x := bot_lt_iff_ne_bot.2 (isReal_iff.1 h).2

theorem IsReal.add {x y : EReal} : IsReal x → IsReal y → IsReal (x + y) := by
  rintro ⟨r, rfl⟩ ⟨s, rfl⟩; exact ⟨r + s, (EReal.coe_add r s).symm⟩

theorem IsReal.sub {x y : EReal} : IsReal x → IsReal y → IsReal (x - y) := by
  rintro ⟨r, rfl⟩ ⟨s, rfl⟩; exact ⟨r - s, (EReal.coe_sub r s).symm⟩

theorem IsReal.mul {x y : EReal} : IsReal x → IsReal y → IsReal (x * y) := by
  rintro ⟨r, rfl⟩ ⟨s, rfl⟩; exact ⟨r * s, (EReal.coe_mul r s).symm⟩

theorem isReal_zero : IsReal 0 := ⟨0, rfl⟩

theorem isReal_sum {ι : Type} (s : Finset ι) (f : ι → EReal) (h : ∀ i ∈ s, IsReal (f i)) : IsReal (∑ i ∈ s, f i) := by
  classical
  induction s using Finset.induction_on with
  | empty => exact isReal_zero
  | insert a s ha ih =>
    rw [Finset.sum_insert ha]
    exact (h a (Finset.mem_insert_self a s)).add (ih fun i hi => h i (Finset.mem_insert_of_mem hi))

theorem div_coe (r s : ℝ) (hs : s ≠ 0) : Ideal.div (r : EReal) (s : EReal) = ((r / s : ℝ) : EReal) := by
  unfold Ideal.div
  rw [if_neg (by exact_mod_cast hs), ← EReal.coe_inv, ← EReal.coe_mul, div_eq_mul_inv]

theorem IsReal.div {x : EReal} {s : ℝ} (hs : s ≠ 0) : IsReal x → IsReal (Ideal.div x (s : EReal)) := by
  rintro ⟨r, rfl⟩; exact ⟨r / s, div_coe r s hs⟩

/-- The greatest of finitely many reals, at least one, is real. -/
theorem isReal_fold_max {ι : Type} (s : Finset ι) (hs : s.Nonempty) (f : ι → EReal) (h : ∀ i ∈ s, IsReal (f i)) :
    IsReal (s.fold max ⊥ f) := by
  refine isReal_iff.2 ⟨ne_of_lt ?_, ne_of_gt ?_⟩
  · exact Finset.fold_max_lt _ |>.2 ⟨bot_lt_top, fun i hi => lt_top_iff_ne_top.2 (isReal_iff.1 (h i hi)).1⟩
  · obtain ⟨i, hi⟩ := hs
    exact (Finset.lt_fold_max _).2 (Or.inr ⟨i, hi, (h i hi).bot_lt⟩)

/-- A value whose absolute value is below infinity is real. -/
theorem isReal_of_abs {x : EReal} (h : max x (-x) < ⊤) : IsReal x := by
  refine isReal_iff.2 ⟨fun e => ?_, fun e => ?_⟩
  · rw [e] at h; simp at h
  · rw [e] at h; simp at h

theorem ofBits_1024 : Ideal.ofBits .f32 0x44800000#32 = ((1024 : ℝ) : EReal) := by
  simp [Ideal.ofBits, Ideal.ieee, -EReal.coe_mul]; norm_num

theorem ofBits_8 : Ideal.ofBits .f32 0x41000000#32 = ((8 : ℝ) : EReal) := by
  simp [Ideal.ofBits, Ideal.ieee, -EReal.coe_mul]; norm_num

theorem ofBits_7 : Ideal.ofBits .f32 0x40E00000#32 = ((7 : ℝ) : EReal) := by
  simp [Ideal.ofBits, Ideal.ieee, -EReal.coe_mul]; norm_num

theorem isReal_leak : IsReal (Ideal.ofBits .f32 0x3C23D70A#32) := by
  simp [Ideal.ofBits, Ideal.ieee]
  exact (IsReal.mul ⟨_, rfl⟩ ⟨_, rfl⟩)

end Cert.GateReal
-- ==== Proof.GateLoss.lean ====
module

public import proofs.«01_k».proof.Proof.GateTop
public import proofs.«01_k».proof.Proof.GateReal
public import Idealize.ShloMosaic.Lib.IndicatorCount

/-!
# The gates' values and the balance loss

With real logits the softmax of the two greatest is `1/(1+q)` and `q/(1+q)` for `q` the exponential of their difference: what
the kernel computes. Both are positive, so an expert's load is the number of images that chose it, and its importance the sum
of the gates they gave it; the loss is the same function of the two.
-/

@[expose] public section

set_option maxRecDepth 16384

noncomputable section

namespace Cert.GateLoss

open Idealize.ShloMosaic
open Cert.GateReal Cert.GateTop
open Cert.RefGatingIdeal Cert.RefGatingIdeal.Gen

/-- The first gate of two logits. -/
def g1 (x y : EReal) : EReal := Ideal.div 1 (1 + Ideal.exp (y - x))

/-- The second gate of two logits. -/
def g2 (x y : EReal) : EReal := Ideal.div (Ideal.exp (y - x)) (1 + Ideal.exp (y - x))

theorem exp_diff (r s : ℝ) : Ideal.exp ((s : EReal) - (r : EReal)) = ((Real.exp (s - r) : ℝ) : EReal) := by
  rw [← EReal.coe_sub]; rfl

theorem g1_pos {x y : EReal} (hx : IsReal x) (hy : IsReal y) : 0 < g1 x y := by
  obtain ⟨r, rfl⟩ := hx
  obtain ⟨s, rfl⟩ := hy
  have hp := Real.exp_pos (s - r)
  rw [g1, exp_diff, show (1 : EReal) = ((1 : ℝ) : EReal) from rfl, ← EReal.coe_add, div_coe _ _ (by positivity)]
  have : (0 : ℝ) < 1 / (1 + Real.exp (s - r)) := by positivity
  exact_mod_cast this

theorem g2_pos {x y : EReal} (hx : IsReal x) (hy : IsReal y) : 0 < g2 x y := by
  obtain ⟨r, rfl⟩ := hx
  obtain ⟨s, rfl⟩ := hy
  have hp := Real.exp_pos (s - r)
  rw [g2, exp_diff, show (1 : EReal) = ((1 : ℝ) : EReal) from rfl, ← EReal.coe_add, div_coe _ _ (by positivity)]
  have : (0 : ℝ) < Real.exp (s - r) / (1 + Real.exp (s - r)) := by positivity
  exact_mod_cast this

/-- The reference's softmax of a pair whose first is the greater. -/
theorem softmax_apply (T : FVec Ideal S32x2 .f32) (i : Fin 32) (h0 : IsReal (T (ix2 i 0))) (hle : T (ix2 i 1) ≤ T (ix2 i 0)) (k : Fin 2) :
    (Host.divf (Host.exp (subf T (broadcastInDim S32x2 ![0, 1] bcast_S32x1_S32x2_0_1 (broadcastInDim S32x1 ![0] bcast_S32_S32x1_0 (maximumf (broadcastInDim S32 ![] bcast_S_S32 (constant S_ .f32 0xFF800000#32)) (Host.reduce FloatOps.maximumf T (constant S_ .f32 0xFF800000#32) reducesTo_S32x2_S32_d1 h_S_)))))) (broadcastInDim S32x2 ![0, 1] bcast_S32x1_S32x2_0_1 (broadcastInDim S32x1 ![0] bcast_S32_S32x1_0 (Host.reduceAdd (Host.exp (subf T (broadcastInDim S32x2 ![0, 1] bcast_S32x1_S32x2_0_1 (broadcastInDim S32x1 ![0] bcast_S32_S32x1_0 (maximumf (broadcastInDim S32 ![] bcast_S_S32 (constant S_ .f32 0xFF800000#32)) (Host.reduce FloatOps.maximumf T (constant S_ .f32 0xFF800000#32) reducesTo_S32x2_S32_d1 h_S_)))))) (constant S_ .f32 0x00000000#32) reducesTo_S32x2_S32_d1 h_S_))) : FVec Ideal S32x2 .f32) (ix2 i k)
      = ![g1 (T (ix2 i 0)) (T (ix2 i 1)), g2 (T (ix2 i 0)) (T (ix2 i 1))] k := by
  have p : (Host.divf (Host.exp (subf T (broadcastInDim S32x2 ![0, 1] bcast_S32x1_S32x2_0_1 (broadcastInDim S32x1 ![0] bcast_S32_S32x1_0 (maximumf (broadcastInDim S32 ![] bcast_S_S32 (constant S_ .f32 0xFF800000#32)) (Host.reduce FloatOps.maximumf T (constant S_ .f32 0xFF800000#32) reducesTo_S32x2_S32_d1 h_S_)))))) (broadcastInDim S32x2 ![0, 1] bcast_S32x1_S32x2_0_1 (broadcastInDim S32x1 ![0] bcast_S32_S32x1_0 (Host.reduceAdd (Host.exp (subf T (broadcastInDim S32x2 ![0, 1] bcast_S32x1_S32x2_0_1 (broadcastInDim S32x1 ![0] bcast_S32_S32x1_0 (maximumf (broadcastInDim S32 ![] bcast_S_S32 (constant S_ .f32 0xFF800000#32)) (Host.reduce FloatOps.maximumf T (constant S_ .f32 0xFF800000#32) reducesTo_S32x2_S32_d1 h_S_)))))) (constant S_ .f32 0x00000000#32) reducesTo_S32x2_S32_d1 h_S_))) : FVec Ideal S32x2 .f32) (ix2 i k)
      = Ideal.div (Ideal.exp (T (ix2 i k) - max (Ideal.ofBits .f32 4286578688#32) (Finset.univ.fold max (Ideal.ofBits .f32 4286578688#32) fun x => T (ix2 i x))))
          (∑ x, Ideal.exp (T (ix2 i x) - max (Ideal.ofBits .f32 4286578688#32) (Finset.univ.fold max (Ideal.ofBits .f32 4286578688#32) fun x => T (ix2 i x)))) := by
    pointwise
  have m : max (Ideal.ofBits .f32 4286578688#32) (Finset.univ.fold max (Ideal.ofBits .f32 4286578688#32) fun x => T (ix2 i x)) = T (ix2 i 0) := by
    rw [neg_inf]
    refine (max_eq_right bot_le).trans (le_antisymm ((Finset.fold_max_le _).2 ⟨bot_le, fun x _ => ?_⟩) ((Finset.le_fold_max _).2 (Or.inr ⟨0, Finset.mem_univ _, le_rfl⟩)))
    fin_cases x
    · exact le_rfl
    · exact hle
  have one : Ideal.exp (T (ix2 i 0) - T (ix2 i 0)) = 1 := by
    obtain ⟨r, hr⟩ := h0
    rw [hr, exp_diff, sub_self, Real.exp_zero]; rfl
  rw [p, m, Fin.sum_univ_two, one]
  fin_cases k
  · show Ideal.div (Ideal.exp (T (ix2 i 0) - T (ix2 i 0))) _ = g1 _ _
    rw [one]; rfl
  · rfl

/-- The square of the coefficient of variation of eight numbers, with a small constant below. -/
def cv (u : Fin 8 → EReal) : EReal :=
  Ideal.div (Ideal.div (∑ e, (u e - Ideal.div (∑ e, u e) (Ideal.ofBits .f32 0x41000000#32)) * (u e - Ideal.div (∑ e, u e) (Ideal.ofBits .f32 0x41000000#32))) (Ideal.ofBits .f32 0x40E00000#32))
    (Ideal.div (∑ e, u e) (Ideal.ofBits .f32 0x41000000#32) * Ideal.div (∑ e, u e) (Ideal.ofBits .f32 0x41000000#32) + Ideal.ofBits .f32 0x2EDBE6FF#32)

/-- The loss of the experts' importances and loads. -/
def loss (u v : Fin 8 → EReal) : EReal := (cv u + cv v) * Ideal.ofBits .f32 0x3C23D70A#32

/-- The reference's term for `cv`. -/
def cvTerm (U : FVec Ideal S8 .f32) : FVec Ideal S_ .f32 :=
  Host.divf (select (cmpf .ogt (subf (constant (F := Ideal) S_ .f32 0x41000000#32) (sitofp (F := Ideal) .f32 (constantI S_ 32 1#32))) (constant (F := Ideal) S_ .f32 0x00000000#32)) (Host.divf (Host.reduceAdd (mulf (subf U (broadcastInDim S8 ![0] bcast_S1_S8_0 (Host.divf (broadcastInDim S1 ![] bcast_S_S1 (Host.reduceAdd U (constant (F := Ideal) S_ .f32 0x00000000#32) reducesTo_S8_S_d0 h_S_)) (broadcastInDim S1 ![] bcast_S_S1 (constant (F := Ideal) S_ .f32 0x41000000#32))))) (subf U (broadcastInDim S8 ![0] bcast_S1_S8_0 (Host.divf (broadcastInDim S1 ![] bcast_S_S1 (Host.reduceAdd U (constant (F := Ideal) S_ .f32 0x00000000#32) reducesTo_S8_S_d0 h_S_)) (broadcastInDim S1 ![] bcast_S_S1 (constant (F := Ideal) S_ .f32 0x41000000#32)))))) (constant (F := Ideal) S_ .f32 0x00000000#32) reducesTo_S8_S_d0 h_S_) (subf (constant (F := Ideal) S_ .f32 0x41000000#32) (sitofp (F := Ideal) .f32 (constantI S_ 32 1#32)))) (id (constant (F := Ideal) S_ .f32 0x7FC00000#32))) (addf (mulf (Host.divf (Host.reduceAdd U (constant (F := Ideal) S_ .f32 0x00000000#32) reducesTo_S8_S_d0 h_S_) (constant (F := Ideal) S_ .f32 0x41000000#32)) (Host.divf (Host.reduceAdd U (constant (F := Ideal) S_ .f32 0x00000000#32) reducesTo_S8_S_d0 h_S_) (constant (F := Ideal) S_ .f32 0x41000000#32))) (constant (F := Ideal) S_ .f32 0x2EDBE6FF#32))

theorem eight_less_one : Ideal.ofBits .f32 0x41000000#32 - FloatOps.sitofp (F := Ideal) .f32 (1#32) = Ideal.ofBits .f32 0x40E00000#32 := by
  have e : FloatOps.sitofp (F := Ideal) .f32 (1#32) = ((1 : ℝ) : EReal) := by
    show (((1#32).toInt : ℝ) : EReal) = _
    rw [show (1#32).toInt = 1 by decide]; norm_num
  rw [e, ofBits_8, ofBits_7, ← EReal.coe_sub]; norm_num

theorem cvTerm_apply (U : FVec Ideal S8 .f32) : cvTerm U ix0 = cv fun e => U (ix1 e) := by
  have p : cvTerm U ix0 = Ideal.div
      (if 0 < Ideal.ofBits .f32 0x41000000#32 - FloatOps.sitofp (F := Ideal) .f32 (1#32) then
        Ideal.div (∑ e, (U (ix1 e) - Ideal.div (∑ e, U (ix1 e)) (Ideal.ofBits .f32 0x41000000#32)) * (U (ix1 e) - Ideal.div (∑ e, U (ix1 e)) (Ideal.ofBits .f32 0x41000000#32)))
          (Ideal.ofBits .f32 0x41000000#32 - FloatOps.sitofp (F := Ideal) .f32 (1#32))
      else id (constant (F := Ideal) S_ .f32 0x7FC00000#32) ix0)
      (Ideal.div (∑ e, U (ix1 e)) (Ideal.ofBits .f32 0x41000000#32) * Ideal.div (∑ e, U (ix1 e)) (Ideal.ofBits .f32 0x41000000#32) + Ideal.ofBits .f32 0x2EDBE6FF#32) := by
    pointwise [cvTerm]
  have pos : (0 : EReal) < Ideal.ofBits .f32 0x40E00000#32 := by
    rw [ofBits_7]; exact_mod_cast (by norm_num : (0 : ℝ) < 7)
  rw [p, eight_less_one, if_pos pos]
  rfl

/-- A one-hot entry as a number. -/
theorem hot_apply (e a : Fin 8) : (FloatOps.sitofp .f32 (BitVec.setWidth 32 (IntOp.cmpi .eq (BitVec.ofNat 32 e.val) (BitVec.ofNat 32 a.val))) : Ideal .f32) = if e = a then (1 : EReal) else 0 := by
  show (((BitVec.setWidth 32 (BitVec.ofBool (BitVec.ofNat 32 e.val == BitVec.ofNat 32 a.val))).toInt : ℝ) : EReal) = _
  by_cases h : e = a
  · subst h
    simp
  · have : ¬ BitVec.ofNat 32 e.val = BitVec.ofNat 32 a.val := fun q => h ((ofNat_inj e a).1 q)
    rw [beq_eq_false_iff_ne.2 this, if_neg h]
    simp

/-- A count of truths, added up as words and then read as a number. -/
theorem count_apply (p : Fin 32 → Prop) [DecidablePred p] :
    (FloatOps.sitofp .f32 (Finset.univ.fold IntOp.addi 0#32 fun x => BitVec.setWidth 32 (BitVec.ofBool (decide (p x)))) : Ideal .f32) = ∑ x, if p x then (1 : EReal) else 0 := by
  rw [IndicatorCount.fold_addi_setWidth_eq_card]
  have hc : (Finset.univ.filter fun k => BitVec.ofBool (decide (p k)) = 1#1).card ≤ 32 := (Finset.card_le_univ _).trans (by simp)
  have hf : (Finset.univ.filter fun k => BitVec.ofBool (decide (p k)) = 1#1) = Finset.univ.filter p := by
    refine Finset.filter_congr fun k _ => ?_
    by_cases h : p k <;> simp [h]
  rw [hf] at hc ⊢
  show (((BitVec.ofNat 32 (Finset.univ.filter p).card).toInt : ℝ) : EReal) = _
  have : (BitVec.ofNat 32 (Finset.univ.filter p).card).toInt = (Finset.univ.filter p).card := by
    generalize (Finset.univ.filter p).card = n at hc
    interval_cases n <;> rfl
  rw [this, Finset.sum_boole]
  norm_cast

end Cert.GateLoss
-- ==== Proof.GateBalance.lean ====
module

public import proofs.«01_k».proof.Proof.GateLoss
public import proofs.«01_k».proof.Proof.ExpRef

/-!
# Indices, gates and loss, from the logits

From the same real logits the kernel's body and the reference's lines give the same indices, gates and loss.
-/

@[expose] public section

set_option maxRecDepth 16384

noncomputable section

namespace Cert.GateBalance

open Idealize.ShloMosaic
open Cert.GateMath Cert.GateReal Cert.GateTop Cert.GateLoss

section Common

variable (L : FVec Ideal Cert.GatingIdeal.S32x8 .f32) (a b : Fin 32 → Fin 8)

/-- Image `i`'s first gate. -/
def G1 (i : Fin 32) : EReal := g1 (row L i (a i)) (row L i (b i))

/-- Image `i`'s second gate. -/
def G2 (i : Fin 32) : EReal := g2 (row L i (a i)) (row L i (b i))

/-- Expert `e`'s importance: the gates it is given. -/
def imp (e : Fin 8) : EReal := ∑ i, ((if e = a i then (1 : EReal) else 0) * G1 L a b i + (if e = b i then (1 : EReal) else 0) * G2 L a b i)

/-- Expert `e`'s load: the images that chose it. -/
def load (e : Fin 8) : EReal := ∑ i, ((if e = a i then (1 : EReal) else 0) + (if e = b i then (1 : EReal) else 0))

end Common

section Kernel

open Cert.GatingIdeal Cert.GatingIdeal.Gen Cert.GatingIdeal.Run

variable {L : FVec Ideal S32x8 .f32} {a b : Fin 32 → Fin 8} (h : ∀ i, Two L i (a i) (b i))
include h

theorem pay14_apply (i : Fin 32) (e : Fin 8) : k0_pay14 L lanes (top L) (ix2 i e) = if e = a i then (1 : EReal) else 0 := by
  have p : k0_pay14 L lanes (top L) (ix2 i e) = (FloatOps.sitofp .f32 (BitVec.setWidth 32 (IntOp.cmpi .eq (BitVec.ofNat 32 e.val) (k0_pay7 L lanes (top L) (ix2 i 0)))) : Ideal .f32) := by
    pointwise [k0_pay14, lanes]
  rw [p, pay7_apply (h i).one]
  exact hot_apply e (a i)

theorem pay15_apply (i : Fin 32) (e : Fin 8) : k0_pay15 L lanes (top L) (ix2 i e) = if e = b i then (1 : EReal) else 0 := by
  have p : k0_pay15 L lanes (top L) (ix2 i e) = (FloatOps.sitofp .f32 (BitVec.setWidth 32 (IntOp.cmpi .eq (BitVec.ofNat 32 e.val) (k0_pay10 L lanes (top L) (ix2 i 0)))) : Ideal .f32) := by
    pointwise [k0_pay15, lanes]
  rw [p, pay10_apply (h i)]
  exact hot_apply e (b i)

theorem pay16_apply (e : Fin 8) : k0_pay16 L lanes (top L) (ix1 e) = imp L a b e := by
  have p : k0_pay16 L lanes (top L) (ix1 e) = ∑ x, (k0_pay14 L lanes (top L) (ix2 x e) * k0_pay12 L lanes (top L) (ix2 x 0) + k0_pay15 L lanes (top L) (ix2 x e) * k0_pay13 L lanes (top L) (ix2 x 0)) := by
    pointwise [k0_pay16]
  refine p.trans (Finset.sum_congr rfl fun i _ => ?_)
  rw [pay14_apply h, pay15_apply h, pay12_apply (h i), pay13_apply (h i)]
  rfl

theorem pay17_apply (e : Fin 8) : k0_pay17 L lanes (top L) (ix1 e) = load a b e := by
  have p : k0_pay17 L lanes (top L) (ix1 e) = ∑ x, (k0_pay14 L lanes (top L) (ix2 x e) + k0_pay15 L lanes (top L) (ix2 x e)) := by
    pointwise [k0_pay17]
  refine p.trans (Finset.sum_congr rfl fun i _ => ?_)
  rw [pay14_apply h, pay15_apply h]

theorem kernel_loss : lossOf L (ix2 0 0) = loss (imp L a b) (load a b) := by
  have s : k0_pay18 L lanes (top L) = ∑ e, k0_pay16 L lanes (top L) (ix1 e) := by
    pointwise [k0_pay18]
  have p : ∀ u v : FVec Ideal S8 .f32, k0_pay3 u v (∑ e, u (ix1 e) : EReal) (ix2 0 0) = loss (fun e => u (ix1 e)) (fun e => v (ix1 e)) := by
    intro u v
    pointwise [k0_pay3, loss, cv]
  have q := p (k0_pay16 L lanes (top L)) (k0_pay17 L lanes (top L))
  unfold lossOf
  rw [s, q, show (fun e => k0_pay16 L lanes (top L) (ix1 e)) = imp L a b from funext (pay16_apply h),
    show (fun e => k0_pay17 L lanes (top L) (ix1 e)) = load a b from funext (pay17_apply h)]

end Kernel

section Reference

open Cert.RefGatingIdeal Cert.RefGatingIdeal.Gen Cert.RefGatingIdeal.Value

theorem importance_apply (D : FVec Ideal S32x8 .f32) (e : Fin 8) : (Host.reduceAdd D (constant S_ .f32 0x00000000#32) reducesTo_S32x8_S8_d0 h_S_ : FVec Ideal S8 .f32) (ix1 e) = ∑ i, D (ix2 i e) := by
  pointwise

theorem load_apply (D : FVec Ideal S32x8 .f32) (e : Fin 8) : (sitofp .f32 (Host.reduce IntOp.addi (extui 32 (cmpf .ogt D (broadcastInDim S32x8 ![] bcast_S_S32x8 (constant S_ .f32 0x00000000#32))) natLt_1_32) (constantI S_ 32 0#32) reducesTo_S32x8_S8_d0 h_S_) : FVec Ideal S8 .f32) (ix1 e) = ∑ i, if 0 < D (ix2 i e) then (1 : EReal) else 0 := by
  have p : (sitofp .f32 (Host.reduce IntOp.addi (extui 32 (cmpf .ogt D (broadcastInDim S32x8 ![] bcast_S_S32x8 (constant S_ .f32 0x00000000#32))) natLt_1_32) (constantI S_ 32 0#32) reducesTo_S32x8_S8_d0 h_S_) : FVec Ideal S8 .f32) (ix1 e) = (FloatOps.sitofp .f32 (Finset.univ.fold IntOp.addi 0#32 fun x => BitVec.setWidth 32 (BitVec.ofBool (decide (0 < D (ix2 x e))))) : Ideal .f32) := by
    pointwise
  exact p.trans (count_apply _)

variable (V0 : Valuation τ sig (Elt Ideal))

/-- The reference's logits. -/
abbrev lg : FVec Ideal S32x8 .f32 := res_main_v18 V0

variable {V0} {a b : Fin 32 → Fin 8} (h : ∀ i, Two (lg V0) i (a i) (b i)) (hr : ∀ i e, IsReal (lg V0 (ix2 i e)))

/-- The reference's gates. -/
abbrev gt (V0 : Valuation τ sig (Elt Ideal)) : FVec Ideal S32x2 .f32 := Host.divf (res_main_v27 V0) (broadcastInDim S32x2 ![0, 1] bcast_S32x1_S32x2_0_1 (broadcastInDim S32x1 ![0] bcast_S32_S32x1_0 (Host.reduceAdd (res_main_v27 V0) (constant S_ .f32 0x00000000#32) reducesTo_S32x2_S32_d1 h_S_)))

include h in
theorem ref_idx (i : Fin 32) (k : Fin 2) : (res_main_v20 V0 : IVec S32x2 32) (ix2 i k) = BitVec.ofNat 32 (![a i, b i] k).val := topK_places (h i) k

include h in
theorem ref_val (i : Fin 32) (k : Fin 2) : (res_main_v19 V0 : FVec Ideal S32x2 .f32) (ix2 i k) = row (lg V0) i (![a i, b i] k) := topK_values (h i) k

include h hr in
theorem ref_gates (i : Fin 32) (k : Fin 2) : gt V0 (ix2 i k) = ![G1 (lg V0) a b i, G2 (lg V0) a b i] k := by
  have e0 : (res_main_v19 V0 : FVec Ideal S32x2 .f32) (ix2 i 0) = row (lg V0) i (a i) := ref_val h i 0
  have e1 : (res_main_v19 V0 : FVec Ideal S32x2 .f32) (ix2 i 1) = row (lg V0) i (b i) := ref_val h i 1
  have s := softmax_apply (res_main_v19 V0) i (by rw [e0]; exact hr i (a i)) (by rw [e0, e1]; exact (h i).one.le (b i)) k
  rw [e0, e1] at s
  exact s

include h hr in
/-- The dense gates. -/
theorem ref_dense (i : Fin 32) (e : Fin 8) : (res_main_v49 V0 : FVec Ideal S32x8 .f32) (ix2 i e) = if e = b i then G2 (lg V0) a b i else if e = a i then G1 (lg V0) a b i else 0 := by
  have n : ∀ x : Fin 8, (BitVec.ofNat 32 x.val).toNat = x.val := fun x => by
    rw [BitVec.toNat_ofNat, Nat.mod_eq_of_lt (by have := x.isLt; omega)]
  have d := Cert.RefExpertsIdeal.Read.gates_apply (broadcastInDim S32x8 ![] bcast_S_S32x8 (constant S_ .f32 0x00000000#32 : FVec Ideal S_ .f32) : FVec Ideal S32x8 .f32) (fun _ => Ideal.ofBits_zero_f32)
    (res_main_v20 V0) (gt V0) (fun y => by
      obtain ⟨i, k, rfl⟩ : ∃ (i : Fin 32) (k : Fin 2), y = ix2 i k := ⟨y 0, y 1, eq_ix2 y⟩
      have e := ref_idx h i k
      refine (congrArg BitVec.toNat e).trans_lt ?_
      rw [n]; exact Fin.isLt _) i e
  have e0 : (res_main_v20 V0 : IVec S32x2 32) (ix2 i 0) = BitVec.ofNat 32 (a i).val := ref_idx h i 0
  have e1 : (res_main_v20 V0 : IVec S32x2 32) (ix2 i 1) = BitVec.ofNat 32 (b i).val := ref_idx h i 1
  have f0 : gt V0 (ix2 i 0) = G1 (lg V0) a b i := ref_gates h hr i 0
  have f1 : gt V0 (ix2 i 1) = G2 (lg V0) a b i := ref_gates h hr i 1
  refine d.trans ?_
  rw [e0, e1, n, n, f0, f1]
  simp only [Fin.ext_iff]

include h hr in
theorem ref_importance (e : Fin 8) : (res_main_v54 V0 : FVec Ideal S8 .f32) (ix1 e) = imp (lg V0) a b e := by
  refine (importance_apply (res_main_v49 V0) e).trans (Finset.sum_congr rfl fun i _ => ?_)
  rw [ref_dense h hr]
  have := (h i).snd.ne
  by_cases hb : e = b i
  · have ha : ¬ e = a i := fun q => this (hb.symm.trans q)
    rw [if_pos hb, if_pos hb, if_neg ha, zero_mul, zero_add, one_mul]
  · by_cases ha : e = a i
    · rw [if_neg hb, if_neg hb, if_pos ha, if_pos ha, one_mul, zero_mul, add_zero]
    · rw [if_neg hb, if_neg hb, if_neg ha, if_neg ha, zero_mul, zero_mul, add_zero]

include h hr in
theorem ref_load (e : Fin 8) : (res_main_v61 V0 : FVec Ideal S8 .f32) (ix1 e) = load a b e := by
  refine (load_apply (res_main_v49 V0) e).trans (Finset.sum_congr rfl fun i _ => ?_)
  rw [ref_dense h hr]
  have := (h i).snd.ne
  have p1 : 0 < G1 (lg V0) a b i := g1_pos (hr i _) (hr i _)
  have p2 : 0 < G2 (lg V0) a b i := g2_pos (hr i _) (hr i _)
  by_cases hb : e = b i
  · have ha : ¬ e = a i := fun q => this (hb.symm.trans q)
    rw [if_pos hb, if_pos p2, if_neg ha, if_pos hb, zero_add]
  · by_cases ha : e = a i
    · rw [if_neg hb, if_pos ha, if_pos p1, if_pos ha, if_neg hb, add_zero]
    · rw [if_neg hb, if_neg ha, if_neg (lt_irrefl _), if_neg ha, if_neg hb, add_zero]

/-- The reference's loss. -/
abbrev ls (V0 : Valuation τ sig (Elt Ideal)) : FVec Ideal S_ .f32 :=
  mulf (addf (cvTerm (res_main_v54 V0)) (cvTerm (res_main_v61 V0))) (constant S_ .f32 0x3C23D70A#32)

include h hr in
theorem ref_loss : ls V0 ix0 = loss (imp (lg V0) a b) (load a b) := by
  have p : ls V0 ix0 = (cvTerm (res_main_v54 V0) ix0 + cvTerm (res_main_v61 V0) ix0) * Ideal.ofBits .f32 0x3C23D70A#32 := rfl
  rw [p, cvTerm_apply, cvTerm_apply, show (fun e => (res_main_v54 V0 : FVec Ideal S8 .f32) (ix1 e)) = imp (lg V0) a b from funext (ref_importance h hr),
    show (fun e => (res_main_v61 V0 : FVec Ideal S8 .f32) (ix1 e)) = load a b from funext (ref_load h hr)]
  rfl

end Reference

end Cert.GateBalance
-- ==== Proof.GateLogits.lean ====
module

public import proofs.«01_k».proof.Proof.GateTop
public import Idealize.ShloMosaic.Lib.IdealHost

/-!
# The logits of the gate

An image's logits are a function of the means and maxima of its channels, its row of `tm`, and the weights: two dense layers
with a leaky rectifier between. Kernel and reference both compute that function; the kernel takes the pools over the 1024
positions in one row and adds the bias of the first dense layer last.
-/

@[expose] public section

set_option maxRecDepth 16384

noncomputable section

namespace Cert.GateLogits

open Idealize.ShloMosaic
open Cert.GatingIdeal (S32x64x32x32 S32x64x1024 S32x32 S32x128 S128 S128x128 S128x8 S8 S32x8)

/-- The place of channel `c`'s mean among the 128 features. -/
def lo (c : Fin 64) : Fin 128 := ⟨c.val, by omega⟩

/-- The place of channel `c`'s maximum among the 128 features. -/
def hi (c : Fin 64) : Fin 128 := ⟨64 + c.val, by omega⟩

/-- The mean of a channel. -/
def mean (x : Fin 32 → Fin 32 → EReal) : EReal := Ideal.div (∑ i, ∑ j, x i j) (Ideal.ofBits .f32 1149239296#32)

/-- The greatest value of a channel. -/
def most (x : Fin 32 → Fin 32 → EReal) : EReal := Finset.univ.fold max (Ideal.ofBits .f32 4286578688#32) fun p : Fin 32 × Fin 32 => x p.1 p.2

/-- A hidden unit before its rectifier: the features, each with its `tm` layer's value added, through the first gate layer. -/
def hid (P Q : Fin 64 → EReal) (t : Fin 128 → EReal) (w : Fin 128 → EReal) (b : EReal) : EReal :=
  ∑ c, (P c + t (lo c)) * w (lo c) + ∑ c, (Q c + t (hi c)) * w (hi c) + b

/-- A logit: the rectified hidden units through the second gate layer. -/
def logit (h : Fin 128 → EReal) (w : Fin 128 → EReal) (b : EReal) : EReal :=
  ∑ k, (if 0 ≤ h k then h k else Ideal.ofBits .f32 1008981770#32 * h k) * w k + b

theorem sum_flat (x : Fin 32 → Fin 32 → EReal) :
    ∑ k : Fin 1024, x ⟨k.val / 32, by omega⟩ ⟨k.val % 32, by omega⟩ = ∑ i, ∑ j, x i j := by
  rw [← Fintype.sum_prod_type', ← Equiv.sum_comp (finProdFinEquiv (m := 32) (n := 32)).symm]
  rfl

theorem max_flat (x : Fin 32 → Fin 32 → EReal) (z : EReal) :
    Finset.univ.fold max z (fun k : Fin 1024 => x ⟨k.val / 32, by omega⟩ ⟨k.val % 32, by omega⟩)
      = Finset.univ.fold max z fun p : Fin 32 × Fin 32 => x p.1 p.2 := by
  rw [← Finset.map_univ_equiv (finProdFinEquiv (m := 32) (n := 32)).symm, Finset.fold_map]
  rfl

section Both

open Cert.GatingIdeal (S1x128 S1x8)
open Cert.GatingIdeal.Gen Cert.GatingIdeal.Run

variable (x0 : Vec Ideal S32x64x32x32 .f32) (x1 : Vec Ideal S32x32 .f32) (x2 : Vec Ideal S32x128 .f32) (x3 : Vec Ideal S128 .f32)
  (x4 : Vec Ideal S128x128 .f32) (x5 : Vec Ideal S128 .f32) (x6 : Vec Ideal S128x8 .f32) (x7 : Vec Ideal S8 .f32)

/-- The `tm` layer's value at feature `h` of image `b`. -/
def tmv (b : Fin 32) (h : Fin 128) : EReal := ∑ k, x1 (ix2 b k) * x2 (ix2 k h) + x3 (ix1 h)

/-- The hidden units of image `b`. -/
def hidOf (b : Fin 32) (h : Fin 128) : EReal :=
  hid (fun c => mean fun i j => x0 (ix4 b c i j)) (fun c => most fun i j => x0 (ix4 b c i j)) (tmv x1 x2 x3 b)
    (fun k => x4 (ix2 k h)) (x5 (ix1 h))

/-- The logits of image `b`. -/
def logitOf (b : Fin 32) (e : Fin 8) : EReal := logit (hidOf x0 x1 x2 x3 x4 x5 b) (fun k => x6 (ix2 k e)) (x7 (ix1 e))

/-- A hidden unit as the kernel adds it up. -/
def hidK (b : Fin 32) (h : Fin 128) : EReal :=
  ∑ c : Fin 64, (Ideal.div (∑ k : Fin 1024, x0 (ix4 b c ⟨k.val / 32, by omega⟩ ⟨k.val % 32, by omega⟩)) (Ideal.ofBits .f32 1149239296#32)
      + ∑ k, x1 (ix2 b k) * x2 (ix2 k (lo c)) + x3 (ix1 (lo c))) * x4 (ix2 (lo c) h)
    + ∑ c : Fin 64, (Finset.univ.fold max (Ideal.ofBits .f32 4286578688#32) (fun k : Fin 1024 => x0 (ix4 b c ⟨k.val / 32, by omega⟩ ⟨k.val % 32, by omega⟩))
      + ∑ k, x1 (ix2 b k) * x2 (ix2 k (hi c)) + x3 (ix1 (hi c))) * x4 (ix2 (hi c) h)
    + x5 (ix1 h)

theorem hidK_eq (b : Fin 32) (h : Fin 128) : hidK x0 x1 x2 x3 x4 x5 b h = hidOf x0 x1 x2 x3 x4 x5 b h := by
  unfold hidK hidOf hid
  refine congrArg (· + _) (congrArg₂ (· + ·) (Finset.sum_congr rfl fun c _ => congrArg (· * _) ?_)
    (Finset.sum_congr rfl fun c _ => congrArg (· * _) ?_))
  · rw [add_assoc]
    exact congrArg (· + _) (congrArg (Ideal.div · _) (sum_flat fun i j => x0 (ix4 b c i j)))
  · rw [add_assoc]
    exact congrArg (· + _) (max_flat (fun i j => x0 (ix4 b c i j)) _)

/-- The kernel's logits. -/
theorem kernel_logit (b : Fin 32) (e : Fin 8) :
    k0_pay4 (shapeCast S32x64x1024 x0 shapeCasts_S32x64x32x32_S32x64x1024) x1 x2 (shapeCast S1x128 x3 shapeCasts_S128_S1x128) x4 (shapeCast S1x128 x5 shapeCasts_S128_S1x128) x6 (shapeCast S1x8 x7 shapeCasts_S8_S1x8) (ix2 b e)
      = logitOf x0 x1 x2 x3 x4 x5 x6 x7 b e := by
  have p : k0_pay4 (shapeCast S32x64x1024 x0 shapeCasts_S32x64x32x32_S32x64x1024) x1 x2 (shapeCast S1x128 x3 shapeCasts_S128_S1x128) x4 (shapeCast S1x128 x5 shapeCasts_S128_S1x128) x6 (shapeCast S1x8 x7 shapeCasts_S8_S1x8) (ix2 b e)
      = logit (hidK x0 x1 x2 x3 x4 x5 b) (fun k => x6 (ix2 k e)) (x7 (ix1 e)) := by
    pointwise [k0_pay4, logit, hidK, lo, hi]
  exact p.trans (congrArg (fun h => logit h _ _) (funext fun h => hidK_eq x0 x1 x2 x3 x4 x5 b h))

end Both

section Reference

open Cert.RefGatingIdeal.Gen Cert.RefGatingIdeal.Value
open Cert.RefGatingIdeal (S_ S1x128 S1x8 S32x64 dot_S32x128_S128x128_S32x128_1_0_0_1_n_n dot_S32x32_S32x128_S32x128_1_0_0_1_n_n dot_S32x128_S128x8_S32x8_1_0_0_1_n_n)

variable (x0 : FVec Ideal S32x64x32x32 .f32) (x1 : FVec Ideal S32x32 .f32) (x2 : FVec Ideal S32x128 .f32) (x3 : FVec Ideal S128 .f32)
  (x4 : FVec Ideal S128x128 .f32) (x5 : FVec Ideal S128 .f32) (x6 : FVec Ideal S128x8 .f32) (x7 : FVec Ideal S8 .f32)

/-- The reference's hidden units, over named arguments. -/
theorem ref_hid (b : Fin 32) (h : Fin 128) :
    (addf (Host.dotGeneral dot_S32x128_S128x128_S32x128_1_0_0_1_n_n none (addf (concatenate S32x128 1 [⟨S32x64, (Host.divf (Host.reduceAdd x0 (constant S_ .f32 0x00000000#32) reducesTo_S32x64x32x32_S32x64_d2_3 h_S_) (broadcastInDim S32x64 ![] bcast_S_S32x64 (constant S_ .f32 0x44800000#32)))⟩, ⟨S32x64, (Host.reduce FloatOps.maximumf x0 (constant S_ .f32 0xFF800000#32) reducesTo_S32x64x32x32_S32x64_d2_3 h_S_)⟩] concatenates_S32x64_S32x64_S32x128_d1) (addf (Host.dotGeneral dot_S32x32_S32x128_S32x128_1_0_0_1_n_n none x1 x2) (broadcastInDim S32x128 ![0, 1] bcast_S1x128_S32x128_0_1 (broadcastInDim S1x128 ![1] bcast_S128_S1x128_1 x3)))) x4) (broadcastInDim S32x128 ![0, 1] bcast_S1x128_S32x128_0_1 (broadcastInDim S1x128 ![1] bcast_S128_S1x128_1 x5)) : FVec Ideal S32x128 .f32) (ix2 b h)
      = hidOf x0 x1 x2 x3 x4 x5 b h := by
  pointwise [hidOf, hid, mean, most, tmv, lo, hi]

/-- The reference's logits from its hidden units, over named arguments. -/
theorem ref_second (H : FVec Ideal S32x128 .f32) (b : Fin 32) (e : Fin 8) :
    (addf (Host.dotGeneral dot_S32x128_S128x8_S32x8_1_0_0_1_n_n none (select (cmpf .oge H (broadcastInDim S32x128 ![] bcast_S_S32x128 (constant S_ .f32 0x00000000#32))) H (mulf (broadcastInDim S32x128 ![] bcast_S_S32x128 (id (constant S_ .f32 0x3C23D70A#32))) H)) x6) (broadcastInDim S32x8 ![0, 1] bcast_S1x8_S32x8_0_1 (broadcastInDim S1x8 ![1] bcast_S8_S1x8_1 x7)) : FVec Ideal S32x8 .f32) (ix2 b e)
      = logit (fun h => H (ix2 b h)) (fun k => x6 (ix2 k e)) (x7 (ix1 e)) := by
  pointwise [logit, id]

variable (V0 : Valuation Cert.RefGatingIdeal.τ Cert.RefGatingIdeal.sig (Elt Ideal))

/-- The reference's logits. -/
theorem ref_logit (b : Fin 32) (e : Fin 8) :
    (res_main_v18 V0 : FVec Ideal S32x8 .f32) (ix2 b e)
      = logitOf (V0 (Proc.devRef .tc Cert.RefGatingIdeal.main_arg0)) (V0 (Proc.devRef .tc Cert.RefGatingIdeal.main_arg1)) (V0 (Proc.devRef .tc Cert.RefGatingIdeal.main_arg2)) (V0 (Proc.devRef .tc Cert.RefGatingIdeal.main_arg3))
        (V0 (Proc.devRef .tc Cert.RefGatingIdeal.main_arg4)) (V0 (Proc.devRef .tc Cert.RefGatingIdeal.main_arg5)) (V0 (Proc.devRef .tc Cert.RefGatingIdeal.main_arg6)) (V0 (Proc.devRef .tc Cert.RefGatingIdeal.main_arg7)) b e :=
  (ref_second _ _ (res_main_v13 V0) b e).trans (congrArg (fun h => logit h _ _) (funext fun h => ref_hid _ _ _ _ _ _ b h))

end Reference

end Cert.GateLogits
-- ==== Proof.GatePre.lean ====
/- What the precondition `gating_finite` says of the gate's arguments, and what follows for the logits: all are real. -/
module

public import proofs.«01_k».proof.Proof.Gen.Pre_gating_finite
public import proofs.«01_k».proof.Proof.GateLogits
public import proofs.«01_k».proof.Proof.GateReal
public import Idealize.ShloMosaic.Lib.ReduceAll

@[expose] public section

namespace Cert.GatePre

open Idealize.ShloMosaic
open Cert.GateReal Cert.GateLogits
open Cert.Pre_gating_finite Cert.Pre_gating_finite.Gen

instance : Subsingleton S_.Idx := ⟨fun a b => funext fun i => i.elim0⟩

/-- One array's test: where all of it is below infinity in absolute value, every entry is real. -/
theorem of_test {s : Shape} (x : FVec Ideal s .f32) (hb : S_.BroadcastsInDim s ![]) {l : List (Fin s.rank)} (hr : s.ReducesTo l S_)
    (h : Host.reduce IntOp.andi (cmpf .olt (Host.absf x) (broadcastInDim s ![] hb (constant S_ .f32 0x7F800000#32))) (constantI S_ 1 1#1) hr h_S_ (fun i => i.elim0) = 1#1) :
    ∀ y, IsReal (x y) := by
  intro y
  have e := Host.reduce_andi_all _ _ _ _ _ h y
  have t : Ideal.ofBits .f32 0x7F800000#32 = ⊤ := by simp [Ideal.ofBits, Ideal.ieee]
  have e' : Ideal.cmp .olt (max (x y) (-(x y))) (Ideal.ofBits .f32 0x7F800000#32) = 1#1 := e
  rw [t] at e'
  refine isReal_of_abs ?_
  by_contra hc
  simp [Ideal.cmp, hc] at e'

variable (a0 : FVec Ideal S32x64x32x32 .f32) (a1 : FVec Ideal S32x32 .f32) (a2 : FVec Ideal S32x128 .f32) (a3 : FVec Ideal S128 .f32)
  (a4 : FVec Ideal S128x128 .f32) (a5 : FVec Ideal S128 .f32) (a6 : FVec Ideal S128x8 .f32) (a7 : FVec Ideal S8 .f32)

/-- Every entry of the gate's eight arguments is real. -/
theorem of_pre (h : Pre_gating_finite.fn a0 a1 a2 a3 a4 a5 a6 a7 = fun _ => 1#1) :
    (∀ y, IsReal (a0 y)) ∧ (∀ y, IsReal (a1 y)) ∧ (∀ y, IsReal (a2 y)) ∧ (∀ y, IsReal (a3 y)) ∧ (∀ y, IsReal (a4 y)) ∧
      (∀ y, IsReal (a5 y)) ∧ (∀ y, IsReal (a6 y)) ∧ ∀ y, IsReal (a7 y) := by
  have h0 := congrFun h (fun i => i.elim0)
  obtain ⟨h1, t7⟩ := IntOp.andi_eq_one.1 (show IntOp.andi _ _ = 1#1 from h0)
  obtain ⟨h2, t6⟩ := IntOp.andi_eq_one.1 (show IntOp.andi _ _ = 1#1 from h1)
  obtain ⟨h3, t5⟩ := IntOp.andi_eq_one.1 (show IntOp.andi _ _ = 1#1 from h2)
  obtain ⟨h4, t4⟩ := IntOp.andi_eq_one.1 (show IntOp.andi _ _ = 1#1 from h3)
  obtain ⟨h5, t3⟩ := IntOp.andi_eq_one.1 (show IntOp.andi _ _ = 1#1 from h4)
  obtain ⟨h6, t2⟩ := IntOp.andi_eq_one.1 (show IntOp.andi _ _ = 1#1 from h5)
  obtain ⟨t0, t1⟩ := IntOp.andi_eq_one.1 (show IntOp.andi _ _ = 1#1 from h6)
  exact ⟨of_test _ _ _ t0, of_test _ _ _ t1, of_test _ _ _ t2, of_test _ _ _ t3, of_test _ _ _ t4, of_test _ _ _ t5, of_test _ _ _ t6, of_test _ _ _ t7⟩

/-- The logits of real arguments are real. -/
theorem isReal_logit (h0 : ∀ y, IsReal (a0 y)) (h1 : ∀ y, IsReal (a1 y)) (h2 : ∀ y, IsReal (a2 y)) (h3 : ∀ y, IsReal (a3 y)) (h4 : ∀ y, IsReal (a4 y))
    (h5 : ∀ y, IsReal (a5 y)) (h6 : ∀ y, IsReal (a6 y)) (h7 : ∀ y, IsReal (a7 y)) (b : Fin 32) (e : Fin 8) :
    IsReal (logitOf a0 a1 a2 a3 a4 a5 a6 a7 b e) := by
  have ht : ∀ h, IsReal (tmv a1 a2 a3 b h) := fun h => (isReal_sum _ _ fun k _ => (h1 _).mul (h2 _)).add (h3 _)
  have hm : ∀ c : Fin 64, IsReal (mean fun i j => a0 (ix4 b c i j)) := fun c => by
    have := (isReal_sum Finset.univ (fun i : Fin 32 => ∑ j : Fin 32, a0 (ix4 b c i j)) fun i _ => isReal_sum _ _ fun j _ => h0 _).div (s := 1024) (by norm_num)
    unfold mean
    rw [ofBits_1024]
    exact this
  have hx : ∀ c : Fin 64, IsReal (most fun i j => a0 (ix4 b c i j)) := fun c => by
    unfold most
    rw [Cert.GateTop.neg_inf]
    exact isReal_fold_max _ ⟨(0, 0), Finset.mem_univ _⟩ _ fun p _ => h0 _
  have hh : ∀ h, IsReal (hidOf a0 a1 a2 a3 a4 a5 b h) := fun h =>
    ((isReal_sum _ _ fun c _ => ((hm c).add (ht _)).mul (h4 _)).add (isReal_sum _ _ fun c _ => ((hx c).add (ht _)).mul (h4 _))).add (h5 _)
  refine (isReal_sum _ _ fun k _ => IsReal.mul ?_ (h6 _)).add (h7 _)
  split
  · exact hh k
  · exact isReal_leak.mul (hh k)

end Cert.GatePre
-- ==== Proof.GateEq.lean ====
/- The gate's claims: the reference's frames, and that the call and its reference compute the same indices, gates and loss. -/
module

public import proofs.«01_k».proof.Defs
public import proofs.«01_k».proof.Proof.GateBalance
public import proofs.«01_k».proof.Proof.GatePre
public import Idealize.ShloMosaic.Lib.Claim
public import Idealize.ShloMosaic.Lib.Quiescent

@[expose] public section

set_option maxRecDepth 16384

namespace Cert.GateEq

open Idealize.ShloMosaic Idealize.ShloMosaic.TcCoe
open Idealize.SL.Sem
open Cert.GateReal Cert.GateTop Cert.GateLogits Cert.GateBalance

theorem frame_ref : Cert.quiescent_RefGatingIdeal := fun m ρ _ =>
  (θ_run Cert.RefGatingIdeal.defs _ _).mono (fun _ h => ⟨fun c => (h c).2.2.2, sem_eq_zero_of_no_sems rfl _⟩) (Cert.RefGatingIdeal.Value.run m ρ)

theorem frame_ref_pre : Cert.quiescent_RefGatingIdeal_pre_gating_finite := fun m ρ _ => frame_ref m ρ trivial

section

open Cert.RefGatingIdeal.Value (res_main_v20)
open StableHlo (launchContents)

variable (m : (ℓ : Loc Cert.GatingIdeal.nD Cert.GatingIdeal.τ Cert.GatingIdeal.sig) → Buf (Elt Ideal) ℓ)
  (m' : (ℓ : Loc Cert.RefGatingIdeal.nD Cert.RefGatingIdeal.τ Cert.RefGatingIdeal.sig) → Buf (Elt Ideal) ℓ) (c : Dev Cert.GatingIdeal.nD)

/-- From the same real logits: the same indices, gates and loss. -/
theorem same_of_logits (V0 : Valuation Cert.RefGatingIdeal.τ Cert.RefGatingIdeal.sig (Elt Ideal)) (L : FVec Ideal Cert.GatingIdeal.S32x8 .f32)
    (hL : L = lg V0) (hr : ∀ i e, IsReal (lg V0 (ix2 i e))) :
    (res_main_v20 V0 : Vec Ideal Cert.GatingIdeal.S32x2 .i32) = Cert.GatingIdeal.Run.idxOf L ∧
    (gt V0 : Vec Ideal Cert.GatingIdeal.S32x2 .f32) = Cert.GatingIdeal.Run.gatesOf L ∧
    (ls V0 : Vec Ideal Cert.GatingIdeal.S_ .f32) = shapeCast Cert.GatingIdeal.S_ (Cert.GatingIdeal.Run.lossOf L) Cert.GatingIdeal.Gen.shapeCasts_S1x1_S_ := by
  subst hL
  choose a b h using fun i => exists_two (lg V0) i fun e => (hr i e).bot_lt
  refine ⟨funext fun y => ?_, funext fun y => ?_, funext fun y => ?_⟩
  · obtain ⟨i, k, rfl⟩ : ∃ (i : Fin 32) (k : Fin 2), y = ix2 i k := ⟨y 0, y 1, eq_ix2 y⟩
    refine (ref_idx h i k).trans ((idx_apply (h i) k).trans ?_).symm
    fin_cases k <;> rfl
  · obtain ⟨i, k, rfl⟩ : ∃ (i : Fin 32) (k : Fin 2), y = ix2 i k := ⟨y 0, y 1, eq_ix2 y⟩
    exact (ref_gates h hr i k).trans (Cert.GateTop.gates_apply (h i) k).symm
  · have e0 : y = ix0 := funext fun d => d.elim0
    subst e0
    have p : ∀ w : Vec Ideal Cert.GatingIdeal.S1x1 .f32, shapeCast Cert.GatingIdeal.S_ w Cert.GatingIdeal.Gen.shapeCasts_S1x1_S_ ix0 = w (ix2 0 0) := by
      intro w
      pointwise
    exact (ref_loss h hr).trans ((p _).trans (kernel_loss h)).symm

/-- From the same finite arguments: the same logits, all of them real. -/
theorem same_logits (hpre : Cert.Pre_GatingIdeal_gating_finite m)
    (h0 : m' ((c.tc : Thread Cert.RefGatingIdeal.nD Cert.RefGatingIdeal.τ).loc Cert.RefGatingIdeal.main_arg0) = m ((c.tc : Thread Cert.GatingIdeal.nD Cert.GatingIdeal.τ).loc Cert.GatingIdeal.main_arg0))
    (h1 : m' ((c.tc : Thread Cert.RefGatingIdeal.nD Cert.RefGatingIdeal.τ).loc Cert.RefGatingIdeal.main_arg1) = m ((c.tc : Thread Cert.GatingIdeal.nD Cert.GatingIdeal.τ).loc Cert.GatingIdeal.main_arg1))
    (h2 : m' ((c.tc : Thread Cert.RefGatingIdeal.nD Cert.RefGatingIdeal.τ).loc Cert.RefGatingIdeal.main_arg2) = m ((c.tc : Thread Cert.GatingIdeal.nD Cert.GatingIdeal.τ).loc Cert.GatingIdeal.main_arg2))
    (h3 : m' ((c.tc : Thread Cert.RefGatingIdeal.nD Cert.RefGatingIdeal.τ).loc Cert.RefGatingIdeal.main_arg3) = m ((c.tc : Thread Cert.GatingIdeal.nD Cert.GatingIdeal.τ).loc Cert.GatingIdeal.main_arg3))
    (h4 : m' ((c.tc : Thread Cert.RefGatingIdeal.nD Cert.RefGatingIdeal.τ).loc Cert.RefGatingIdeal.main_arg4) = m ((c.tc : Thread Cert.GatingIdeal.nD Cert.GatingIdeal.τ).loc Cert.GatingIdeal.main_arg4))
    (h5 : m' ((c.tc : Thread Cert.RefGatingIdeal.nD Cert.RefGatingIdeal.τ).loc Cert.RefGatingIdeal.main_arg5) = m ((c.tc : Thread Cert.GatingIdeal.nD Cert.GatingIdeal.τ).loc Cert.GatingIdeal.main_arg5))
    (h6 : m' ((c.tc : Thread Cert.RefGatingIdeal.nD Cert.RefGatingIdeal.τ).loc Cert.RefGatingIdeal.main_arg6) = m ((c.tc : Thread Cert.GatingIdeal.nD Cert.GatingIdeal.τ).loc Cert.GatingIdeal.main_arg6))
    (h7 : m' ((c.tc : Thread Cert.RefGatingIdeal.nD Cert.RefGatingIdeal.τ).loc Cert.RefGatingIdeal.main_arg7) = m ((c.tc : Thread Cert.GatingIdeal.nD Cert.GatingIdeal.τ).loc Cert.GatingIdeal.main_arg7)) :
    Cert.GatingIdeal.Run.logits m c = lg (launchContents m' c) ∧ ∀ i e, IsReal (lg (launchContents m' c) (ix2 i e)) := by
  obtain ⟨r0, r1, r2, r3, r4, r5, r6, r7⟩ := Cert.GatePre.of_pre _ _ _ _ _ _ _ _ (hpre c)
  have k : ∀ i e, Cert.GatingIdeal.Run.logits m c (ix2 i e) = _ := fun i e => kernel_logit _ _ _ _ _ _ _ _ i e
  have r : ∀ i e, lg (launchContents m' c) (ix2 i e) = _ := fun i e => (ref_logit (launchContents m' c) i e).trans
    (by rw [StableHlo.launchContents_devRef, StableHlo.launchContents_devRef, StableHlo.launchContents_devRef, StableHlo.launchContents_devRef, StableHlo.launchContents_devRef, StableHlo.launchContents_devRef, StableHlo.launchContents_devRef, StableHlo.launchContents_devRef, h0, h1, h2, h3, h4, h5, h6, h7])
  refine ⟨funext fun y => ?_, fun i e => ?_⟩
  · obtain ⟨i, e, rfl⟩ : ∃ (i : Fin 32) (e : Fin 8), y = ix2 i e := ⟨y 0, y 1, eq_ix2 y⟩
    exact (k i e).trans (r i e).symm
  · rw [r]
    exact Cert.GatePre.isReal_logit _ _ _ _ _ _ _ _ r0 r1 r2 r3 r4 r5 r6 r7 i e

end

theorem value : Cert.algebraic_GatingIdeal_RefGatingIdeal_pre_gating_finite := by
  intro m g m' g' hpre hargs
  have hK := θ_run_and (Cert.GatingIdeal.Run.run_value (F := Ideal) m g) (Cert.GatingIdeal.Gen.frame (F := Ideal) m g)
  have hR := Cert.RefGatingIdeal.Value.run (F := Ideal) m' g'
  have hs : ∀ c : Dev Cert.GatingIdeal.nD, _ := fun c => by
    obtain ⟨h0, h1, h2, h3, h4, h5, h6, h7⟩ := hargs c
    obtain ⟨hL, hr⟩ := same_logits m m' c hpre h0 h1 h2 h3 h4 h5 h6 h7
    exact same_of_logits (StableHlo.launchContents m' c) (Cert.GatingIdeal.Run.logits m c) hL hr
  refine ⟨fun c => _, fun c => _, fun c => _, (θ_run Cert.GatingIdeal.defs _ _).mono (fun _ h c => ⟨(h.1 c).1, (h.1 c).2.1, (h.1 c).2.2, h.2.1 c⟩) hK,
    (θ_run Cert.RefGatingIdeal.defs _ _).mono (fun r h c => ⟨(h c).1.trans (hs c).1, (h c).2.1.trans (hs c).2.1, (h c).2.2.1.trans (hs c).2.2, (h c).2.2.2⟩) hR⟩

end Cert.GateEq
-- ==== Proof.WholeGate.lean ====
/- The gating region of the whole program: each window's block, what the body leaves, the proof data at the contents the
   region is entered with, and the three arrays it ends with, in the logits. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.StableHlo.Run
public import Idealize.ShloMosaic.Lib.Pipeline.ValueKit.Geometry

@[expose] public section

set_option maxRecDepth 16384

noncomputable section

namespace Cert.KernelIdeal.WGate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- A buffer's contents when the region is entered. -/
abbrev V (c : Dev nD) (b : Ref sig .tc) : Buf (Elt F) ((c : Thread nD τ).loc b) := V1 m c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S32x64x1024 := Rect.unit (s := S32x64x1024) ![0, 0, 0] S32x64x1024.size inb_S32x64x1024_S32x64x1024_0_0_0
abbrev r0_1 : Rect S32x32 := Rect.unit (s := S32x32) ![0, 0] S32x32.size inb_S32x32_S32x32_0_0
abbrev r0_2 : Rect S32x128 := Rect.unit (s := S32x128) ![0, 0] S32x128.size inb_S32x128_S32x128_0_0
abbrev r0_3 : Rect S1x128 := Rect.unit (s := S1x128) ![0, 0] S1x128.size inb_S1x128_S1x128_0_0
abbrev r0_4 : Rect S128x128 := Rect.unit (s := S128x128) ![0, 0] S128x128.size inb_S128x128_S128x128_0_0
abbrev r0_5 : Rect S128x8 := Rect.unit (s := S128x8) ![0, 0] S128x8.size inb_S128x8_S128x8_0_0
abbrev r0_6 : Rect S1x8 := Rect.unit (s := S1x8) ![0, 0] S1x8.size inb_S1x8_S1x8_0_0
abbrev r0_7 : Rect S32x2 := Rect.unit (s := S32x2) ![0, 0] S32x2.size inb_S32x2_S32x2_0_0
abbrev r0_8 : Rect S1x1 := Rect.unit (s := S1x1) ![0, 0] S1x1.size inb_S1x1_S1x1_0_0

/-! ## What the body leaves in each output window's buffer -/

/-! ### Values of the body that the stores' payloads, spelt out, would write more than once

    Each is a vector the body binds (often a part call's result), stated over the input windows' blocks and
    numbered on from the skeleton's payload functions (`k0_pay19` …, after `k0_pay18`), so that
    `out0_W` and the values after it name it instead of spelling it out (`unfold_out out0_W` opens a canon
    with them, `unfold_payloads` opens them with the payloads); the comment after each is the printed function's
    name for the value (a count appended where that name is bound again). -/

def k0_pay19 (x0 : Vec F S32x64x1024 .f32) (x1 : Vec F S32x32 .f32) (x2 : Vec F S32x128 .f32) (x3 : Vec F S1x128 .f32) (x4 : Vec F S128x128 .f32) (x5 : Vec F S1x128 .f32) (x6 : Vec F S128x8 .f32) (x7 : Vec F S1x8 .f32) : IVec S32x8 32 :=
  iota .tc S32x8 32 [1] iota_S32x8_d1_w32 -- `v32`
def k0_pay20 (x0 : Vec F S32x64x1024 .f32) (x1 : Vec F S32x32 .f32) (x2 : Vec F S32x128 .f32) (x3 : Vec F S1x128 .f32) (x4 : Vec F S128x128 .f32) (x5 : Vec F S1x128 .f32) (x6 : Vec F S128x8 .f32) (x7 : Vec F S1x8 .f32) : FVec F S32x8 .f32 :=
  k0_pay4 (View.ld x0 r0_0) (View.ld x1 r0_1) (View.ld x2 r0_2) (View.ld x3 r0_3) (View.ld x4 r0_4) (View.ld x5 r0_3) (View.ld x6 r0_5) (View.ld x7 r0_6) -- `v31`
def k0_pay21 (x0 : Vec F S32x64x1024 .f32) (x1 : Vec F S32x32 .f32) (x2 : Vec F S32x128 .f32) (x3 : Vec F S1x128 .f32) (x4 : Vec F S128x128 .f32) (x5 : Vec F S1x128 .f32) (x6 : Vec F S128x8 .f32) (x7 : Vec F S1x8 .f32) : FVec F S32 .f32 :=
  k0_pay5 (View.ld x0 r0_0) (View.ld x1 r0_1) (View.ld x2 r0_2) (View.ld x3 r0_3) (View.ld x4 r0_4) (View.ld x5 r0_3) (View.ld x6 r0_5) (View.ld x7 r0_6) -- `v33`

/-- Window 8's staging buffer after the body, from the input windows' blocks: its 1 store as pieces, LAST
    FIRST (Lib/Pipeline/FrameBody.lean `View.canon`; the payloads are the skeleton's and the values stated above). -/
def out0_8 (x0 : Vec F S32x64x1024 .f32) (x1 : Vec F S32x32 .f32) (x2 : Vec F S32x128 .f32) (x3 : Vec F S1x128 .f32) (x4 : Vec F S128x128 .f32) (x5 : Vec F S1x128 .f32) (x6 : Vec F S128x8 .f32) (x7 : Vec F S1x8 .f32) : Vec F S32x2 .i32 :=
  View.canon [⟨r0_7, k0_pay1 (k0_pay7 (k0_pay20 x0 x1 x2 x3 x4 x5 x6 x7) (k0_pay19 x0 x1 x2 x3 x4 x5 x6 x7) (k0_pay21 x0 x1 x2 x3 x4 x5 x6 x7)) (k0_pay10 (k0_pay20 x0 x1 x2 x3 x4 x5 x6 x7) (k0_pay19 x0 x1 x2 x3 x4 x5 x6 x7) (k0_pay21 x0 x1 x2 x3 x4 x5 x6 x7))⟩]

/-- Its stores tile the buffer (checked by evaluation), so they cover it. -/
theorem cover0_8 (p0 : Vec F S32x2 .i32) (y : S32x2.Idx) :
    ∃ pc ∈ ([⟨r0_7, p0⟩] : List (View.Piece (Elt F) S32x2 .i32)), y ∈ pc.1.set :=
  View.cover_of_tiled [⟨r0_7, p0⟩] S32x2.size (by rfl) y

/-- Window 9's staging buffer after the body, from the input windows' blocks: its 1 store as pieces, LAST
    FIRST (Lib/Pipeline/FrameBody.lean `View.canon`; the payloads are the skeleton's and the values stated above). -/
def out0_9 (x0 : Vec F S32x64x1024 .f32) (x1 : Vec F S32x32 .f32) (x2 : Vec F S32x128 .f32) (x3 : Vec F S1x128 .f32) (x4 : Vec F S128x128 .f32) (x5 : Vec F S1x128 .f32) (x6 : Vec F S128x8 .f32) (x7 : Vec F S1x8 .f32) : Vec F S32x2 .f32 :=
  View.canon [⟨r0_7, k0_pay2 (k0_pay12 (k0_pay20 x0 x1 x2 x3 x4 x5 x6 x7) (k0_pay19 x0 x1 x2 x3 x4 x5 x6 x7) (k0_pay21 x0 x1 x2 x3 x4 x5 x6 x7)) (k0_pay13 (k0_pay20 x0 x1 x2 x3 x4 x5 x6 x7) (k0_pay19 x0 x1 x2 x3 x4 x5 x6 x7) (k0_pay21 x0 x1 x2 x3 x4 x5 x6 x7))⟩]

/-- Its stores tile the buffer (checked by evaluation), so they cover it. -/
theorem cover0_9 (p0 : Vec F S32x2 .f32) (y : S32x2.Idx) :
    ∃ pc ∈ ([⟨r0_7, p0⟩] : List (View.Piece (Elt F) S32x2 .f32)), y ∈ pc.1.set :=
  View.cover_of_tiled [⟨r0_7, p0⟩] S32x2.size (by rfl) y

/-- Window 10's staging buffer after the body, from the input windows' blocks: its 1 store as pieces, LAST
    FIRST (Lib/Pipeline/FrameBody.lean `View.canon`; the payloads are the skeleton's and the values stated above). -/
def out0_10 (x0 : Vec F S32x64x1024 .f32) (x1 : Vec F S32x32 .f32) (x2 : Vec F S32x128 .f32) (x3 : Vec F S1x128 .f32) (x4 : Vec F S128x128 .f32) (x5 : Vec F S1x128 .f32) (x6 : Vec F S128x8 .f32) (x7 : Vec F S1x8 .f32) : Vec F S1x1 .f32 :=
  View.canon [⟨r0_8, k0_pay3 (k0_pay16 (k0_pay20 x0 x1 x2 x3 x4 x5 x6 x7) (k0_pay19 x0 x1 x2 x3 x4 x5 x6 x7) (k0_pay21 x0 x1 x2 x3 x4 x5 x6 x7)) (k0_pay17 (k0_pay20 x0 x1 x2 x3 x4 x5 x6 x7) (k0_pay19 x0 x1 x2 x3 x4 x5 x6 x7) (k0_pay21 x0 x1 x2 x3 x4 x5 x6 x7)) (k0_pay18 (k0_pay20 x0 x1 x2 x3 x4 x5 x6 x7) (k0_pay19 x0 x1 x2 x3 x4 x5 x6 x7) (k0_pay21 x0 x1 x2 x3 x4 x5 x6 x7))⟩]

/-- Its stores tile the buffer (checked by evaluation), so they cover it. -/
theorem cover0_10 (p0 : Vec F S1x1 .f32) (y : S1x1.Idx) :
    ∃ pc ∈ ([⟨r0_8, p0⟩] : List (View.Piece (Elt F) S1x1 .f32)), y ∈ pc.1.set :=
  View.cover_of_tiled [⟨r0_8, p0⟩] S1x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S32x64x1024 .f32) (harg0 : arg0.IsWhole) (arg1 : Memref sig .tc .vmem S32x32 .f32) (harg1 : arg1.IsWhole) (arg2 : Memref sig .tc .vmem S32x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x8 .f32) (harg6 : arg6.IsWhole) (arg7 : Memref sig .tc .vmem S1x8 .f32) (harg7 : arg7.IsWhole) (arg8 : Memref sig .tc .vmem S32x2 .i32) (harg8 : arg8.IsWhole) (arg9 : Memref sig .tc .vmem S32x2 .f32) (harg9 : arg9.IsWhole) (arg10 : Memref sig .tc .vmem S1x1 .f32) (harg10 : arg10.IsWhole)
    (x0 : Vec F S32x64x1024 .f32) (x1 : Vec F S32x32 .f32) (x2 : Vec F S32x128 .f32) (x3 : Vec F S1x128 .f32) (x4 : Vec F S128x128 .f32) (x5 : Vec F S1x128 .f32) (x6 : Vec F S128x8 .f32) (x7 : Vec F S1x8 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out0_8 x0 x1 x2 x3 x4 x5 x6 x7) ∗ owns (c : Thread nD τ) arg9 fullShare (out0_9 x0 x1 x2 x3 x4 x5 x6 x7) ∗ owns (c : Thread nD τ) arg10 fullShare (out0_10 x0 x1 x2 x3 x4 x5 x6 x7)) -∗ K ⟨⟩))
      ⊢ wp frame (wpE (defs₀ (F := F)) Variants.none c none) E (cc0__gating_kernel arg0 harg0 arg1 harg1 arg2 harg2 arg3 harg3 arg4 harg4 arg5 harg5 arg6 harg6 arg7 harg7 arg8 harg8 arg9 harg9 arg10 harg10) K := by
  simp only [cc0__gating_kernel_eq_skeleton]; unfold cc0__gating_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  iexists _; isplitr
  swap; · iexact H10
  ipureintro
  refine (View.read_writes_eq_canon _ _ _ (cover0_10 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 0 t) (iblk m c 1 t) (iblk m c 2 t) (iblk m c 3 t) (iblk m c 4 t) (iblk m c 5 t) (iblk m c 6 t) (iblk m c 7 t)
    | ⟨10, _⟩ => out0_10 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = iblk m c 4 t := by dsimp only [dats]
theorem after0_5 (c : Dev nD) (t : Fin cfg0.N) : (dats m c).after 5 t = iblk m c 5 t := by dsimp only [dats]
theorem after0_6 (c : Dev nD) (t : Fin cfg0.N) : (dats m c).after 6 t = iblk m c 6 t := by dsimp only [dats]
theorem after0_7 (c : Dev nD) (t : Fin cfg0.N) : (dats m c).after 7 t = iblk m c 7 t := by dsimp only [dats]
theorem after0_8 (c : Dev nD) (t : Fin cfg0.N) : (dats m c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m c).after 9 t = out0_9 (iblk m c 0 t) (iblk m c 1 t) (iblk m c 2 t) (iblk m c 3 t) (iblk m c 4 t) (iblk m c 5 t) (iblk m c 6 t) (iblk m c 7 t) := by dsimp only [dats]
theorem after0_10 (c : Dev nD) (t : Fin cfg0.N) : (dats m c).after 10 t = out0_10 (iblk m c 0 t) (iblk m c 1 t) (iblk m c 2 t) (iblk m c 3 t) (iblk m c 4 t) (iblk m c 5 t) (iblk m c 6 t) (iblk m c 7 t) := by dsimp only [dats]

/-- Each input's current staging buffer holds its block at every point, fetched there or not (`beforeK_W_of`). -/
theorem before0_0 (c : Dev nD) (t : Fin cfg0.N) (d) : (dats m c).before 0 t d = iblk m c 0 t :=
  before0_0_of m (dats m c) (A_eq m c 0) (after0_0 m c) t d
theorem before0_1 (c : Dev nD) (t : Fin cfg0.N) (d) : (dats m c).before 1 t d = iblk m c 1 t :=
  before0_1_of m (dats m c) (A_eq m c 1) (after0_1 m c) t d
theorem before0_2 (c : Dev nD) (t : Fin cfg0.N) (d) : (dats m c).before 2 t d = iblk m c 2 t :=
  before0_2_of m (dats m c) (A_eq m c 2) (after0_2 m c) t d
theorem before0_3 (c : Dev nD) (t : Fin cfg0.N) (d) : (dats m c).before 3 t d = iblk m c 3 t :=
  before0_3_of m (dats m c) (A_eq m c 3) (after0_3 m c) t d
theorem before0_4 (c : Dev nD) (t : Fin cfg0.N) (d) : (dats m c).before 4 t d = iblk m c 4 t :=
  before0_4_of m (dats m c) (A_eq m c 4) (after0_4 m c) t d
theorem before0_5 (c : Dev nD) (t : Fin cfg0.N) (d) : (dats m c).before 5 t d = iblk m c 5 t :=
  before0_5_of m (dats m c) (A_eq m c 5) (after0_5 m c) t d
theorem before0_6 (c : Dev nD) (t : Fin cfg0.N) (d) : (dats m c).before 6 t d = iblk m c 6 t :=
  before0_6_of m (dats m c) (A_eq m c 6) (after0_6 m c) t d
theorem before0_7 (c : Dev nD) (t : Fin cfg0.N) (d) : (dats m c).before 7 t d = iblk m c 7 t :=
  before0_7_of m (dats m c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m c).Φ t.castSucc ∗ (dats m c).owesAt () t.castSucc
    ∗ (∃ d, owns (c : Thread nD τ) (st0_0 t) fullShare ((dats m c).before 0 t d))
    ∗ (∃ d, owns (c : Thread nD τ) (st0_1 t) fullShare ((dats m c).before 1 t d))
    ∗ (∃ d, owns (c : Thread nD τ) (st0_2 t) fullShare ((dats m c).before 2 t d))
    ∗ (∃ d, owns (c : Thread nD τ) (st0_3 t) fullShare ((dats m c).before 3 t d))
    ∗ (∃ d, owns (c : Thread nD τ) (st0_4 t) fullShare ((dats m c).before 4 t d))
    ∗ (∃ d, owns (c : Thread nD τ) (st0_5 t) fullShare ((dats m c).before 5 t d))
    ∗ (∃ d, owns (c : Thread nD τ) (st0_6 t) fullShare ((dats m c).before 6 t d))
    ∗ (∃ d, owns (c : Thread nD τ) (st0_7 t) fullShare ((dats m c).before 7 t d))
    ∗ (∃ d, owns (c : Thread nD τ) (st0_8 t) fullShare ((dats m c).before 8 t d))
    ∗ (∃ d, owns (c : Thread nD τ) (st0_9 t) fullShare ((dats m c).before 9 t d))
    ∗ (∃ d, owns (c : Thread nD τ) (st0_10 t) fullShare ((dats m c).before 10 t d)))

/-- and what it returns. -/
def bodyPost (c : Dev nD) (t : Fin cfg0.N) : sProp 𝕄 :=
  iprop((dats m c).Φ t.succ ∗ (dats m c).owesAt () t.succ
    ∗ owns (c : Thread nD τ) (st0_0 t) fullShare ((dats m c).after 0 t)
    ∗ owns (c : Thread nD τ) (st0_1 t) fullShare ((dats m c).after 1 t)
    ∗ owns (c : Thread nD τ) (st0_2 t) fullShare ((dats m c).after 2 t)
    ∗ owns (c : Thread nD τ) (st0_3 t) fullShare ((dats m c).after 3 t)
    ∗ owns (c : Thread nD τ) (st0_4 t) fullShare ((dats m c).after 4 t)
    ∗ owns (c : Thread nD τ) (st0_5 t) fullShare ((dats m c).after 5 t)
    ∗ owns (c : Thread nD τ) (st0_6 t) fullShare ((dats m c).after 6 t)
    ∗ owns (c : Thread nD τ) (st0_7 t) fullShare ((dats m c).after 7 t)
    ∗ owns (c : Thread nD τ) (st0_8 t) fullShare ((dats m c).after 8 t)
    ∗ owns (c : Thread nD τ) (st0_9 t) fullShare ((dats m c).after 9 t)
    ∗ owns (c : Thread nD τ) (st0_10 t) fullShare ((dats m c).after 10 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m c).Φ t.succ = (dats m c).Φ t.castSucc from rfl,
    show (dats m c).owesAt () t.succ = (dats m c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m c) (defs₀ (F := F)) Variants.none () Set.univ := fun t => by
  rw [bigSep_W0, bigSep_W0, defs₀_row]
  exact triple_restated (sound_body m c t) rfl .rfl fun _ => .rfl

/-! Each window's block is its whole array. -/

theorem emb0 (t : Fin cfg0.N) (y : S32x64x1024.Idx) : (((cfg0.win 0).blk t).view.emb y : S32x64x1024.Idx) = y := by
  refine funext fun (a : Fin 3) => Fin.ext ?_
  match a with
  | 0 => show 0 * 32 + 1 * (y 0).val = (y 0).val; omega
  | 1 => show 0 * 64 + 1 * (y 1).val = (y 1).val; omega
  | 2 => show 0 * 1024 + 1 * (y 2).val = (y 2).val; omega

theorem emb1 (t : Fin cfg0.N) (y : S32x32.Idx) : (((cfg0.win 1).blk t).view.emb y : S32x32.Idx) = y := by
  refine funext fun (a : Fin 2) => Fin.ext ?_
  match a with
  | 0 => show 0 * 32 + 1 * (y 0).val = (y 0).val; omega
  | 1 => show 0 * 32 + 1 * (y 1).val = (y 1).val; omega

theorem emb2 (t : Fin cfg0.N) (y : S32x128.Idx) : (((cfg0.win 2).blk t).view.emb y : S32x128.Idx) = y := by
  refine funext fun (a : Fin 2) => Fin.ext ?_
  match a with
  | 0 => show 0 * 32 + 1 * (y 0).val = (y 0).val; omega
  | 1 => show 0 * 128 + 1 * (y 1).val = (y 1).val; omega

theorem emb3 (t : Fin cfg0.N) (y : S1x128.Idx) : (((cfg0.win 3).blk t).view.emb y : S1x128.Idx) = y := by
  refine funext fun (a : Fin 2) => Fin.ext ?_
  match a with
  | 0 => show 0 * 1 + 1 * (y 0).val = (y 0).val; omega
  | 1 => show 0 * 128 + 1 * (y 1).val = (y 1).val; omega

theorem emb4 (t : Fin cfg0.N) (y : S128x128.Idx) : (((cfg0.win 4).blk t).view.emb y : S128x128.Idx) = y := by
  refine funext fun (a : Fin 2) => Fin.ext ?_
  match a with
  | 0 => show 0 * 128 + 1 * (y 0).val = (y 0).val; omega
  | 1 => show 0 * 128 + 1 * (y 1).val = (y 1).val; omega

theorem emb5 (t : Fin cfg0.N) (y : S1x128.Idx) : (((cfg0.win 5).blk t).view.emb y : S1x128.Idx) = y := by
  refine funext fun (a : Fin 2) => Fin.ext ?_
  match a with
  | 0 => show 0 * 1 + 1 * (y 0).val = (y 0).val; omega
  | 1 => show 0 * 128 + 1 * (y 1).val = (y 1).val; omega

theorem emb6 (t : Fin cfg0.N) (y : S128x8.Idx) : (((cfg0.win 6).blk t).view.emb y : S128x8.Idx) = y := by
  refine funext fun (a : Fin 2) => Fin.ext ?_
  match a with
  | 0 => show 0 * 128 + 1 * (y 0).val = (y 0).val; omega
  | 1 => show 0 * 8 + 1 * (y 1).val = (y 1).val; omega

theorem emb7 (t : Fin cfg0.N) (y : S1x8.Idx) : (((cfg0.win 7).blk t).view.emb y : S1x8.Idx) = y := by
  refine funext fun (a : Fin 2) => Fin.ext ?_
  match a with
  | 0 => show 0 * 1 + 1 * (y 0).val = (y 0).val; omega
  | 1 => show 0 * 8 + 1 * (y 1).val = (y 1).val; omega

theorem emb8 (t : Fin cfg0.N) (y : S32x2.Idx) : (((cfg0.win 8).blk t).view.emb y : S32x2.Idx) = y := by
  refine funext fun (a : Fin 2) => Fin.ext ?_
  match a with
  | 0 => show 0 * 32 + 1 * (y 0).val = (y 0).val; omega
  | 1 => show 0 * 2 + 1 * (y 1).val = (y 1).val; omega

theorem emb9 (t : Fin cfg0.N) (y : S32x2.Idx) : (((cfg0.win 9).blk t).view.emb y : S32x2.Idx) = y := by
  refine funext fun (a : Fin 2) => Fin.ext ?_
  match a with
  | 0 => show 0 * 32 + 1 * (y 0).val = (y 0).val; omega
  | 1 => show 0 * 2 + 1 * (y 1).val = (y 1).val; omega

theorem emb10 (t : Fin cfg0.N) (y : S1x1.Idx) : (((cfg0.win 10).blk t).view.emb y : S1x1.Idx) = y := by
  refine funext fun (a : Fin 2) => Fin.ext ?_
  match a with
  | 0 => show 0 * 1 + 1 * (y 0).val = (y 0).val; omega
  | 1 => show 0 * 1 + 1 * (y 1).val = (y 1).val; omega

/-! The arrays the windows stage, from the arguments. -/

abbrev a0 (c : Dev nD) : Vec F S32x64x1024 .f32 := shapeCast S32x64x1024 (m ((c : Thread nD τ).loc main_arg0) : Vec F S32x64x32x32 .f32) shapeCasts_S32x64x32x32_S32x64x1024
abbrev a1 (c : Dev nD) : Vec F S32x32 .f32 := m ((c : Thread nD τ).loc main_arg1)
abbrev a2 (c : Dev nD) : Vec F S32x128 .f32 := m ((c : Thread nD τ).loc main_arg2)
abbrev a3 (c : Dev nD) : Vec F S1x128 .f32 := shapeCast S1x128 (m ((c : Thread nD τ).loc main_arg3) : Vec F S128 .f32) shapeCasts_S128_S1x128
abbrev a4 (c : Dev nD) : Vec F S128x128 .f32 := m ((c : Thread nD τ).loc main_arg4)
abbrev a5 (c : Dev nD) : Vec F S1x128 .f32 := shapeCast S1x128 (m ((c : Thread nD τ).loc main_arg5) : Vec F S128 .f32) shapeCasts_S128_S1x128
abbrev a6 (c : Dev nD) : Vec F S128x8 .f32 := m ((c : Thread nD τ).loc main_arg6)
abbrev a7 (c : Dev nD) : Vec F S1x8 .f32 := shapeCast S1x8 (m ((c : Thread nD τ).loc main_arg7) : Vec F S8 .f32) shapeCasts_S8_S1x8

theorem V_v0 (c : Dev nD) : (V m c main_v0 : Vec F S32x64x1024 .f32) = a0 m c := by
  unfold V V1
  unfold hostOps0
  after_results_simp
  rfl

theorem V_v1 (c : Dev nD) : (V m c main_v1 : Vec F S1x128 .f32) = a3 m c := by
  unfold V V1
  unfold hostOps0
  after_results_simp
  rfl

theorem V_v2 (c : Dev nD) : (V m c main_v2 : Vec F S1x128 .f32) = a5 m c := by
  unfold V V1
  unfold hostOps0
  after_results_simp
  rfl

theorem V_v3 (c : Dev nD) : (V m c main_v3 : Vec F S1x8 .f32) = a7 m c := by
  unfold V V1
  unfold hostOps0
  after_results_simp
  rfl

theorem V_main_arg1 (c : Dev nD) : V m c main_arg1 = m ((c : Thread nD τ).loc main_arg1) := V1_of m c main_arg1 (by decide)
theorem V_main_arg2 (c : Dev nD) : V m c main_arg2 = m ((c : Thread nD τ).loc main_arg2) := V1_of m c main_arg2 (by decide)
theorem V_main_arg4 (c : Dev nD) : V m c main_arg4 = m ((c : Thread nD τ).loc main_arg4) := V1_of m c main_arg4 (by decide)
theorem V_main_arg6 (c : Dev nD) : V m c main_arg6 = m ((c : Thread nD τ).loc main_arg6) := V1_of m c main_arg6 (by decide)

theorem blk0 (c : Dev nD) (t : Fin cfg0.N) : (iblk m c 0 t : Vec F S32x64x1024 .f32) = a0 m c :=
  funext fun y => (congrArg (V m c main_v0 : Vec F S32x64x1024 .f32) (emb0 t y)).trans (congrFun (V_v0 m c) y)
theorem blk1 (c : Dev nD) (t : Fin cfg0.N) : (iblk m c 1 t : Vec F S32x32 .f32) = a1 m c :=
  funext fun y => (congrArg (V m c main_arg1 : Vec F S32x32 .f32) (emb1 t y)).trans (congrFun (V_main_arg1 m c) y)
theorem blk2 (c : Dev nD) (t : Fin cfg0.N) : (iblk m c 2 t : Vec F S32x128 .f32) = a2 m c :=
  funext fun y => (congrArg (V m c main_arg2 : Vec F S32x128 .f32) (emb2 t y)).trans (congrFun (V_main_arg2 m c) y)
theorem blk3 (c : Dev nD) (t : Fin cfg0.N) : (iblk m c 3 t : Vec F S1x128 .f32) = a3 m c :=
  funext fun y => (congrArg (V m c main_v1 : Vec F S1x128 .f32) (emb3 t y)).trans (congrFun (V_v1 m c) y)
theorem blk4 (c : Dev nD) (t : Fin cfg0.N) : (iblk m c 4 t : Vec F S128x128 .f32) = a4 m c :=
  funext fun y => (congrArg (V m c main_arg4 : Vec F S128x128 .f32) (emb4 t y)).trans (congrFun (V_main_arg4 m c) y)
theorem blk5 (c : Dev nD) (t : Fin cfg0.N) : (iblk m c 5 t : Vec F S1x128 .f32) = a5 m c :=
  funext fun y => (congrArg (V m c main_v2 : Vec F S1x128 .f32) (emb5 t y)).trans (congrFun (V_v2 m c) y)
theorem blk6 (c : Dev nD) (t : Fin cfg0.N) : (iblk m c 6 t : Vec F S128x8 .f32) = a6 m c :=
  funext fun y => (congrArg (V m c main_arg6 : Vec F S128x8 .f32) (emb6 t y)).trans (congrFun (V_main_arg6 m c) y)
theorem blk7 (c : Dev nD) (t : Fin cfg0.N) : (iblk m c 7 t : Vec F S1x8 .f32) = a7 m c :=
  funext fun y => (congrArg (V m c main_v3 : Vec F S1x8 .f32) (emb7 t y)).trans (congrFun (V_v3 m c) y)

/-- The logits the body computes. -/
abbrev logits (c : Dev nD) : FVec F S32x8 .f32 := k0_pay4 (a0 m c) (a1 m c) (a2 m c) (a3 m c) (a4 m c) (a5 m c) (a6 m c) (a7 m c)

/-- Each row's largest logit. -/
abbrev top (L : FVec F S32x8 .f32) : FVec F S32 .f32 := multiReduction .maximumf [1] S32 L 0xFF800000#32 reduces_S32x8_S32 (.inl rfl) rfl

/-- The lane numbers. -/
abbrev lanes : IVec S32x8 32 := iota .tc S32x8 32 [1] iota_S32x8_d1_w32

/-- The stored indices, gates and loss, of the logits. -/
def idxOf (L : FVec F S32x8 .f32) : Vec F S32x2 .i32 := k0_pay1 (k0_pay7 L lanes (top L)) (k0_pay10 L lanes (top L))
def gatesOf (L : FVec F S32x8 .f32) : Vec F S32x2 .f32 := k0_pay2 (k0_pay12 L lanes (top L)) (k0_pay13 L lanes (top L))
def lossOf (L : FVec F S32x8 .f32) : Vec F S1x1 .f32 := k0_pay3 (k0_pay16 L lanes (top L)) (k0_pay17 L lanes (top L)) (k0_pay18 L lanes (top L))

section Body
variable (x0 : Vec F S32x64x1024 .f32) (x1 : Vec F S32x32 .f32) (x2 : Vec F S32x128 .f32) (x3 : Vec F S1x128 .f32) (x4 : Vec F S128x128 .f32) (x5 : Vec F S1x128 .f32) (x6 : Vec F S128x8 .f32) (x7 : Vec F S1x8 .f32)

theorem pay20_eq : k0_pay20 x0 x1 x2 x3 x4 x5 x6 x7 = k0_pay4 x0 x1 x2 x3 x4 x5 x6 x7 := by
  unfold k0_pay20
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.ld_unit_lit _ x6 (by decide), View.ld_unit_lit _ x7 (by decide)]

theorem pay21_eq : k0_pay21 x0 x1 x2 x3 x4 x5 x6 x7 = top (k0_pay4 x0 x1 x2 x3 x4 x5 x6 x7) := by
  unfold k0_pay21
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.ld_unit_lit _ x6 (by decide), View.ld_unit_lit _ x7 (by decide)]
  rfl

theorem out8_eq : out0_8 x0 x1 x2 x3 x4 x5 x6 x7 = idxOf (k0_pay4 x0 x1 x2 x3 x4 x5 x6 x7) := by
  unfold out0_8
  rw [View.canon_cons_unit_lit _ _ _ (by decide), pay20_eq, pay21_eq]
  rfl

theorem out9_eq : out0_9 x0 x1 x2 x3 x4 x5 x6 x7 = gatesOf (k0_pay4 x0 x1 x2 x3 x4 x5 x6 x7) := by
  unfold out0_9
  rw [View.canon_cons_unit_lit _ _ _ (by decide), pay20_eq, pay21_eq]
  rfl

theorem out10_eq : out0_10 x0 x1 x2 x3 x4 x5 x6 x7 = lossOf (k0_pay4 x0 x1 x2 x3 x4 x5 x6 x7) := by
  unfold out0_10
  rw [View.canon_cons_unit_lit _ _ _ (by decide), pay20_eq, pay21_eq]
  rfl

end Body

/-- The image of an index under a view lies under it. -/
theorem mem_of_emb {κ : Kind} {sp : Space} {S : Shape} {e : EltTy} (v : View sig κ sp S e) (y : S.Idx) (i : v.ty.Idx) (h : v.emb y = i) : i ∈ v.set :=
  h ▸ v.emb_mem_set y

theorem N_one : cfg0.N = 1 := by rfl

abbrev pt : Fin cfg0.N := ⟨0, by rw [N_one]; omega⟩

theorem arr8 (c : Dev nD) : (dats m c).arrAt 8 cfg0.N = idxOf (logits m c) := by
  refine (dats m c).arrAt_eq_of_emb 8 (idxOf (logits m c)) (fun t _ (y : S32x2.Idx) => ?_) (fun (i : S32x2.Idx) => ⟨pt, (by decide), mem_of_emb _ i _ (emb8 pt i)⟩)
  refine (congrFun ((after0_8 m c t).trans ?_) y).trans (congrArg (idxOf (logits m c)) (emb8 t y).symm)
  rw [out8_eq, blk0, blk1, blk2, blk3, blk4, blk5, blk6, blk7]

theorem arr9 (c : Dev nD) : (dats m c).arrAt 9 cfg0.N = gatesOf (logits m c) := by
  refine (dats m c).arrAt_eq_of_emb 9 (gatesOf (logits m c)) (fun t _ (y : S32x2.Idx) => ?_) (fun (i : S32x2.Idx) => ⟨pt, (by decide), mem_of_emb _ i _ (emb9 pt i)⟩)
  refine (congrFun ((after0_9 m c t).trans ?_) y).trans (congrArg (gatesOf (logits m c)) (emb9 t y).symm)
  rw [out9_eq, blk0, blk1, blk2, blk3, blk4, blk5, blk6, blk7]

theorem arr10 (c : Dev nD) : (dats m c).arrAt 10 cfg0.N = lossOf (logits m c) := by
  refine (dats m c).arrAt_eq_of_emb 10 (lossOf (logits m c)) (fun t _ (y : S1x1.Idx) => ?_) (fun (i : S1x1.Idx) => ⟨pt, (by decide), mem_of_emb _ i _ (emb10 pt i)⟩)
  refine (congrFun ((after0_10 m c t).trans ?_) y).trans (congrArg (lossOf (logits m c)) (emb10 t y).symm)
  rw [out10_eq, blk0, blk1, blk2, blk3, blk4, blk5, blk6, blk7]

end Cert.KernelIdeal.WGate

end
-- ==== Proof.WholeSetup.lean ====
/- The expert region of the whole program: its schedule, the contents it is entered with, the staging memrefs, the side
   condition the body assumes of the index it reads. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.WExp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%11)) is fetched at the first point only, at any contents of the tables (its index map reads none). -/
theorem fetch0_0 (a : (pcfg1 (F := F)).Adm) : ∀ t : Fin (cfg1 a).N, ((cfg1 a).win 0).fetch t = true ↔ t.val % 64 = 0 :=
  (fun t => Pipeline.Window.fetchOf_const cc1_transform_0 (fun _ _ => rfl) (n := 64) (by decide) t : ∀ t : Fin grid1.N, Pipeline.Window.fetchOf grid1 false cc1_transform_0 t = true ↔ t.val % 64 = 0)
/-- Window 1 (operand 2 (%3)) is fetched at the points ≡ 0 (mod 2), at any contents of the tables (its index map reads none). -/
theorem fetch0_1 (a : (pcfg1 (F := F)).Adm) : ∀ t : Fin (cfg1 a).N, ((cfg1 a).win 1).fetch t = true ↔ t.val % 2 = 0 :=
  (fun t => Pipeline.Window.fetchOf_reads cc1_transform_1 reads1_1 hreads1_1 0 (by decide) (by decide) (Pipeline.Window.sep_of_coord cc1_transform_1 0 0 (fun _ => rfl) (by decide)) (P := 2) (by decide) t : ∀ t : Fin grid1.N, Pipeline.Window.fetchOf grid1 false cc1_transform_1 t = true ↔ t.val % 2 = 0)
/-- Window 2 (operand 3 (%6)) is fetched at the first point only, at any contents of the tables (its index map reads none). -/
theorem fetch0_2 (a : (pcfg1 (F := F)).Adm) : ∀ t : Fin (cfg1 a).N, ((cfg1 a).win 2).fetch t = true ↔ t.val % 64 = 0 :=
  (fun t => Pipeline.Window.fetchOf_const cc1_transform_2 (fun _ _ => rfl) (n := 64) (by decide) t : ∀ t : Fin grid1.N, Pipeline.Window.fetchOf grid1 false cc1_transform_2 t = true ↔ t.val % 64 = 0)
/-- Window 3 (operand 4 (%9)) is fetched at the first point only, at any contents of the tables (its index map reads none). -/
theorem fetch0_3 (a : (pcfg1 (F := F)).Adm) : ∀ t : Fin (cfg1 a).N, ((cfg1 a).win 3).fetch t = true ↔ t.val % 64 = 0 :=
  (fun t => Pipeline.Window.fetchOf_const cc1_transform_3 (fun _ _ => rfl) (n := 64) (by decide) t : ∀ t : Fin grid1.N, Pipeline.Window.fetchOf grid1 false cc1_transform_3 t = true ↔ t.val % 64 = 0)
/-- Window 4 (operand 5 (%cst)) is fetched at the first point only, at any contents of the tables (its index map reads none). -/
theorem fetch0_4 (a : (pcfg1 (F := F)).Adm) : ∀ t : Fin (cfg1 a).N, ((cfg1 a).win 4).fetch t = true ↔ t.val % 64 = 0 :=
  (fun t => Pipeline.Window.fetchOf_const cc1_transform_4 (fun _ _ => rfl) (n := 64) (by decide) t : ∀ t : Fin grid1.N, Pipeline.Window.fetchOf grid1 false cc1_transform_4 t = true ↔ t.val % 64 = 0)
/-- Window 5 (result 0 (%12)) is written back at the points ≡ 1 (mod 2), at any contents of the tables (its index map reads none). -/
theorem flush0_5 (a : (pcfg1 (F := F)).Adm) : ∀ t : Fin (cfg1 a).N, ((cfg1 a).win 5).flush t = true ↔ t.val % 2 = 1 :=
  (fun t => Pipeline.Window.flushOf_reads cc1_transform_5 reads1_5 hreads1_5 0 (by decide) (by decide) (Pipeline.Window.sep_of_coord cc1_transform_5 0 0 (fun _ => rfl) (by decide)) (P := 2) (m := 1) (by decide) rfl t : ∀ t : Fin grid1.N, Pipeline.Window.flushOf grid1 true cc1_transform_5 t = true ↔ t.val % 2 = 1)

/-- The current staging memref of each window at point `t`: which of its buffers it is on. -/
abbrev st0_0 (a : (pcfg1 (F := F)).Adm) (t : Fin (cfg1 a).N) := ((cfg1 a).win 0).stage ((cfg1 a).slots t 0)
abbrev st0_1 (a : (pcfg1 (F := F)).Adm) (t : Fin (cfg1 a).N) := ((cfg1 a).win 1).stage ((cfg1 a).slots t 1)
abbrev st0_2 (a : (pcfg1 (F := F)).Adm) (t : Fin (cfg1 a).N) := ((cfg1 a).win 2).stage ((cfg1 a).slots t 2)
abbrev st0_3 (a : (pcfg1 (F := F)).Adm) (t : Fin (cfg1 a).N) := ((cfg1 a).win 3).stage ((cfg1 a).slots t 3)
abbrev st0_4 (a : (pcfg1 (F := F)).Adm) (t : Fin (cfg1 a).N) := ((cfg1 a).win 4).stage ((cfg1 a).slots t 4)
abbrev st0_5 (a : (pcfg1 (F := F)).Adm) (t : Fin (cfg1 a).N) := ((cfg1 a).win 5).stage ((cfg1 a).slots t 5)

/-- The kernel body at point `t`, on what the pipeline calls it with (`defs₀`'s row at the slots). -/
abbrev bodyAt0 (a : (pcfg1 (F := F)).Adm) (t : Fin (cfg1 a).N) : Prog (TpuEff nD τ sig (Elt F) Λ₀ .tc) PUnit :=
  cc1__expert_kernel (grid1.coords t) (Memref.whole main_v15) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5)) (Memref.whole cc1_scratch0) (Memref.isWhole_whole _) (Memref.whole cc1_scratch1) (Memref.isWhole_whole _) (Memref.whole cc1_scratch2) (Memref.isWhole_whole _)

variable (W : Dev nD → Valuation τ sig (Elt F))

/-- A buffer's contents when the region is entered. -/
abbrev V (c : Dev nD) (b : Ref sig .tc) : Buf (Elt F) ((c : Thread nD τ).loc b) := W c (Proc.devRef .tc b)

/-! ## The prefetched tables, read off the launch memory -/

/-- The tables' contents when the region is entered (`V`; the program runs on ONE device: device 0's). -/
def tbl : pre1.Contents (Elt F) := fun j => V W (0 : Dev nD) (pre1.ref j)
/-- On every device the tables hold those contents (there is one device). -/
theorem V_pre (c : Dev nD) (j : Fin 1) : V W c (pre1.ref j) = tbl W j := by
  obtain rfl : c = 0 := Subsingleton.elim _ _; rfl
/-- The pipeline's side condition of the tables' contents: every window whose index map reads a table has its block
    inside the array at every point (the printed `ok1`; `True` when no map reads a table). The frame holds
    under it; Proof.lean proves it from the precondition. -/
abbrev Ok : Prop := ok1 (F := F) (tbl W)
/-- The tables' contents as ADMISSIBLE contents, and the pipeline at them: what the launch theorem runs
    (Lib/Pipeline/Frame.lean `θ_run_frameP`). -/
abbrev adm (hO : Ok W) : (pcfg1 (F := F)).Adm := ⟨tbl W, hO⟩
abbrev cfgM (hO : Ok W) : Pipeline.Cfg sig Λ₀ := cfg1 (adm W hO)

/-- Each table as the body is handed it: its whole buffer as a memref, and that memref's wholeness. -/
abbrev tbM0_0 : Memref sig .tc .smem S64 .i32 := Memref.whole main_v15
abbrev htbM0_0 : tbM0_0.IsWhole := Memref.isWhole_whole _

/-- A table memref's buffer on core `c`: its contents type, and it held at the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare} f

/-- The tables as the region hands them to the body: whole, at the full share. -/
def PT (c : Dev nD) : sProp 𝕄 := Pipeline.prefHeld pre1 c (fun _ => fullShare) (tbl W)

/-- The tables the region hands the body (Lib/Pipeline/Frame.lean `ΦT`), table by table: what the body
    obligation hands the run and takes back. -/
theorem PhiT0_eq (c : Dev nD) : (PT W c : sProp 𝕄) = iprop(tbPt0 c tbM0_0 (tbl W 0)) := by
  unfold PT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok W) (c : Dev nD) (w : Fin (cfgM W hO).W) (t : Fin (cfgM W hO).N) : (((cfgM W hO).win w).xblock ((cfgM W hO).grid.coords t)).Idx → Elt F ((cfgM W hO).win w).elt :=
  (((cfgM W hO).win w).blk t).view.read (Elt F) (V W c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok W) {c : Dev nD} (dat : Dat τ (Elt F) Unit ℕ (UR sig nD τ) ℕ (cfgM W hO) c) (hA : dat.A 0 = V W c (Pipeline.arrRef spec1 0))
    (hafter : ∀ t, dat.after 0 t = iblk W hO c 0 t) (t : Fin (cfgM W hO).N) (d) : dat.before 0 t d = iblk W hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok W) {c : Dev nD} (dat : Dat τ (Elt F) Unit ℕ (UR sig nD τ) ℕ (cfgM W hO) c) (hA : dat.A 1 = V W c (Pipeline.arrRef spec1 1))
    (hafter : ∀ t, dat.after 1 t = iblk W hO c 1 t) (t : Fin (cfgM W hO).N) (d) : dat.before 1 t d = iblk W hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok W) {c : Dev nD} (dat : Dat τ (Elt F) Unit ℕ (UR sig nD τ) ℕ (cfgM W hO) c) (hA : dat.A 2 = V W c (Pipeline.arrRef spec1 2))
    (hafter : ∀ t, dat.after 2 t = iblk W hO c 2 t) (t : Fin (cfgM W hO).N) (d) : dat.before 2 t d = iblk W hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok W) {c : Dev nD} (dat : Dat τ (Elt F) Unit ℕ (UR sig nD τ) ℕ (cfgM W hO) c) (hA : dat.A 3 = V W c (Pipeline.arrRef spec1 3))
    (hafter : ∀ t, dat.after 3 t = iblk W hO c 3 t) (t : Fin (cfgM W hO).N) (d) : dat.before 3 t d = iblk W hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok W) {c : Dev nD} (dat : Dat τ (Elt F) Unit ℕ (UR sig nD τ) ℕ (cfgM W hO) c) (hA : dat.A 4 = V W c (Pipeline.arrRef spec1 4))
    (hafter : ∀ t, dat.after 4 t = iblk W hO c 4 t) (t : Fin (cfgM W hO).N) (d) : dat.before 4 t d = iblk W hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond0_0 (i : grid1.Coords) : Prop := (Scalar.cmpi .ne (Scalar.extui (Scalar.cmpi .eq (BitVec.ofNat 32 (i 1).val) 0#32)) 0#32) = 1#1
/-- It holds at the points ≡ 0 (mod 2) — by arithmetic of the point. -/
theorem hcond0_0 : ∀ t : Fin grid1.N, cond0_0 (grid1.coords t) ↔ t.val % 2 = 0 :=
  (fun t => by
    have ht : t.val < 64 := Nat.lt_of_lt_of_eq t.isLt N_1
    have e0 : (grid1.coords t 0).val = t.val / 2 % 32 := Pipeline.Grid.coords_val t 0 (by decide) rfl
    have e1 : (grid1.coords t 1).val = t.val / 1 % 2 := Pipeline.Grid.coords_val t 1 (by decide) rfl
    simp only [cond0_0, e0, e1]
    word_cmp
   : ∀ t : Fin grid1.N, cond0_0 (grid1.coords t) ↔ t.val % 2 = 0)

/-- The condition of the body's `scf.if` 1 (`k1_h2`), from the grid coordinates (the skeleton's scalar
    chain substituted). -/
abbrev cond0_1 (i : grid1.Coords) : Prop := k1_cond2 i = 1#1
/-- It holds at the points ≡ 0 (mod 2) — by arithmetic of the point. -/
theorem hcond0_1 : ∀ t : Fin grid1.N, cond0_1 (grid1.coords t) ↔ t.val % 2 = 0 :=
  (fun t => by
    have ht : t.val < 64 := Nat.lt_of_lt_of_eq t.isLt N_1
    have e0 : (grid1.coords t 0).val = t.val / 2 % 32 := Pipeline.Grid.coords_val t 0 (by decide) rfl
    have e1 : (grid1.coords t 1).val = t.val / 1 % 2 := Pipeline.Grid.coords_val t 1 (by decide) rfl
    simp only [cond0_1, k1_cond2, e0, e1]
    word_cmp
   : ∀ t : Fin grid1.N, cond0_1 (grid1.coords t) ↔ t.val % 2 = 0)

/-- The condition of the body's `scf.if` 2 (`k1_h3`), from the grid coordinates (the skeleton's scalar
    chain substituted). -/
abbrev cond0_2 (i : grid1.Coords) : Prop := k1_cond3 i = 1#1
/-- It holds at the points ≡ 1 (mod 2) — by arithmetic of the point. -/
theorem hcond0_2 : ∀ t : Fin grid1.N, cond0_2 (grid1.coords t) ↔ t.val % 2 = 1 :=
  (fun t => by
    have ht : t.val < 64 := Nat.lt_of_lt_of_eq t.isLt N_1
    have e0 : (grid1.coords t 0).val = t.val / 2 % 32 := Pipeline.Grid.coords_val t 0 (by decide) rfl
    have e1 : (grid1.coords t 1).val = t.val / 1 % 2 := Pipeline.Grid.coords_val t 1 (by decide) rfl
    simp only [cond0_2, k1_cond3, e0, e1]
    word_cmp
   : ∀ t : Fin grid1.N, cond0_2 (grid1.coords t) ↔ t.val % 2 = 1)

/-! ## Where the windows are idle (the printed configuration's table `Cfg.idle`) -/

/-- Window 0 is never idle (an input). -/
theorem liveAt0_0 (hO : Ok W) : ∀ t : Fin (cfgM W hO).N, (cfgM W hO).idle 0 (grid1.coords t) = false :=
  (fun _ => rfl : ∀ t : Fin grid1.N, idle1 0 (grid1.coords t) = false)
/-- Window 1 is never idle (an input). -/
theorem liveAt0_1 (hO : Ok W) : ∀ t : Fin (cfgM W hO).N, (cfgM W hO).idle 1 (grid1.coords t) = false :=
  (fun _ => rfl : ∀ t : Fin grid1.N, idle1 1 (grid1.coords t) = false)
/-- Window 2 is never idle (an input). -/
theorem liveAt0_2 (hO : Ok W) : ∀ t : Fin (cfgM W hO).N, (cfgM W hO).idle 2 (grid1.coords t) = false :=
  (fun _ => rfl : ∀ t : Fin grid1.N, idle1 2 (grid1.coords t) = false)
/-- Window 3 is never idle (an input). -/
theorem liveAt0_3 (hO : Ok W) : ∀ t : Fin (cfgM W hO).N, (cfgM W hO).idle 3 (grid1.coords t) = false :=
  (fun _ => rfl : ∀ t : Fin grid1.N, idle1 3 (grid1.coords t) = false)
/-- Window 4 is never idle (an input). -/
theorem liveAt0_4 (hO : Ok W) : ∀ t : Fin (cfgM W hO).N, (cfgM W hO).idle 4 (grid1.coords t) = false :=
  (fun _ => rfl : ∀ t : Fin grid1.N, idle1 4 (grid1.coords t) = false)
/-! ## The kernel body on any staging memrefs: a subtype the run finds -/

/-- Each window's current staging memref at point `t`, spelled as the pipeline passes it (`bodyAt0`), and its wholeness. -/
abbrev ms0_0 (hO : Ok W) (t : Fin (cfgM W hO).N) : Memref sig .tc .smem S64 .f32 := spec1_0.stage ((cfgM W hO).slots t 0)
abbrev hs0_0 (hO : Ok W) (t : Fin (cfgM W hO).N) : (ms0_0 W hO t).IsWhole := hstage1_0 (((cfgM W hO).slots t 0).cast nbuf1_0)
abbrev ms0_1 (hO : Ok W) (t : Fin (cfgM W hO).N) : Memref sig .tc .vmem S1x64x1296 .bf16 := spec1_1.stage ((cfgM W hO).slots t 1)
abbrev hs0_1 (hO : Ok W) (t : Fin (cfgM W hO).N) : (ms0_1 W hO t).IsWhole := hstage1_1 (((cfgM W hO).slots t 1).cast nbuf1_1)
abbrev ms0_2 (hO : Ok W) (t : Fin (cfgM W hO).N) : Memref sig .tc .vmem S8x128x576 .bf16 := spec1_2.stage ((cfgM W hO).slots t 2)
abbrev hs0_2 (hO : Ok W) (t : Fin (cfgM W hO).N) : (ms0_2 W hO t).IsWhole := hstage1_2 (((cfgM W hO).slots t 2).cast nbuf1_2)
abbrev ms0_3 (hO : Ok W) (t : Fin (cfgM W hO).N) : Memref sig .tc .vmem S8x64x1152 .bf16 := spec1_3.stage ((cfgM W hO).slots t 3)
abbrev hs0_3 (hO : Ok W) (t : Fin (cfgM W hO).N) : (ms0_3 W hO t).IsWhole := hstage1_3 (((cfgM W hO).slots t 3).cast nbuf1_3)
abbrev ms0_4 (hO : Ok W) (t : Fin (cfgM W hO).N) : Memref sig .tc .vmem S1x1226 .f32 := spec1_4.stage ((cfgM W hO).slots t 4)
abbrev hs0_4 (hO : Ok W) (t : Fin (cfgM W hO).N) : (ms0_4 W hO t).IsWhole := hstage1_4 (((cfgM W hO).slots t 4).cast nbuf1_4)
abbrev ms0_5 (hO : Ok W) (t : Fin (cfgM W hO).N) : Memref sig .tc .vmem S1x64x1156 .f32 := spec1_5.stage ((cfgM W hO).slots t 5)
abbrev hs0_5 (hO : Ok W) (t : Fin (cfgM W hO).N) : (ms0_5 W hO t).IsWhole := hstage1_5 (((cfgM W hO).slots t 5).cast nbuf1_5)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl W`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (W : Dev nD → Valuation τ sig (Elt F)) (hO : Ok W) : Prop :=
  ∀ (c : Dev nD) (t : Fin (cfgM W hO).N),
    k1_chk1 (tbM0_0.view.readAt (Elt F) (Rect.unit (s := S64) (k1_off1 (grid1.coords t)) S1.size (k1_off1_inb (grid1.coords t))).toLoadRect (tbl W 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k1_chk1` the body assumes as `k1_hw1`. -/
abbrev Hyps.p0 (W : Dev nD → Valuation τ sig (Elt F)) (hO : Ok W) (c : Dev nD) (t : Fin (cfgM W hO).N) : Prop :=
  k1_chk1 (tbM0_0.view.readAt (Elt F) (Rect.unit (s := S64) (k1_off1 (grid1.coords t)) S1.size (k1_off1_inb (grid1.coords t))).toLoadRect (tbl W 0) (Shape.Idx.first (numel1_S1.symm ▸ Nat.one_pos)))
variable {W} in
theorem Hyps.c0 {hO : Ok W} (hH : Hyps W hO) (c : Dev nD) (t : Fin (cfgM W hO).N) :
    k1_chk1 (tbM0_0.view.readAt (Elt F) (Rect.unit (s := S64) (k1_off1 (grid1.coords t)) S1.size (k1_off1_inb (grid1.coords t))).toLoadRect (tbl W 0) (Shape.Idx.first (numel1_S1.symm ▸ Nat.one_pos))) := (hH c t)
variable {W} in
theorem Hyps.of {hO : Ok W}
    (p0 : ∀ (c : Dev nD) (t : Fin (cfgM W hO).N), Hyps.p0 W hO c t) :
    Hyps W hO := fun c t =>
  p0 c t

/-- The scratch operands: whole scoped buffers of the kernel's own, passed beside the windows. -/
abbrev scM0_0 : Memref sig .tc .vmem S576x1226 .bf16 := Memref.whole cc1_scratch0
abbrev scM0_1 : Memref sig .tc .vmem S128x1226 .bf16 := Memref.whole cc1_scratch1
abbrev scM0_2 : Memref sig .tc .vmem S1152x1156 .bf16 := Memref.whole cc1_scratch2
/-- The scratch `arg9` the kernel carries between points, as a view: what it holds is stated through it. -/
abbrev VS0_0 : View sig .tc .vmem S576x1226 .bf16 := scM0_0.view

/-- The scoped buffers that are neither a window's nor scratch (the first region's staging buffers), at some contents, -/
def rst (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f))

/-- and beside them the generator register. -/
def side (c : Dev nD) : sProp 𝕄 := iprop(rst c ∗ (∃ r, prngReg c r))

/-- The scratch at some contents beside what the body does not touch. -/
def PA (c : Dev nD) : sProp 𝕄 :=
  iprop(iprop((∃ d, owns (c : Thread nD τ) scM0_0 fullShare d) ∗ (∃ d, owns (c : Thread nD τ) scM0_1 fullShare d) ∗ (∃ d, owns (c : Thread nD τ) scM0_2 fullShare d)) ∗ side c)

theorem PhiA0_eq (c : Dev nD) :
    (PA c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ side c) := rfl

end Cert.KernelIdeal.WExp

end
-- ==== Proof.WholeBody.lean ====
/- The expert kernel's body at one grid point, executed with the values it leaves: the scratch of shifted input rows,
   and the output block, as functions of the blocks the point is given. -/
module

public import proofs.«01_k».proof.Proof.WholeSetup
public import Idealize.ShloMosaic.Lib.Pipeline.ReadBack
public import Idealize.ShloMosaic.Lib.PointwiseCore
public import Idealize.ShloMosaic.Lib.Pointwise.Reshape
public import Idealize.ShloMosaic.Lib.Ring

@[expose] public section

set_option maxRecDepth 16384

noncomputable section

namespace Cert.KernelIdeal.WExp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The values -/

/-- The shift of tap `t` of a 3 by 3 stencil over rows of length 34: `34 * (t / 3) + t % 3`. -/
def tapOff (t : ℕ) : ℕ := 34 * (t / 3) + t % 3

theorem tapOff_le {t : ℕ} (h : t < 9) : tapOff t ≤ 70 := by unfold tapOff; omega

/-- The nine shifted copies of the 64 input rows, one under the other. -/
def x9of (x : Vec F S1x64x1296 .bf16) : Vec F S576x1226 .bf16 := fun j =>
  x (ix3 0 ⟨(j 0).val % 64, Nat.mod_lt _ (by decide)⟩
    ⟨(j 1).val + tapOff ((j 0).val / 64), by
      have h0 : (j 0).val < 576 := (j 0).isLt
      have h1 : (j 1).val < 1226 := (j 1).isLt
      have := tapOff_le (t := (j 0).val / 64) (by omega); omega⟩)

/-- The nine shifted copies of the 128 hidden rows, one under the other. -/
def h9of (h : Vec F S128x1226 .bf16) : Vec F S1152x1156 .bf16 := fun j =>
  h (ix2 ⟨(j 0).val % 128, Nat.mod_lt _ (by decide)⟩
    ⟨(j 1).val + tapOff ((j 0).val / 128), by
      have h0 : (j 0).val < 1152 := (j 0).isLt
      have h1 : (j 1).val < 1156 := (j 1).isLt
      have := tapOff_le (t := (j 0).val / 128) (by omega); omega⟩)

/-- Expert `e`'s block of the first weights. -/
def w1at (w : Vec F S8x128x576 .bf16) (e : BitVec 32) : Vec F S1x128x576 .bf16 := fun j =>
  w (ix3 ⟨e.toNat % 8, Nat.mod_lt _ (by decide)⟩ (j 1) (j 2))

/-- Expert `e`'s block of the second weights. -/
def w2at (w : Vec F S8x64x1152 .bf16) (e : BitVec 32) : Vec F S1x64x1152 .bf16 := fun j =>
  w (ix3 ⟨e.toNat % 8, Nat.mod_lt _ (by decide)⟩ (j 1) (j 2))

/-- The word of the prefetched table that the body reads at point `i`. -/
abbrev wordAt (c : Dev nD) (i : grid1.Coords) (xt : TbBuf0 (F := F) c tbM0_0) : BitVec 32 :=
  tbM0_0.view.readAt (Elt F) (Rect.unit (s := S64) (k1_off1 i) S1.size (k1_off1_inb i)).toLoadRect xt (Shape.Idx.first (numel1_S1.symm ▸ Nat.one_pos))

/-- The gate that the body reads at point `i`. -/
def gateAt (i : grid1.Coords) (x : Vec F S64 .f32) : F .f32 :=
  x ((Rect.unit (s := S64) (k1_off1 i) S1.size (k1_off1_inb i)).toLoadRect.idx (Shape.Idx.first (numel1_S1.symm ▸ Nat.one_pos)))

/-- The hidden rows of expert `e` from the shifted input rows `x9`. -/
def hidAt (e : BitVec 32) (x9 : Vec F S576x1226 .bf16) (w1 : Vec F S8x128x576 .bf16) (mk : Vec F S1x1226 .f32) : Vec F S128x1226 .bf16 :=
  k1_pay16 (w1at w1 e) x9 mk

/-! ## Loads and stores read back -/

theorem cast3_apply (v : Vec F S1x64x1226 .bf16) (hc : S1x64x1226.ShapeCasts S64x1226) (y : S64x1226.Idx) :
    shapeCast S64x1226 v hc y = v (ix3 0 (y 0) (y 1)) := by
  pointwise

theorem x9_piece {A : Memref sig .tc .vmem S1x64x1296 .bf16} (hA : A.IsWhole) (x : Vec F S1x64x1296 .bf16) (o b : ℕ)
    (inb : ∀ a, (![0, 0, o] : Fin 3 → ℕ) a + S1x64x1226.size a ≤ S1x64x1296.size a)
    (inb' : ∀ a, (![b, 0] : Fin 2 → ℕ) a + S64x1226.size a ≤ S576x1226.size a)
    (hb : b % 64 = 0) (ho : o = tapOff (b / 64)) (hc : S1x64x1226.ShapeCasts S64x1226) (hc' : S64x1226.ShapeCasts S64x1226) (y : S64x1226.Idx) :
    shapeCast S64x1226 (shapeCast S64x1226 (A.view.readAt (Elt F) (Rect.unit (s := S1x64x1296) ![0, 0, o] S1x64x1226.size inb).toLoadRect (hA.unread x)) hc) hc' y
      = x9of x ((Rect.unit (s := S576x1226) ![b, 0] S64x1226.size inb').emb y) := by
  have h0 : (y 0).val < 64 := (y 0).isLt
  have h1 : (y 1).val < 1226 := (y 1).isLt
  refine (congrFun (shapeCast_id (s := S64x1226) _ hc') y).trans ?_
  rw [cast3_apply, View.readAt_apply, hA.read_unread]
  unfold x9of
  refine congrArg x (funext fun a => Fin.ext ?_)
  match a with
  | 0 => rfl
  | 1 =>
    show 0 + 1 * (y 0).val = (b + 1 * (y 0).val) % 64
    omega
  | 2 =>
    show o + 1 * (y 1).val = (0 + 1 * (y 1).val) + tapOff ((b + 1 * (y 0).val) / 64)
    rw [ho, show (b + 1 * (y 0).val) / 64 = b / 64 by omega]; omega

theorem idx_zero {s : Shape} {off : Fin s.rank → ℕ} (h : ∀ a, off a = 0) (inb : ∀ a, off a + s.size a ≤ s.size a) (y : s.Idx) :
    (Rect.unit (s := s) off s.size inb).toLoadRect.idx y = y :=
  funext fun a => Fin.ext (by show off a + 1 * (y a).val = (y a).val; rw [h]; omega)

theorem whole_load {κ : Kind} {sp : Space} {s : Shape} {e : EltTy} {A : Memref sig κ sp s e} (hA : A.IsWhole) (x : Vec F s e)
    {off : Fin s.rank → ℕ} (h : ∀ a, off a = 0) (inb : ∀ a, off a + s.size a ≤ s.size a) :
    A.view.readAt (Elt F) (Rect.unit (s := s) off s.size inb).toLoadRect (hA.unread x) = x :=
  funext fun y => by rw [View.readAt_apply, hA.read_unread]; exact congrArg x (idx_zero h inb y)

theorem whole_readCov {κ : Kind} {sp : Space} {s : Shape} {e : EltTy} (v : View sig κ sp s e) (L : List (View.Piece (Elt F) s e))
    (G : Vec F s e) {off : Fin s.rank → ℕ} (h : ∀ a, off a = 0) (inb : ∀ a, off a + s.size a ≤ s.size a)
    (hL : View.PiecesOf G L) (cov : ∀ y, ∃ p ∈ L, y ∈ p.1.set) :
    v.readCov L (Rect.unit (s := s) off s.size inb).toLoadRect = G :=
  funext fun y => by
    rw [View.readCov_eq_canon']
    exact (congrArg (View.canon L) (idx_zero h inb y)).trans (View.canon_apply_of_pieces G L hL.mem y (cov y))

theorem h9_piece {κ : Kind} {sp : Space} (v : View sig κ sp S128x1226 .bf16) {H' H : Vec F S128x1226 .bf16} (hH : H' = H) (o b : ℕ)
    (inb0 : ∀ a, (![0, 0] : Fin 2 → ℕ) a + S128x1226.size a ≤ S128x1226.size a)
    (inb : ∀ a, (![0, o] : Fin 2 → ℕ) a + S128x1156.size a ≤ S128x1226.size a)
    (inb' : ∀ a, (![b, 0] : Fin 2 → ℕ) a + S128x1156.size a ≤ S1152x1156.size a)
    (hb : b % 128 = 0) (ho : o = tapOff (b / 128)) (hc : S128x1156.ShapeCasts S128x1156) (y : S128x1156.Idx) :
    shapeCast S128x1156 (v.readCov (Val := Elt F) [⟨Rect.unit (s := S128x1226) ![0, 0] S128x1226.size inb0, H'⟩]
        (Rect.unit (s := S128x1226) ![0, o] S128x1156.size inb).toLoadRect) hc y
      = h9of H ((Rect.unit (s := S1152x1156) ![b, 0] S128x1156.size inb').emb y) := by
  have h0 : (y 0).val < 128 := (y 0).isLt
  have h1 : (y 1).val < 1156 := (y 1).isLt
  subst hH
  refine (congrFun (shapeCast_id (s := S128x1156) _ hc) y).trans ?_
  rw [View.readCov_eq_canon', View.canon_cons_unit_lit _ _ _ (by decide)]
  unfold h9of
  refine congrArg H' (funext fun a => Fin.ext ?_)
  match a with
  | 0 =>
    show 0 + 1 * (y 0).val = (b + 1 * (y 0).val) % 128
    omega
  | 1 =>
    show o + 1 * (y 1).val = (0 + 1 * (y 1).val) + tapOff ((b + 1 * (y 0).val) / 128)
    rw [ho, show (b + 1 * (y 0).val) / 128 = b / 128 by omega]; omega

theorem w1_load {A : Memref sig .tc .vmem S8x128x576 .bf16} (hA : A.IsWhole) (w : Vec F S8x128x576 .bf16) (e : BitVec 32) (he : k1_chk1 e)
    (inb : ∀ a, k1_off2 e a + S1x128x576.size a ≤ S8x128x576.size a) :
    A.view.readAt (Elt F) (Rect.unit (s := S8x128x576) (k1_off2 e) S1x128x576.size inb).toLoadRect (hA.unread w) = w1at w e := by
  funext y
  have h0 : (y 0).val < 1 := (y 0).isLt
  have h := inb 0
  change e.toNat + 1 ≤ 8 at h
  rw [View.readAt_apply, hA.read_unread]
  unfold w1at
  refine congrArg w (funext fun a => Fin.ext ?_)
  match a with
  | 0 => show e.toNat + 1 * (y 0).val = e.toNat % 8; omega
  | 1 => show 0 + 1 * (y 1).val = (y 1).val; omega
  | 2 => show 0 + 1 * (y 2).val = (y 2).val; omega

theorem w2_load {A : Memref sig .tc .vmem S8x64x1152 .bf16} (hA : A.IsWhole) (w : Vec F S8x64x1152 .bf16) (e : BitVec 32) (he : k1_chk1 e)
    (inb : ∀ a, k1_off3 e a + S1x64x1152.size a ≤ S8x64x1152.size a) :
    A.view.readAt (Elt F) (Rect.unit (s := S8x64x1152) (k1_off3 e) S1x64x1152.size inb).toLoadRect (hA.unread w) = w2at w e := by
  funext y
  have h0 : (y 0).val < 1 := (y 0).isLt
  have h := inb 0
  change e.toNat + 1 ≤ 8 at h
  rw [View.readAt_apply, hA.read_unread]
  unfold w2at
  refine congrArg w (funext fun a => Fin.ext ?_)
  match a with
  | 0 => show e.toNat + 1 * (y 0).val = e.toNat % 8; omega
  | 1 => show 0 + 1 * (y 1).val = (y 1).val; omega
  | 2 => show 0 + 1 * (y 2).val = (y 2).val; omega

theorem gate_load {A : Memref sig .tc .smem S64 .f32} (hA : A.IsWhole) (x : Vec F S64 .f32) (i : grid1.Coords) :
    A.view.readAt (Elt F) (Rect.unit (s := S64) (k1_off1 i) S1.size (k1_off1_inb i)).toLoadRect (hA.unread x) (Shape.Idx.first (numel1_S1.symm ▸ Nat.one_pos))
      = gateAt i x := by
  rw [View.readAt_apply, hA.read_unread]; rfl

set_option maxHeartbeats 400000 in
/-- The body at an image's first slot: what it leaves in the output block and in the scratch of shifted rows. -/
theorem runA (c : Dev nD) (i : grid1.Coords) (arg3 : Memref sig .tc .smem S64 .f32) (harg3 : arg3.IsWhole) (arg4 : Memref sig .tc .vmem S1x64x1296 .bf16) (harg4 : arg4.IsWhole) (arg5 : Memref sig .tc .vmem S8x128x576 .bf16) (harg5 : arg5.IsWhole) (arg6 : Memref sig .tc .vmem S8x64x1152 .bf16) (harg6 : arg6.IsWhole) (arg7 : Memref sig .tc .vmem S1x1226 .f32) (harg7 : arg7.IsWhole) (arg8 : Memref sig .tc .vmem S1x64x1156 .f32) (harg8 : arg8.IsWhole) (arg9 : Memref sig .tc .vmem S576x1226 .bf16) (harg9 : arg9.IsWhole) (arg10 : Memref sig .tc .vmem S128x1226 .bf16) (harg10 : arg10.IsWhole) (arg11 : Memref sig .tc .vmem S1152x1156 .bf16) (harg11 : arg11.IsWhole) (hc0 : cond0_0 i) (hc1 : cond0_1 i) (hc2 : ¬cond0_2 i)
    (x0 : Vec F S64 .f32) (x1 : Vec F S1x64x1296 .bf16) (x2 : Vec F S8x128x576 .bf16) (x3 : Vec F S8x64x1152 .bf16) (x4 : Vec F S1x1226 .f32) (xt0 : TbBuf0 (F := F) c tbM0_0) (k1_hw1 : k1_chk1 (wordAt c i xt0))
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k1_pay4 (gateAt i x0) (w2at x3 (wordAt c i xt0)) (h9of (hidAt (wordAt c i xt0) (x9of x1) x2 x4))) ∗ owns (c : Thread nD τ) arg9 fullShare (x9of x1) ∗ (∃ d, owns (c : Thread nD τ) arg10 fullShare d) ∗ (∃ d, owns (c : Thread nD τ) arg11 fullShare d) ∗ tbPt0 c tbM0_0 xt0) -∗ K ⟨⟩))
          ⊢ wp frame (wpE (defs₀ (F := F)) Variants.none c none) E (cc1__expert_kernel i tbM0_0 htbM0_0 arg3 harg3 arg4 harg4 arg5 harg5 arg6 harg6 arg7 harg7 arg8 harg8 arg9 harg9 arg10 harg10 arg11 harg11) K := by
  simp only [cc1__expert_kernel_eq_skeleton]; unfold cc1__expert_kernel_skel
  simp only [k1_part2_eq_skeleton, k1_part1_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, HT0, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc0 | sl_exact hc1 | sl_exact hc2 | sl_exact k1_hw1)
  sl_step
  have pX : View.PiecesOf (x9of x1) (runA.sl.HS0_9 c arg4 harg4 x1) :=
    ⟨x9_piece harg4 x1 70 512 inb_S1x64x1296_S1x64x1226_0_0_70 inb_S576x1226_S64x1226_512_0 rfl rfl shapeCasts_S1x64x1226_S64x1226 shapeCasts_S64x1226_S64x1226,
      x9_piece harg4 x1 69 448 inb_S1x64x1296_S1x64x1226_0_0_69 inb_S576x1226_S64x1226_448_0 rfl rfl shapeCasts_S1x64x1226_S64x1226 shapeCasts_S64x1226_S64x1226,
      x9_piece harg4 x1 68 384 inb_S1x64x1296_S1x64x1226_0_0_68 inb_S576x1226_S64x1226_384_0 rfl rfl shapeCasts_S1x64x1226_S64x1226 shapeCasts_S64x1226_S64x1226,
      x9_piece harg4 x1 36 320 inb_S1x64x1296_S1x64x1226_0_0_36 inb_S576x1226_S64x1226_320_0 rfl rfl shapeCasts_S1x64x1226_S64x1226 shapeCasts_S64x1226_S64x1226,
      x9_piece harg4 x1 35 256 inb_S1x64x1296_S1x64x1226_0_0_35 inb_S576x1226_S64x1226_256_0 rfl rfl shapeCasts_S1x64x1226_S64x1226 shapeCasts_S64x1226_S64x1226,
      x9_piece harg4 x1 34 192 inb_S1x64x1296_S1x64x1226_0_0_34 inb_S576x1226_S64x1226_192_0 rfl rfl shapeCasts_S1x64x1226_S64x1226 shapeCasts_S64x1226_S64x1226,
      x9_piece harg4 x1 2 128 inb_S1x64x1296_S1x64x1226_0_0_2 inb_S576x1226_S64x1226_128_0 rfl rfl shapeCasts_S1x64x1226_S64x1226 shapeCasts_S64x1226_S64x1226,
      x9_piece harg4 x1 1 64 inb_S1x64x1296_S1x64x1226_0_0_1 inb_S576x1226_S64x1226_64_0 rfl rfl shapeCasts_S1x64x1226_S64x1226 shapeCasts_S64x1226_S64x1226,
      x9_piece harg4 x1 0 0 inb_S1x64x1296_S1x64x1226_0_0_0 inb_S576x1226_S64x1226_0_0 rfl rfl shapeCasts_S1x64x1226_S64x1226 shapeCasts_S64x1226_S64x1226, trivial⟩
  have cX : ∀ y, ∃ p ∈ runA.sl.HS0_9 c arg4 harg4 x1, y ∈ p.1.set := View.cover_of_tiledL _ S64x1226.size (by sl_kernel_rfl)
  have hH : k1_pay16 (arg5.view.readAt (Elt F) (Rect.unit (s := S8x128x576) (k1_off2 (wordAt c i xt0)) S1x128x576.size (k1_off2_inb _ k1_hw1)).toLoadRect (harg5.unread x2)) (arg9.view.readCov (runA.sl.HS0_9 c arg4 harg4 x1) (Rect.unit (s := S576x1226) ![0, 0] S576x1226.size inb_S576x1226_S576x1226_0_0).toLoadRect)
        (arg7.view.readAt (Elt F) (Rect.unit (s := S1x1226) ![0, 0] S1x1226.size inb_S1x1226_S1x1226_0_0).toLoadRect (harg7.unread x4)) = (hidAt (wordAt c i xt0) (x9of x1) x2 x4) := by
    rw [w1_load harg5 x2 _ k1_hw1, whole_load harg7 x4 (by decide), whole_readCov _ _ _ (by decide) _ pX cX]; rfl
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    rw [View.read_writes_eq_canon _ _ _ (View.cover_of_tiledL _ S1x64x1156.size (by sl_kernel_rfl)), View.canon_cons_unit_lit _ _ _ (by decide)]
    refine congr (congr (congrArg k1_pay4 (gate_load harg3 x0 i)) (w2_load harg6 x3 _ k1_hw1 _)) ?_
    exact whole_readCov _ _ _ (by decide) _
      ⟨h9_piece arg10.view hH 70 1024 inb_S128x1226_S128x1226_0_0 inb_S128x1226_S128x1156_0_70 inb_S1152x1156_S128x1156_1024_0 rfl rfl shapeCasts_S128x1156_S128x1156,
      h9_piece arg10.view hH 69 896 inb_S128x1226_S128x1226_0_0 inb_S128x1226_S128x1156_0_69 inb_S1152x1156_S128x1156_896_0 rfl rfl shapeCasts_S128x1156_S128x1156,
      h9_piece arg10.view hH 68 768 inb_S128x1226_S128x1226_0_0 inb_S128x1226_S128x1156_0_68 inb_S1152x1156_S128x1156_768_0 rfl rfl shapeCasts_S128x1156_S128x1156,
      h9_piece arg10.view hH 36 640 inb_S128x1226_S128x1226_0_0 inb_S128x1226_S128x1156_0_36 inb_S1152x1156_S128x1156_640_0 rfl rfl shapeCasts_S128x1156_S128x1156,
      h9_piece arg10.view hH 35 512 inb_S128x1226_S128x1226_0_0 inb_S128x1226_S128x1156_0_35 inb_S1152x1156_S128x1156_512_0 rfl rfl shapeCasts_S128x1156_S128x1156,
      h9_piece arg10.view hH 34 384 inb_S128x1226_S128x1226_0_0 inb_S128x1226_S128x1156_0_34 inb_S1152x1156_S128x1156_384_0 rfl rfl shapeCasts_S128x1156_S128x1156,
      h9_piece arg10.view hH 2 256 inb_S128x1226_S128x1226_0_0 inb_S128x1226_S128x1156_0_2 inb_S1152x1156_S128x1156_256_0 rfl rfl shapeCasts_S128x1156_S128x1156,
      h9_piece arg10.view hH 1 128 inb_S128x1226_S128x1226_0_0 inb_S128x1226_S128x1156_0_1 inb_S1152x1156_S128x1156_128_0 rfl rfl shapeCasts_S128x1156_S128x1156,
      h9_piece arg10.view hH 0 0 inb_S128x1226_S128x1226_0_0 inb_S128x1226_S128x1156_0_0 inb_S1152x1156_S128x1156_0_0 rfl rfl shapeCasts_S128x1156_S128x1156, trivial⟩ (View.cover_of_tiledL _ S128x1156.size (by sl_kernel_rfl))
  isplitl [HS0]
  · iexists _; isplitr; swap; · iexact HS0
    ipureintro
    exact funext fun y => View.read_writes_apply_of_pieces _ _ (x9of x1) _ pX.mem y (cX y)
  isplitl [HS1]
  · iexists _, _; isplitr; swap; · iexact HS1
    ipureintro; rfl
  isplitl [HS2]
  · iexists _, _; isplitr; swap; · iexact HS2
    ipureintro; rfl
  iexact HT0

set_option maxHeartbeats 400000 in
/-- The body at an image's second slot: what it leaves in the output block, added to what the block held. -/
theorem runB (c : Dev nD) (i : grid1.Coords) (arg3 : Memref sig .tc .smem S64 .f32) (harg3 : arg3.IsWhole) (arg4 : Memref sig .tc .vmem S1x64x1296 .bf16) (harg4 : arg4.IsWhole) (arg5 : Memref sig .tc .vmem S8x128x576 .bf16) (harg5 : arg5.IsWhole) (arg6 : Memref sig .tc .vmem S8x64x1152 .bf16) (harg6 : arg6.IsWhole) (arg7 : Memref sig .tc .vmem S1x1226 .f32) (harg7 : arg7.IsWhole) (arg8 : Memref sig .tc .vmem S1x64x1156 .f32) (harg8 : arg8.IsWhole) (arg9 : Memref sig .tc .vmem S576x1226 .bf16) (harg9 : arg9.IsWhole) (arg10 : Memref sig .tc .vmem S128x1226 .bf16) (harg10 : arg10.IsWhole) (arg11 : Memref sig .tc .vmem S1152x1156 .bf16) (harg11 : arg11.IsWhole) (hc0 : ¬cond0_0 i) (hc1 : ¬cond0_1 i) (hc2 : cond0_2 i)
    (x0 : Vec F S64 .f32) (x1 : Vec F S1x64x1296 .bf16) (x2 : Vec F S8x128x576 .bf16) (x3 : Vec F S8x64x1152 .bf16) (x4 : Vec F S1x1226 .f32) (x5 : Vec F S1x64x1156 .f32) (xs0 : Vec F S576x1226 .bf16) (xt0 : TbBuf0 (F := F) c tbM0_0) (k1_hw1 : k1_chk1 (wordAt c i xt0))
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xs0 ∗ (∃ d, owns (c : Thread nD τ) arg10 fullShare d) ∗ (∃ d, owns (c : Thread nD τ) arg11 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k1_pay5 (gateAt i x0) (w2at x3 (wordAt c i xt0)) (h9of (hidAt (wordAt c i xt0) xs0 x2 x4)) x5) ∗ owns (c : Thread nD τ) arg9 fullShare xs0 ∗ (∃ d, owns (c : Thread nD τ) arg10 fullShare d) ∗ (∃ d, owns (c : Thread nD τ) arg11 fullShare d) ∗ tbPt0 c tbM0_0 xt0) -∗ K ⟨⟩))
          ⊢ wp frame (wpE (defs₀ (F := F)) Variants.none c none) E (cc1__expert_kernel i tbM0_0 htbM0_0 arg3 harg3 arg4 harg4 arg5 harg5 arg6 harg6 arg7 harg7 arg8 harg8 arg9 harg9 arg10 harg10 arg11 harg11) K := by
  simp only [cc1__expert_kernel_eq_skeleton]; unfold cc1__expert_kernel_skel
  simp only [k1_part2_eq_skeleton, k1_part1_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, ⟨%ds2, %fs2, -, HS2⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
  sl_exec (disch := first | sl_exact hc0 | sl_exact hc1 | sl_exact hc2 | sl_exact k1_hw1)
  sl_step
  have hH : k1_pay16 (arg5.view.readAt (Elt F) (Rect.unit (s := S8x128x576) (k1_off2 (wordAt c i xt0)) S1x128x576.size (k1_off2_inb _ k1_hw1)).toLoadRect (harg5.unread x2)) (arg9.view.readAt (Elt F) (Rect.unit (s := S576x1226) ![0, 0] S576x1226.size inb_S576x1226_S576x1226_0_0).toLoadRect (harg9.unread xs0))
        (arg7.view.readAt (Elt F) (Rect.unit (s := S1x1226) ![0, 0] S1x1226.size inb_S1x1226_S1x1226_0_0).toLoadRect (harg7.unread x4)) = (hidAt (wordAt c i xt0) xs0 x2 x4) := by
    rw [w1_load harg5 x2 _ k1_hw1, whole_load harg7 x4 (by decide), whole_load harg9 _ (by decide) _]; rfl
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    rw [View.read_writes_eq_canon _ _ _ (View.cover_of_tiledL _ S1x64x1156.size (by sl_kernel_rfl)), View.canon_cons_unit_lit _ _ _ (by decide)]
    refine congr (congr (congr (congrArg k1_pay5 (gate_load harg3 x0 i)) (w2_load harg6 x3 _ k1_hw1 _)) ?_) (whole_load harg8 x5 (by decide) _)
    exact whole_readCov _ _ _ (by decide) _
      ⟨h9_piece arg10.view hH 70 1024 inb_S128x1226_S128x1226_0_0 inb_S128x1226_S128x1156_0_70 inb_S1152x1156_S128x1156_1024_0 rfl rfl shapeCasts_S128x1156_S128x1156,
      h9_piece arg10.view hH 69 896 inb_S128x1226_S128x1226_0_0 inb_S128x1226_S128x1156_0_69 inb_S1152x1156_S128x1156_896_0 rfl rfl shapeCasts_S128x1156_S128x1156,
      h9_piece arg10.view hH 68 768 inb_S128x1226_S128x1226_0_0 inb_S128x1226_S128x1156_0_68 inb_S1152x1156_S128x1156_768_0 rfl rfl shapeCasts_S128x1156_S128x1156,
      h9_piece arg10.view hH 36 640 inb_S128x1226_S128x1226_0_0 inb_S128x1226_S128x1156_0_36 inb_S1152x1156_S128x1156_640_0 rfl rfl shapeCasts_S128x1156_S128x1156,
      h9_piece arg10.view hH 35 512 inb_S128x1226_S128x1226_0_0 inb_S128x1226_S128x1156_0_35 inb_S1152x1156_S128x1156_512_0 rfl rfl shapeCasts_S128x1156_S128x1156,
      h9_piece arg10.view hH 34 384 inb_S128x1226_S128x1226_0_0 inb_S128x1226_S128x1156_0_34 inb_S1152x1156_S128x1156_384_0 rfl rfl shapeCasts_S128x1156_S128x1156,
      h9_piece arg10.view hH 2 256 inb_S128x1226_S128x1226_0_0 inb_S128x1226_S128x1156_0_2 inb_S1152x1156_S128x1156_256_0 rfl rfl shapeCasts_S128x1156_S128x1156,
      h9_piece arg10.view hH 1 128 inb_S128x1226_S128x1226_0_0 inb_S128x1226_S128x1156_0_1 inb_S1152x1156_S128x1156_128_0 rfl rfl shapeCasts_S128x1156_S128x1156,
      h9_piece arg10.view hH 0 0 inb_S128x1226_S128x1226_0_0 inb_S128x1226_S128x1156_0_0 inb_S1152x1156_S128x1156_0_0 rfl rfl shapeCasts_S128x1156_S128x1156, trivial⟩ (View.cover_of_tiledL _ S128x1156.size (by sl_kernel_rfl))
  isplitl [HS0]
  · iexists _; isplitr; swap; · iexact HS0
    ipureintro
    exact harg9.read_unread _
  isplitl [HS1]
  · iexists _, _; isplitr; swap; · iexact HS1
    ipureintro; rfl
  isplitl [HS2]
  · iexists _, _; isplitr; swap; · iexact HS2
    ipureintro; rfl
  iexact HT0

end Cert.KernelIdeal.WExp

end
-- ==== Proof.WholeRun.lean ====
/- The expert region of the whole program: what every grid point leaves in the output block and in the scratch, the
   obligation of the body at every point, and the output array at the end. -/
module

public import proofs.«01_k».proof.Proof.WholeBody
public import Idealize.ShloMosaic.Lib.StableHlo.Run
public import Idealize.ShloMosaic.Lib.Pipeline.ValueKit.Geometry

@[expose] public section

set_option maxRecDepth 16384

noncomputable section

namespace Cert.KernelIdeal.WExp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (W : Dev nD → Valuation τ sig (Elt F))

/-- The output's window is never idle. -/
theorem live5 : ∀ i : grid1.Coords, idle1 5 i = false := by decide +kernel
theorem liveAt0_5 (hO : Ok W) (t : Fin (cfgM W hO).N) : (cfgM W hO).idle 5 (grid1.coords t) = false := live5 _

/-- The word of the table of experts at point `t`. -/
abbrev wrd (hO : Ok W) (c : Dev nD) (t : Fin (cfgM W hO).N) : BitVec 32 := wordAt c (grid1.coords t) (tbl W 0)

/-- The hidden rows at point `t`. -/
def hidv (hO : Ok W) (c : Dev nD) (t : Fin (cfgM W hO).N) : Vec F S128x1226 .bf16 :=
  hidAt (wrd W hO c t) (x9of (iblk W hO c 1 t)) (iblk W hO c 2 t) (iblk W hO c 4 t)

/-- What an image's first slot leaves in the output block. -/
def outA (hO : Ok W) (c : Dev nD) (t : Fin (cfgM W hO).N) : Vec F S1x64x1156 .f32 :=
  k1_pay4 (gateAt (grid1.coords t) (iblk W hO c 0 t)) (w2at (iblk W hO c 3 t) (wrd W hO c t)) (h9of (hidv W hO c t))

/-- What an image's second slot leaves, from what the first left. -/
def outB (hO : Ok W) (c : Dev nD) (t : Fin (cfgM W hO).N) (y : Vec F S1x64x1156 .f32) : Vec F S1x64x1156 .f32 :=
  k1_pay5 (gateAt (grid1.coords t) (iblk W hO c 0 t)) (w2at (iblk W hO c 3 t) (wrd W hO c t)) (h9of (hidv W hO c t)) y

/-- What point `t` leaves in the output block. -/
def out5 (hO : Ok W) (c : Dev nD) (t : Fin (cfgM W hO).N) : Vec F S1x64x1156 .f32 :=
  if t.val % 2 = 0 then outA W hO c t else outB W hO c t (outA W hO c ⟨t.val - 1, by omega⟩)

/-- The grid's coordinates of point `t`: the image and the slot. -/
theorem coord0 (t : Fin grid1.N) : (grid1.coords t 0).val = t.val / 2 := by
  have ht : t.val < 64 := Nat.lt_of_lt_of_eq t.isLt N_1
  have e0 : (grid1.coords t 0).val = t.val / 2 % 32 := Pipeline.Grid.coords_val t 0 (by decide) rfl
  rw [e0]; omega

theorem coord1 (t : Fin grid1.N) : (grid1.coords t 1).val = t.val % 2 := by
  have e1 : (grid1.coords t 1).val = t.val / 1 % 2 := Pipeline.Grid.coords_val t 1 (by decide) rfl
  rw [e1]; omega

/-- Window 1's block at point `t` is image `t / 2`. -/
theorem iblk1_apply (hO : Ok W) (c : Dev nD) (t : Fin (cfgM W hO).N) (y : S1x64x1296.Idx) :
    (iblk W hO c 1 t : Vec F S1x64x1296 .bf16) y
      = (V W c (Pipeline.arrRef spec1 1) : Vec F S32x64x1296 .bf16) (ix3 ⟨t.val / 2, by have ht : t.val < 64 := Nat.lt_of_lt_of_eq t.isLt N_1; omega⟩ (y 1) (y 2)) := by
  have ht : t.val < 64 := Nat.lt_of_lt_of_eq t.isLt N_1
  have h0 : (y 0).val < 1 := (y 0).isLt
  refine congrArg (V W c (Pipeline.arrRef spec1 1) : Vec F S32x64x1296 .bf16)
    (show ((((cfgM W hO).win 1).blk t).view.emb y : S32x64x1296.Idx) = _ from funext fun (a : Fin 3) => Fin.ext ?_)
  match a with
  | 0 =>
    have e : cc1_transform_1 (grid1.coords t) 0 = t.val / 2 := by
      show (BitVec.ofNat 32 (grid1.coords t 0).val).toNat = _
      rw [coord0, BitVec.toNat_ofNat]; omega
    show cc1_transform_1 (grid1.coords t) 0 * 1 + 1 * (y 0).val = t.val / 2
    rw [e]; omega
  | 1 => show 0 * 64 + 1 * (y 1).val = (y 1).val; omega
  | 2 => show 0 * 1296 + 1 * (y 2).val = (y 2).val; omega

/-- Window 0's block is the whole array of gates, at every point; -/
theorem iblk1_eq (hO : Ok W) (c : Dev nD) (t : Fin (cfgM W hO).N) : (iblk W hO c 0 t : Vec F S64 .f32) = V W c (Pipeline.arrRef spec1 0) := by
  refine funext fun (y : S64.Idx) => congrArg (V W c (Pipeline.arrRef spec1 0) : Vec F S64 .f32)
    (show ((((cfgM W hO).win 0).blk t).view.emb y : S64.Idx) = _ from funext fun (a : Fin 1) => Fin.ext ?_)
  match a with
  | 0 => show 0 * 64 + 1 * (y 0).val = (y 0).val; omega

/-- window 2's the whole array of first weights, -/
theorem iblk2_eq (hO : Ok W) (c : Dev nD) (t : Fin (cfgM W hO).N) : (iblk W hO c 2 t : Vec F S8x128x576 .bf16) = V W c (Pipeline.arrRef spec1 2) := by
  refine funext fun (y : S8x128x576.Idx) => congrArg (V W c (Pipeline.arrRef spec1 2) : Vec F S8x128x576 .bf16)
    (show ((((cfgM W hO).win 2).blk t).view.emb y : S8x128x576.Idx) = _ from funext fun (a : Fin 3) => Fin.ext ?_)
  match a with
  | 0 => show 0 * 8 + 1 * (y 0).val = (y 0).val; omega
  | 1 => show 0 * 128 + 1 * (y 1).val = (y 1).val; omega
  | 2 => show 0 * 576 + 1 * (y 2).val = (y 2).val; omega

/-- window 3's the whole array of second weights, -/
theorem iblk3_eq (hO : Ok W) (c : Dev nD) (t : Fin (cfgM W hO).N) : (iblk W hO c 3 t : Vec F S8x64x1152 .bf16) = V W c (Pipeline.arrRef spec1 3) := by
  refine funext fun (y : S8x64x1152.Idx) => congrArg (V W c (Pipeline.arrRef spec1 3) : Vec F S8x64x1152 .bf16)
    (show ((((cfgM W hO).win 3).blk t).view.emb y : S8x64x1152.Idx) = _ from funext fun (a : Fin 3) => Fin.ext ?_)
  match a with
  | 0 => show 0 * 8 + 1 * (y 0).val = (y 0).val; omega
  | 1 => show 0 * 64 + 1 * (y 1).val = (y 1).val; omega
  | 2 => show 0 * 1152 + 1 * (y 2).val = (y 2).val; omega

/-- window 4's the whole mask. -/
theorem iblk4_eq (hO : Ok W) (c : Dev nD) (t : Fin (cfgM W hO).N) : (iblk W hO c 4 t : Vec F S1x1226 .f32) = V W c (Pipeline.arrRef spec1 4) := by
  refine funext fun (y : S1x1226.Idx) => congrArg (V W c (Pipeline.arrRef spec1 4) : Vec F S1x1226 .f32)
    (show ((((cfgM W hO).win 4).blk t).view.emb y : S1x1226.Idx) = _ from funext fun (a : Fin 2) => Fin.ext ?_)
  match a with
  | 0 => show 0 * 1 + 1 * (y 0).val = (y 0).val; omega
  | 1 => show 0 * 1226 + 1 * (y 1).val = (y 1).val; omega

/-- Window 1 moves with the image alone: the second slot's block is the first's. -/
theorem iblk1_prev (hO : Ok W) (c : Dev nD) (t : Fin (cfgM W hO).N) (h : t.val % 2 = 1) :
    (iblk W hO c 1 ⟨t.val - 1, by omega⟩ : Vec F S1x64x1296 .bf16) = iblk W hO c 1 t := by
  refine funext fun (y : S1x64x1296.Idx) => ?_
  refine (iblk1_apply W hO c _ y).trans (Eq.trans ?_ (iblk1_apply W hO c t y).symm)
  refine congrArg (V W c (Pipeline.arrRef spec1 1) : Vec F S32x64x1296 .bf16) ?_
  exact congrArg (fun b : Fin 32 => (ix3 b (y 1) (y 2) : S32x64x1296.Idx)) (Fin.ext (by show (t.val - 1) / 2 = t.val / 2; omega))

/-- The invariant before position `n`: after a point, the scratch of shifted rows holds that point's image. -/
def PhiS (hO : Ok W) (c : Dev nD) : (n : ℕ) → n ≤ (cfgM W hO).N → sProp 𝕄
  | 0, _ => iprop(PA c ∗ PT W c)
  | n + 1, hn => iprop(iprop(iprop(owns (c : Thread nD τ) scM0_0 fullShare (x9of (iblk W hO c 1 ⟨n, hn⟩)) ∗ (∃ d, owns (c : Thread nD τ) scM0_1 fullShare d) ∗ (∃ d, owns (c : Thread nD τ) scM0_2 fullShare d)) ∗ side c) ∗ PT W c)
theorem PhiS_zero (hO : Ok W) (c : Dev nD) (n : ℕ) (h : n ≤ (cfgM W hO).N) (hz : n = 0) : PhiS W hO c n h = iprop(PA c ∗ PT W c) := by
  subst hz; rfl

/-- After point `n` (before point `n + 1`): the carried scratch at that point's contents. -/
theorem PhiS_succ (hO : Ok W) (c : Dev nD) (n : ℕ) (hn : n < (cfgM W hO).N) :
    PhiS W hO c (n + 1) hn = iprop(iprop(iprop(owns (c : Thread nD τ) scM0_0 fullShare ((x9of (iblk W hO c 1 ⟨n, hn⟩))) ∗ (∃ d, owns (c : Thread nD τ) scM0_1 fullShare d) ∗ (∃ d, owns (c : Thread nD τ) scM0_2 fullShare d)) ∗ side c) ∗ PT W c) := rfl

/-- Before a point that is not the first: the carried scratch at what the point before left. -/
theorem PhiS_pos (hO : Ok W) (c : Dev nD) (n : ℕ) (h : n ≤ (cfgM W hO).N) (hz : n ≠ 0) :
    PhiS W hO c n h = iprop(iprop(iprop(owns (c : Thread nD τ) scM0_0 fullShare ((x9of (iblk W hO c 1 ⟨n - 1, by omega⟩))) ∗ (∃ d, owns (c : Thread nD τ) scM0_1 fullShare d) ∗ (∃ d, owns (c : Thread nD τ) scM0_2 fullShare d)) ∗ side c) ∗ PT W c) := by
  cases n with
  | zero => exact absurd rfl hz
  | succ n => rfl

/-- The proof data of the one pipeline on core `c`: the arrays as the region finds them (`V`); after the body at
    point `t` each input's buffer at its block and the output's at `out5`; the invariant the class's
    (Lib/Pipeline/Frame.lean `ΦA`: the scoped rest and the generator register) and the tables' halves (`ΦT`); nothing owed;
    full shares. -/
def dats (hO : Ok W) (hH : Hyps W hO) (c : Dev nD) : Dat τ (Elt F) Unit ℕ (UR sig nD τ) ℕ (cfgM W hO) c where
  A w := V W c (Pipeline.arrRef spec1 w)
  after w t := match w with
    | ⟨0, _⟩ => iblk W hO c 0 t
    | ⟨1, _⟩ => iblk W hO c 1 t
    | ⟨2, _⟩ => iblk W hO c 2 t
    | ⟨3, _⟩ => iblk W hO c 3 t
    | ⟨4, _⟩ => iblk W hO c 4 t
    | ⟨5, _⟩ => out5 W hO c t
  Φ t := PhiS W hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok W) (hH : Hyps W hO) (c : Dev nD) (w : Fin (cfgM W hO).W) : (dats W hO hH c).A w = V W c (Pipeline.arrRef spec1 w) := by
  dsimp only [dats]

/-- The invariant at a point's start (the proof data at `t.castSucc`), restated at `t.val`. -/
theorem PhiS_castSucc (hO : Ok W) (hH : Hyps W hO) (c : Dev nD) (t : Fin (cfgM W hO).N) :
    (dats W hO hH c).Φ t.castSucc = PhiS W hO c t.val (Nat.le_of_lt t.isLt) := by
  dsimp only [dats]; exact Pipeline.Dat.Φ_castSucc (PhiS W hO c) t

/-- What the body leaves, window by window (the proof data's `match` reduced by `dsimp`). -/
theorem after0_0 (hO : Ok W) (hH : Hyps W hO) (c : Dev nD) (t : Fin (cfgM W hO).N) : (dats W hO hH c).after 0 t = iblk W hO c 0 t := by dsimp only [dats]; try rfl
theorem after0_1 (hO : Ok W) (hH : Hyps W hO) (c : Dev nD) (t : Fin (cfgM W hO).N) : (dats W hO hH c).after 1 t = iblk W hO c 1 t := by dsimp only [dats]; try rfl
theorem after0_2 (hO : Ok W) (hH : Hyps W hO) (c : Dev nD) (t : Fin (cfgM W hO).N) : (dats W hO hH c).after 2 t = iblk W hO c 2 t := by dsimp only [dats]; try rfl
theorem after0_3 (hO : Ok W) (hH : Hyps W hO) (c : Dev nD) (t : Fin (cfgM W hO).N) : (dats W hO hH c).after 3 t = iblk W hO c 3 t := by dsimp only [dats]; try rfl
theorem after0_4 (hO : Ok W) (hH : Hyps W hO) (c : Dev nD) (t : Fin (cfgM W hO).N) : (dats W hO hH c).after 4 t = iblk W hO c 4 t := by dsimp only [dats]; try rfl

theorem after0_5 (hO : Ok W) (hH : Hyps W hO) (c : Dev nD) (t : Fin (cfgM W hO).N) : (dats W hO hH c).after 5 t = out5 W hO c t := by dsimp only [dats]; try rfl

/-- Each input's current staging buffer holds its block at every point, fetched there or not (`beforeK_W_of`). -/
theorem before0_0 (hO : Ok W) (hH : Hyps W hO) (c : Dev nD) (t : Fin (cfgM W hO).N) (d) : (dats W hO hH c).before 0 t d = iblk W hO c 0 t :=
  before0_0_of W hO (dats W hO hH c) (A_eq W hO hH c 0) (after0_0 W hO hH c) t d
theorem before0_1 (hO : Ok W) (hH : Hyps W hO) (c : Dev nD) (t : Fin (cfgM W hO).N) (d) : (dats W hO hH c).before 1 t d = iblk W hO c 1 t :=
  before0_1_of W hO (dats W hO hH c) (A_eq W hO hH c 1) (after0_1 W hO hH c) t d
theorem before0_2 (hO : Ok W) (hH : Hyps W hO) (c : Dev nD) (t : Fin (cfgM W hO).N) (d) : (dats W hO hH c).before 2 t d = iblk W hO c 2 t :=
  before0_2_of W hO (dats W hO hH c) (A_eq W hO hH c 2) (after0_2 W hO hH c) t d
theorem before0_3 (hO : Ok W) (hH : Hyps W hO) (c : Dev nD) (t : Fin (cfgM W hO).N) (d) : (dats W hO hH c).before 3 t d = iblk W hO c 3 t :=
  before0_3_of W hO (dats W hO hH c) (A_eq W hO hH c 3) (after0_3 W hO hH c) t d
theorem before0_4 (hO : Ok W) (hH : Hyps W hO) (c : Dev nD) (t : Fin (cfgM W hO).N) (d) : (dats W hO hH c).before 4 t d = iblk W hO c 4 t :=
  before0_4_of W hO (dats W hO hH c) (A_eq W hO hH c 4) (after0_4 W hO hH c) t d

/-- What the body is called with at point `t` (Lib/Pipeline.lean `BodyObligation`'s precondition, the windows one by one), -/
def bodyPre (hO : Ok W) (hH : Hyps W hO) (c : Dev nD) (t : Fin (cfgM W hO).N) : sProp 𝕄 :=
  iprop((dats W hO hH c).Φ t.castSucc ∗ (dats W hO hH c).owesAt () t.castSucc
    ∗ (∃ d, owns (c : Thread nD τ) (ms0_0 W hO t) fullShare ((dats W hO hH c).before 0 t d))
    ∗ (∃ d, owns (c : Thread nD τ) (ms0_1 W hO t) fullShare ((dats W hO hH c).before 1 t d))
    ∗ (∃ d, owns (c : Thread nD τ) (ms0_2 W hO t) fullShare ((dats W hO hH c).before 2 t d))
    ∗ (∃ d, owns (c : Thread nD τ) (ms0_3 W hO t) fullShare ((dats W hO hH c).before 3 t d))
    ∗ (∃ d, owns (c : Thread nD τ) (ms0_4 W hO t) fullShare ((dats W hO hH c).before 4 t d))
    ∗ (∃ d, owns (c : Thread nD τ) (ms0_5 W hO t) fullShare ((dats W hO hH c).before 5 t d)))

/-- and what it returns. -/
def bodyPost (hO : Ok W) (hH : Hyps W hO) (c : Dev nD) (t : Fin (cfgM W hO).N) : sProp 𝕄 :=
  iprop((dats W hO hH c).Φ t.succ ∗ (dats W hO hH c).owesAt () t.succ
    ∗ (dats W hO hH c).leavesExact 0 t
    ∗ (dats W hO hH c).leavesExact 1 t
    ∗ (dats W hO hH c).leavesExact 2 t
    ∗ (dats W hO hH c).leavesExact 3 t
    ∗ (dats W hO hH c).leavesExact 4 t
    ∗ (dats W hO hH c).leavesExact 5 t)

theorem leaves_W (hO : Ok W) (c : Dev nD) (dat : Dat τ (Elt F) Unit ℕ (UR sig nD τ) ℕ (cfgM W hO) c) (w : Fin (cfgM W hO).W) (t : Fin (cfgM W hO).N)
    (h : (cfgM W hO).idle w (grid1.coords t) = false) :
    dat.leavesExact w t = owns (c : Thread nD τ) (((cfgM W hO).win w).stage ((cfgM W hO).slots t w)) fullShare (dat.after w t) := by
  unfold Dat.leavesExact; rw [h]

/-- At an image's second slot the output block holds what the first slot left. -/
theorem before0_5 (hO : Ok W) (hH : Hyps W hO) (c : Dev nD) (t : Fin (cfgM W hO).N) (h : t.val % 2 = 1) (d) :
    (dats W hO hH c).before 5 t d = outA W hO c ⟨t.val - 1, by omega⟩ := by
  rw [Dat.before_out_kept (dats W hO hH c) 5 rfl t (by omega) (Bool.eq_false_iff.mpr fun hf => by
      have := (flush0_5 (adm W hO) _).mp hf
      change (t.val - 1) % 2 = 1 at this; omega) live5 (fun _ _ => rfl) d, after0_5]
  unfold out5
  rw [if_pos (by show (t.val - 1) % 2 = 0; omega)]

set_option maxHeartbeats 1600000 in
/-- The body at any point. -/
theorem sound_body (hO : Ok W) (hH : Hyps W hO) (c : Dev nD) (t : Fin (cfgM W hO).N) :
    bodyPre W hO hH c t ⊢ wp frame (wpE (defs₀ (F := F)) Variants.none c none) Set.univ (bodyAt0 (adm W hO) t) (fun _ => bodyPost W hO hH c t) := by
  unfold bodyPre bodyPost bodyAt0
  simp only [before0_0, before0_1, before0_2, before0_3, before0_4]
  rw [show (dats W hO hH c).owesAt () t.succ = (dats W hO hH c).owesAt () t.castSucc from rfl]
  rw [show (dats W hO hH c).Φ t.succ = PhiS W hO c (t.val + 1) t.isLt from rfl, PhiS_succ, PhiT0_eq]
  rw [leaves_W W hO c _ 0 t (liveAt0_0 W hO t), leaves_W W hO c _ 1 t (liveAt0_1 W hO t), leaves_W W hO c _ 2 t (liveAt0_2 W hO t),
    leaves_W W hO c _ 3 t (liveAt0_3 W hO t), leaves_W W hO c _ 4 t (liveAt0_4 W hO t), leaves_W W hO c _ 5 t (liveAt0_5 W hO t),
    after0_0, after0_1, after0_2, after0_3, after0_4, after0_5]
  have hN : t.val < 64 := lt_of_lt_of_eq t.isLt (show (cfgM W hO).N = 64 from N_1)
  by_cases h0 : t.val % 2 = 0
  · have e5 : out5 W hO c t = outA W hO c t := if_pos h0
    rw [e5]
    unfold outA hidv
    by_cases hz : t.val = 0
    · rw [PhiS_castSucc W hO hH c t, PhiS_zero W hO c _ _ hz, PhiT0_eq, PhiA0_eq]
      iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩⟩
      iapply (runA c (grid1.coords t) _ _ _ _ _ _ _ _ _ _ _ _ _ _ _ _ _ _ ((hcond0_0 t).mpr h0) ((hcond0_1 t).mpr h0) (fun h => by have := (hcond0_2 t).mp h; omega) (iblk W hO c 0 t) (iblk W hO c 1 t) (iblk W hO c 2 t) (iblk W hO c 3 t) (iblk W hO c 4 t) (tbl W 0) (Hyps.c0 hH c t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HT0]; · iexact HT0
      iintro ⟨H0, H1, H2, H3, H4, H5, HS0, HS1, HS2, HT0⟩
      isplitl [HS0 HS1 HS2 Hg HT0]
      · isplitl [HS0 HS1 HS2 Hg]
        · isplitl [HS0 HS1 HS2]
          · isplitl [HS0]
            · iexact HS0
            isplitl [HS1]
            · iexact HS1
            iexact HS2
          iexact Hg
        iexact HT0
      isplitl [Ho]; · iexact Ho
      isplitl [H0]; · iexact H0
      isplitl [H1]; · iexact H1
      isplitl [H2]; · iexact H2
      isplitl [H3]; · iexact H3
      isplitl [H4]; · iexact H4
      iexact H5

    · rw [PhiS_castSucc W hO hH c t, PhiS_pos W hO c _ _ hz, PhiT0_eq]
      iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩⟩
      iapply (runA c (grid1.coords t) _ _ _ _ _ _ _ _ _ _ _ _ _ _ _ _ _ _ ((hcond0_0 t).mpr h0) ((hcond0_1 t).mpr h0) (fun h => by have := (hcond0_2 t).mp h; omega) (iblk W hO c 0 t) (iblk W hO c 1 t) (iblk W hO c 2 t) (iblk W hO c 3 t) (iblk W hO c 4 t) (tbl W 0) (Hyps.c0 hH c t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexact HS1
      isplitl [HS2]; · iexact HS2
      isplitl [HT0]; · iexact HT0
      iintro ⟨H0, H1, H2, H3, H4, H5, HS0, HS1, HS2, HT0⟩
      isplitl [HS0 HS1 HS2 Hg HT0]
      · isplitl [HS0 HS1 HS2 Hg]
        · isplitl [HS0 HS1 HS2]
          · isplitl [HS0]
            · iexact HS0
            isplitl [HS1]
            · iexact HS1
            iexact HS2
          iexact Hg
        iexact HT0
      isplitl [Ho]; · iexact Ho
      isplitl [H0]; · iexact H0
      isplitl [H1]; · iexact H1
      isplitl [H2]; · iexact H2
      isplitl [H3]; · iexact H3
      isplitl [H4]; · iexact H4
      iexact H5

  · have h1 : t.val % 2 = 1 := by omega
    have e5 : out5 W hO c t = outB W hO c t (outA W hO c ⟨t.val - 1, by omega⟩) := if_neg h0
    rw [e5]
    simp only [before0_5 W hO hH c t h1]
    unfold outB hidv
    · rw [PhiS_castSucc W hO hH c t, PhiS_pos W hO c _ _ (by omega), PhiT0_eq, iblk1_prev W hO c t h1]
      iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩⟩
      iapply (runB c (grid1.coords t) _ _ _ _ _ _ _ _ _ _ _ _ _ _ _ _ _ _ (fun h => h0 ((hcond0_0 t).mp h)) (fun h => h0 ((hcond0_1 t).mp h)) ((hcond0_2 t).mpr h1) (iblk W hO c 0 t) (iblk W hO c 1 t) (iblk W hO c 2 t) (iblk W hO c 3 t) (iblk W hO c 4 t) (outA W hO c ⟨t.val - 1, by omega⟩) (x9of (iblk W hO c 1 t)) (tbl W 0) (Hyps.c0 hH c t) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HT0]; · iexact HT0
      iintro ⟨H0, H1, H2, H3, H4, H5, HS0, HS1, HS2, HT0⟩
      isplitl [HS0 HS1 HS2 Hg HT0]
      · isplitl [HS0 HS1 HS2 Hg]
        · isplitl [HS0 HS1 HS2]
          · isplitl [HS0]
            · iexact HS0
            isplitl [HS1]
            · iexact HS1
            iexact HS2
          iexact Hg
        iexact HT0
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (hO : Ok W) (t : Fin (cfgM W hO).N) :
    defs₀ (F := F) .tc (cfgM W hO).body ((cfgM W hO).bodyArgs t ((cfgM W hO).slots t)) = bodyAt0 (adm W hO) t := by
  unfold defs₀; rw [Defs.onTc_tc]

/-- The library's body obligation, at every point: the body's triple restated (Lib/Pipeline/FrameBody.lean `triple_restated`). -/
theorem body_obligation (hO : Ok W) (hH : Hyps W hO) (c : Dev nD) : BodyObligation (dats (F := F) W hO hH c) (defs₀ (F := F)) Variants.none () Set.univ := fun t => by
  rw [bigSep_W1, bigSep_W1, defs₀_row W hO]
  exact triple_restated (sound_body W hO hH c t) rfl .rfl fun _ => .rfl

/-- The point of image `b`'s second slot. -/
abbrev ptB (hO : Ok W) (b : Fin 32) : Fin (cfgM W hO).N := ⟨2 * b.val + 1, Nat.lt_of_lt_of_eq (by omega) N_1.symm⟩

/-- The output array: image `b`'s plane is what its second slot leaves. -/
def G5 (hO : Ok W) (c : Dev nD) : Vec F S32x64x1156 .f32 :=
  fun i => out5 W hO c (ptB W hO (i 0)) (ix3 0 (i 1) (i 2))

/-- The output's block at point `t` is plane `t / 2` of the array. -/
theorem emb5 (hO : Ok W) (t : Fin (cfgM W hO).N) (y : S1x64x1156.Idx) :
    ((((cfgM W hO).win 5).blk t).view.emb y : S32x64x1156.Idx)
      = ix3 ⟨t.val / 2, by have ht : t.val < 64 := Nat.lt_of_lt_of_eq t.isLt N_1; omega⟩ (y 1) (y 2) := by
  have ht : t.val < 64 := Nat.lt_of_lt_of_eq t.isLt N_1
  have h0 : (y 0).val < 1 := (y 0).isLt
  refine funext fun (a : Fin 3) => Fin.ext ?_
  match a with
  | 0 =>
    have e : cc1_transform_5 (grid1.coords t) 0 = t.val / 2 := by
      show (BitVec.ofNat 32 (grid1.coords t 0).val).toNat = _
      rw [coord0, BitVec.toNat_ofNat]; omega
    show cc1_transform_5 (grid1.coords t) 0 * 1 + 1 * (y 0).val = t.val / 2
    rw [e]; omega
  | 1 => show 0 * 64 + 1 * (y 1).val = (y 1).val; omega
  | 2 => show 0 * 1156 + 1 * (y 2).val = (y 2).val; omega

/-- The image of an index under a view lies under it. -/
theorem mem_of_emb {κ : Kind} {sp : Space} {S : Shape} {e : EltTy} (v : View sig κ sp S e) (y : S.Idx) (i : v.ty.Idx) (h : v.emb y = i) : i ∈ v.set :=
  h ▸ v.emb_mem_set y

/-- The output array at the end. -/
theorem arr5 (hO : Ok W) (hH : Hyps W hO) (c : Dev nD) : (dats W hO hH c).arrAt 5 (cfgM W hO).N = G5 W hO c := by
  refine (dats W hO hH c).arrAt_eq_of_emb 5 (G5 W hO c) (fun t hf (y : S1x64x1156.Idx) => ?_) (fun (i : S32x64x1156.Idx) => ?_)
  · have ht : t.val < 64 := Nat.lt_of_lt_of_eq t.isLt N_1
    have h1 : t.val % 2 = 1 := (flush0_5 (adm W hO) t).mp hf
    have e : t = ptB W hO ⟨t.val / 2, by omega⟩ := Fin.ext (by show t.val = 2 * (t.val / 2) + 1; omega)
    have h0 : (y 0).val < 1 := (y 0).isLt
    have key : out5 W hO c t y = G5 W hO c (ix3 ⟨t.val / 2, by omega⟩ (y 1) (y 2)) := by
      show _ = out5 W hO c (ptB W hO ⟨t.val / 2, by omega⟩) (ix3 0 (y 1) (y 2))
      rw [← e]
      refine congrArg (out5 W hO c t) (funext fun (a : Fin 3) => ?_)
      match a with
      | 0 => exact Fin.ext (by show (y 0).val = 0; omega)
      | 1 => rfl
      | 2 => rfl
    exact (congrFun (after0_5 W hO hH c t) y).trans (key.trans (congrArg (G5 W hO c) (emb5 W hO t y).symm))
  · refine ⟨ptB W hO (i 0), (flush0_5 (adm W hO) _).mpr (by show (2 * (i 0).val + 1) % 2 = 1; omega), ?_⟩
    have e := emb5 W hO (ptB W hO (i 0)) (ix3 0 (i 1) (i 2))
    have e2 : (ix3 ⟨(ptB W hO (i 0)).val / 2, by show (2 * (i 0).val + 1) / 2 < 32; have : (i 0).val < 32 := (i 0).isLt; omega⟩ (i 1) (i 2) : S32x64x1156.Idx) = i := by
      refine funext fun (a : Fin 3) => Fin.ext ?_
      match a with
      | 0 => show (2 * (i 0).val + 1) / 2 = (i 0).val; omega
      | 1 => rfl
      | 2 => rfl
    have e3 := e.trans e2
    exact mem_of_emb _ _ _ e3

end Cert.KernelIdeal.WExp

end
-- ==== Proof.WholeMain.lean ====
/- The whole program's run: the two regions' records, linked through the host operations between them, and what every
   final state holds: the arguments unchanged, the two results at the last valuation, no semaphore counted. -/
module

public import proofs.«01_k».proof.Proof.WholeGate
public import proofs.«01_k».proof.Proof.WholeRun
public import Idealize.ShloMosaic.Lib.Pipeline.RegionArraysTS

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the regions leave -/

/-- What the gating region leaves in a buffer. -/
def outsG : Outs (F := F) := fun _ r c => Pipeline.afterRegion (WGate.dats m c) (V1 m c) (Proc.devRef .tc r)

/-- The contents the expert region is entered with. -/
def WE (c : Dev nD) : Valuation τ sig (Elt F) := V7 m (outsG m) c

/-- Every table is admissible: the schedule does not read it. -/
theorem ok (W : Dev nD → Valuation τ sig (Elt F)) : WExp.Ok W := by
  show ok1 _; unfold ok1; trivial

/-- What each region leaves in a buffer. -/
def outs (hH : WExp.Hyps (WE m) (ok (WE m))) : Outs (F := F) := fun n r c =>
  match n with
  | 2 => outsG m 2 r c
  | _ => Pipeline.afterRegion (WExp.dats (WE m) (ok (WE m)) hH c) (WE m c) (Proc.devRef .tc r)

theorem V7_eq (hH : WExp.Hyps (WE m) (ok (WE m))) (c : Dev nD) : V7 m (outs m hH) c = WE m c := rfl

/-- The gating region changes its three results only. -/
theorem V2_eq (hH : WExp.Hyps (WE m) (ok (WE m))) (c : Dev nD) (r : Ref sig .tc) :
    Pipeline.afterRegion (WGate.dats m c) (V1 m c) (Proc.devRef .tc r) = V2 m (outs m hH) c (Proc.devRef .tc r) := by
  by_cases h0 : r = main_v4_0
  · subst h0
    simp only [V2, Function.update_of_ne (StableHlo.devRef_ne_of_ne (by decide) : (Proc.devRef .tc main_v4_0 : DevRef τ sig) ≠ Proc.devRef .tc main_v4_1),
      Function.update_of_ne (StableHlo.devRef_ne_of_ne (by decide) : (Proc.devRef .tc main_v4_0 : DevRef τ sig) ≠ Proc.devRef .tc main_v4_2), Function.update_self]
    rfl
  by_cases h1 : r = main_v4_1
  · subst h1
    simp only [V2, Function.update_of_ne (StableHlo.devRef_ne_of_ne (by decide) : (Proc.devRef .tc main_v4_1 : DevRef τ sig) ≠ Proc.devRef .tc main_v4_2), Function.update_self]
    rfl
  by_cases h2 : r = main_v4_2
  · subst h2
    simp only [V2, Function.update_self]
    rfl
  rw [V2_of m (outs m hH) c r (by simp only [List.mem_cons, List.not_mem_nil, or_false, not_or]; exact ⟨h0, h1, h2⟩)]
  refine Pipeline.afterRegion_keeps (WGate.dats m c) (V1 m c) (launch0 (F := F)).win.arr_inj (WGate.A_eq m c) r (fun w e => ?_)
  subst e
  have key : ∀ w : Fin 11, Pipeline.arrRef spec0 w ≠ main_v4_0 → Pipeline.arrRef spec0 w ≠ main_v4_1 → Pipeline.arrRef spec0 w ≠ main_v4_2 →
      (spec0 w).isOut = false := by decide
  exact key w h0 h1 h2

/-- The expert region changes its result only. -/
theorem V8_eq (hH : WExp.Hyps (WE m) (ok (WE m))) (c : Dev nD) (r : Ref sig .tc) :
    Pipeline.afterRegion (WExp.dats (WE m) (ok (WE m)) hH c) (WE m c) (Proc.devRef .tc r) = V8 m (outs m hH) c (Proc.devRef .tc r) := by
  by_cases h0 : r = main_v17
  · subst h0
    simp only [V8, Function.update_self]
    rfl
  rw [V8_of m (outs m hH) c r (by simp only [List.mem_cons, List.not_mem_nil, or_false]; exact h0), V7_eq]
  refine Pipeline.afterRegion_keeps (WExp.dats (WE m) (ok (WE m)) hH c) (WE m c) (launch1 (F := F)).win.arr_inj (WExp.A_eq (WE m) (ok (WE m)) hH c) r (fun w e => ?_)
  subst e
  have key : ∀ w : Fin 6, Pipeline.arrRef spec1 w ≠ main_v17 → (spec1 w).isOut = false := by decide
  exact key w h0

/-! ## The two records -/

/-- The tables' contents: the first region has none, the second's are what it is entered with. -/
def adms : (p : Fin 2) → (pcfgs (F := F) p).Adm
  | ⟨0, _⟩ => cfg0.toPCfg_adm
  | ⟨1, _⟩ => WExp.adm (WE m) (ok (WE m))

/-- The proof data of the two regions. -/
def pdats (hH : WExp.Hyps (WE m) (ok (WE m))) : (p : Fin 2) → (c : Dev nD) →
    Dat τ (Elt F) Unit ℕ (UR sig nD τ) ℕ (Pipeline.pin (pcfgs (F := F)) (adms m) p) c
  | ⟨0, _⟩, c => WGate.dats m c
  | ⟨1, _⟩, c => WExp.dats (WE m) (ok (WE m)) hH c

/-- One level, for every semaphore of the cores that run. -/
abbrev L : GSem nD τ sig → Finset Unit := fun g => if g.1.2 = .tc then {()} else ∅
abbrev lv : GSem nD τ sig → Unit → ℕ := fun _ _ => 0

/-- What rides beside the buffers: what the core owes, which is nothing, and the generator register. -/
abbrev E (c : Dev nD) : sProp 𝕄 :=
  iprop((∃ Wd, owes (c : Thread nD τ) (0 : CellTallies nD τ sig Unit) Wd) ∗ (∃ r, prngReg c r) ∗ (BI.emp : sProp 𝕄))

theorem cut (p : Fin 2) : Pipeline.LevelCut (pcfgs (F := F)) (adms m) () L lv p (fun _ => 0) (fun _ => 0) where
  hι := fun c w s => by show () ∈ (if _ then _ else _); rw [if_pos rfl]; exact Finset.mem_singleton_self _
  hιb := fun c w s => le_rfl
  hD := fun c g i h => absurd h (Nat.lt_irrefl _)

/-- The gating region's record. -/
def R0 (hH : WExp.Hyps (WE m) (ok (WE m))) : RegionSeg (pcfgs (F := F)) (adms m) (pdats m hH) () defs₀ Variants.none L lv 0 :=
  RegionSeg.ofHeldIn (pcfgs (F := F)) (adms m) (pdats m hH) () defs₀ Variants.none L lv 0 (fun _ => 0) (Pipeline.ucRefs τ sig)
    (fun c => iprop(∃ r, prngReg c r)) (fun c => iprop(∃ r, prngReg c r)) launch0 rfl
    (fun c => (WGate.body_obligation m c).loose) (fun _ _ => rfl) (fun _ => rfl) (fun c => (WGate.dats m c).share_full fun _ => rfl)
    (fun c => .rfl) (fun c => .rfl) (fun _ => 0) (cut m 0) (fun _ => (BI.emp : sProp 𝕄)) (V1 m) (fun c w => WGate.A_eq m c w)

/-- The expert region's invariant before its first point. -/
theorem exp_in (hH : WExp.Hyps (WE m) (ok (WE m))) (c : Dev nD) :
    iprop(iprop(Pipeline.scopedRest (Ix := Unit) (Name := ℕ) (U := UR sig nD τ) (Lvl := ℕ) (Val := Elt F) spec1 c ∗ (∃ r, prngReg c r)) ∗ WExp.PT (WE m) c)
      ⊢ (WExp.dats (WE m) (ok (WE m)) hH c).Φ 0 := by
  show _ ⊢ iprop(WExp.PA c ∗ WExp.PT (WE m) c)
  rw [scopedRest1_eq]
  unfold WExp.PA WExp.side WExp.rst WExp.scM0_0 WExp.scM0_1 WExp.scM0_2
  simp only [owns_whole]
  iintro ⟨⟨⟨H0, H1, H2, H3, H4, H5, H6, H7, H8, H9, H10, S0, S1, S2⟩, Hg⟩, HT⟩
  isplitr [HT]
  · isplitl [S0 S1 S2]
    · isplitl [S0]; · iexact S0
      isplitl [S1]; · iexact S1
      iexact S2
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    iexact Hg
  iexact HT

/-- What its invariant gives back after the last. -/
theorem exp_out (hH : WExp.Hyps (WE m) (ok (WE m))) (c : Dev nD) :
    (WExp.dats (WE m) (ok (WE m)) hH c).Φ (Fin.last _)
      ⊢ iprop(iprop(Pipeline.scopedRest (Ix := Unit) (Name := ℕ) (U := UR sig nD τ) (Lvl := ℕ) (Val := Elt F) spec1 c ∗ (∃ r, prngReg c r)) ∗ WExp.PT (WE m) c) := by
  show WExp.PhiS (WE m) (ok (WE m)) c (WExp.cfgM (WE m) (ok (WE m))).N _ ⊢ _
  rw [WExp.PhiS_pos (WE m) (ok (WE m)) c _ _ (by rw [show (WExp.cfgM (WE m) (ok (WE m))).N = 64 from N_1]; decide), scopedRest1_eq]
  unfold WExp.side WExp.rst WExp.scM0_0 WExp.scM0_1 WExp.scM0_2
  simp only [owns_whole]
  iintro ⟨⟨⟨S0, S1, S2⟩, ⟨H0, H1, H2, H3, H4, H5, H6, H7, H8, H9, H10⟩, Hg⟩, HT⟩
  isplitr [HT]
  · isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [S0]; · iexists _; iexact S0
      isplitl [S1]; · iexact S1
      iexact S2
    iexact Hg
  iexact HT

/-- The table is what the region is entered with, on every core. -/
theorem tables (c : Dev nD) (k : Fin pre1.K) : WExp.tbl (WE m) k = WE m c (Proc.devRef .tc (pre1.ref k)) := by
  have e : c = 0 := Subsingleton.elim _ _
  subst e; rfl

/-- The expert region's record. -/
def R1 (hH : WExp.Hyps (WE m) (ok (WE m))) : RegionSeg (pcfgs (F := F)) (adms m) (pdats m hH) () defs₀ Variants.none L lv 1 :=
  RegionSeg.ofHeldInT (pcfgs (F := F)) (adms m) (pdats m hH) () defs₀ Variants.none L lv 1 (fun _ => 0) (Pipeline.ucRefs τ sig)
    (fun c => iprop(∃ r, prngReg c r)) (fun c => iprop(∃ r, prngReg c r)) launch1
    (fun c => (WExp.body_obligation (WE m) (ok (WE m)) hH c).loose) (fun _ _ => rfl) (fun _ => rfl)
    (fun c => (WExp.dats (WE m) (ok (WE m)) hH c).share_full fun _ => rfl)
    (exp_in m hH) (exp_out m hH) (fun _ => 0) (cut m 1) (fun _ => (BI.emp : sProp 𝕄)) (WE m) (fun c w => WExp.A_eq (WE m) (ok (WE m)) hH c w) (tables m)

/-- The regions' arrays and the table are no scoped buffers. -/
theorem arrs0 : Pipeline.arrRefs (τ := τ) spec0 ⊆ Pipeline.ucRefs τ sig :=
  Pipeline.arrRefs_sub_ucRefs spec0 (by decide : ∀ w : Fin 11, (Pipeline.arrRef spec0 w).isScoped = false)
theorem arrs1 : Pipeline.arrRefs (τ := τ) spec1 ⊆ Pipeline.ucRefs τ sig :=
  Pipeline.arrRefs_sub_ucRefs spec1 (by decide : ∀ w : Fin 6, (Pipeline.arrRef spec1 w).isScoped = false)
theorem tbls1 : Pipeline.tblRefs (τ := τ) pre1 ⊆ Pipeline.ucRefs τ sig :=
  Pipeline.tblRefs_sub_ucRefs pre1 (by decide : ∀ k : Fin 1, (pre1.ref k).isScoped = false)

theorem pre0 (hH : WExp.Hyps (WE m) (ok (WE m))) (c : Dev nD) :
    iprop(StableHlo.held (c : Thread nD τ) (Pipeline.ucRefs τ sig) (V1 m c) ∗ E c) ⊢ (R0 m hH).pre c := by
  unfold R0
  exact RegionSeg.ofHeldIn_pre (pcs := pcfgs (F := F)) (p := 0) (D := fun _ => 0) arrs0 (X := fun c => iprop(∃ r, prngReg c r))
    (R := fun _ => (BI.emp : sProp 𝕄)) (W := V1 m) c

theorem post0 (hH : WExp.Hyps (WE m) (ok (WE m))) (c : Dev nD) :
    (R0 m hH).post c ⊢ iprop(StableHlo.held (c : Thread nD τ) (Pipeline.ucRefs τ sig) (V2 m (outs m hH) c) ∗ E c) := by
  unfold R0
  refine (RegionSeg.ofHeldIn_post (pcs := pcfgs (F := F)) (p := 0) (D := fun _ => 0) (Y := fun c => iprop(∃ r, prngReg c r))
    (R := fun _ => (BI.emp : sProp 𝕄)) (W := V1 m) arrs0 c).trans ?_
  refine sep_mono (Entails.of_eq (StableHlo.held_congr _ fun b hb => ?_)) .rfl
  obtain ⟨r, -, rfl⟩ := Finset.mem_map.mp (Finset.mem_filter.mp hb).1
  exact V2_eq m hH c r

theorem pre1' (hH : WExp.Hyps (WE m) (ok (WE m))) (c : Dev nD) :
    iprop(StableHlo.held (c : Thread nD τ) (Pipeline.ucRefs τ sig) (V7 m (outs m hH) c) ∗ E c) ⊢ (R1 m hH).pre c := by
  unfold R1
  exact RegionSeg.ofHeldInT_pre (pcs := pcfgs (F := F)) (p := 1) (D := fun _ => 0) (X := fun c => iprop(∃ r, prngReg c r))
    (R := fun _ => (BI.emp : sProp 𝕄)) (W := WE m) arrs1 tbls1 c

theorem post1 (hH : WExp.Hyps (WE m) (ok (WE m))) (c : Dev nD) :
    (R1 m hH).post c ⊢ iprop(StableHlo.held (c : Thread nD τ) (Pipeline.ucRefs τ sig) (V8 m (outs m hH) c) ∗ E c) := by
  unfold R1
  refine (RegionSeg.ofHeldInT_post (pcs := pcfgs (F := F)) (p := 1) (D := fun _ => 0) (Y := fun c => iprop(∃ r, prngReg c r))
    (R := fun _ => (BI.emp : sProp 𝕄)) (W := WE m) arrs1 tbls1 c).trans ?_
  refine sep_mono (Entails.of_eq (StableHlo.held_congr _ fun b hb => ?_)) .rfl
  obtain ⟨r, -, rfl⟩ := Finset.mem_map.mp (Finset.mem_filter.mp hb).1
  exact V8_eq m hH c r

end Cert.KernelIdeal.Whole

end
-- ==== Proof.WholeTop.lean ====
/- The launch of the whole program: every unscoped buffer of every final state is at the last valuation. -/
module

public import proofs.«01_k».proof.Proof.WholeMain

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's element: the pipelines' cells and transfers. -/
abbrev u₀ : UR sig nD τ :=
  initOf (Pipeline.cells (Pipeline.pin (pcfgs (F := F)) (adms m)) (cellOf_inj (adms m))) (Pipeline.launchToks (Pipeline.pin (pcfgs (F := F)) (adms m)) (cellOf_inj (adms m)))

theorem launch_own : (ownU (u₀ m) : sProp 𝕄) ⊢ |={Set.univ}=> iprop(BI.own (emb₁ (u₀ m) : 𝕄) ∗ bigSep Finset.univ (fun _ : Dev nD => (BI.emp : sProp 𝕄))) := by
  iintro Hu; imodintro
  isplitl [Hu]
  · iapply (show (ownU _ : sProp 𝕄) ⊢ BI.own (emb₁ (u₀ m)) from .rfl)
    iexact Hu
  iapply (show (BI.emp : sProp 𝕄) ⊢ bigSep Finset.univ (fun _ : Dev nD => (BI.emp : sProp 𝕄)) from by rw [BI.bigSep_emp_const])
  iempintro

theorem no_level (g : GSem nD τ sig) (h : g.1.2 ≠ .tc) : L g = ∅ := if_neg h

/-- At launch each core holds its buffers and owes nothing. -/
theorem launch_state :
    iprop((bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (0 : Dev nD → CellTallies nD τ sig Unit) c ∗ prngReg c (ρ c) ∗ (BI.emp : sProp 𝕄))) ∗ levAts L lv)
      ⊢ (|={Set.univ}=> bigSep Finset.univ fun c : Dev nD => iprop(StableHlo.held (c : Thread nD τ) (Pipeline.ucRefs τ sig) (V0 m c) ∗ E c) : sProp 𝕄) := by
  refine Pipeline.initEach L lv fun c => ?_
  rw [show unscopedBufs c (fun b => m ((c.tc : Thread nD τ).loc b)) = StableHlo.held (c : Thread nD τ) (Pipeline.ucRefs τ sig) (V0 m c)
    from Pipeline.unscopedBufs_held (Ix := Unit) (Name := ℕ) (U := UR sig nD τ) (Lvl := ℕ) c (V0 m c)]
  iintro ⟨⟨Hh, -, HO, -, Hp, -⟩, -⟩
  imodintro
  isplitl [Hh]; · iexact Hh
  isplitl [HO]; · iexists ∅; iexact HO
  isplitl [Hp]; · iexists _; iexact Hp
  iempintro

theorem last_owes (c : Dev nD) : (E c : sProp 𝕄) ⊢ iprop(∃ W, owes (c : Thread nD τ) (0 : CellTallies nD τ sig Unit) W) := by
  iintro ⟨HO, -, -⟩; iexact HO

set_option backward.isDefEq.respectTransparency.types false in
/-- Every weakly fair execution terminates with every unscoped buffer at the last valuation and no semaphore counted. -/
theorem run_all (hH : WExp.Hyps (WE m) (ok (WE m))) : θ_run defs (onTc (τ := τ) (main (F := F))) ⟨m, fun _ => 0, ρ⟩ (fun r =>
      (∀ c : Dev nD, ∀ b ∈ Pipeline.ucRefs τ sig, r.2.mem ((c : Thread nD τ).1, b) = V9 m (outs m hH) c b) ∧ r.2.sem = fun _ => 0) := by
  refine Pipeline.θ_run_regions_kit_dev_sems (pcfgs (F := F)) (adms m) (pdats m hH) () (cellOf_inj (adms m)) emb₁ defs₀ Variants.none L lv m ρ main
    (segs m (outs m hH) Variants.none L lv (fun _ => E) () (adms m) (pdats m hH) (R0 m hH) (R1 m hH))
    (fun c Q => by
      rewrite [main_chain c, Seg.run_eq_chain,
        show (segs m (outs m hH) Variants.none L lv (fun _ => E) () (adms m) (pdats m hH) (R0 m hH) (R1 m hH) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (fun c => by simp only [segs, Seg.pipes_host, Seg.pipes_region, Seg.pipes_nil]; decide) 0 no_level (fun _ => BI.emp) (u₀ m) (launch_own m)
    (T₀ := fun c => iprop(StableHlo.held (c : Thread nD τ) (Pipeline.ucRefs τ sig) (V0 m c) ∗ E c))
    (Tₙ := fun c => StableHlo.held (c : Thread nD τ) (Pipeline.ucRefs τ sig) (V9 m (outs m hH) c))
    (hch := fun c => ⟨.rfl, pre0 m hH c, post0 m hH c, .rfl, .rfl, .rfl, .rfl, pre1' m hH c, post1 m hH c, sep_mono .rfl (last_owes c)⟩)
    (hinit := launch_state m ρ) (QY := fun c s => ∀ b ∈ Pipeline.ucRefs τ sig, s.mem ((c : Thread nD τ).1, b) = V9 m (outs m hH) c b)
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V9 m (outs m hH) c) s') $$ [Hh HSI]
  · isplitl [Hh] <;> iassumption
  icases Hr with ⟨%h, HSI⟩
  imodintro
  isplitr
  · ipureintro; exact h
  · iexact HSI

/-- A buffer that is not scoped is read. -/
theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

/-- The two results, and the arguments unchanged. -/
theorem run (hH : WExp.Hyps (WE m) (ok (WE m))) : θ_run defs (onTc (τ := τ) (main (F := F))) ⟨m, fun _ => 0, ρ⟩ (fun r => (∀ c : Dev nD,
      (r.2.mem ((c.tc : Thread nD τ).loc main_v19) = V9 m (outs m hH) c (Proc.devRef .tc main_v19)
      ∧ r.2.mem ((c.tc : Thread nD τ).loc main_v20) = V9 m (outs m hH) c (Proc.devRef .tc main_v20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine (θ_run defs _ _).mono (fun r h => ⟨fun c => ?_, h.2⟩) (run_all m ρ hH)
  have g := fun (r : Ref sig .tc) (hr : r.isScoped = false) => h.1 c _ (mem_uc r hr)
  exact ⟨⟨g main_v19 rfl, g main_v20 rfl⟩, (g main_arg0 rfl).trans (V9_main_arg0 m _ c), (g main_arg1 rfl).trans (V9_main_arg1 m _ c),
    (g main_arg2 rfl).trans (V9_main_arg2 m _ c), (g main_arg3 rfl).trans (V9_main_arg3 m _ c), (g main_arg4 rfl).trans (V9_main_arg4 m _ c),
    (g main_arg5 rfl).trans (V9_main_arg5 m _ c), (g main_arg6 rfl).trans (V9_main_arg6 m _ c), (g main_arg7 rfl).trans (V9_main_arg7 m _ c),
    (g main_arg8 rfl).trans (V9_main_arg8 m _ c), (g main_arg9 rfl).trans (V9_main_arg9 m _ c)⟩

end Cert.KernelIdeal.Whole

end
-- ==== Proof.WholeRead.lean ====
/- The whole program's results in plain formulas: what the expert region is entered with, the first result at an index as
   two experts' planes times their gates, the second as the gating region's loss. -/
module

public import proofs.«01_k».proof.Proof.WholeTop
public import proofs.«01_k».proof.Proof.ExpRead

@[expose] public section

set_option maxRecDepth 16384

noncomputable section

namespace Cert.KernelIdeal.Whole

open Idealize.ShloMosaic Idealize.ShloMosaic.TcCoe Idealize.ShloMosaic.Tactic
open Cert.KernelIdeal.Gen
open Cert.ExpertsMath
open Cert.KernelIdeal.WExp (cfgM iblk wrd gateAt hidv G5 out5 ptB coord0 coord1 tbl Hyps Ok)
open Cert.ExpertsIdeal.Run (expert exOf dotAt)

section AnyFloat

variable {F : FTy → Type} [FloatOps F]

variable (m : (ℓ : Loc nD τ sig) → Buf (Elt F) ℓ)

/-- The indices that the gating region hands on, -/
abbrev idx (c : Dev nD) : Vec F S32x2 .i32 := WGate.idxOf (WGate.logits m c)
/-- and the gates. -/
abbrev gates (c : Dev nD) : Vec F S32x2 .f32 := WGate.gatesOf (WGate.logits m c)

/-! ## What the expert region is entered with -/

/-- A buffer that no host operation between the regions writes is as the gating region left it. -/
theorem V6_of_V2 (outs : Outs (F := F)) (c : Dev nD) (r : Ref sig .tc) (h1 : r ∉ hostOps1_W) (h2 : r ∉ hostOps1_1_W) (h3 : r ∉ hostOps1_2_W) (h4 : r ∉ hostOps1_3_W) :
    V6 m outs c r = V2 m outs c r :=
  (V6_of m outs c r h4).trans ((V5_of m outs c r h3).trans ((V4_of m outs c r h2).trans (V3_of m outs c r h1)))

theorem V2_v4_0 (c : Dev nD) : (V2 m (outsG m) c (Proc.devRef .tc main_v4_0) : Vec F S32x2 .i32) = idx m c := by
  simp only [V2, Function.update_of_ne (StableHlo.devRef_ne_of_ne (by decide) : (Proc.devRef .tc main_v4_0 : DevRef τ sig) ≠ Proc.devRef .tc main_v4_1),
      Function.update_of_ne (StableHlo.devRef_ne_of_ne (by decide) : (Proc.devRef .tc main_v4_0 : DevRef τ sig) ≠ Proc.devRef .tc main_v4_2), Function.update_self]
  exact (Pipeline.afterRegion_arr (WGate.dats m c) (V1 m c) (launch0 (F := F)).win.arr_inj 8).trans (WGate.arr8 m c)

theorem V2_v4_1 (c : Dev nD) : (V2 m (outsG m) c (Proc.devRef .tc main_v4_1) : Vec F S32x2 .f32) = gates m c := by
  simp only [V2, Function.update_of_ne (StableHlo.devRef_ne_of_ne (by decide) : (Proc.devRef .tc main_v4_1 : DevRef τ sig) ≠ Proc.devRef .tc main_v4_2), Function.update_self]
  exact (Pipeline.afterRegion_arr (WGate.dats m c) (V1 m c) (launch0 (F := F)).win.arr_inj 9).trans (WGate.arr9 m c)

theorem V2_v4_2 (c : Dev nD) : (V2 m (outsG m) c (Proc.devRef .tc main_v4_2) : Vec F S1x1 .f32) = WGate.lossOf (WGate.logits m c) := by
  simp only [V2, Function.update_self]
  exact (Pipeline.afterRegion_arr (WGate.dats m c) (V1 m c) (launch0 (F := F)).win.arr_inj 10).trans (WGate.arr10 m c)

/-- An argument reaches the expert region's host operations as launched. -/
theorem V2_arg (outs : Outs (F := F)) (c : Dev nD) (r : Ref sig .tc) (h : r ∉ ([main_v4_0, main_v4_1, main_v4_2] : List (Ref sig .tc))) (h0 : r ∉ hostOps0_W) :
    V2 m outs c r = m ((c : Thread nD τ).loc r) := (V2_of m outs c r h).trans (V1_of m c r h0)

theorem WE_v15 (c : Dev nD) : (WE m c (Proc.devRef .tc main_v15) : Vec F S64 .i32) = shapeCast S64 (idx m c) shapeCasts_S32x2_S64 := by
  rw [← V2_v4_0, ← V6_of_V2 m (outsG m) c main_v4_0 (by decide) (by decide) (by decide) (by decide)]
  unfold WE V7
  generalize V6 m (outsG m) c = Wv
  unfold hostOps1_4
  after_results_simp
  rfl

theorem WE_v16 (c : Dev nD) : (WE m c (Proc.devRef .tc main_v16) : Vec F S64 .f32) = shapeCast S64 (gates m c) shapeCasts_S32x2_S64 := by
  rw [← V2_v4_1, ← V6_of_V2 m (outsG m) c main_v4_1 (by decide) (by decide) (by decide) (by decide)]
  unfold WE V7
  generalize V6 m (outsG m) c = Wv
  unfold hostOps1_4
  after_results_simp
  rfl

theorem WE_v11 (c : Dev nD) : (WE m c (Proc.devRef .tc main_v11) : Vec F S8x128x576 .bf16)
    = truncf .bf16 (shapeCast S8x128x576 (transpose S8x128x3x3x64 [0, 1, 3, 4, 2] (m ((c : Thread nD τ).loc main_arg8) : Vec F S8x128x64x3x3 .f32) transposes_S8x128x64x3x3_S8x128x3x3x64_0_1_3_4_2) shapeCasts_S8x128x3x3x64_S8x128x576) bitsLt_bf16_f32 := by
  rw [← V2_arg m (outsG m) c main_arg8 (by decide) (by decide), ← V6_of_V2 m (outsG m) c main_arg8 (by decide) (by decide) (by decide) (by decide)]
  unfold WE V7
  generalize V6 m (outsG m) c = Wv
  unfold hostOps1_4
  after_results_simp
  rfl

theorem WE_v14 (c : Dev nD) : (WE m c (Proc.devRef .tc main_v14) : Vec F S8x64x1152 .bf16)
    = truncf .bf16 (shapeCast S8x64x1152 (transpose S8x64x3x3x128 [0, 1, 3, 4, 2] (m ((c : Thread nD τ).loc main_arg9) : Vec F S8x64x128x3x3 .f32) transposes_S8x64x128x3x3_S8x64x3x3x128_0_1_3_4_2) shapeCasts_S8x64x3x3x128_S8x64x1152) bitsLt_bf16_f32 := by
  rw [← V2_arg m (outsG m) c main_arg9 (by decide) (by decide), ← V6_of_V2 m (outsG m) c main_arg9 (by decide) (by decide) (by decide) (by decide)]
  unfold WE V7
  generalize V6 m (outsG m) c = Wv
  unfold hostOps1_4
  after_results_simp
  rfl

theorem WE_v8 (c : Dev nD) : (WE m c (Proc.devRef .tc main_v8) : Vec F S32x64x1296 .bf16)
    = truncf .bf16 (pad S32x64x1296 ![0, 0, 70] ![0, 0, 70] ![0, 0, 0]
        (shapeCast S32x64x1156 (pad S32x64x34x34 ![0, 0, 1, 1] ![0, 0, 1, 1] ![0, 0, 0, 0] (m ((c : Thread nD τ).loc main_arg0) : Vec F S32x64x32x32 .f32)
          (sitofp .f32 (constantI S_ 32 0#32)) pads_S32x64x32x32_S32x64x34x34_000_000_110_110 h_S_) shapeCasts_S32x64x34x34_S32x64x1156)
        (sitofp .f32 (constantI S_ 32 0#32)) pads_S32x64x1156_S32x64x1296_000_000_70700 h_S_) bitsLt_bf16_f32 := by
  rw [← V2_arg m (outsG m) c main_arg0 (by decide) (by decide)]
  unfold WE V7 V6 V5 V4 V3
  generalize V2 m (outsG m) c = Wv
  unfold hostOps1_4 hostOps1_3 hostOps1_2 hostOps1_1 hostOps1
  after_results_simp
  rfl

theorem WE_cst (c : Dev nD) : (WE m c (Proc.devRef .tc main_cst) : Vec F S1x1226 .f32) = fun i => FloatOps.ofBits .f32 (lit0 (S1x1226.rowMajor i)) := by
  refine (V7_of m (outsG m) c main_cst (by decide)).trans ((V6_of_V2 m (outsG m) c main_cst (by decide) (by decide) (by decide) (by decide)).trans
    ((V2_of m (outsG m) c main_cst (by decide)).trans ?_))
  unfold V1
  unfold hostOps0
  after_results_simp
  rfl

/-! ## The results -/

theorem V9_v19 (hH : Hyps (WE m) (ok (WE m))) (c : Dev nD) : (V9 m (outs m hH) c (Proc.devRef .tc main_v19) : Vec F S32x64x32x32 .f32)
    = extractStridedSlice S32x64x32x32 ![0, 0, 1, 1] (shapeCast S32x64x34x34 (G5 (WE m) (ok (WE m)) c) shapeCasts_S32x64x1156_S32x64x34x34) slices_S32x64x34x34_S32x64x32x32_0_0_1_1 := by
  rw [← WExp.arr5 (WE m) (ok (WE m)) hH c, ← Pipeline.afterRegion_arr (WExp.dats (WE m) (ok (WE m)) hH c) (WE m c) (launch1 (F := F)).win.arr_inj 5,
    V8_eq m hH c]
  unfold V9
  generalize V8 m (outs m hH) c = Wv
  unfold hostOps2
  after_results_simp
  rfl

theorem V9_v20 (hH : Hyps (WE m) (ok (WE m))) (c : Dev nD) : (V9 m (outs m hH) c (Proc.devRef .tc main_v20) : Vec F S_ .f32)
    = shapeCast S_ (WGate.lossOf (WGate.logits m c)) shapeCasts_S1x1_S_ := by
  have e : V8 m (outs m hH) c (Proc.devRef .tc main_v4_2) = WGate.lossOf (WGate.logits m c) :=
    (V8_of m (outs m hH) c main_v4_2 (by decide)).trans ((V7_of m (outs m hH) c main_v4_2 (by decide)).trans
      ((V6_of_V2 m (outs m hH) c main_v4_2 (by decide) (by decide) (by decide) (by decide)).trans (V2_v4_2 m c)))
  rw [← e]
  unfold V9
  generalize V8 m (outs m hH) c = Wv
  unfold hostOps2
  after_results_simp
  rfl

end AnyFloat

end Cert.KernelIdeal.Whole

end
-- ==== Proof.WholeApply.lean ====
/- The whole program's first result at an index: the two experts that the gating names, each times its gate. -/
module

public import proofs.«01_k».proof.Proof.WholeRead

@[expose] public section

set_option maxRecDepth 16384

noncomputable section

namespace Cert.KernelIdeal.Whole

open Idealize.ShloMosaic Idealize.ShloMosaic.TcCoe Idealize.ShloMosaic.Tactic
open Cert.KernelIdeal.Gen
open Cert.ExpertsMath
open Cert.KernelIdeal.WExp (cfgM iblk wrd gateAt hidv h9of w2at G5 out5 ptB coord0 coord1 tbl Hyps Ok)
open Cert.ExpertsIdeal.Run (expert exOf dotAt)

variable (m : (ℓ : Loc nD τ sig) → Buf (Elt Ideal) ℓ)

/-- The mask's words are those of the expert call alone. -/
theorem lit_eq : ∀ i : Fin 1226, lit0 i = Cert.ExpertsIdeal.lit0 i := by
  decide +kernel

theorem v16_apply (c : Dev nD) (n : Fin 64) : (WE m c (Proc.devRef .tc main_v16) : Vec Ideal S64 .f32) (Idealize.ShloMosaic.ix1 n) = gates m c (ix2 ⟨n.val / 2, by omega⟩ ⟨n.val % 2, by omega⟩) := by
  rw [WE_v16]
  generalize gates m c = g
  pointwise

theorem v15_apply (c : Dev nD) (n : Fin 64) : (WE m c (Proc.devRef .tc main_v15) : Vec Ideal S64 .i32) (Idealize.ShloMosaic.ix1 n) = idx m c (ix2 ⟨n.val / 2, by omega⟩ ⟨n.val % 2, by omega⟩) := by
  rw [WE_v15]
  generalize idx m c = g
  pointwise

theorem v11_apply (c : Dev nD) (e : Fin 8) (o : Fin 128) (k : Fin 576) : (WE m c (Proc.devRef .tc main_v11) : Vec Ideal S8x128x576 .bf16) (ix3 e o k)
    = (m ((c : Thread nD τ).loc main_arg8) : Vec Ideal S8x128x64x3x3 .f32) (ix5 e o ⟨k.val % 64, by omega⟩ ⟨k.val / 64 / 3, by omega⟩ ⟨k.val / 64 % 3, by omega⟩) := by
  rw [WE_v11]
  generalize (m ((c : Thread nD τ).loc main_arg8) : Vec Ideal S8x128x64x3x3 .f32) = w
  pointwise
  refine congrArg w ?_
  congr 1
  exact Fin.ext (by show k.val / 192 = k.val / 64 / 3; omega)

theorem v14_apply (c : Dev nD) (e : Fin 8) (o : Fin 64) (k : Fin 1152) : (WE m c (Proc.devRef .tc main_v14) : Vec Ideal S8x64x1152 .bf16) (ix3 e o k)
    = (m ((c : Thread nD τ).loc main_arg9) : Vec Ideal S8x64x128x3x3 .f32) (ix5 e o ⟨k.val % 128, by omega⟩ ⟨k.val / 128 / 3, by omega⟩ ⟨k.val / 128 % 3, by omega⟩) := by
  rw [WE_v14]
  generalize (m ((c : Thread nD τ).loc main_arg9) : Vec Ideal S8x64x128x3x3 .f32) = w
  pointwise
  refine congrArg w ?_
  congr 1
  exact Fin.ext (by show k.val / 384 = k.val / 128 / 3; omega)

theorem v8_apply (c : Dev nD) (b : Fin 32) (ch : Fin 64) (q : Fin 1296) : (WE m c (Proc.devRef .tc main_v8) : Vec Ideal S32x64x1296 .bf16) (ix3 b ch q)
    = ext (fun ch i j => (m ((c : Thread nD τ).loc main_arg0) : Vec Ideal S32x64x32x32 .f32) (ix4 b ch i j)) ch q := by
  rw [WE_v8]
  refine (Cert.ExpertsIdeal.Run.ext_apply _ b ch q).trans ?_
  unfold ext
  by_cases h : 70 ≤ q.val ∧ q.val < 1226
  · rw [dif_pos h, if_pos h]
    exact Cert.ExpertsIdeal.Run.pad_apply _ b ch _ _
  · rw [dif_neg h, if_neg h]

theorem cst_apply (c : Dev nD) (i j : ℕ) (hi : i < 34) (hj : j < 34) : (WE m c (Proc.devRef .tc main_cst) : Vec Ideal S1x1226 .f32) (ix2 0 ⟨34 * i + j + 35, by omega⟩)
    = if (1 ≤ i ∧ i - 1 < 32) ∧ 1 ≤ j ∧ j - 1 < 32 then (1 : EReal) else 0 := by
  rw [WE_cst]
  exact (congrArg (FloatOps.ofBits .f32 : BitVec 32 → Ideal .f32) (lit_eq _)).trans (Cert.ExpertsIdeal.Run.mask_apply i j hi hj)

/-- Image `b`'s planes, -/
abbrev img (c : Dev nD) (b : Fin 32) : Fin 64 → Fin 32 → Fin 32 → EReal :=
  fun ch i j => (m ((c : Thread nD τ).loc main_arg0) : Vec Ideal S32x64x32x32 .f32) (ix4 b ch i j)
/-- the experts' first weights, -/
abbrev wt1 (c : Dev nD) : Fin 8 → Fin 128 → Fin 64 → Fin 3 → Fin 3 → EReal :=
  fun e o ch i j => (m ((c : Thread nD τ).loc main_arg8) : Vec Ideal S8x128x64x3x3 .f32) (ix5 e o ch i j)
/-- and their second. -/
abbrev wt2 (c : Dev nD) : Fin 8 → Fin 64 → Fin 128 → Fin 3 → Fin 3 → EReal :=
  fun e o ch i j => (m ((c : Thread nD τ).loc main_arg9) : Vec Ideal S8x64x128x3x3 .f32) (ix5 e o ch i j)

/-- Point `t` reads entry `t` of the tables. -/
theorem off1_eq (t : Fin grid1.N) : k1_off1 (grid1.coords t) 0 = t.val := by
  have ht : t.val < 64 := Nat.lt_of_lt_of_eq t.isLt N_1
  have e : k1_off1 (grid1.coords t) 0 = (2#32 * BitVec.ofNat 32 (grid1.coords t 0).val + BitVec.ofNat 32 (grid1.coords t 1).val).toNat := rfl
  rw [e, coord0, coord1]
  simp only [BitVec.toNat_add, BitVec.toNat_mul, BitVec.toNat_ofNat]
  omega

theorem idx1_eq (t : Fin grid1.N) : (Rect.unit (s := S64) (k1_off1 (grid1.coords t)) S1.size (k1_off1_inb (grid1.coords t))).toLoadRect.idx (Shape.Idx.first (numel1_S1.symm ▸ Nat.one_pos))
    = Idealize.ShloMosaic.ix1 ⟨t.val, Nat.lt_of_lt_of_eq t.isLt N_1⟩ := by
  refine funext fun (a : Fin 1) => Fin.ext ?_
  match a with
  | 0 => show k1_off1 (grid1.coords t) 0 + 1 * 0 = t.val; rw [off1_eq, Nat.mul_zero, Nat.add_zero]

/-- The word and the gate of image `t / 2`'s slot `t % 2`. -/
theorem wrd_eq (c : Dev nD) (t : Fin (cfgM (WE m) (ok (WE m))).N) :
    wrd (WE m) (ok (WE m)) c t = idx m c (ix2 ⟨t.val / 2, by have ht : t.val < 64 := Nat.lt_of_lt_of_eq t.isLt N_1; omega⟩ ⟨t.val % 2, by omega⟩) := by
  have hc : c = 0 := Subsingleton.elim _ _
  subst hc
  exact (congrArg (tbl (WE m) 0 : Vec Ideal S64 .i32) (idx1_eq t)).trans (v15_apply m 0 _)

theorem gate_eq (c : Dev nD) (t : Fin (cfgM (WE m) (ok (WE m))).N) :
    gateAt (grid1.coords t) (iblk (WE m) (ok (WE m)) c 0 t) = gates m c (ix2 ⟨t.val / 2, by have ht : t.val < 64 := Nat.lt_of_lt_of_eq t.isLt N_1; omega⟩ ⟨t.val % 2, by omega⟩) :=
  (congrFun (WExp.iblk1_eq (WE m) (ok (WE m)) c t) _).trans ((congrArg (WE m c (Proc.devRef .tc main_v16) : Vec Ideal S64 .f32) (idx1_eq t)).trans (v16_apply m c _))

/-- What a point's second product is. -/
theorem point_eq (c : Dev nD) (t : Fin (cfgM (WE m) (ok (WE m))).N) (o : Fin 64) (i j : Fin 32) :
    dotAt (iblk (WE m) (ok (WE m)) c 3 t) (wrd (WE m) (ok (WE m)) c t) (h9of (hidv (WE m) (ok (WE m)) c t)) o ⟨34 * (i.val + 1) + (j.val + 1), by omega⟩
      = expert (img m c ⟨t.val / 2, by have ht : t.val < 64 := Nat.lt_of_lt_of_eq t.isLt N_1; omega⟩) (wt1 m c) (wt2 m c) (exOf (wrd (WE m) (ok (WE m)) c t)) o i j := by
  refine Cert.ExpertsIdeal.Run.slot_eq (img m c ⟨t.val / 2, by have ht : t.val < 64 := Nat.lt_of_lt_of_eq t.isLt N_1; omega⟩) (wt1 m c) (wt2 m c) (wrd (WE m) (ok (WE m)) c t)
    (iblk (WE m) (ok (WE m)) c 1 t) (iblk (WE m) (ok (WE m)) c 2 t) (iblk (WE m) (ok (WE m)) c 3 t) (iblk (WE m) (ok (WE m)) c 4 t)
    (fun ch q => ?_) (fun e o k => ?_) (fun e o k => ?_) (fun i j hi hj => ?_) o i j
  · exact (WExp.iblk1_apply (WE m) (ok (WE m)) c t _).trans (v8_apply m c _ ch q)
  · exact (congrFun (WExp.iblk2_eq (WE m) (ok (WE m)) c t) _).trans (v11_apply m c e o k)
  · exact (congrFun (WExp.iblk3_eq (WE m) (ok (WE m)) c t) _).trans (v14_apply m c e o k)
  · exact (congrFun (WExp.iblk4_eq (WE m) (ok (WE m)) c t) _).trans (cst_apply m c i j hi hj)

theorem pay4_apply (g : EReal) (e : BitVec 32) (w2 : Vec Ideal S8x64x1152 .bf16) (h9 : Vec Ideal S1152x1156 .bf16) (o : Fin 64) (p : Fin 1156) :
    (k1_pay4 (F := Ideal) g (w2at w2 e) h9 : Vec Ideal S1x64x1156 .f32) (ix3 0 o p) = dotAt w2 e h9 o p * g :=
  Cert.ExpertsIdeal.Run.pay4_apply g e w2 h9 o p

theorem pay5_apply (g : EReal) (e : BitVec 32) (w2 : Vec Ideal S8x64x1152 .bf16) (h9 : Vec Ideal S1152x1156 .bf16) (y : Vec Ideal S1x64x1156 .f32) (o : Fin 64) (p : Fin 1156) :
    (k1_pay5 (F := Ideal) g (w2at w2 e) h9 y : Vec Ideal S1x64x1156 .f32) (ix3 0 o p) = y (ix3 0 o p) + dotAt w2 e h9 o p * g :=
  Cert.ExpertsIdeal.Run.pay5_apply g e w2 h9 y o p

/-- An image's two experts, each times its gate, at a place inside the plane. -/
theorem G5_apply (c : Dev nD) (b : Fin 32) (o : Fin 64) (i j : Fin 32) :
    G5 (WE m) (ok (WE m)) c (ix3 b o ⟨34 * (i.val + 1) + (j.val + 1), by omega⟩)
      = expert (img m c b) (wt1 m c) (wt2 m c) (exOf (idx m c (ix2 b 0))) o i j * gates m c (ix2 b 0)
        + expert (img m c b) (wt1 m c) (wt2 m c) (exOf (idx m c (ix2 b 1))) o i j * gates m c (ix2 b 1) := by
  have hb := b.isLt
  have key : ∀ (t : Fin (cfgM (WE m) (ok (WE m))).N) (s : Fin 2), t.val = 2 * b.val + s.val →
      dotAt (iblk (WE m) (ok (WE m)) c 3 t) (wrd (WE m) (ok (WE m)) c t) (h9of (hidv (WE m) (ok (WE m)) c t)) o ⟨34 * (i.val + 1) + (j.val + 1), by omega⟩
          * gateAt (grid1.coords t) (iblk (WE m) (ok (WE m)) c 0 t)
      = expert (img m c b) (wt1 m c) (wt2 m c) (exOf (idx m c (ix2 b s))) o i j * gates m c (ix2 b s) := by
    intro t s hts
    have hs := s.isLt
    have hb' : (⟨t.val / 2, by omega⟩ : Fin 32) = b := Fin.ext (by show t.val / 2 = b.val; omega)
    have hs' : (⟨t.val % 2, by omega⟩ : Fin 2) = s := Fin.ext (by show t.val % 2 = s.val; omega)
    rw [point_eq, gate_eq, wrd_eq]
    simp only [hb', hs']
  have h1 : (ptB (WE m) (ok (WE m)) b).val % 2 ≠ 0 := by show (2 * b.val + 1) % 2 ≠ 0; omega
  show out5 (WE m) (ok (WE m)) c (ptB (WE m) (ok (WE m)) b) (ix3 0 o _) = _
  unfold out5
  rw [if_neg h1]
  refine (pay5_apply _ _ _ _ _ o _).trans (congrArg₂ (· + ·) ((pay4_apply _ _ _ _ o _).trans ?_) ?_)
  · exact key ⟨(ptB (WE m) (ok (WE m)) b).val - 1, _⟩ 0 (by show 2 * b.val + 1 - 1 = 2 * b.val + 0; omega)
  · exact key (ptB (WE m) (ok (WE m)) b) 1 rfl

/-- The first result at an index. -/
theorem result_apply (hH : Hyps (WE m) (ok (WE m))) (c : Dev nD) (b : Fin 32) (o : Fin 64) (i j : Fin 32) :
    (V9 m (outs m hH) c (Proc.devRef .tc main_v19) : Vec Ideal S32x64x32x32 .f32) (ix4 b o i j)
      = expert (img m c b) (wt1 m c) (wt2 m c) (exOf (idx m c (ix2 b 0))) o i j * gates m c (ix2 b 0)
        + expert (img m c b) (wt1 m c) (wt2 m c) (exOf (idx m c (ix2 b 1))) o i j * gates m c (ix2 b 1) := by
  rw [V9_v19]
  exact (Cert.ExpertsIdeal.Run.out_apply (G5 (WE m) (ok (WE m)) c) b o i j).trans (G5_apply m c b o i j)

/-- Indices below eight are what the body assumes. -/
theorem hyps_of_lt (h : ∀ c y, (idx m c y).toNat < 8) : Hyps (WE m) (ok (WE m)) := by
  refine WExp.Hyps.of fun c t => ?_
  have hb := h c (ix2 ⟨t.val / 2, by have ht : t.val < 64 := Nat.lt_of_lt_of_eq t.isLt N_1; omega⟩ ⟨t.val % 2, by omega⟩)
  rw [← wrd_eq m c t] at hb
  show k1_chk1 (wrd (WE m) (ok (WE m)) c t)
  generalize wrd (WE m) (ok (WE m)) c t = w at hb
  refine ⟨fun (a : Fin 3) => ?_, fun (a : Fin 3) => ?_⟩
  · match a with
    | 0 => show w.toNat + 1 ≤ 8; omega
    | 1 => exact Nat.le_refl _
    | 2 => exact Nat.le_refl _
  · match a with
    | 0 => show w.toNat + 1 ≤ 8; omega
    | 1 => exact Nat.le_refl _
    | 2 => exact Nat.le_refl _

end Cert.KernelIdeal.Whole

end
-- ==== Proof.WholeRef.lean ====
/- The whole reference: its route, its loss and its stack of experts are the two parts' references, over valuations that
   hold the same arguments. -/
module

public import proofs.«01_k».proof.Proof.Gen.ReferenceIdeal.Run
public import proofs.«01_k».proof.Proof.GateEq
public import proofs.«01_k».proof.Proof.ExpRef
public import proofs.«01_k».proof.Proof.ExpRead

@[expose] public section

set_option maxRecDepth 16384

noncomputable section

namespace Cert.WholeRef

open Idealize.ShloMosaic Idealize.ShloMosaic.TcCoe
open Cert.ReferenceIdeal Cert.ReferenceIdeal.Gen Cert.ReferenceIdeal.Value

/-- The gating's reference's arguments, given. -/
structure GateArgs (W : Valuation τ sig (Elt Ideal)) (V : Valuation Cert.RefGatingIdeal.τ Cert.RefGatingIdeal.sig (Elt Ideal)) : Prop where
  a0 : V (Proc.devRef .tc Cert.RefGatingIdeal.main_arg0) = W (Proc.devRef .tc main_arg0)
  a1 : V (Proc.devRef .tc Cert.RefGatingIdeal.main_arg1) = W (Proc.devRef .tc main_arg1)
  a2 : V (Proc.devRef .tc Cert.RefGatingIdeal.main_arg2) = W (Proc.devRef .tc main_arg2)
  a3 : V (Proc.devRef .tc Cert.RefGatingIdeal.main_arg3) = W (Proc.devRef .tc main_arg3)
  a4 : V (Proc.devRef .tc Cert.RefGatingIdeal.main_arg4) = W (Proc.devRef .tc main_arg4)
  a5 : V (Proc.devRef .tc Cert.RefGatingIdeal.main_arg5) = W (Proc.devRef .tc main_arg5)
  a6 : V (Proc.devRef .tc Cert.RefGatingIdeal.main_arg6) = W (Proc.devRef .tc main_arg6)
  a7 : V (Proc.devRef .tc Cert.RefGatingIdeal.main_arg7) = W (Proc.devRef .tc main_arg7)

/-- The experts' reference's images and weights, given. -/
structure ExpArgs (W : Valuation τ sig (Elt Ideal)) (V : Valuation Cert.RefExpertsIdeal.τ Cert.RefExpertsIdeal.sig (Elt Ideal)) : Prop where
  a2 : V (Proc.devRef .tc Cert.RefExpertsIdeal.main_arg2) = W (Proc.devRef .tc main_arg0)
  a3 : V (Proc.devRef .tc Cert.RefExpertsIdeal.main_arg3) = W (Proc.devRef .tc main_arg8)
  a4 : V (Proc.devRef .tc Cert.RefExpertsIdeal.main_arg4) = W (Proc.devRef .tc main_arg9)

theorem nonempty_elt (e : EltTy) : Nonempty (Elt Ideal e) := by
  cases e
  all_goals first | exact ⟨(0 : EReal)⟩ | exact ⟨(0#_ : BitVec _)⟩

/-- There is a valuation that holds the gating's arguments, -/
theorem exists_gate (W : Valuation τ sig (Elt Ideal)) : ∃ V, GateArgs W V := by
  classical
  let base : Valuation Cert.RefGatingIdeal.τ Cert.RefGatingIdeal.sig (Elt Ideal) := fun _ _ => Classical.choice (nonempty_elt _)
  refine ⟨(Function.update (Function.update (Function.update (Function.update (Function.update (Function.update (Function.update (Function.update base (Proc.devRef .tc Cert.RefGatingIdeal.main_arg0) (W (Proc.devRef .tc main_arg0))) (Proc.devRef .tc Cert.RefGatingIdeal.main_arg1) (W (Proc.devRef .tc main_arg1))) (Proc.devRef .tc Cert.RefGatingIdeal.main_arg2) (W (Proc.devRef .tc main_arg2))) (Proc.devRef .tc Cert.RefGatingIdeal.main_arg3) (W (Proc.devRef .tc main_arg3))) (Proc.devRef .tc Cert.RefGatingIdeal.main_arg4) (W (Proc.devRef .tc main_arg4))) (Proc.devRef .tc Cert.RefGatingIdeal.main_arg5) (W (Proc.devRef .tc main_arg5))) (Proc.devRef .tc Cert.RefGatingIdeal.main_arg6) (W (Proc.devRef .tc main_arg6))) (Proc.devRef .tc Cert.RefGatingIdeal.main_arg7) (W (Proc.devRef .tc main_arg7))), ?_, ?_, ?_, ?_, ?_, ?_, ?_, ?_⟩
  all_goals
    repeat rw [Function.update_of_ne (by decide)]
    exact Function.update_self _ _ _

/-- and one that holds the experts'. -/
theorem exists_exp (W : Valuation τ sig (Elt Ideal)) : ∃ V, ExpArgs W V := by
  classical
  let base : Valuation Cert.RefExpertsIdeal.τ Cert.RefExpertsIdeal.sig (Elt Ideal) := fun _ _ => Classical.choice (nonempty_elt _)
  refine ⟨(Function.update (Function.update (Function.update base (Proc.devRef .tc Cert.RefExpertsIdeal.main_arg2) (W (Proc.devRef .tc main_arg0))) (Proc.devRef .tc Cert.RefExpertsIdeal.main_arg3) (W (Proc.devRef .tc main_arg8))) (Proc.devRef .tc Cert.RefExpertsIdeal.main_arg4) (W (Proc.devRef .tc main_arg9))), ?_, ?_, ?_⟩
  all_goals
    repeat rw [Function.update_of_ne (by decide)]
    exact Function.update_self _ _ _

/-- The whole reference's gates, -/
abbrev gatesW (W : Valuation τ sig (Elt Ideal)) : Vec Ideal S32x2 .f32 :=
  Host.divf (res_main_v27 W) (broadcastInDim S32x2 ![0, 1] bcast_S32x1_S32x2_0_1 (broadcastInDim S32x1 ![0] bcast_S32_S32x1_0 (Host.reduceAdd (res_main_v27 W) (constant S_ .f32 0x00000000#32) reducesTo_S32x2_S32_d1 h_S_)))

/-- its loss, -/
def lossW (W : Valuation τ sig (Elt Ideal)) : Vec Ideal S_ .f32 :=
  mulf (addf (Cert.GateLoss.cvTerm (res_main_v177 W)) (Cert.GateLoss.cvTerm (res_main_v184 W))) (constant (F := Ideal) S_ .f32 0x3C23D70A#32)

/-- and its mixture. -/
abbrev mixW (W : Valuation τ sig (Elt Ideal)) : Vec Ideal S32x64x32x32 .f32 :=
  Host.reduceAdd (mulf (broadcastInDim S32x8x64x32x32 ![0, 1, 2, 3, 4] bcast_S32x8x1x1x1_S32x8x64x32x32_0_1_2_3_4 (broadcastInDim S32x8x1x1x1 ![0, 1] bcast_S32x8_S32x8x1x1x1_0_1 (res_main_v49 W))) (res_main_v168 W)) (constant S_ .f32 0x00000000#32) reducesTo_S32x8x64x32x32_S32x64x32x32_d1 h_S_

section Gate

variable {W : Valuation τ sig (Elt Ideal)} {V : Valuation Cert.RefGatingIdeal.τ Cert.RefGatingIdeal.sig (Elt Ideal)} (h : GateArgs W V)
include h

theorem v13_eq : (Cert.RefGatingIdeal.Value.res_main_v13 V : Vec Ideal S32x128 .f32) = res_main_v13 W := by
  unfold res_main_v13 Cert.RefGatingIdeal.Value.res_main_v13
  rw [h.a0, h.a1, h.a2, h.a3, h.a4, h.a5]
  rfl

theorem v18_eq : (Cert.RefGatingIdeal.Value.res_main_v18 V : Vec Ideal S32x8 .f32) = res_main_v18 W := by
  have e := v13_eq h
  unfold res_main_v18 Cert.RefGatingIdeal.Value.res_main_v18
  rw [h.a6, h.a7, show Cert.RefGatingIdeal.Value.res_main_v13 V = res_main_v13 W from e]
  rfl

theorem v19_eq : (Cert.RefGatingIdeal.Value.res_main_v19 V : Vec Ideal S32x2 .f32) = res_main_v19 W := by
  have e := v18_eq h
  unfold res_main_v19 Cert.RefGatingIdeal.Value.res_main_v19
  rw [show Cert.RefGatingIdeal.Value.res_main_v18 V = res_main_v18 W from e]

/-- The same indices, -/
theorem v20_eq : (Cert.RefGatingIdeal.Value.res_main_v20 V : Vec Ideal S32x2 .i32) = res_main_v20 W := by
  have e := v18_eq h
  unfold res_main_v20 Cert.RefGatingIdeal.Value.res_main_v20
  rw [show Cert.RefGatingIdeal.Value.res_main_v18 V = res_main_v18 W from e]

theorem v27_eq : (Cert.RefGatingIdeal.Value.res_main_v27 V : Vec Ideal S32x2 .f32) = res_main_v27 W := by
  have e := v19_eq h
  unfold res_main_v27 Cert.RefGatingIdeal.Value.res_main_v27
  rw [show Cert.RefGatingIdeal.Value.res_main_v19 V = res_main_v19 W from e]

/-- the same gates, -/
theorem gates_eq : (Cert.GateBalance.gt V : Vec Ideal S32x2 .f32) = gatesW W := by
  have e := v27_eq h
  unfold Cert.GateBalance.gt gatesW
  rw [show Cert.RefGatingIdeal.Value.res_main_v27 V = res_main_v27 W from e]

theorem v49_eq : (Cert.RefGatingIdeal.Value.res_main_v49 V : Vec Ideal S32x8 .f32) = res_main_v49 W := by
  have e := v20_eq h
  have e' := v27_eq h
  unfold res_main_v49 Cert.RefGatingIdeal.Value.res_main_v49
  rw [show Cert.RefGatingIdeal.Value.res_main_v20 V = res_main_v20 W from e, show Cert.RefGatingIdeal.Value.res_main_v27 V = res_main_v27 W from e']
  rfl

theorem v177_eq : (Cert.RefGatingIdeal.Value.res_main_v54 V : Vec Ideal S8 .f32) = res_main_v177 W := by
  have e := v49_eq h
  unfold res_main_v177 Cert.RefGatingIdeal.Value.res_main_v54
  rw [show Cert.RefGatingIdeal.Value.res_main_v49 V = res_main_v49 W from e]

theorem v184_eq : (Cert.RefGatingIdeal.Value.res_main_v61 V : Vec Ideal S8 .f32) = res_main_v184 W := by
  have e := v49_eq h
  unfold res_main_v184 Cert.RefGatingIdeal.Value.res_main_v61
  rw [show Cert.RefGatingIdeal.Value.res_main_v49 V = res_main_v49 W from e]

/-- and the same loss. -/
theorem loss_eq : (Cert.GateBalance.ls V : Vec Ideal S_ .f32) = lossW W := by
  have e := v177_eq h
  have e' := v184_eq h
  unfold Cert.GateBalance.ls lossW
  rw [show Cert.RefGatingIdeal.Value.res_main_v54 V = res_main_v177 W from e, show Cert.RefGatingIdeal.Value.res_main_v61 V = res_main_v184 W from e']

end Gate

/-- Image `b`'s planes, -/
abbrev img (W : Valuation τ sig (Elt Ideal)) (b : Fin 32) : Fin 64 → Fin 32 → Fin 32 → EReal :=
  fun ch i j => (W (Proc.devRef .tc main_arg0) : Vec Ideal S32x64x32x32 .f32) (ix4 b ch i j)
/-- the experts' first weights, -/
abbrev wt1 (W : Valuation τ sig (Elt Ideal)) : Fin 8 → Fin 128 → Fin 64 → Fin 3 → Fin 3 → EReal :=
  fun e o ch i j => (W (Proc.devRef .tc main_arg8) : Vec Ideal S8x128x64x3x3 .f32) (ix5 e o ch i j)
/-- and their second. -/
abbrev wt2 (W : Valuation τ sig (Elt Ideal)) : Fin 8 → Fin 64 → Fin 128 → Fin 3 → Fin 3 → EReal :=
  fun e o ch i j => (W (Proc.devRef .tc main_arg9) : Vec Ideal S8x64x128x3x3 .f32) (ix5 e o ch i j)

section Exp

variable {W : Valuation τ sig (Elt Ideal)} {V : Valuation Cert.RefExpertsIdeal.τ Cert.RefExpertsIdeal.sig (Elt Ideal)} (h : ExpArgs W V)
include h

theorem v50_eq : (Cert.RefExpertsIdeal.Value.res_main_v18 V : Vec Ideal S32x64x34x34 .f32) = res_main_v50 W := by
  unfold res_main_v50 Cert.RefExpertsIdeal.Value.res_main_v18
  rw [h.a2]

theorem v105_eq : (Cert.RefExpertsIdeal.Value.res_main_v73 V : Vec Ideal S32x8x128x32x32 .f32) = res_main_v105 W := by
  have e := v50_eq h
  unfold res_main_v105 Cert.RefExpertsIdeal.Value.res_main_v73
  rw [h.a3, show Cert.RefExpertsIdeal.Value.res_main_v18 V = res_main_v50 W from e]
  rfl

theorem v113_eq : (Cert.RefExpertsIdeal.Value.res_main_v81 V : Vec Ideal S32x8x128x34x34 .f32) = res_main_v113 W := by
  have e := v105_eq h
  unfold res_main_v113 Cert.RefExpertsIdeal.Value.res_main_v81
  rw [show Cert.RefExpertsIdeal.Value.res_main_v73 V = res_main_v105 W from e]

/-- The same stack of experts. -/
theorem v168_eq : (Cert.RefExpertsIdeal.Value.res_main_v136 V : Vec Ideal S32x8x64x32x32 .f32) = res_main_v168 W := by
  have e := v113_eq h
  unfold res_main_v168 Cert.RefExpertsIdeal.Value.res_main_v136
  rw [h.a4, show Cert.RefExpertsIdeal.Value.res_main_v81 V = res_main_v113 W from e]
  rfl

omit h in
/-- The mixture at an index. -/
theorem mix_apply (W : Valuation τ sig (Elt Ideal)) (h8 : ∀ y, ((res_main_v20 W : Vec Ideal S32x2 .i32) y).toNat < 8) (hne : ∀ b : Fin 32, (res_main_v20 W : Vec Ideal S32x2 .i32) (ix2 b 0) ≠ (res_main_v20 W : Vec Ideal S32x2 .i32) (ix2 b 1))
    (b : Fin 32) (o : Fin 64) (i j : Fin 32) :
    mixW W (ix4 b o i j)
      = Cert.ExpertsIdeal.Run.expert (img W b) (wt1 W) (wt2 W) (Cert.ExpertsIdeal.Run.exOf ((res_main_v20 W : Vec Ideal S32x2 .i32) (ix2 b 0))) o i j * gatesW W (ix2 b 0)
        + Cert.ExpertsIdeal.Run.expert (img W b) (wt1 W) (wt2 W) (Cert.ExpertsIdeal.Run.exOf ((res_main_v20 W : Vec Ideal S32x2 .i32) (ix2 b 1))) o i j * gatesW W (ix2 b 1) := by
  obtain ⟨V, h⟩ := exists_exp W
  have g2 : Cert.RefExpertsIdeal.Read.img V b = img W b := funext fun _ => funext fun _ => funext fun _ => congrFun h.a2 _
  have g3 : Cert.RefExpertsIdeal.Read.wt1 V = wt1 W := funext fun _ => funext fun _ => funext fun _ => funext fun _ => funext fun _ => congrFun h.a3 _
  have g4 : Cert.RefExpertsIdeal.Read.wt2 V = wt2 W := funext fun _ => funext fun _ => funext fun _ => funext fun _ => funext fun _ => congrFun h.a4 _
  rw [← g2, ← g3, ← g4]
  refine (Cert.RefExpertsIdeal.Read.mix_apply _ _ b o i j).trans ((Finset.sum_congr rfl fun e _ => congrArg₂ (fun a b : EReal => a * b)
    (Cert.RefExpertsIdeal.Read.gates_apply _ (fun i => ?_) (res_main_v20 W) (gatesW W) h8 b e) ((congrFun (v168_eq h).symm (ix5 b e o i j)).trans (Cert.RefExpertsIdeal.Read.v136_apply V b e o i j))).trans
      (Cert.RefExpertsIdeal.Read.sum_two _ _ (h8 _) (h8 _) (hne b) _ _ _))
  exact Ideal.ofBits_zero .f32

end Exp

end Cert.WholeRef

end
-- ==== Proof.WholeEq.lean ====
/- The whole program's claims over the extended reals: the frames, and that it and the reference compute the same images
   and the same loss. -/
module

public import proofs.«01_k».proof.Defs
public import proofs.«01_k».proof.Proof.Gen.Pre_finite
public import proofs.«01_k».proof.Proof.WholeApply
public import proofs.«01_k».proof.Proof.WholeRef

@[expose] public section

set_option maxRecDepth 16384

noncomputable section

namespace Cert.WholeEq

open Idealize.ShloMosaic Idealize.ShloMosaic.TcCoe
open Idealize.SL.Sem
open StableHlo (launchContents)
open Cert.KernelIdeal.Whole (WE ok outs idx gates)
open Cert.GateBalance (lg gt ls)

section

variable (m : (ℓ : Loc Cert.KernelIdeal.nD Cert.KernelIdeal.τ Cert.KernelIdeal.sig) → Buf (Elt Ideal) ℓ)

/-- The gating region's words, gates and loss are those of the gating call alone, from the same logits. -/
theorem idxOf_eq (L : FVec Ideal Cert.GatingIdeal.S32x8 .f32) : Cert.KernelIdeal.WGate.idxOf L = Cert.GatingIdeal.Run.idxOf L := rfl
theorem gatesOf_eq (L : FVec Ideal Cert.GatingIdeal.S32x8 .f32) : Cert.KernelIdeal.WGate.gatesOf L = Cert.GatingIdeal.Run.gatesOf L := rfl
theorem lossOf_eq (L : FVec Ideal Cert.GatingIdeal.S32x8 .f32) : Cert.KernelIdeal.WGate.lossOf L = Cert.GatingIdeal.Run.lossOf L := rfl

/-- The words the expert call is given are below eight, -/
theorem idx_lt (c : Dev Cert.KernelIdeal.nD) (y : Cert.KernelIdeal.S32x2.Idx) : (idx m c y).toNat < 8 := by
  obtain ⟨i, k, rfl⟩ : ∃ (i : Fin 32) (k : Fin 2), y = ix2 i k := ⟨y 0, y 1, eq_ix2 y⟩
  exact Cert.GateTop.idx_lt (Cert.KernelIdeal.WGate.logits m c) i k

/-- which is what its body assumes of them. -/
theorem hyps : Cert.KernelIdeal.WExp.Hyps (WE m) (ok (WE m)) := Cert.KernelIdeal.Whole.hyps_of_lt m (idx_lt m)

end

theorem frame_ideal : Cert.quiescent_KernelIdeal := fun m ρ _ =>
  (θ_run Cert.KernelIdeal.defs _ _).mono (fun _ h => ⟨fun c => (h.1 c).2, h.2⟩) (Cert.KernelIdeal.Whole.run m ρ (hyps m))

theorem frame_ideal_pre : Cert.quiescent_KernelIdeal_pre_finite := fun m ρ _ => frame_ideal m ρ trivial

theorem frame_ref : Cert.quiescent_ReferenceIdeal := fun m ρ _ =>
  (θ_run Cert.ReferenceIdeal.defs _ _).mono (fun _ h => ⟨fun c => (h c).2.2, sem_eq_zero_of_no_sems rfl _⟩) (Cert.ReferenceIdeal.Value.run m ρ)

theorem frame_ref_pre : Cert.quiescent_ReferenceIdeal_pre_finite := fun m ρ _ => frame_ref m ρ trivial

/-- Two places of real logits differ. -/
theorem idx_ne (L : FVec Ideal Cert.GatingIdeal.S32x8 .f32) (hr : ∀ i e, Cert.GateReal.IsReal (L (ix2 i e))) (i : Fin 32) :
    Cert.GatingIdeal.Run.idxOf L (ix2 i 0) ≠ Cert.GatingIdeal.Run.idxOf L (ix2 i 1) := by
  obtain ⟨a, b, h⟩ := Cert.GateTop.exists_two L i fun e => (hr i e).bot_lt
  rw [Cert.GateTop.idx_apply h, Cert.GateTop.idx_apply h]
  exact fun e => h.snd.ne ((Cert.GateTop.ofNat_inj a b).1 e).symm

section

variable (m : (ℓ : Loc Cert.KernelIdeal.nD Cert.KernelIdeal.τ Cert.KernelIdeal.sig) → Buf (Elt Ideal) ℓ)
  (W : Valuation Cert.ReferenceIdeal.τ Cert.ReferenceIdeal.sig (Elt Ideal)) (c : Dev Cert.KernelIdeal.nD)

/-- From the same finite arguments: the same indices (each row's two differ), the same gates and the same loss. -/
theorem same_route (hpre : Cert.Pre_KernelIdeal_finite m)
    (h0 : W (Proc.devRef .tc Cert.ReferenceIdeal.main_arg0) = m ((c.tc : Thread Cert.KernelIdeal.nD Cert.KernelIdeal.τ).loc Cert.KernelIdeal.main_arg0))
    (h1 : W (Proc.devRef .tc Cert.ReferenceIdeal.main_arg1) = m ((c.tc : Thread Cert.KernelIdeal.nD Cert.KernelIdeal.τ).loc Cert.KernelIdeal.main_arg1))
    (h2 : W (Proc.devRef .tc Cert.ReferenceIdeal.main_arg2) = m ((c.tc : Thread Cert.KernelIdeal.nD Cert.KernelIdeal.τ).loc Cert.KernelIdeal.main_arg2))
    (h3 : W (Proc.devRef .tc Cert.ReferenceIdeal.main_arg3) = m ((c.tc : Thread Cert.KernelIdeal.nD Cert.KernelIdeal.τ).loc Cert.KernelIdeal.main_arg3))
    (h4 : W (Proc.devRef .tc Cert.ReferenceIdeal.main_arg4) = m ((c.tc : Thread Cert.KernelIdeal.nD Cert.KernelIdeal.τ).loc Cert.KernelIdeal.main_arg4))
    (h5 : W (Proc.devRef .tc Cert.ReferenceIdeal.main_arg5) = m ((c.tc : Thread Cert.KernelIdeal.nD Cert.KernelIdeal.τ).loc Cert.KernelIdeal.main_arg5))
    (h6 : W (Proc.devRef .tc Cert.ReferenceIdeal.main_arg6) = m ((c.tc : Thread Cert.KernelIdeal.nD Cert.KernelIdeal.τ).loc Cert.KernelIdeal.main_arg6))
    (h7 : W (Proc.devRef .tc Cert.ReferenceIdeal.main_arg7) = m ((c.tc : Thread Cert.KernelIdeal.nD Cert.KernelIdeal.τ).loc Cert.KernelIdeal.main_arg7)) :
    (Cert.ReferenceIdeal.Value.res_main_v20 W : Vec Ideal Cert.GatingIdeal.S32x2 .i32) = idx m c ∧ Cert.WholeRef.gatesW W = gates m c
      ∧ Cert.WholeRef.lossW W = shapeCast Cert.KernelIdeal.S_ (Cert.KernelIdeal.WGate.lossOf (Cert.KernelIdeal.WGate.logits m c)) Cert.KernelIdeal.Gen.shapeCasts_S1x1_S_
      ∧ ∀ i, idx m c (ix2 i 0) ≠ idx m c (ix2 i 1) := by
  obtain ⟨V, h⟩ := Cert.WholeRef.exists_gate W
  obtain ⟨r0, r1, r2, r3, r4, r5, r6, r7⟩ := Cert.GatePre.of_pre _ _ _ _ _ _ _ _ (hpre c)
  have k : ∀ i e, Cert.KernelIdeal.WGate.logits m c (ix2 i e) = _ := fun i e => Cert.GateLogits.kernel_logit _ _ _ _ _ _ _ _ i e
  have r : ∀ i e, lg V (ix2 i e) = _ := fun i e => (Cert.GateLogits.ref_logit V i e).trans
    (by rw [h.a0, h.a1, h.a2, h.a3, h.a4, h.a5, h.a6, h.a7, h0, h1, h2, h3, h4, h5, h6, h7])
  have hL : Cert.KernelIdeal.WGate.logits m c = lg V := funext fun y => by
    obtain ⟨i, e, rfl⟩ : ∃ (i : Fin 32) (e : Fin 8), y = ix2 i e := ⟨y 0, y 1, eq_ix2 y⟩
    exact (k i e).trans (r i e).symm
  have hr : ∀ i e, Cert.GateReal.IsReal (lg V (ix2 i e)) := fun i e => by
    rw [r]
    exact Cert.GatePre.isReal_logit _ _ _ _ _ _ _ _ r0 r1 r2 r3 r4 r5 r6 r7 i e
  obtain ⟨s0, s1, s2⟩ := Cert.GateEq.same_of_logits V (Cert.KernelIdeal.WGate.logits m c) hL hr
  refine ⟨(Cert.WholeRef.v20_eq h).symm.trans s0, (Cert.WholeRef.gates_eq h).symm.trans s1, (Cert.WholeRef.loss_eq h).symm.trans s2, fun i => ?_⟩
  exact idx_ne (Cert.KernelIdeal.WGate.logits m c) (fun i e => by rw [hL]; exact hr i e) i

/-- From the same arguments and the same route: the same mixture. -/
theorem same_mix (hI : (Cert.ReferenceIdeal.Value.res_main_v20 W : Vec Ideal Cert.GatingIdeal.S32x2 .i32) = idx m c) (hG : Cert.WholeRef.gatesW W = gates m c)
    (hne : ∀ i, idx m c (ix2 i 0) ≠ idx m c (ix2 i 1))
    (h0 : W (Proc.devRef .tc Cert.ReferenceIdeal.main_arg0) = m ((c.tc : Thread Cert.KernelIdeal.nD Cert.KernelIdeal.τ).loc Cert.KernelIdeal.main_arg0))
    (h8 : W (Proc.devRef .tc Cert.ReferenceIdeal.main_arg8) = m ((c.tc : Thread Cert.KernelIdeal.nD Cert.KernelIdeal.τ).loc Cert.KernelIdeal.main_arg8))
    (h9 : W (Proc.devRef .tc Cert.ReferenceIdeal.main_arg9) = m ((c.tc : Thread Cert.KernelIdeal.nD Cert.KernelIdeal.τ).loc Cert.KernelIdeal.main_arg9)) :
    Cert.WholeRef.mixW W = Cert.KernelIdeal.Gen.V9 m (outs m (hyps m)) c (Proc.devRef .tc Cert.KernelIdeal.main_v19) := by
  refine funext fun y => ?_
  obtain ⟨b, o, i, j, rfl⟩ : ∃ (b : Fin 32) (o : Fin 64) (i j : Fin 32), y = ix4 b o i j := ⟨y 0, y 1, y 2, y 3, eq_ix4 y⟩
  have g2 : Cert.WholeRef.img W b = Cert.KernelIdeal.Whole.img m c b := funext fun _ => funext fun _ => funext fun _ => congrFun h0 _
  have g3 : Cert.WholeRef.wt1 W = Cert.KernelIdeal.Whole.wt1 m c := funext fun _ => funext fun _ => funext fun _ => funext fun _ => funext fun _ => congrFun h8 _
  have g4 : Cert.WholeRef.wt2 W = Cert.KernelIdeal.Whole.wt2 m c := funext fun _ => funext fun _ => funext fun _ => funext fun _ => funext fun _ => congrFun h9 _
  refine (Cert.WholeRef.mix_apply W (fun y => ?_) (fun b => ?_) b o i j).trans (Eq.trans ?_ (Cert.KernelIdeal.Whole.result_apply m (hyps m) c b o i j).symm)
  · rw [show Cert.ReferenceIdeal.Value.res_main_v20 W = idx m c from hI]; exact idx_lt m c y
  · rw [show Cert.ReferenceIdeal.Value.res_main_v20 W = idx m c from hI]; exact hne b
  · rw [show Cert.ReferenceIdeal.Value.res_main_v20 W = idx m c from hI, hG, g2, g3, g4]

end

theorem value : Cert.algebraic_KernelIdeal_ReferenceIdeal_pre_finite := by
  intro m g m' g' hpre hargs
  have hK := Cert.KernelIdeal.Whole.run m g (hyps m)
  have hR := Cert.ReferenceIdeal.Value.run (F := Ideal) m' g'
  refine ⟨fun c => _, fun c => _, (θ_run Cert.KernelIdeal.defs _ _).mono (fun _ h c => ⟨(h.1 c).1.1, (h.1 c).1.2, (h.1 c).2⟩) hK,
    (θ_run Cert.ReferenceIdeal.defs _ _).mono (fun r h c => ⟨(h c).1.trans ?_, (h c).2.1.trans ?_, (h c).2.2⟩) hR⟩
  all_goals
    obtain ⟨h0, h1, h2, h3, h4, h5, h6, h7, h8, h9⟩ := hargs c
    obtain ⟨hI, hG, hl, hne⟩ := same_route m (launchContents m' c) c hpre h0 h1 h2 h3 h4 h5 h6 h7
  · exact same_mix m (launchContents m' c) c hI hG hne h0 h8 h9
  · exact hl.trans (Cert.KernelIdeal.Whole.V9_v20 m (hyps m) c).symm

end Cert.WholeEq

end
-- ==== Proof.lean ====
module

public import proofs.«01_k».proof.Defs
public import proofs.«01_k».proof.Proof.Gen.Gating
public import proofs.«01_k».proof.Proof.Gen.Gating.Frame
public import proofs.«01_k».proof.Proof.Gen.GatingIdeal
public import proofs.«01_k».proof.Proof.Gen.GatingIdeal.Frame
public import proofs.«01_k».proof.Proof.Gen.Experts
public import proofs.«01_k».proof.Proof.Gen.ExpertsIdeal
public import proofs.«01_k».proof.Proof.Gen.RefExpertsIdeal
public import proofs.«01_k».proof.Proof.Gen.Pre_indices_distinct
public import proofs.«01_k».proof.Proof.Gen.Pre_gating_finite
public import proofs.«01_k».proof.Proof.Gen.RefExpertsIdeal.Run
public import proofs.«01_k».proof.Proof.Gen.RefGatingIdeal
public import proofs.«01_k».proof.Proof.Gen.RefGatingIdeal.Run
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import proofs.«01_k».proof.Proof.Gen.ReferenceIdeal
public import proofs.«01_k».proof.Proof.Gen.Pre_finite
public import proofs.«01_k».proof.Proof.Gen.ReferenceIdeal.Run
public import proofs.«01_k».proof.Proof.ExpEq
public import proofs.«01_k».proof.Proof.GateEq
public import proofs.«01_k».proof.Proof.WholeEq

@[expose] public section

noncomputable section

namespace Cert.Proof

open Idealize.ShloMosaic Idealize.SL.Sem

theorem claim : Cert.Claim := ⟨Cert.KernelIdeal.Gen.facts, Cert.ReferenceIdeal.Gen.facts, Cert.Gating.Gen.facts, Cert.GatingIdeal.Gen.facts, Cert.RefGatingIdeal.Gen.facts,
  Cert.Experts.Gen.facts, Cert.ExpertsIdeal.Gen.facts, Cert.RefExpertsIdeal.Gen.facts,
  Cert.Pre_finite.Gen.facts, Cert.Pre_gating_finite.Gen.facts, Cert.Pre_indices_distinct.Gen.facts,
  Cert.WholeEq.frame_ideal, Cert.WholeEq.frame_ideal_pre, Cert.WholeEq.frame_ref, Cert.WholeEq.frame_ref_pre,
  fun m ρ _ => Cert.Gating.Gen.frame m ρ,
  fun m ρ _ => Cert.GatingIdeal.Gen.frame m ρ,
  fun m ρ _ => Cert.GatingIdeal.Gen.frame m ρ,
  Cert.GateEq.frame_ref, Cert.GateEq.frame_ref_pre,
  Cert.ExpertsEq.frame_bits, Cert.ExpertsEq.frame_ideal, Cert.ExpertsEq.frame_ref,
  Cert.WholeEq.value, trivial, Cert.GateEq.value, trivial, Cert.ExpertsEq.value⟩

end Cert.Proof

end
